-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S40x136 : Shape := ⟨2, ![40, 136]⟩
abbrev S136x40 : Shape := ⟨2, ![136, 40]⟩
abbrev S112x5120 : Shape := ⟨2, ![112, 5120]⟩
abbrev S5120 : Shape := ⟨1, ![5120]⟩
abbrev S5120x17408 : Shape := ⟨2, ![5120, 17408]⟩
abbrev S17408x5120 : Shape := ⟨2, ![17408, 5120]⟩
abbrev S1x5120 : Shape := ⟨2, ![1, 5120]⟩
abbrev S100x5120 : Shape := ⟨2, ![100, 5120]⟩
abbrev S40x100 : Shape := ⟨2, ![40, 100]⟩
abbrev S100x17408 : Shape := ⟨2, ![100, 17408]⟩
abbrev S136x100 : Shape := ⟨2, ![136, 100]⟩
abbrev S3x5120x512 : Shape := ⟨3, ![3, 5120, 512]⟩
abbrev S3x512x5120 : Shape := ⟨3, ![3, 512, 5120]⟩
abbrev S112x512 : Shape := ⟨2, ![112, 512]⟩
abbrev S2x128x128 : Shape := ⟨3, ![2, 128, 128]⟩
abbrev S128x128 : Shape := ⟨2, ![128, 128]⟩
abbrev S3 : Shape := ⟨1, ![3]⟩
abbrev S1 : Shape := ⟨1, ![1]⟩
abbrev S_ : Shape := ⟨0, ![]⟩
abbrev S1x5120x512 : Shape := ⟨3, ![1, 5120, 512]⟩
abbrev S5120x512 : Shape := ⟨2, ![5120, 512]⟩
abbrev S1x512x5120 : Shape := ⟨3, ![1, 512, 5120]⟩
abbrev S512x5120 : Shape := ⟨2, ![512, 5120]⟩
abbrev S112x128 : Shape := ⟨2, ![112, 128]⟩
abbrev S112x256 : Shape := ⟨2, ![112, 256]⟩
abbrev S112 : Shape := ⟨1, ![112]⟩
abbrev S112x1 : Shape := ⟨2, ![112, 1]⟩
abbrev S1x128 : Shape := ⟨2, ![1, 128]⟩
abbrev S112x252 : Shape := ⟨2, ![112, 252]⟩
abbrev S100x128 : Shape := ⟨2, ![100, 128]⟩
abbrev S1x256x256 : Shape := ⟨3, ![1, 256, 256]⟩
abbrev S256x256 : Shape := ⟨2, ![256, 256]⟩
abbrev S1x1 : Shape := ⟨2, ![1, 1]⟩
abbrev S16x128 : Shape := ⟨2, ![16, 128]⟩
abbrev S8x16x128 : Shape := ⟨3, ![8, 16, 128]⟩
abbrev S1x16x128 : Shape := ⟨3, ![1, 16, 128]⟩
abbrev S128x256 : Shape := ⟨2, ![128, 256]⟩
abbrev S1x112x128 : Shape := ⟨3, ![1, 112, 128]⟩
abbrev S1x128x128 : Shape := ⟨3, ![1, 128, 128]⟩
abbrev S128x100 : Shape := ⟨2, ![128, 100]⟩
abbrev S8x100 : Shape := ⟨2, ![8, 100]⟩
abbrev S100x256 : Shape := ⟨2, ![100, 256]⟩

abbrev nBuf : Space → Nat
  | .hbm => 15
  | .vmem => 16
  | .smem => 3
  | _ => 0

abbrev bufTy : (tb : Table) → Fin (tcTables nBuf tb) → BufTy
  | .hbm, ⟨0, _⟩ => ⟨S40x136, .f32⟩
  | .hbm, ⟨1, _⟩ => ⟨S40x136, .f32⟩
  | .hbm, ⟨2, _⟩ => ⟨S136x40, .f32⟩
  | .hbm, ⟨3, _⟩ => ⟨S112x5120, .f32⟩
  | .hbm, ⟨4, _⟩ => ⟨S5120, .f32⟩
  | .hbm, ⟨5, _⟩ => ⟨S5120x17408, .fp8e4m3⟩
  | .hbm, ⟨6, _⟩ => ⟨S5120x17408, .fp8e4m3⟩
  | .hbm, ⟨7, _⟩ => ⟨S17408x5120, .fp8e4m3⟩
  | .hbm, ⟨8, _⟩ => ⟨S40x136, .f32⟩
  | .hbm, ⟨9, _⟩ => ⟨S1x5120, .f32⟩
  | .hbm, ⟨10, _⟩ => ⟨S100x5120, .bf16⟩
  | .hbm, ⟨11, _⟩ => ⟨S100x5120, .fp8e4m3⟩
  | .hbm, ⟨12, _⟩ => ⟨S40x100, .f32⟩
  | .hbm, ⟨13, _⟩ => ⟨S100x17408, .fp8e4m3⟩
  | .hbm, ⟨14, _⟩ => ⟨S136x100, .f32⟩
  | .local _ .vmem, ⟨0, _⟩ => ⟨S112x5120, .f32⟩
  | .local _ .vmem, ⟨1, _⟩ => ⟨S1x5120, .f32⟩
  | .local _ .vmem, ⟨2, _⟩ => ⟨S100x5120, .bf16⟩
  | .local _ .vmem, ⟨3, _⟩ => ⟨S100x5120, .fp8e4m3⟩
  | .local _ .vmem, ⟨4, _⟩ => ⟨S40x100, .f32⟩
  | .local _ .vmem, ⟨5, _⟩ => ⟨S100x17408, .fp8e4m3⟩
  | .local _ .vmem, ⟨6, _⟩ => ⟨S136x100, .f32⟩
  | .local _ .vmem, ⟨7, _⟩ => ⟨S3x5120x512, .fp8e4m3⟩
  | .local _ .vmem, ⟨8, _⟩ => ⟨S3x5120x512, .fp8e4m3⟩
  | .local _ .vmem, ⟨9, _⟩ => ⟨S3x512x5120, .fp8e4m3⟩
  | .local _ .vmem, ⟨10, _⟩ => ⟨S112x5120, .bf16⟩
  | .local _ .vmem, ⟨11, _⟩ => ⟨S112x5120, .f32⟩
  | .local _ .vmem, ⟨12, _⟩ => ⟨S112x512, .f32⟩
  | .local _ .vmem, ⟨13, _⟩ => ⟨S112x512, .bf16⟩
  | .local _ .vmem, ⟨14, _⟩ => ⟨S2x128x128, .f32⟩
  | .local _ .vmem, ⟨15, _⟩ => ⟨S128x128, .f32⟩
  | .local _ .smem, ⟨0, _⟩ => ⟨S40x136, .f32⟩
  | .local _ .smem, ⟨1, _⟩ => ⟨S40x136, .f32⟩
  | .local _ .smem, ⟨2, _⟩ => ⟨S40x136, .f32⟩
  | _, _ => ⟨S40x136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c512_i32 : BitVec 32 := 512#32
  c512_i32
@[reducible] def k0_t1_loop : Scf.Loop 32 :=
  let c0_i32_29 : BitVec 32 := 0#32
  let c20_i32 : BitVec 32 := 20#32
  let v34 : BitVec 32 := Scalar.addi c0_i32_29 c20_i32
  let c1_i32_30 : BitVec 32 := 1#32
  ⟨c0_i32_29, v34, c1_i32_30⟩
def k0_mult3 (k0_t1 : Fin k0_t1_loop.trips) : BitVec 32 :=
  let c0_i32_29 : BitVec 32 := 0#32
  let c1_i32_30 : BitVec 32 := 1#32
  let arg23 : BitVec 32 := Scf.iv c0_i32_29 c1_i32_30 k0_t1
  let c256_i32 : BitVec 32 := 256#32
  let v73 : BitVec 32 := Scalar.muli arg23 c256_i32
  v73
def k0_off1 (k0_t1 : Fin k0_t1_loop.trips) : Fin 2 → Nat :=
  let c0_67 : Index := 0#32
  let c0_i32_29 : BitVec 32 := 0#32
  let c1_i32_30 : BitVec 32 := 1#32
  let arg23 : BitVec 32 := Scf.iv c0_i32_29 c1_i32_30 k0_t1
  let c256_i32 : BitVec 32 := 256#32
  let v73 : BitVec 32 := Scalar.muli arg23 c256_i32
  let v74 : BitVec 32 := v73
  let v75 : Index := Scalar.indexCast v74
  ![0, v75.toNat]
@[reducible] def k0_t2_loop : Scf.Loop 32 :=
  let c0_i32_36 : BitVec 32 := 0#32
  let c20_i32_37 : BitVec 32 := 20#32
  let v44 : BitVec 32 := Scalar.addi c0_i32_36 c20_i32_37
  let c1_i32_38 : BitVec 32 := 1#32
  ⟨c0_i32_36, v44, c1_i32_38⟩
def k0_mult4 (k0_t2 : Fin k0_t2_loop.trips) : BitVec 32 :=
  let c0_i32_36 : BitVec 32 := 0#32
  let c1_i32_38 : BitVec 32 := 1#32
  let arg23 : BitVec 32 := Scf.iv c0_i32_36 c1_i32_38 k0_t2
  let c256_i32 : BitVec 32 := 256#32
  let v73 : BitVec 32 := Scalar.muli arg23 c256_i32
  let c0_i32_67 : BitVec 32 := 0#32
  let v74 : BitVec 32 := Scalar.addi v73 c0_i32_67
  v74
def k0_off2 (k0_t2 : Fin k0_t2_loop.trips) (c0_i32_67 : BitVec 32) : Fin 2 → Nat :=
  let c0_68 : Index := 0#32
  let c0_i32_36 : BitVec 32 := 0#32
  let c1_i32_38 : BitVec 32 := 1#32
  let arg23 : BitVec 32 := Scf.iv c0_i32_36 c1_i32_38 k0_t2
  let c256_i32 : BitVec 32 := 256#32
  let v73 : BitVec 32 := Scalar.muli arg23 c256_i32
  let v74 : BitVec 32 := Scalar.addi v73 c0_i32_67
  let v75 : BitVec 32 := v74
  let v76 : Index := Scalar.indexCast v75
  ![0, v76.toNat]
def k0_off3 (k0_t2 : Fin k0_t2_loop.trips) (c0_i32_67 : BitVec 32) : Fin 2 → Nat :=
  let c0_69 : Index := 0#32
  let c0_i32_36 : BitVec 32 := 0#32
  let c1_i32_38 : BitVec 32 := 1#32
  let arg23 : BitVec 32 := Scf.iv c0_i32_36 c1_i32_38 k0_t2
  let c256_i32 : BitVec 32 := 256#32
  let v73 : BitVec 32 := Scalar.muli arg23 c256_i32
  let v74 : BitVec 32 := Scalar.addi v73 c0_i32_67
  let v75 : BitVec 32 := v74
  let v80 : Index := Scalar.indexCast v75
  ![0, v80.toNat]
def k0_off4 (k0_t2 : Fin k0_t2_loop.trips) (c0_i32_67 : BitVec 32) : Fin 2 → Nat :=
  let c0_83 : Index := 0#32
  let c0_i32_36 : BitVec 32 := 0#32
  let c1_i32_38 : BitVec 32 := 1#32
  let arg23 : BitVec 32 := Scf.iv c0_i32_36 c1_i32_38 k0_t2
  let c256_i32 : BitVec 32 := 256#32
  let v73 : BitVec 32 := Scalar.muli arg23 c256_i32
  let v74 : BitVec 32 := Scalar.addi v73 c0_i32_67
  let v75 : BitVec 32 := v74
  let v127 : Index := Scalar.indexCast v75
  ![0, v127.toNat]
def k0_mult5 (k0_t2 : Fin k0_t2_loop.trips) : BitVec 32 :=
  let c0_i32_36 : BitVec 32 := 0#32
  let c1_i32_38 : BitVec 32 := 1#32
  let arg23 : BitVec 32 := Scf.iv c0_i32_36 c1_i32_38 k0_t2
  let c256_i32_86 : BitVec 32 := 256#32
  let v144 : BitVec 32 := Scalar.muli arg23 c256_i32_86
  let c128_i32 : BitVec 32 := 128#32
  let v145 : BitVec 32 := Scalar.addi v144 c128_i32
  v145
@[reducible] def k0_t3_loop : Scf.Loop 32 :=
  let c0_i32_52 : BitVec 32 := 0#32
  let c34_i32 : BitVec 32 := 34#32
  let v61 : BitVec 32 := Scalar.addi c0_i32_52 c34_i32
  let c1_i32_53 : BitVec 32 := 1#32
  ⟨c0_i32_52, v61, c1_i32_53⟩
def k0_cond1 (k0_t3 : Fin k0_t3_loop.trips) : BitVec 1 :=
  let c0_i32_52 : BitVec 32 := 0#32
  let c1_i32_53 : BitVec 32 := 1#32
  let arg23 : BitVec 32 := Scf.iv c0_i32_52 c1_i32_53 k0_t3
  let c3_i32_67 : BitVec 32 := 3#32
  let v74 : BitVec 32 := Scalar.addi arg23 c3_i32_67
  let c1_i32_68 : BitVec 32 := 1#32
  let v75 : BitVec 32 := Scalar.subi v74 c1_i32_68
  let c34_i32_69 : BitVec 32 := 34#32
  let v76 : BitVec 1 := Scalar.cmpi .slt v75 c34_i32_69
  let v77 : BitVec 32 := Scalar.extui v76
  let c0_i32_70 : BitVec 32 := 0#32
  let v78 : BitVec 1 := Scalar.cmpi .ne v77 c0_i32_70
  v78

def k0_mult6 (k0_t3 : Fin k0_t3_loop.trips) : BitVec 32 :=
  let c0_i32_52 : BitVec 32 := 0#32
  let c1_i32_53 : BitVec 32 := 1#32
  let arg23 : BitVec 32 := Scf.iv c0_i32_52 c1_i32_53 k0_t3
  let c3_i32_2765 : BitVec 32 := 3#32
  let v8306 : BitVec 32 := Scalar.addi arg23 c3_i32_2765
  let c1_i32_2766 : BitVec 32 := 1#32
  let v8307 : BitVec 32 := Scalar.subi v8306 c1_i32_2766
  let c512_i32_2770 : BitVec 32 := 512#32
  let v8311 : BitVec 32 := Scalar.muli v8307 c512_i32_2770
  v8311
def k0_off5 (k0_t3 : Fin k0_t3_loop.trips) : Fin 1 → Nat :=
  let c0_i32_52 : BitVec 32 := 0#32
  let c1_i32_53 : BitVec 32 := 1#32
  let arg23 : BitVec 32 := Scf.iv c0_i32_52 c1_i32_53 k0_t3
  let c3_i32_2767 : BitVec 32 := 3#32
  let v8308 : BitVec 32 := Scalar.addi arg23 c3_i32_2767
  let c1_i32_2768 : BitVec 32 := 1#32
  let v8309 : BitVec 32 := Scalar.subi v8308 c1_i32_2768
  let c3_i32_2769 : BitVec 32 := 3#32
  let v8310 : BitVec 32 := Scalar.remsi v8309 c3_i32_2769
  ![v8310.toNat]
def k0_off6 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32_2767 : BitVec 32 := 3#32
  let v8308 : BitVec 32 := Scalar.addi arg23 c3_i32_2767
  let c1_i32_2768 : BitVec 32 := 1#32
  let v8309 : BitVec 32 := Scalar.subi v8308 c1_i32_2768
  let c3_i32_2769 : BitVec 32 := 3#32
  let v8310 : BitVec 32 := Scalar.remsi v8309 c3_i32_2769
  let c0_i32_2771 : BitVec 32 := 0#32
  let c0_i32_2772 : BitVec 32 := 0#32
  ![v8310.toNat, 0, 0]
def k0_off7 (k0_t3 : Fin k0_t3_loop.trips) : Fin 2 → Nat :=
  let c0_i32_2773 : BitVec 32 := 0#32
  let c0_i32_52 : BitVec 32 := 0#32
  let c1_i32_53 : BitVec 32 := 1#32
  let arg23 : BitVec 32 := Scf.iv c0_i32_52 c1_i32_53 k0_t3
  let c3_i32_2765 : BitVec 32 := 3#32
  let v8306 : BitVec 32 := Scalar.addi arg23 c3_i32_2765
  let c1_i32_2766 : BitVec 32 := 1#32
  let v8307 : BitVec 32 := Scalar.subi v8306 c1_i32_2766
  let c512_i32_2770 : BitVec 32 := 512#32
  let v8311 : BitVec 32 := Scalar.muli v8307 c512_i32_2770
  let v8312 : BitVec 32 := v8311
  ![0, v8312.toNat]
def k0_off8 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32_2767 : BitVec 32 := 3#32
  let v8308 : BitVec 32 := Scalar.addi arg23 c3_i32_2767
  let c1_i32_2768 : BitVec 32 := 1#32
  let v8309 : BitVec 32 := Scalar.subi v8308 c1_i32_2768
  let c3_i32_2769 : BitVec 32 := 3#32
  let v8310 : BitVec 32 := Scalar.remsi v8309 c3_i32_2769
  let c0_i32_2777 : BitVec 32 := 0#32
  let c0_i32_2778 : BitVec 32 := 0#32
  ![v8310.toNat, 0, 0]
def k0_off9 (k0_t3 : Fin k0_t3_loop.trips) : Fin 2 → Nat :=
  let c0_i32_52 : BitVec 32 := 0#32
  let c1_i32_53 : BitVec 32 := 1#32
  let arg23 : BitVec 32 := Scf.iv c0_i32_52 c1_i32_53 k0_t3
  let c3_i32_2765 : BitVec 32 := 3#32
  let v8306 : BitVec 32 := Scalar.addi arg23 c3_i32_2765
  let c1_i32_2766 : BitVec 32 := 1#32
  let v8307 : BitVec 32 := Scalar.subi v8306 c1_i32_2766
  let c512_i32_2770 : BitVec 32 := 512#32
  let v8311 : BitVec 32 := Scalar.muli v8307 c512_i32_2770
  let v8312 : BitVec 32 := v8311
  let c0_i32_2779 : BitVec 32 := 0#32
  ![v8312.toNat, 0]
def k0_mult7 (k0_t3 : Fin k0_t3_loop.trips) : BitVec 32 :=
  let c0_i32_52 : BitVec 32 := 0#32
  let c1_i32_53 : BitVec 32 := 1#32
  let arg23 : BitVec 32 := Scf.iv c0_i32_52 c1_i32_53 k0_t3
  let c512_i32_71 : BitVec 32 := 512#32
  let v79 : BitVec 32 := Scalar.muli arg23 c512_i32_71
  v79
def k0_off10 (k0_t3 : Fin k0_t3_loop.trips) : Fin 1 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  ![v73.toNat]
def k0_off11 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let c0_i32_72 : BitVec 32 := 0#32
  let c0_i32_73 : BitVec 32 := 0#32
  ![v73.toNat, 0, 0]
def k0_off12 (k0_t3 : Fin k0_t3_loop.trips) : Fin 2 → Nat :=
  let c0_i32_74 : BitVec 32 := 0#32
  let c0_i32_52 : BitVec 32 := 0#32
  let c1_i32_53 : BitVec 32 := 1#32
  let arg23 : BitVec 32 := Scf.iv c0_i32_52 c1_i32_53 k0_t3
  let c512_i32_71 : BitVec 32 := 512#32
  let v79 : BitVec 32 := Scalar.muli arg23 c512_i32_71
  let v80 : BitVec 32 := v79
  ![0, v80.toNat]
def k0_off13 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let c0_i32_78 : BitVec 32 := 0#32
  let c0_i32_79 : BitVec 32 := 0#32
  ![v73.toNat, 0, 0]
def k0_off14 (k0_t3 : Fin k0_t3_loop.trips) : Fin 2 → Nat :=
  let c0_i32_52 : BitVec 32 := 0#32
  let c1_i32_53 : BitVec 32 := 1#32
  let arg23 : BitVec 32 := Scf.iv c0_i32_52 c1_i32_53 k0_t3
  let c512_i32_71 : BitVec 32 := 512#32
  let v79 : BitVec 32 := Scalar.muli arg23 c512_i32_71
  let v80 : BitVec 32 := v79
  let c0_i32_80 : BitVec 32 := 0#32
  ![v80.toNat, 0]
def k0_off15 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v96 : Index := Scalar.indexCast v73
  let c0_81 : Index := 0#32
  let c0_82 : Index := 0#32
  ![v96.toNat, 0, 0]
def k0_off16 (k0_t3 : Fin k0_t3_loop.trips) (c0_i32_83 : BitVec 32) (c0_i32_84 : BitVec 32) : Fin 2 → Nat :=
  let c0_85 : Index := 0#32
  let c0_i32_52 : BitVec 32 := 0#32
  let c1_i32_53 : BitVec 32 := 1#32
  let arg23 : BitVec 32 := Scf.iv c0_i32_52 c1_i32_53 k0_t3
  let c4_i32 : BitVec 32 := 4#32
  let v99 : BitVec 32 := Scalar.muli arg23 c4_i32
  let v100 : BitVec 32 := Scalar.addi v99 c0_i32_83
  let v101 : BitVec 32 := Scalar.addi v100 c0_i32_84
  let v102 : Index := Scalar.indexCast v101
  ![0, v102.toNat]
def k0_off17 (k0_t3 : Fin k0_t3_loop.trips) (c0_i32_91 : BitVec 32) (c0_i32_92 : BitVec 32) : Fin 2 → Nat :=
  let c1_93 : Index := 1#32
  let c0_i32_52 : BitVec 32 := 0#32
  let c1_i32_53 : BitVec 32 := 1#32
  let arg23 : BitVec 32 := Scf.iv c0_i32_52 c1_i32_53 k0_t3
  let c4_i32_90 : BitVec 32 := 4#32
  let v109 : BitVec 32 := Scalar.muli arg23 c4_i32_90
  let v110 : BitVec 32 := Scalar.addi v109 c0_i32_91
  let v111 : BitVec 32 := Scalar.addi v110 c0_i32_92
  let v112 : Index := Scalar.indexCast v111
  ![1, v112.toNat]
def k0_off18 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v160 : Index := Scalar.indexCast v73
  let c256 : Index := 256#32
  let c0_101 : Index := 0#32
  ![v160.toNat, 256, 0]
def k0_off19 (k0_t3 : Fin k0_t3_loop.trips) (c0_i32_103 : BitVec 32) (c0_i32_104 : BitVec 32) : Fin 2 → Nat :=
  let c2 : Index := 2#32
  let c0_i32_52 : BitVec 32 := 0#32
  let c1_i32_53 : BitVec 32 := 1#32
  let arg23 : BitVec 32 := Scf.iv c0_i32_52 c1_i32_53 k0_t3
  let c4_i32_102 : BitVec 32 := 4#32
  let v163 : BitVec 32 := Scalar.muli arg23 c4_i32_102
  let v164 : BitVec 32 := Scalar.addi v163 c0_i32_103
  let v165 : BitVec 32 := Scalar.addi v164 c0_i32_104
  let v166 : Index := Scalar.indexCast v165
  ![2, v166.toNat]
def k0_off20 (k0_t3 : Fin k0_t3_loop.trips) (c0_i32_110 : BitVec 32) (c0_i32_111 : BitVec 32) : Fin 2 → Nat :=
  let c3 : Index := 3#32
  let c0_i32_52 : BitVec 32 := 0#32
  let c1_i32_53 : BitVec 32 := 1#32
  let arg23 : BitVec 32 := Scf.iv c0_i32_52 c1_i32_53 k0_t3
  let c4_i32_109 : BitVec 32 := 4#32
  let v173 : BitVec 32 := Scalar.muli arg23 c4_i32_109
  let v174 : BitVec 32 := Scalar.addi v173 c0_i32_110
  let v175 : BitVec 32 := Scalar.addi v174 c0_i32_111
  let v176 : Index := Scalar.indexCast v175
  ![3, v176.toNat]
def k0_off21 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v225 : Index := Scalar.indexCast v73
  let c512 : Index := 512#32
  let c0_119 : Index := 0#32
  ![v225.toNat, 512, 0]
def k0_off22 (k0_t3 : Fin k0_t3_loop.trips) (c0_i32_121 : BitVec 32) (c0_i32_122 : BitVec 32) : Fin 2 → Nat :=
  let c4 : Index := 4#32
  let c0_i32_52 : BitVec 32 := 0#32
  let c1_i32_53 : BitVec 32 := 1#32
  let arg23 : BitVec 32 := Scf.iv c0_i32_52 c1_i32_53 k0_t3
  let c4_i32_120 : BitVec 32 := 4#32
  let v228 : BitVec 32 := Scalar.muli arg23 c4_i32_120
  let v229 : BitVec 32 := Scalar.addi v228 c0_i32_121
  let v230 : BitVec 32 := Scalar.addi v229 c0_i32_122
  let v231 : Index := Scalar.indexCast v230
  ![4, v231.toNat]
def k0_off23 (k0_t3 : Fin k0_t3_loop.trips) (c0_i32_128 : BitVec 32) (c0_i32_129 : BitVec 32) : Fin 2 → Nat :=
  let c5 : Index := 5#32
  let c0_i32_52 : BitVec 32 := 0#32
  let c1_i32_53 : BitVec 32 := 1#32
  let arg23 : BitVec 32 := Scf.iv c0_i32_52 c1_i32_53 k0_t3
  let c4_i32_127 : BitVec 32 := 4#32
  let v238 : BitVec 32 := Scalar.muli arg23 c4_i32_127
  let v239 : BitVec 32 := Scalar.addi v238 c0_i32_128
  let v240 : BitVec 32 := Scalar.addi v239 c0_i32_129
  let v241 : Index := Scalar.indexCast v240
  ![5, v241.toNat]
def k0_off24 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v290 : Index := Scalar.indexCast v73
  let c768 : Index := 768#32
  let c0_137 : Index := 0#32
  ![v290.toNat, 768, 0]
def k0_off25 (k0_t3 : Fin k0_t3_loop.trips) (c0_i32_139 : BitVec 32) (c0_i32_140 : BitVec 32) : Fin 2 → Nat :=
  let c6 : Index := 6#32
  let c0_i32_52 : BitVec 32 := 0#32
  let c1_i32_53 : BitVec 32 := 1#32
  let arg23 : BitVec 32 := Scf.iv c0_i32_52 c1_i32_53 k0_t3
  let c4_i32_138 : BitVec 32 := 4#32
  let v293 : BitVec 32 := Scalar.muli arg23 c4_i32_138
  let v294 : BitVec 32 := Scalar.addi v293 c0_i32_139
  let v295 : BitVec 32 := Scalar.addi v294 c0_i32_140
  let v296 : Index := Scalar.indexCast v295
  ![6, v296.toNat]
def k0_off26 (k0_t3 : Fin k0_t3_loop.trips) (c0_i32_146 : BitVec 32) (c0_i32_147 : BitVec 32) : Fin 2 → Nat :=
  let c7 : Index := 7#32
  let c0_i32_52 : BitVec 32 := 0#32
  let c1_i32_53 : BitVec 32 := 1#32
  let arg23 : BitVec 32 := Scf.iv c0_i32_52 c1_i32_53 k0_t3
  let c4_i32_145 : BitVec 32 := 4#32
  let v303 : BitVec 32 := Scalar.muli arg23 c4_i32_145
  let v304 : BitVec 32 := Scalar.addi v303 c0_i32_146
  let v305 : BitVec 32 := Scalar.addi v304 c0_i32_147
  let v306 : Index := Scalar.indexCast v305
  ![7, v306.toNat]
def k0_off27 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v355 : Index := Scalar.indexCast v73
  let c1024 : Index := 1024#32
  let c0_155 : Index := 0#32
  ![v355.toNat, 1024, 0]
def k0_off28 (k0_t3 : Fin k0_t3_loop.trips) (c0_i32_157 : BitVec 32) (c0_i32_158 : BitVec 32) : Fin 2 → Nat :=
  let c8 : Index := 8#32
  let c0_i32_52 : BitVec 32 := 0#32
  let c1_i32_53 : BitVec 32 := 1#32
  let arg23 : BitVec 32 := Scf.iv c0_i32_52 c1_i32_53 k0_t3
  let c4_i32_156 : BitVec 32 := 4#32
  let v358 : BitVec 32 := Scalar.muli arg23 c4_i32_156
  let v359 : BitVec 32 := Scalar.addi v358 c0_i32_157
  let v360 : BitVec 32 := Scalar.addi v359 c0_i32_158
  let v361 : Index := Scalar.indexCast v360
  ![8, v361.toNat]
def k0_off29 (k0_t3 : Fin k0_t3_loop.trips) (c0_i32_164 : BitVec 32) (c0_i32_165 : BitVec 32) : Fin 2 → Nat :=
  let c9 : Index := 9#32
  let c0_i32_52 : BitVec 32 := 0#32
  let c1_i32_53 : BitVec 32 := 1#32
  let arg23 : BitVec 32 := Scf.iv c0_i32_52 c1_i32_53 k0_t3
  let c4_i32_163 : BitVec 32 := 4#32
  let v368 : BitVec 32 := Scalar.muli arg23 c4_i32_163
  let v369 : BitVec 32 := Scalar.addi v368 c0_i32_164
  let v370 : BitVec 32 := Scalar.addi v369 c0_i32_165
  let v371 : Index := Scalar.indexCast v370
  ![9, v371.toNat]
def k0_off30 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v420 : Index := Scalar.indexCast v73
  let c1280 : Index := 1280#32
  let c0_173 : Index := 0#32
  ![v420.toNat, 1280, 0]
def k0_off31 (k0_t3 : Fin k0_t3_loop.trips) (c0_i32_175 : BitVec 32) (c0_i32_176 : BitVec 32) : Fin 2 → Nat :=
  let c10 : Index := 10#32
  let c0_i32_52 : BitVec 32 := 0#32
  let c1_i32_53 : BitVec 32 := 1#32
  let arg23 : BitVec 32 := Scf.iv c0_i32_52 c1_i32_53 k0_t3
  let c4_i32_174 : BitVec 32 := 4#32
  let v423 : BitVec 32 := Scalar.muli arg23 c4_i32_174
  let v424 : BitVec 32 := Scalar.addi v423 c0_i32_175
  let v425 : BitVec 32 := Scalar.addi v424 c0_i32_176
  let v426 : Index := Scalar.indexCast v425
  ![10, v426.toNat]
def k0_off32 (k0_t3 : Fin k0_t3_loop.trips) (c0_i32_182 : BitVec 32) (c0_i32_183 : BitVec 32) : Fin 2 → Nat :=
  let c11 : Index := 11#32
  let c0_i32_52 : BitVec 32 := 0#32
  let c1_i32_53 : BitVec 32 := 1#32
  let arg23 : BitVec 32 := Scf.iv c0_i32_52 c1_i32_53 k0_t3
  let c4_i32_181 : BitVec 32 := 4#32
  let v433 : BitVec 32 := Scalar.muli arg23 c4_i32_181
  let v434 : BitVec 32 := Scalar.addi v433 c0_i32_182
  let v435 : BitVec 32 := Scalar.addi v434 c0_i32_183
  let v436 : Index := Scalar.indexCast v435
  ![11, v436.toNat]
def k0_off33 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v485 : Index := Scalar.indexCast v73
  let c1536 : Index := 1536#32
  let c0_191 : Index := 0#32
  ![v485.toNat, 1536, 0]
def k0_off34 (k0_t3 : Fin k0_t3_loop.trips) (c0_i32_193 : BitVec 32) (c0_i32_194 : BitVec 32) : Fin 2 → Nat :=
  let c12 : Index := 12#32
  let c0_i32_52 : BitVec 32 := 0#32
  let c1_i32_53 : BitVec 32 := 1#32
  let arg23 : BitVec 32 := Scf.iv c0_i32_52 c1_i32_53 k0_t3
  let c4_i32_192 : BitVec 32 := 4#32
  let v488 : BitVec 32 := Scalar.muli arg23 c4_i32_192
  let v489 : BitVec 32 := Scalar.addi v488 c0_i32_193
  let v490 : BitVec 32 := Scalar.addi v489 c0_i32_194
  let v491 : Index := Scalar.indexCast v490
  ![12, v491.toNat]
def k0_off35 (k0_t3 : Fin k0_t3_loop.trips) (c0_i32_200 : BitVec 32) (c0_i32_201 : BitVec 32) : Fin 2 → Nat :=
  let c13 : Index := 13#32
  let c0_i32_52 : BitVec 32 := 0#32
  let c1_i32_53 : BitVec 32 := 1#32
  let arg23 : BitVec 32 := Scf.iv c0_i32_52 c1_i32_53 k0_t3
  let c4_i32_199 : BitVec 32 := 4#32
  let v498 : BitVec 32 := Scalar.muli arg23 c4_i32_199
  let v499 : BitVec 32 := Scalar.addi v498 c0_i32_200
  let v500 : BitVec 32 := Scalar.addi v499 c0_i32_201
  let v501 : Index := Scalar.indexCast v500
  ![13, v501.toNat]
def k0_off36 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v550 : Index := Scalar.indexCast v73
  let c1792 : Index := 1792#32
  let c0_209 : Index := 0#32
  ![v550.toNat, 1792, 0]
def k0_off37 (k0_t3 : Fin k0_t3_loop.trips) (c0_i32_211 : BitVec 32) (c0_i32_212 : BitVec 32) : Fin 2 → Nat :=
  let c14 : Index := 14#32
  let c0_i32_52 : BitVec 32 := 0#32
  let c1_i32_53 : BitVec 32 := 1#32
  let arg23 : BitVec 32 := Scf.iv c0_i32_52 c1_i32_53 k0_t3
  let c4_i32_210 : BitVec 32 := 4#32
  let v553 : BitVec 32 := Scalar.muli arg23 c4_i32_210
  let v554 : BitVec 32 := Scalar.addi v553 c0_i32_211
  let v555 : BitVec 32 := Scalar.addi v554 c0_i32_212
  let v556 : Index := Scalar.indexCast v555
  ![14, v556.toNat]
def k0_off38 (k0_t3 : Fin k0_t3_loop.trips) (c0_i32_218 : BitVec 32) (c0_i32_219 : BitVec 32) : Fin 2 → Nat :=
  let c15 : Index := 15#32
  let c0_i32_52 : BitVec 32 := 0#32
  let c1_i32_53 : BitVec 32 := 1#32
  let arg23 : BitVec 32 := Scf.iv c0_i32_52 c1_i32_53 k0_t3
  let c4_i32_217 : BitVec 32 := 4#32
  let v563 : BitVec 32 := Scalar.muli arg23 c4_i32_217
  let v564 : BitVec 32 := Scalar.addi v563 c0_i32_218
  let v565 : BitVec 32 := Scalar.addi v564 c0_i32_219
  let v566 : Index := Scalar.indexCast v565
  ![15, v566.toNat]
def k0_off39 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v615 : Index := Scalar.indexCast v73
  let c2048 : Index := 2048#32
  let c0_227 : Index := 0#32
  ![v615.toNat, 2048, 0]
def k0_off40 (k0_t3 : Fin k0_t3_loop.trips) (c0_i32_229 : BitVec 32) (c0_i32_230 : BitVec 32) : Fin 2 → Nat :=
  let c16 : Index := 16#32
  let c0_i32_52 : BitVec 32 := 0#32
  let c1_i32_53 : BitVec 32 := 1#32
  let arg23 : BitVec 32 := Scf.iv c0_i32_52 c1_i32_53 k0_t3
  let c4_i32_228 : BitVec 32 := 4#32
  let v618 : BitVec 32 := Scalar.muli arg23 c4_i32_228
  let v619 : BitVec 32 := Scalar.addi v618 c0_i32_229
  let v620 : BitVec 32 := Scalar.addi v619 c0_i32_230
  let v621 : Index := Scalar.indexCast v620
  ![16, v621.toNat]
def k0_off41 (k0_t3 : Fin k0_t3_loop.trips) (c0_i32_236 : BitVec 32) (c0_i32_237 : BitVec 32) : Fin 2 → Nat :=
  let c17 : Index := 17#32
  let c0_i32_52 : BitVec 32 := 0#32
  let c1_i32_53 : BitVec 32 := 1#32
  let arg23 : BitVec 32 := Scf.iv c0_i32_52 c1_i32_53 k0_t3
  let c4_i32_235 : BitVec 32 := 4#32
  let v628 : BitVec 32 := Scalar.muli arg23 c4_i32_235
  let v629 : BitVec 32 := Scalar.addi v628 c0_i32_236
  let v630 : BitVec 32 := Scalar.addi v629 c0_i32_237
  let v631 : Index := Scalar.indexCast v630
  ![17, v631.toNat]
def k0_off42 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v680 : Index := Scalar.indexCast v73
  let c2304 : Index := 2304#32
  let c0_245 : Index := 0#32
  ![v680.toNat, 2304, 0]
def k0_off43 (k0_t3 : Fin k0_t3_loop.trips) (c0_i32_247 : BitVec 32) (c0_i32_248 : BitVec 32) : Fin 2 → Nat :=
  let c18 : Index := 18#32
  let c0_i32_52 : BitVec 32 := 0#32
  let c1_i32_53 : BitVec 32 := 1#32
  let arg23 : BitVec 32 := Scf.iv c0_i32_52 c1_i32_53 k0_t3
  let c4_i32_246 : BitVec 32 := 4#32
  let v683 : BitVec 32 := Scalar.muli arg23 c4_i32_246
  let v684 : BitVec 32 := Scalar.addi v683 c0_i32_247
  let v685 : BitVec 32 := Scalar.addi v684 c0_i32_248
  let v686 : Index := Scalar.indexCast v685
  ![18, v686.toNat]
def k0_off44 (k0_t3 : Fin k0_t3_loop.trips) (c0_i32_254 : BitVec 32) (c0_i32_255 : BitVec 32) : Fin 2 → Nat :=
  let c19 : Index := 19#32
  let c0_i32_52 : BitVec 32 := 0#32
  let c1_i32_53 : BitVec 32 := 1#32
  let arg23 : BitVec 32 := Scf.iv c0_i32_52 c1_i32_53 k0_t3
  let c4_i32_253 : BitVec 32 := 4#32
  let v693 : BitVec 32 := Scalar.muli arg23 c4_i32_253
  let v694 : BitVec 32 := Scalar.addi v693 c0_i32_254
  let v695 : BitVec 32 := Scalar.addi v694 c0_i32_255
  let v696 : Index := Scalar.indexCast v695
  ![19, v696.toNat]
def k0_off45 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v745 : Index := Scalar.indexCast v73
  let c2560 : Index := 2560#32
  let c0_263 : Index := 0#32
  ![v745.toNat, 2560, 0]
def k0_off46 (k0_t3 : Fin k0_t3_loop.trips) (c0_i32_265 : BitVec 32) (c0_i32_266 : BitVec 32) : Fin 2 → Nat :=
  let c20 : Index := 20#32
  let c0_i32_52 : BitVec 32 := 0#32
  let c1_i32_53 : BitVec 32 := 1#32
  let arg23 : BitVec 32 := Scf.iv c0_i32_52 c1_i32_53 k0_t3
  let c4_i32_264 : BitVec 32 := 4#32
  let v748 : BitVec 32 := Scalar.muli arg23 c4_i32_264
  let v749 : BitVec 32 := Scalar.addi v748 c0_i32_265
  let v750 : BitVec 32 := Scalar.addi v749 c0_i32_266
  let v751 : Index := Scalar.indexCast v750
  ![20, v751.toNat]
def k0_off47 (k0_t3 : Fin k0_t3_loop.trips) (c0_i32_272 : BitVec 32) (c0_i32_273 : BitVec 32) : Fin 2 → Nat :=
  let c21 : Index := 21#32
  let c0_i32_52 : BitVec 32 := 0#32
  let c1_i32_53 : BitVec 32 := 1#32
  let arg23 : BitVec 32 := Scf.iv c0_i32_52 c1_i32_53 k0_t3
  let c4_i32_271 : BitVec 32 := 4#32
  let v758 : BitVec 32 := Scalar.muli arg23 c4_i32_271
  let v759 : BitVec 32 := Scalar.addi v758 c0_i32_272
  let v760 : BitVec 32 := Scalar.addi v759 c0_i32_273
  let v761 : Index := Scalar.indexCast v760
  ![21, v761.toNat]
def k0_off48 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v810 : Index := Scalar.indexCast v73
  let c2816 : Index := 2816#32
  let c0_281 : Index := 0#32
  ![v810.toNat, 2816, 0]
def k0_off49 (k0_t3 : Fin k0_t3_loop.trips) (c0_i32_283 : BitVec 32) (c0_i32_284 : BitVec 32) : Fin 2 → Nat :=
  let c22 : Index := 22#32
  let c0_i32_52 : BitVec 32 := 0#32
  let c1_i32_53 : BitVec 32 := 1#32
  let arg23 : BitVec 32 := Scf.iv c0_i32_52 c1_i32_53 k0_t3
  let c4_i32_282 : BitVec 32 := 4#32
  let v813 : BitVec 32 := Scalar.muli arg23 c4_i32_282
  let v814 : BitVec 32 := Scalar.addi v813 c0_i32_283
  let v815 : BitVec 32 := Scalar.addi v814 c0_i32_284
  let v816 : Index := Scalar.indexCast v815
  ![22, v816.toNat]
def k0_off50 (k0_t3 : Fin k0_t3_loop.trips) (c0_i32_290 : BitVec 32) (c0_i32_291 : BitVec 32) : Fin 2 → Nat :=
  let c23 : Index := 23#32
  let c0_i32_52 : BitVec 32 := 0#32
  let c1_i32_53 : BitVec 32 := 1#32
  let arg23 : BitVec 32 := Scf.iv c0_i32_52 c1_i32_53 k0_t3
  let c4_i32_289 : BitVec 32 := 4#32
  let v823 : BitVec 32 := Scalar.muli arg23 c4_i32_289
  let v824 : BitVec 32 := Scalar.addi v823 c0_i32_290
  let v825 : BitVec 32 := Scalar.addi v824 c0_i32_291
  let v826 : Index := Scalar.indexCast v825
  ![23, v826.toNat]
def k0_off51 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v875 : Index := Scalar.indexCast v73
  let c3072 : Index := 3072#32
  let c0_299 : Index := 0#32
  ![v875.toNat, 3072, 0]
def k0_off52 (k0_t3 : Fin k0_t3_loop.trips) (c0_i32_301 : BitVec 32) (c0_i32_302 : BitVec 32) : Fin 2 → Nat :=
  let c24 : Index := 24#32
  let c0_i32_52 : BitVec 32 := 0#32
  let c1_i32_53 : BitVec 32 := 1#32
  let arg23 : BitVec 32 := Scf.iv c0_i32_52 c1_i32_53 k0_t3
  let c4_i32_300 : BitVec 32 := 4#32
  let v878 : BitVec 32 := Scalar.muli arg23 c4_i32_300
  let v879 : BitVec 32 := Scalar.addi v878 c0_i32_301
  let v880 : BitVec 32 := Scalar.addi v879 c0_i32_302
  let v881 : Index := Scalar.indexCast v880
  ![24, v881.toNat]
def k0_off53 (k0_t3 : Fin k0_t3_loop.trips) (c0_i32_308 : BitVec 32) (c0_i32_309 : BitVec 32) : Fin 2 → Nat :=
  let c25 : Index := 25#32
  let c0_i32_52 : BitVec 32 := 0#32
  let c1_i32_53 : BitVec 32 := 1#32
  let arg23 : BitVec 32 := Scf.iv c0_i32_52 c1_i32_53 k0_t3
  let c4_i32_307 : BitVec 32 := 4#32
  let v888 : BitVec 32 := Scalar.muli arg23 c4_i32_307
  let v889 : BitVec 32 := Scalar.addi v888 c0_i32_308
  let v890 : BitVec 32 := Scalar.addi v889 c0_i32_309
  let v891 : Index := Scalar.indexCast v890
  ![25, v891.toNat]
def k0_off54 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v940 : Index := Scalar.indexCast v73
  let c3328 : Index := 3328#32
  let c0_317 : Index := 0#32
  ![v940.toNat, 3328, 0]
def k0_off55 (k0_t3 : Fin k0_t3_loop.trips) (c0_i32_319 : BitVec 32) (c0_i32_320 : BitVec 32) : Fin 2 → Nat :=
  let c26 : Index := 26#32
  let c0_i32_52 : BitVec 32 := 0#32
  let c1_i32_53 : BitVec 32 := 1#32
  let arg23 : BitVec 32 := Scf.iv c0_i32_52 c1_i32_53 k0_t3
  let c4_i32_318 : BitVec 32 := 4#32
  let v943 : BitVec 32 := Scalar.muli arg23 c4_i32_318
  let v944 : BitVec 32 := Scalar.addi v943 c0_i32_319
  let v945 : BitVec 32 := Scalar.addi v944 c0_i32_320
  let v946 : Index := Scalar.indexCast v945
  ![26, v946.toNat]
def k0_off56 (k0_t3 : Fin k0_t3_loop.trips) (c0_i32_326 : BitVec 32) (c0_i32_327 : BitVec 32) : Fin 2 → Nat :=
  let c27 : Index := 27#32
  let c0_i32_52 : BitVec 32 := 0#32
  let c1_i32_53 : BitVec 32 := 1#32
  let arg23 : BitVec 32 := Scf.iv c0_i32_52 c1_i32_53 k0_t3
  let c4_i32_325 : BitVec 32 := 4#32
  let v953 : BitVec 32 := Scalar.muli arg23 c4_i32_325
  let v954 : BitVec 32 := Scalar.addi v953 c0_i32_326
  let v955 : BitVec 32 := Scalar.addi v954 c0_i32_327
  let v956 : Index := Scalar.indexCast v955
  ![27, v956.toNat]
def k0_off57 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v1005 : Index := Scalar.indexCast v73
  let c3584 : Index := 3584#32
  let c0_335 : Index := 0#32
  ![v1005.toNat, 3584, 0]
def k0_off58 (k0_t3 : Fin k0_t3_loop.trips) (c0_i32_337 : BitVec 32) (c0_i32_338 : BitVec 32) : Fin 2 → Nat :=
  let c28 : Index := 28#32
  let c0_i32_52 : BitVec 32 := 0#32
  let c1_i32_53 : BitVec 32 := 1#32
  let arg23 : BitVec 32 := Scf.iv c0_i32_52 c1_i32_53 k0_t3
  let c4_i32_336 : BitVec 32 := 4#32
  let v1008 : BitVec 32 := Scalar.muli arg23 c4_i32_336
  let v1009 : BitVec 32 := Scalar.addi v1008 c0_i32_337
  let v1010 : BitVec 32 := Scalar.addi v1009 c0_i32_338
  let v1011 : Index := Scalar.indexCast v1010
  ![28, v1011.toNat]
def k0_off59 (k0_t3 : Fin k0_t3_loop.trips) (c0_i32_344 : BitVec 32) (c0_i32_345 : BitVec 32) : Fin 2 → Nat :=
  let c29 : Index := 29#32
  let c0_i32_52 : BitVec 32 := 0#32
  let c1_i32_53 : BitVec 32 := 1#32
  let arg23 : BitVec 32 := Scf.iv c0_i32_52 c1_i32_53 k0_t3
  let c4_i32_343 : BitVec 32 := 4#32
  let v1018 : BitVec 32 := Scalar.muli arg23 c4_i32_343
  let v1019 : BitVec 32 := Scalar.addi v1018 c0_i32_344
  let v1020 : BitVec 32 := Scalar.addi v1019 c0_i32_345
  let v1021 : Index := Scalar.indexCast v1020
  ![29, v1021.toNat]
def k0_off60 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v1070 : Index := Scalar.indexCast v73
  let c3840 : Index := 3840#32
  let c0_353 : Index := 0#32
  ![v1070.toNat, 3840, 0]
def k0_off61 (k0_t3 : Fin k0_t3_loop.trips) (c0_i32_355 : BitVec 32) (c0_i32_356 : BitVec 32) : Fin 2 → Nat :=
  let c30 : Index := 30#32
  let c0_i32_52 : BitVec 32 := 0#32
  let c1_i32_53 : BitVec 32 := 1#32
  let arg23 : BitVec 32 := Scf.iv c0_i32_52 c1_i32_53 k0_t3
  let c4_i32_354 : BitVec 32 := 4#32
  let v1073 : BitVec 32 := Scalar.muli arg23 c4_i32_354
  let v1074 : BitVec 32 := Scalar.addi v1073 c0_i32_355
  let v1075 : BitVec 32 := Scalar.addi v1074 c0_i32_356
  let v1076 : Index := Scalar.indexCast v1075
  ![30, v1076.toNat]
def k0_off62 (k0_t3 : Fin k0_t3_loop.trips) (c0_i32_362 : BitVec 32) (c0_i32_363 : BitVec 32) : Fin 2 → Nat :=
  let c31 : Index := 31#32
  let c0_i32_52 : BitVec 32 := 0#32
  let c1_i32_53 : BitVec 32 := 1#32
  let arg23 : BitVec 32 := Scf.iv c0_i32_52 c1_i32_53 k0_t3
  let c4_i32_361 : BitVec 32 := 4#32
  let v1083 : BitVec 32 := Scalar.muli arg23 c4_i32_361
  let v1084 : BitVec 32 := Scalar.addi v1083 c0_i32_362
  let v1085 : BitVec 32 := Scalar.addi v1084 c0_i32_363
  let v1086 : Index := Scalar.indexCast v1085
  ![31, v1086.toNat]
def k0_off63 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v1135 : Index := Scalar.indexCast v73
  let c4096 : Index := 4096#32
  let c0_371 : Index := 0#32
  ![v1135.toNat, 4096, 0]
def k0_off64 (k0_t3 : Fin k0_t3_loop.trips) (c0_i32_373 : BitVec 32) (c0_i32_374 : BitVec 32) : Fin 2 → Nat :=
  let c32 : Index := 32#32
  let c0_i32_52 : BitVec 32 := 0#32
  let c1_i32_53 : BitVec 32 := 1#32
  let arg23 : BitVec 32 := Scf.iv c0_i32_52 c1_i32_53 k0_t3
  let c4_i32_372 : BitVec 32 := 4#32
  let v1138 : BitVec 32 := Scalar.muli arg23 c4_i32_372
  let v1139 : BitVec 32 := Scalar.addi v1138 c0_i32_373
  let v1140 : BitVec 32 := Scalar.addi v1139 c0_i32_374
  let v1141 : Index := Scalar.indexCast v1140
  ![32, v1141.toNat]
def k0_off65 (k0_t3 : Fin k0_t3_loop.trips) (c0_i32_380 : BitVec 32) (c0_i32_381 : BitVec 32) : Fin 2 → Nat :=
  let c33 : Index := 33#32
  let c0_i32_52 : BitVec 32 := 0#32
  let c1_i32_53 : BitVec 32 := 1#32
  let arg23 : BitVec 32 := Scf.iv c0_i32_52 c1_i32_53 k0_t3
  let c4_i32_379 : BitVec 32 := 4#32
  let v1148 : BitVec 32 := Scalar.muli arg23 c4_i32_379
  let v1149 : BitVec 32 := Scalar.addi v1148 c0_i32_380
  let v1150 : BitVec 32 := Scalar.addi v1149 c0_i32_381
  let v1151 : Index := Scalar.indexCast v1150
  ![33, v1151.toNat]
def k0_off66 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v1200 : Index := Scalar.indexCast v73
  let c4352 : Index := 4352#32
  let c0_389 : Index := 0#32
  ![v1200.toNat, 4352, 0]
def k0_off67 (k0_t3 : Fin k0_t3_loop.trips) (c0_i32_391 : BitVec 32) (c0_i32_392 : BitVec 32) : Fin 2 → Nat :=
  let c34 : Index := 34#32
  let c0_i32_52 : BitVec 32 := 0#32
  let c1_i32_53 : BitVec 32 := 1#32
  let arg23 : BitVec 32 := Scf.iv c0_i32_52 c1_i32_53 k0_t3
  let c4_i32_390 : BitVec 32 := 4#32
  let v1203 : BitVec 32 := Scalar.muli arg23 c4_i32_390
  let v1204 : BitVec 32 := Scalar.addi v1203 c0_i32_391
  let v1205 : BitVec 32 := Scalar.addi v1204 c0_i32_392
  let v1206 : Index := Scalar.indexCast v1205
  ![34, v1206.toNat]
def k0_off68 (k0_t3 : Fin k0_t3_loop.trips) (c0_i32_398 : BitVec 32) (c0_i32_399 : BitVec 32) : Fin 2 → Nat :=
  let c35 : Index := 35#32
  let c0_i32_52 : BitVec 32 := 0#32
  let c1_i32_53 : BitVec 32 := 1#32
  let arg23 : BitVec 32 := Scf.iv c0_i32_52 c1_i32_53 k0_t3
  let c4_i32_397 : BitVec 32 := 4#32
  let v1213 : BitVec 32 := Scalar.muli arg23 c4_i32_397
  let v1214 : BitVec 32 := Scalar.addi v1213 c0_i32_398
  let v1215 : BitVec 32 := Scalar.addi v1214 c0_i32_399
  let v1216 : Index := Scalar.indexCast v1215
  ![35, v1216.toNat]
def k0_off69 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v1265 : Index := Scalar.indexCast v73
  let c4608 : Index := 4608#32
  let c0_407 : Index := 0#32
  ![v1265.toNat, 4608, 0]
def k0_off70 (k0_t3 : Fin k0_t3_loop.trips) (c0_i32_409 : BitVec 32) (c0_i32_410 : BitVec 32) : Fin 2 → Nat :=
  let c36 : Index := 36#32
  let c0_i32_52 : BitVec 32 := 0#32
  let c1_i32_53 : BitVec 32 := 1#32
  let arg23 : BitVec 32 := Scf.iv c0_i32_52 c1_i32_53 k0_t3
  let c4_i32_408 : BitVec 32 := 4#32
  let v1268 : BitVec 32 := Scalar.muli arg23 c4_i32_408
  let v1269 : BitVec 32 := Scalar.addi v1268 c0_i32_409
  let v1270 : BitVec 32 := Scalar.addi v1269 c0_i32_410
  let v1271 : Index := Scalar.indexCast v1270
  ![36, v1271.toNat]
def k0_off71 (k0_t3 : Fin k0_t3_loop.trips) (c0_i32_416 : BitVec 32) (c0_i32_417 : BitVec 32) : Fin 2 → Nat :=
  let c37 : Index := 37#32
  let c0_i32_52 : BitVec 32 := 0#32
  let c1_i32_53 : BitVec 32 := 1#32
  let arg23 : BitVec 32 := Scf.iv c0_i32_52 c1_i32_53 k0_t3
  let c4_i32_415 : BitVec 32 := 4#32
  let v1278 : BitVec 32 := Scalar.muli arg23 c4_i32_415
  let v1279 : BitVec 32 := Scalar.addi v1278 c0_i32_416
  let v1280 : BitVec 32 := Scalar.addi v1279 c0_i32_417
  let v1281 : Index := Scalar.indexCast v1280
  ![37, v1281.toNat]
def k0_off72 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v1330 : Index := Scalar.indexCast v73
  let c4864 : Index := 4864#32
  let c0_425 : Index := 0#32
  ![v1330.toNat, 4864, 0]
def k0_off73 (k0_t3 : Fin k0_t3_loop.trips) (c0_i32_427 : BitVec 32) (c0_i32_428 : BitVec 32) : Fin 2 → Nat :=
  let c38 : Index := 38#32
  let c0_i32_52 : BitVec 32 := 0#32
  let c1_i32_53 : BitVec 32 := 1#32
  let arg23 : BitVec 32 := Scf.iv c0_i32_52 c1_i32_53 k0_t3
  let c4_i32_426 : BitVec 32 := 4#32
  let v1333 : BitVec 32 := Scalar.muli arg23 c4_i32_426
  let v1334 : BitVec 32 := Scalar.addi v1333 c0_i32_427
  let v1335 : BitVec 32 := Scalar.addi v1334 c0_i32_428
  let v1336 : Index := Scalar.indexCast v1335
  ![38, v1336.toNat]
def k0_off74 (k0_t3 : Fin k0_t3_loop.trips) (c0_i32_434 : BitVec 32) (c0_i32_435 : BitVec 32) : Fin 2 → Nat :=
  let c39 : Index := 39#32
  let c0_i32_52 : BitVec 32 := 0#32
  let c1_i32_53 : BitVec 32 := 1#32
  let arg23 : BitVec 32 := Scf.iv c0_i32_52 c1_i32_53 k0_t3
  let c4_i32_433 : BitVec 32 := 4#32
  let v1343 : BitVec 32 := Scalar.muli arg23 c4_i32_433
  let v1344 : BitVec 32 := Scalar.addi v1343 c0_i32_434
  let v1345 : BitVec 32 := Scalar.addi v1344 c0_i32_435
  let v1346 : Index := Scalar.indexCast v1345
  ![39, v1346.toNat]
def k0_mult8 (k0_t3 : Fin k0_t3_loop.trips) : BitVec 32 :=
  let c0_i32_52 : BitVec 32 := 0#32
  let c1_i32_53 : BitVec 32 := 1#32
  let arg23 : BitVec 32 := Scf.iv c0_i32_52 c1_i32_53 k0_t3
  let c512_i32_878 : BitVec 32 := 512#32
  let v2744 : BitVec 32 := Scalar.muli arg23 c512_i32_878
  let c0_i32_879 : BitVec 32 := 0#32
  let v2745 : BitVec 32 := Scalar.addi v2744 c0_i32_879
  v2745
def k0_off75 (k0_t3 : Fin k0_t3_loop.trips) (c0_i32_879 : BitVec 32) : Fin 2 → Nat :=
  let c0_880 : Index := 0#32
  let c0_i32_52 : BitVec 32 := 0#32
  let c1_i32_53 : BitVec 32 := 1#32
  let arg23 : BitVec 32 := Scf.iv c0_i32_52 c1_i32_53 k0_t3
  let c512_i32_878 : BitVec 32 := 512#32
  let v2744 : BitVec 32 := Scalar.muli arg23 c512_i32_878
  let v2745 : BitVec 32 := Scalar.addi v2744 c0_i32_879
  let v2746 : BitVec 32 := v2745
  let v2747 : Index := Scalar.indexCast v2746
  ![0, v2747.toNat]
def k0_mult9 (k0_t3 : Fin k0_t3_loop.trips) : BitVec 32 :=
  let c0_i32_52 : BitVec 32 := 0#32
  let c1_i32_53 : BitVec 32 := 1#32
  let arg23 : BitVec 32 := Scf.iv c0_i32_52 c1_i32_53 k0_t3
  let c512_i32_913 : BitVec 32 := 512#32
  let v2823 : BitVec 32 := Scalar.muli arg23 c512_i32_913
  let c128_i32_914 : BitVec 32 := 128#32
  let v2824 : BitVec 32 := Scalar.addi v2823 c128_i32_914
  v2824
def k0_off76 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v2861 : Index := Scalar.indexCast v73
  let c0_934 : Index := 0#32
  let c256_935 : Index := 256#32
  ![v2861.toNat, 0, 256]
def k0_off77 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v2925 : Index := Scalar.indexCast v73
  let c256_954 : Index := 256#32
  let c256_955 : Index := 256#32
  ![v2925.toNat, 256, 256]
def k0_off78 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v2990 : Index := Scalar.indexCast v73
  let c512_975 : Index := 512#32
  let c256_976 : Index := 256#32
  ![v2990.toNat, 512, 256]
def k0_off79 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3055 : Index := Scalar.indexCast v73
  let c768_996 : Index := 768#32
  let c256_997 : Index := 256#32
  ![v3055.toNat, 768, 256]
def k0_off80 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3120 : Index := Scalar.indexCast v73
  let c1024_1017 : Index := 1024#32
  let c256_1018 : Index := 256#32
  ![v3120.toNat, 1024, 256]
def k0_off81 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3185 : Index := Scalar.indexCast v73
  let c1280_1038 : Index := 1280#32
  let c256_1039 : Index := 256#32
  ![v3185.toNat, 1280, 256]
def k0_off82 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3250 : Index := Scalar.indexCast v73
  let c1536_1059 : Index := 1536#32
  let c256_1060 : Index := 256#32
  ![v3250.toNat, 1536, 256]
def k0_off83 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3315 : Index := Scalar.indexCast v73
  let c1792_1080 : Index := 1792#32
  let c256_1081 : Index := 256#32
  ![v3315.toNat, 1792, 256]
def k0_off84 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3380 : Index := Scalar.indexCast v73
  let c2048_1101 : Index := 2048#32
  let c256_1102 : Index := 256#32
  ![v3380.toNat, 2048, 256]
def k0_off85 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3445 : Index := Scalar.indexCast v73
  let c2304_1122 : Index := 2304#32
  let c256_1123 : Index := 256#32
  ![v3445.toNat, 2304, 256]
def k0_off86 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3510 : Index := Scalar.indexCast v73
  let c2560_1143 : Index := 2560#32
  let c256_1144 : Index := 256#32
  ![v3510.toNat, 2560, 256]
def k0_off87 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3575 : Index := Scalar.indexCast v73
  let c2816_1164 : Index := 2816#32
  let c256_1165 : Index := 256#32
  ![v3575.toNat, 2816, 256]
def k0_off88 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3640 : Index := Scalar.indexCast v73
  let c3072_1185 : Index := 3072#32
  let c256_1186 : Index := 256#32
  ![v3640.toNat, 3072, 256]
def k0_off89 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3705 : Index := Scalar.indexCast v73
  let c3328_1206 : Index := 3328#32
  let c256_1207 : Index := 256#32
  ![v3705.toNat, 3328, 256]
def k0_off90 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3770 : Index := Scalar.indexCast v73
  let c3584_1227 : Index := 3584#32
  let c256_1228 : Index := 256#32
  ![v3770.toNat, 3584, 256]
def k0_off91 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3835 : Index := Scalar.indexCast v73
  let c3840_1248 : Index := 3840#32
  let c256_1249 : Index := 256#32
  ![v3835.toNat, 3840, 256]
def k0_off92 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3900 : Index := Scalar.indexCast v73
  let c4096_1269 : Index := 4096#32
  let c256_1270 : Index := 256#32
  ![v3900.toNat, 4096, 256]
def k0_off93 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v3965 : Index := Scalar.indexCast v73
  let c4352_1290 : Index := 4352#32
  let c256_1291 : Index := 256#32
  ![v3965.toNat, 4352, 256]
def k0_off94 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v4030 : Index := Scalar.indexCast v73
  let c4608_1311 : Index := 4608#32
  let c256_1312 : Index := 256#32
  ![v4030.toNat, 4608, 256]
def k0_off95 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v4095 : Index := Scalar.indexCast v73
  let c4864_1332 : Index := 4864#32
  let c256_1333 : Index := 256#32
  ![v4095.toNat, 4864, 256]
def k0_mult10 (k0_t3 : Fin k0_t3_loop.trips) : BitVec 32 :=
  let c0_i32_52 : BitVec 32 := 0#32
  let c1_i32_53 : BitVec 32 := 1#32
  let arg23 : BitVec 32 := Scf.iv c0_i32_52 c1_i32_53 k0_t3
  let c512_i32_1791 : BitVec 32 := 512#32
  let v5509 : BitVec 32 := Scalar.muli arg23 c512_i32_1791
  let c256_i32 : BitVec 32 := 256#32
  let v5510 : BitVec 32 := Scalar.addi v5509 c256_i32
  v5510
def k0_mult11 (k0_t3 : Fin k0_t3_loop.trips) : BitVec 32 :=
  let c0_i32_52 : BitVec 32 := 0#32
  let c1_i32_53 : BitVec 32 := 1#32
  let arg23 : BitVec 32 := Scf.iv c0_i32_52 c1_i32_53 k0_t3
  let c512_i32_1826 : BitVec 32 := 512#32
  let v5588 : BitVec 32 := Scalar.muli arg23 c512_i32_1826
  let c384_i32 : BitVec 32 := 384#32
  let v5589 : BitVec 32 := Scalar.addi v5588 c384_i32
  v5589
def k0_off96 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v5626 : Index := Scalar.indexCast v73
  let c0_1845 : Index := 0#32
  let c0_1846 : Index := 0#32
  ![v5626.toNat, 0, 0]
def k0_off97 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v5690 : Index := Scalar.indexCast v73
  let c256_1866 : Index := 256#32
  let c0_1867 : Index := 0#32
  ![v5690.toNat, 256, 0]
def k0_off98 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v5760 : Index := Scalar.indexCast v73
  let c0_1891 : Index := 0#32
  let c256_1892 : Index := 256#32
  ![v5760.toNat, 0, 256]
def k0_off99 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v5824 : Index := Scalar.indexCast v73
  let c256_1912 : Index := 256#32
  let c256_1913 : Index := 256#32
  ![v5824.toNat, 256, 256]
def k0_off100 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v5894 : Index := Scalar.indexCast v73
  let c0_1937 : Index := 0#32
  let c512_1938 : Index := 512#32
  ![v5894.toNat, 0, 512]
def k0_off101 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v5958 : Index := Scalar.indexCast v73
  let c256_1958 : Index := 256#32
  let c512_1959 : Index := 512#32
  ![v5958.toNat, 256, 512]
def k0_off102 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6028 : Index := Scalar.indexCast v73
  let c0_1983 : Index := 0#32
  let c768_1984 : Index := 768#32
  ![v6028.toNat, 0, 768]
def k0_off103 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6092 : Index := Scalar.indexCast v73
  let c256_2004 : Index := 256#32
  let c768_2005 : Index := 768#32
  ![v6092.toNat, 256, 768]
def k0_off104 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6162 : Index := Scalar.indexCast v73
  let c0_2029 : Index := 0#32
  let c1024_2030 : Index := 1024#32
  ![v6162.toNat, 0, 1024]
def k0_off105 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6226 : Index := Scalar.indexCast v73
  let c256_2050 : Index := 256#32
  let c1024_2051 : Index := 1024#32
  ![v6226.toNat, 256, 1024]
def k0_off106 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6296 : Index := Scalar.indexCast v73
  let c0_2075 : Index := 0#32
  let c1280_2076 : Index := 1280#32
  ![v6296.toNat, 0, 1280]
def k0_off107 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6360 : Index := Scalar.indexCast v73
  let c256_2096 : Index := 256#32
  let c1280_2097 : Index := 1280#32
  ![v6360.toNat, 256, 1280]
def k0_off108 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6430 : Index := Scalar.indexCast v73
  let c0_2121 : Index := 0#32
  let c1536_2122 : Index := 1536#32
  ![v6430.toNat, 0, 1536]
def k0_off109 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6494 : Index := Scalar.indexCast v73
  let c256_2142 : Index := 256#32
  let c1536_2143 : Index := 1536#32
  ![v6494.toNat, 256, 1536]
def k0_off110 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6564 : Index := Scalar.indexCast v73
  let c0_2167 : Index := 0#32
  let c1792_2168 : Index := 1792#32
  ![v6564.toNat, 0, 1792]
def k0_off111 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6628 : Index := Scalar.indexCast v73
  let c256_2188 : Index := 256#32
  let c1792_2189 : Index := 1792#32
  ![v6628.toNat, 256, 1792]
def k0_off112 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6698 : Index := Scalar.indexCast v73
  let c0_2213 : Index := 0#32
  let c2048_2214 : Index := 2048#32
  ![v6698.toNat, 0, 2048]
def k0_off113 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6762 : Index := Scalar.indexCast v73
  let c256_2234 : Index := 256#32
  let c2048_2235 : Index := 2048#32
  ![v6762.toNat, 256, 2048]
def k0_off114 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6832 : Index := Scalar.indexCast v73
  let c0_2259 : Index := 0#32
  let c2304_2260 : Index := 2304#32
  ![v6832.toNat, 0, 2304]
def k0_off115 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6896 : Index := Scalar.indexCast v73
  let c256_2280 : Index := 256#32
  let c2304_2281 : Index := 2304#32
  ![v6896.toNat, 256, 2304]
def k0_off116 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v6966 : Index := Scalar.indexCast v73
  let c0_2305 : Index := 0#32
  let c2560_2306 : Index := 2560#32
  ![v6966.toNat, 0, 2560]
def k0_off117 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7030 : Index := Scalar.indexCast v73
  let c256_2326 : Index := 256#32
  let c2560_2327 : Index := 2560#32
  ![v7030.toNat, 256, 2560]
def k0_off118 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7100 : Index := Scalar.indexCast v73
  let c0_2351 : Index := 0#32
  let c2816_2352 : Index := 2816#32
  ![v7100.toNat, 0, 2816]
def k0_off119 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7164 : Index := Scalar.indexCast v73
  let c256_2372 : Index := 256#32
  let c2816_2373 : Index := 2816#32
  ![v7164.toNat, 256, 2816]
def k0_off120 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7234 : Index := Scalar.indexCast v73
  let c0_2397 : Index := 0#32
  let c3072_2398 : Index := 3072#32
  ![v7234.toNat, 0, 3072]
def k0_off121 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7298 : Index := Scalar.indexCast v73
  let c256_2418 : Index := 256#32
  let c3072_2419 : Index := 3072#32
  ![v7298.toNat, 256, 3072]
def k0_off122 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7368 : Index := Scalar.indexCast v73
  let c0_2443 : Index := 0#32
  let c3328_2444 : Index := 3328#32
  ![v7368.toNat, 0, 3328]
def k0_off123 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7432 : Index := Scalar.indexCast v73
  let c256_2464 : Index := 256#32
  let c3328_2465 : Index := 3328#32
  ![v7432.toNat, 256, 3328]
def k0_off124 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7502 : Index := Scalar.indexCast v73
  let c0_2489 : Index := 0#32
  let c3584_2490 : Index := 3584#32
  ![v7502.toNat, 0, 3584]
def k0_off125 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7566 : Index := Scalar.indexCast v73
  let c256_2510 : Index := 256#32
  let c3584_2511 : Index := 3584#32
  ![v7566.toNat, 256, 3584]
def k0_off126 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7636 : Index := Scalar.indexCast v73
  let c0_2535 : Index := 0#32
  let c3840_2536 : Index := 3840#32
  ![v7636.toNat, 0, 3840]
def k0_off127 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7700 : Index := Scalar.indexCast v73
  let c256_2556 : Index := 256#32
  let c3840_2557 : Index := 3840#32
  ![v7700.toNat, 256, 3840]
def k0_off128 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7770 : Index := Scalar.indexCast v73
  let c0_2581 : Index := 0#32
  let c4096_2582 : Index := 4096#32
  ![v7770.toNat, 0, 4096]
def k0_off129 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7834 : Index := Scalar.indexCast v73
  let c256_2602 : Index := 256#32
  let c4096_2603 : Index := 4096#32
  ![v7834.toNat, 256, 4096]
def k0_off130 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7904 : Index := Scalar.indexCast v73
  let c0_2627 : Index := 0#32
  let c4352_2628 : Index := 4352#32
  ![v7904.toNat, 0, 4352]
def k0_off131 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v7968 : Index := Scalar.indexCast v73
  let c256_2648 : Index := 256#32
  let c4352_2649 : Index := 4352#32
  ![v7968.toNat, 256, 4352]
def k0_off132 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v8038 : Index := Scalar.indexCast v73
  let c0_2673 : Index := 0#32
  let c4608_2674 : Index := 4608#32
  ![v8038.toNat, 0, 4608]
def k0_off133 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v8102 : Index := Scalar.indexCast v73
  let c256_2694 : Index := 256#32
  let c4608_2695 : Index := 4608#32
  ![v8102.toNat, 256, 4608]
def k0_off134 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v8172 : Index := Scalar.indexCast v73
  let c0_2719 : Index := 0#32
  let c4864_2720 : Index := 4864#32
  ![v8172.toNat, 0, 4864]
def k0_off135 (k0_t3 : Fin k0_t3_loop.trips) : Fin 3 → Nat :=
  let c0_i32_52 : BitVec 32 := 0#32
  let c1_i32_53 : BitVec 32 := 1#32
  let arg23 : BitVec 32 := Scf.iv c0_i32_52 c1_i32_53 k0_t3
  let c3_i32 : BitVec 32 := 3#32
  let v73 : BitVec 32 := Scalar.remsi arg23 c3_i32
  let v8236 : Index := Scalar.indexCast v73
  let c256_2740 : Index := 256#32
  let c4864_2741 : Index := 4864#32
  ![v8236.toNat, 256, 4864]
@[reducible] def k0_t4_loop : Scf.Loop 32 :=
  let c0_i32_63 : BitVec 32 := 0#32
  let c20_i32_64 : BitVec 32 := 20#32
  let v72 : BitVec 32 := Scalar.addi c0_i32_63 c20_i32_64
  let c1_i32_65 : BitVec 32 := 1#32
  ⟨c0_i32_63, v72, c1_i32_65⟩
def k0_mult12 (k0_t4 : Fin k0_t4_loop.trips) : BitVec 32 :=
  let c0_i32_63 : BitVec 32 := 0#32
  let c1_i32_65 : BitVec 32 := 1#32
  let arg23 : BitVec 32 := Scf.iv c0_i32_63 c1_i32_65 k0_t4
  let c256_i32 : BitVec 32 := 256#32
  let v73 : BitVec 32 := Scalar.muli arg23 c256_i32
  v73
def k0_off136 (k0_t4 : Fin k0_t4_loop.trips) : Fin 2 → Nat :=
  let c0_67 : Index := 0#32
  let c0_i32_63 : BitVec 32 := 0#32
  let c1_i32_65 : BitVec 32 := 1#32
  let arg23 : BitVec 32 := Scf.iv c0_i32_63 c1_i32_65 k0_t4
  let c256_i32 : BitVec 32 := 256#32
  let v73 : BitVec 32 := Scalar.muli arg23 c256_i32
  let v74 : BitVec 32 := v73
  let v75 : Index := Scalar.indexCast v74
  ![0, v75.toNat]
def k0_off137 (k0_t4 : Fin k0_t4_loop.trips) : Fin 2 → Nat :=
  let c0_68 : Index := 0#32
  let c0_i32_63 : BitVec 32 := 0#32
  let c1_i32_65 : BitVec 32 := 1#32
  let arg23 : BitVec 32 := Scf.iv c0_i32_63 c1_i32_65 k0_t4
  let c256_i32 : BitVec 32 := 256#32
  let v73 : BitVec 32 := Scalar.muli arg23 c256_i32
  let v74 : BitVec 32 := v73
  let v78 : Index := Scalar.indexCast v74
  ![0, v78.toNat]
abbrev stage0_0 : Fin 1 → Memref sig .tc .smem S40x136 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S40x136 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S40x136 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S100x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S100x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S100x17408 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S136x100 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelIdeal.lean ====
variable {F : FTy → Type} [FloatOps F] [Named F]
def κ : String → Option EReal := fun
  | "inv_d" => some ((1 / 5120 : ℝ) : EReal)
  | _ => none
-- ==== ReferenceIdeal.lean ====
abbrev S40x136 : Shape := ⟨2, ![40, 136]⟩
abbrev S136x40 : Shape := ⟨2, ![136, 40]⟩
abbrev S112x5120 : Shape := ⟨2, ![112, 5120]⟩
abbrev S5120 : Shape := ⟨1, ![5120]⟩
abbrev S5120x17408 : Shape := ⟨2, ![5120, 17408]⟩
abbrev S17408x5120 : Shape := ⟨2, ![17408, 5120]⟩
abbrev S1x5120 : Shape := ⟨2, ![1, 5120]⟩
abbrev S100x5120 : Shape := ⟨2, ![100, 5120]⟩
abbrev S40x100 : Shape := ⟨2, ![40, 100]⟩
abbrev S100x17408 : Shape := ⟨2, ![100, 17408]⟩
abbrev S136x100 : Shape := ⟨2, ![136, 100]⟩
abbrev S100 : Shape := ⟨1, ![100]⟩
abbrev S100x1 : Shape := ⟨2, ![100, 1]⟩
abbrev S100x40x128 : Shape := ⟨3, ![100, 40, 128]⟩
abbrev S100x40 : Shape := ⟨2, ![100, 40]⟩
abbrev S100x40x1 : Shape := ⟨3, ![100, 40, 1]⟩
abbrev S40x128x136x128 : Shape := ⟨4, ![40, 128, 136, 128]⟩
abbrev S40x1x136x1 : Shape := ⟨4, ![40, 1, 136, 1]⟩
abbrev S100x136x128 : Shape := ⟨3, ![100, 136, 128]⟩
abbrev S100x136 : Shape := ⟨2, ![100, 136]⟩
abbrev S100x136x1 : Shape := ⟨3, ![100, 136, 1]⟩
abbrev S136x128x40x128 : Shape := ⟨4, ![136, 128, 40, 128]⟩
abbrev S136x1x40x1 : Shape := ⟨4, ![136, 1, 40, 1]⟩

abbrev nBuf : Space → Nat
  | .hbm => 14
  | .vmem => 13
  | .smem => 0
  | _ => 0

abbrev bufTy : (tb : Table) → Fin (tcTables nBuf tb) → BufTy
  | .hbm, ⟨0, _⟩ => ⟨S40x136, .f32⟩
  | .hbm, ⟨1, _⟩ => ⟨S40x136, .f32⟩
  | .hbm, ⟨2, _⟩ => ⟨S136x40, .f32⟩
  | .hbm, ⟨3, _⟩ => ⟨S112x5120, .f32⟩
  | .hbm, ⟨4, _⟩ => ⟨S5120, .f32⟩
  | .hbm, ⟨5, _⟩ => ⟨S5120x17408, .fp8e4m3⟩
  | .hbm, ⟨6, _⟩ => ⟨S5120x17408, .fp8e4m3⟩
  | .hbm, ⟨7, _⟩ => ⟨S17408x5120, .fp8e4m3⟩
  | .hbm, ⟨8, _⟩ => ⟨S1x5120, .f32⟩
  | .hbm, ⟨9, _⟩ => ⟨S100x5120, .bf16⟩
  | .hbm, ⟨10, _⟩ => ⟨S100x5120, .fp8e4m3⟩
  | .hbm, ⟨11, _⟩ => ⟨S40x100, .f32⟩
  | .hbm, ⟨12, _⟩ => ⟨S100x17408, .fp8e4m3⟩
  | .hbm, ⟨13, _⟩ => ⟨S136x100, .f32⟩
  | .local _ .vmem, ⟨0, _⟩ => ⟨S40x136, .f32⟩
  | .local _ .vmem, ⟨1, _⟩ => ⟨S40x136, .f32⟩
  | .local _ .vmem, ⟨2, _⟩ => ⟨S136x40, .f32⟩
  | .local _ .vmem, ⟨3, _⟩ => ⟨S112x5120, .f32⟩
  | .local _ .vmem, ⟨4, _⟩ => ⟨S1x5120, .f32⟩
  | .local _ .vmem, ⟨5, _⟩ => ⟨S5120x17408, .fp8e4m3⟩
  | .local _ .vmem, ⟨6, _⟩ => ⟨S5120x17408, .fp8e4m3⟩
  | .local _ .vmem, ⟨7, _⟩ => ⟨S17408x5120, .fp8e4m3⟩
  | .local _ .vmem, ⟨8, _⟩ => ⟨S100x5120, .bf16⟩
  | .local _ .vmem, ⟨9, _⟩ => ⟨S100x5120, .fp8e4m3⟩
  | .local _ .vmem, ⟨10, _⟩ => ⟨S40x100, .f32⟩
  | .local _ .vmem, ⟨11, _⟩ => ⟨S100x17408, .fp8e4m3⟩
  | .local _ .vmem, ⟨12, _⟩ => ⟨S136x100, .f32⟩
  | _, _ => ⟨S40x136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S40x136 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x136 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S136x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x17408 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x17408 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S17408x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S100x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S100x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S40x100 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S100x17408 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S136x100 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Kernel.Ring.lean ====
/-
  The weight ring of the kernel: three slots of `arg13`, `arg14` and `arg15`, each filled by three transfers counted on the
  slot's one semaphore, and what a slot holds before and after its wait.
-/
module

public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The operands -/

abbrev M5 : Memref sig .tc .hbm S5120x17408 .fp8e4m3 := Memref.whole main_arg5
abbrev M6 : Memref sig .tc .hbm S5120x17408 .fp8e4m3 := Memref.whole main_arg6
abbrev M7 : Memref sig .tc .hbm S17408x5120 .fp8e4m3 := Memref.whole main_arg7
abbrev M13 : Memref sig .tc .vmem S3x5120x512 .fp8e4m3 := Memref.whole cc0_scratch0
abbrev M14 : Memref sig .tc .vmem S3x5120x512 .fp8e4m3 := Memref.whole cc0_scratch1
abbrev M15 : Memref sig .tc .vmem S3x512x5120 .fp8e4m3 := Memref.whole cc0_scratch2
abbrev M16 : Memref sig .tc .vmem S112x5120 .bf16 := Memref.whole cc0_scratch3
abbrev M17 : Memref sig .tc .vmem S112x5120 .f32 := Memref.whole cc0_scratch4
abbrev M18 : Memref sig .tc .vmem S112x512 .f32 := Memref.whole cc0_scratch5
abbrev M19 : Memref sig .tc .vmem S112x512 .bf16 := Memref.whole cc0_scratch6
abbrev M20 : Memref sig .tc .vmem S2x128x128 .f32 := Memref.whole cc0_scratch7
abbrev M21 : Memref sig .tc .vmem S128x128 .f32 := Memref.whole cc0_scratch8

/-- The contents a memref's buffer can hold. -/
abbrev Cont (c : Dev nD) {sp : Space} {S : Shape} {e : EltTy} (M : Memref sig .tc sp S e) : Type := Buf (Elt F) (M.view.loc (c : Thread nD τ))
/-- A memref's elements held at share `q`, the buffer's contents `f`. -/
abbrev own (c : Dev nD) {sp : Space} {S : Shape} {e : EltTy} (M : Memref sig .tc sp S e) (q : PosShare TreeShare) (f : Cont (F := F) c M) : sProp 𝕄 :=
  M.view.loc (c : Thread nD τ) ↦[M.view.set]{q} f

/-! ## The transfers' ends, as printed -/

abbrev slotA (M : Memref sig .tc .vmem S3x5120x512 .fp8e4m3) (o : Fin 3 → ℕ) (h : ∀ a, o a + S1x5120x512.size a ≤ S3x5120x512.size a) :
    Memref sig .tc .vmem S5120x512 .fp8e4m3 :=
  (M.slice (Rect.unit (s := S3x5120x512) o S1x5120x512.size h) (fun _ => rfl)).squeeze S5120x512 squeezes_S1x5120x512_S5120x512
abbrev slotB (M : Memref sig .tc .vmem S3x512x5120 .fp8e4m3) (o : Fin 3 → ℕ) (h : ∀ a, o a + S1x512x5120.size a ≤ S3x512x5120.size a) :
    Memref sig .tc .vmem S512x5120 .fp8e4m3 :=
  (M.slice (Rect.unit (s := S3x512x5120) o S1x512x5120.size h) (fun _ => rfl)).squeeze S512x5120 squeezes_S1x512x5120_S512x5120
abbrev srcA (M : Memref sig .tc .hbm S5120x17408 .fp8e4m3) (o : Fin 2 → ℕ) (h : ∀ a, o a + S5120x512.size a ≤ S5120x17408.size a) :
    Memref sig .tc .hbm S5120x512 .fp8e4m3 :=
  M.slice (Rect.unit (s := S5120x17408) o S5120x512.size h) (fun _ => rfl)
abbrev srcB (M : Memref sig .tc .hbm S17408x5120 .fp8e4m3) (o : Fin 2 → ℕ) (h : ∀ a, o a + S512x5120.size a ≤ S17408x5120.size a) :
    Memref sig .tc .hbm S512x5120 .fp8e4m3 :=
  M.slice (Rect.unit (s := S17408x5120) o S512x5120.size h) (fun _ => rfl)
abbrev semAt (o : Fin 1 → ℕ) (h : ∀ a, o a + S1.size a ≤ S3.size a) : DmaSem sig :=
  ((cc0_scratch9.slice (Rect.unit (s := S3) o S1.size h)).squeeze S_ squeezes_S1_S_).sem

/-- A slot's window with a weight tile landed in it. -/
abbrev landA (c : Dev nD) (M : Memref sig .tc .vmem S3x5120x512 .fp8e4m3) (N : Memref sig .tc .hbm S5120x17408 .fp8e4m3)
    (o : Fin 3 → ℕ) (h : ∀ a, o a + S1x5120x512.size a ≤ S3x5120x512.size a)
    (p : Fin 2 → ℕ) (hp : ∀ a, p a + S5120x512.size a ≤ S5120x17408.size a) (w : Cont (F := F) c N) : Cont (F := F) c (slotA M o h) :=
  (slotA M o h).view.writes (Elt F) (slotA M o h).view.junk [⟨Rect.whole S5120x512, ReadAs.same.apply ((srcA N p hp).view.read (Elt F) w)⟩]
abbrev landB (c : Dev nD) (M : Memref sig .tc .vmem S3x512x5120 .fp8e4m3) (N : Memref sig .tc .hbm S17408x5120 .fp8e4m3)
    (o : Fin 3 → ℕ) (h : ∀ a, o a + S1x512x5120.size a ≤ S3x512x5120.size a)
    (p : Fin 2 → ℕ) (hp : ∀ a, p a + S512x5120.size a ≤ S17408x5120.size a) (w : Cont (F := F) c N) : Cont (F := F) c (slotB M o h) :=
  (slotB M o h).view.writes (Elt F) (slotB M o h).view.junk [⟨Rect.whole S512x5120, ReadAs.same.apply ((srcB N p hp).view.read (Elt F) w)⟩]

/-- The three deliveries of a slot filled with step `p`'s tiles: gate, up and down. -/
def deliv (c : Dev nD) (q : PosShare TreeShare) (o : Fin 3 → ℕ) (h : ∀ a, o a + S1x5120x512.size a ≤ S3x5120x512.size a)
    (o' : Fin 3 → ℕ) (h' : ∀ a, o' a + S1x512x5120.size a ≤ S3x512x5120.size a)
    (p : Fin 2 → ℕ) (hp : ∀ a, p a + S5120x512.size a ≤ S5120x17408.size a)
    (p' : Fin 2 → ℕ) (hp' : ∀ a, p' a + S512x5120.size a ≤ S17408x5120.size a)
    (w5 : Cont (F := F) c M5) (w6 : Cont (F := F) c M6) (w7 : Cont (F := F) c M7) : Fin 3 → sProp 𝕄
  | 0 => iprop(own c (slotA M13 o h) fullShare (landA c M13 M5 o h p hp w5) ∗ own c (srcA M5 p hp) q w5)
  | 1 => iprop(own c (slotA M14 o h) fullShare (landA c M14 M6 o h p hp w6) ∗ own c (srcA M6 p hp) q w6)
  | 2 => iprop(own c (slotB M15 o' h') fullShare (landB c M15 M7 o' h' p' hp' w7) ∗ own c (srcB M7 p' hp') q w7)

instance deliv_storable (c : Dev nD) (q : PosShare TreeShare) (o : Fin 3 → ℕ) (h : ∀ a, o a + S1x5120x512.size a ≤ S3x5120x512.size a)
    (o' : Fin 3 → ℕ) (h' : ∀ a, o' a + S1x512x5120.size a ≤ S3x512x5120.size a)
    (p : Fin 2 → ℕ) (hp : ∀ a, p a + S5120x512.size a ≤ S5120x17408.size a)
    (p' : Fin 2 → ℕ) (hp' : ∀ a, p' a + S512x5120.size a ≤ S17408x5120.size a)
    (w5 : Cont (F := F) c M5) (w6 : Cont (F := F) c M6) (w7 : Cont (F := F) c M7) (t : Fin 3) :
    Storable (upEmb : UEmb _ 𝕄) (deliv c q o h o' h' p hp p' hp' w5 w6 w7 t) := by
  fin_cases t <;> simp only [deliv] <;> infer_instance

/-- One transfer's credit: the three transfers of a slot count the same. -/
abbrev credit : ℕ := (slotA M13 ![0, 0, 0] inb_S3x5120x512_S1x5120x512_0_0_0).view.amount (SemLoc.dma (semAt ![0] inb_S3_S1_0))

end Cert.Kernel.Hand

end
-- ==== Proof.Kernel.Clean.lean ====
/-
  The trip of the main loop written with uniform tile programs: what the printed body does, one list of tiles at a time.
-/
module

public import proofs.«01_k».proof.Proof.Kernel.Ring

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

/-- A 128×128 block of a weight tile times its scale. -/
def blk (v : FVec F S128x128 .fp8e4m3) (s : Elt F .f32) : FVec F S128x128 .bf16 :=
  shapeCast S128x128 (mulf (shapeCast S8x16x128 (extf .bf16 v bitsLt_fp8e4m3_bf16) shapeCasts_S128x128_S8x16x128)
    (broadcastTo S8x16x128 (shapeCast S1x16x128 (truncf .bf16 (broadcast S16x128 s) bitsLt_bf16_f32) shapeCasts_S16x128_S1x16x128) broadcasts_S1x16x128_S8x16x128))
    shapeCasts_S8x16x128_S128x128
/-- A 256×256 weight tile with its four scales. -/
def wtile (w : Vec F S1x256x256 .fp8e4m3) (s00 s01 s10 s11 : Elt F .f32) : FVec F S256x256 .bf16 :=
  concatenate S256x256 0
    [⟨S128x256, concatenate S128x256 1
        [⟨S128x128, blk (extractStridedSlice S128x128 ![0, 0] (shapeCast S256x256 w shapeCasts_S1x256x256_S256x256) slices_S256x256_o0_0_S128x128) s00⟩,
         ⟨S128x128, blk (extractStridedSlice S128x128 ![0, 128] (shapeCast S256x256 w shapeCasts_S1x256x256_S256x256) slices_S256x256_o0_128_S128x128) s01⟩]
        concatenates_S128x128_S128x128_S128x256_d1⟩,
     ⟨S128x256, concatenate S128x256 1
        [⟨S128x128, blk (extractStridedSlice S128x128 ![128, 0] (shapeCast S256x256 w shapeCasts_S1x256x256_S256x256) slices_S256x256_o128_0_S128x128) s10⟩,
         ⟨S128x128, blk (extractStridedSlice S128x128 ![128, 128] (shapeCast S256x256 w shapeCasts_S1x256x256_S256x256) slices_S256x256_o128_128_S128x128) s11⟩]
        concatenates_S128x128_S128x128_S128x256_d1⟩]
    concatenates_S128x256_S128x256_S256x256_d0
/-- One tile's product. -/
def tdot (a : Vec F S112x256 .bf16) (w : Vec F S1x256x256 .fp8e4m3) (s00 s01 s10 s11 : Elt F .f32) : FVec F S112x256 .f32 :=
  matmul dot_S112x256_S256x256_S112x256_1_0_0_1_n_n none a (wtile w s00 s01 s10 s11) (constant S112x256 .f32 0x00000000#32)

/-- `silu(g) * u`. -/
def swish (g u : FVec F S112x256 .f32) : FVec F S112x256 .f32 :=
  mulf (mulf g (divf (broadcast S112x256 (Scalar.ofBits .f32 0x3F800000#32))
    (addf (broadcast S112x256 (Scalar.ofBits .f32 0x3F800000#32)) (exp (subf (broadcast S112x256 (Scalar.ofBits .f32 0x00000000#32)) g))))) u

/-- The exponent field of a group's scaled largest magnitude, counted. -/
def qexp (v : FVec F S112x128 .f32) : IVec S112x1 32 :=
  let e := shapeCast S112x1 (multiReductionI .add [1] S112
    (select (cmpf .oge (broadcastTo S112x252
        (mulf (shapeCast S112x1 (multiReduction .maximumf [1] S112 (absf v) 0xFF800000#32 reduces_S112x128_S112 (.inl rfl) rfl) shapeCasts_S112_S112x1)
          (broadcast S112x1 (Scalar.ofBits .f32 0x3B124925#32))) broadcasts_S112x1_S112x252)
      (bitcastToFloat .f32 (shli (addi (iota .tc S112x252 32 [1] iota_S112x252_d1_w32) (broadcast S112x252 1#32)) (broadcast S112x252 23#32))))
      (broadcast S112x252 1#32) (broadcast S112x252 0#32)) 0#32 reduces_S112x252_S112 rfl) shapeCasts_S112_S112x1
  select (cmpi .eq e (broadcast S112x1 0#32)) (broadcast S112x1 126#32) e
/-- The scale. -/
def qscale (v : FVec F S112x128 .f32) : FVec F S112x1 .f32 :=
  bitcastToFloat .f32 (shli (addi (qexp v) (broadcast S112x1 1#32)) (broadcast S112x1 23#32))
/-- The codes. -/
def qcode (v : FVec F S112x128 .f32) : FVec F S112x128 .fp8e4m3 :=
  truncf .fp8e4m3 (minimumf (broadcast S112x128 (Scalar.ofBits .f32 0x43E00000#32)) (maximumf (broadcast S112x128 (Scalar.ofBits .f32 0xC3E00000#32))
    (mulf v (broadcastTo S112x128 (bitcastToFloat .f32 (shli (subi (broadcast S112x1 253#32) (qexp v)) (broadcast S112x1 23#32))) broadcasts_S112x1_S112x128)))) bitsLt_fp8e4m3_f32
/-- The codes of the hundred rows kept. -/
def qcode100 (v : FVec F S112x128 .f32) : FVec F S100x128 .fp8e4m3 :=
  extractStridedSlice S100x128 ![0, 0] (qcode v) slices_S112x128_o0_0_S100x128
/-- Codes times scale. -/
def qdeq (v : FVec F S112x128 .f32) : FVec F S112x128 .bf16 :=
  truncf .bf16 (mulf (extf .f32 (qcode v) bitsLt_fp8e4m3_f32) (broadcastTo S112x128 (qscale v) broadcasts_S112x1_S112x128)) bitsLt_bf16_f32
/-- The scale put in the lane the group has. -/
def qlane (lanes : IVec S112x128 32) (o w : BitVec 32) (s : FVec F S112x1 .f32) (old : Vec F S1x112x128 .f32) : FVec F S1x112x128 .f32 :=
  shapeCast S1x112x128 (select (cmpi .eq (addi lanes (broadcast S112x128 o)) (broadcast S112x128 w))
    (broadcastTo S112x128 (shapeCast S112x1 s shapeCasts_S112x1_S112x1) broadcasts_S112x1_S112x128)
    (shapeCast S112x128 old shapeCasts_S1x112x128_S112x128)) shapeCasts_S112x128_S1x112x128

/-! ## The programs -/

/-- The kernel's programs. -/
abbrev Pr (F : FTy → Type) (α : Type) : Type _ := Prog (TpuEff nD τ sig (Elt F) Λ₀ .tc) α

/-- The step's number, as a word. -/
abbrev ivw (k : Fin k0_t3_loop.trips) : BitVec 32 := Scf.iv 0#32 1#32 k
/-- The slot's number. -/
abbrev slotN (k : Fin k0_t3_loop.trips) : ℕ := (Scalar.indexCast (Scalar.remsi (ivw k) 3#32)).toNat
/-- The word a scale's column is read at. -/
abbrev colW (k : Fin k0_t3_loop.trips) (a b : BitVec 32) : BitVec 32 := Scalar.indexCast (Scalar.addi (Scalar.addi (Scalar.muli (ivw k) 4#32) a) b)

/-- One scale's load. -/
def sload (arg : Memref sig .tc .smem S40x136 .f32) (o : Fin 2 → ℕ) (h : ∀ a, o a + S1x1.size a ≤ S40x136.size a) : Pr F (Elt F .f32) :=
  smemLoad arg (Rect.unit (s := S40x136) o S1x1.size h) numel1_S1x1 rfl

theorem slotN_lt (k : Fin k0_t3_loop.trips) : slotN k + 1 ≤ 3 := k0_off15_inb k 0
theorem colW_lt (k : Fin k0_t3_loop.trips) (a b : Fin 2) : (colW k (BitVec.ofNat 32 (2 * a.val)) (BitVec.ofNat 32 b.val)).toNat + 1 ≤ 136 :=
  k0_off16_inb k a b 1
theorem mcolW_lt (k : Fin k0_t3_loop.trips) (b : Fin 4) :
    (Scalar.indexCast (Scalar.addi (Scalar.muli (ivw k) 512#32) (BitVec.ofNat 32 (128 * b.val)))).toNat + 128 ≤ 17408 := k0_off75_inb k b 1

/-- A scale's place: its row and its column. -/
abbrev sAt (r w : ℕ) : Fin 2 → ℕ := ![r, w]
theorem sAt_inb (r w : ℕ) (hr : r + 1 ≤ 40) (hw : w + 1 ≤ 136) : ∀ a, sAt r w a + S1x1.size a ≤ S40x136.size a := by
  intro a; fin_cases a; exacts [hr, hw]
abbrev rAt (s r c : ℕ) : Fin 3 → ℕ := ![s, r, c]
theorem rAtA_inb (s r c : ℕ) (hs : s + 1 ≤ 3) (hr : r + 256 ≤ 5120) (hc : c + 256 ≤ 512) :
    ∀ a, rAt s r c a + S1x256x256.size a ≤ S3x5120x512.size a := by
  intro a; fin_cases a; exacts [hs, hr, hc]
theorem rAtB_inb (s r c : ℕ) (hs : s + 1 ≤ 3) (hr : r + 256 ≤ 512) (hc : c + 256 ≤ 5120) :
    ∀ a, rAt s r c a + S1x256x256.size a ≤ S3x512x5120.size a := by
  intro a; fin_cases a; exacts [hs, hr, hc]
abbrev aAt (c : ℕ) : Fin 2 → ℕ := ![0, c]
theorem aAtA_inb (c : ℕ) (hc : c + 256 ≤ 5120) : ∀ a, aAt c a + S112x256.size a ≤ S112x5120.size a := by
  intro a; fin_cases a; exacts [le_refl _, hc]
theorem aAtB_inb (c : ℕ) (hc : c + 256 ≤ 512) : ∀ a, aAt c a + S112x256.size a ≤ S112x512.size a := by
  intro a; fin_cases a; exacts [le_refl _, hc]
theorem aAtQ_inb (c : ℕ) (hc : c + 128 ≤ 512) : ∀ a, aAt c a + S112x128.size a ≤ S112x512.size a := by
  intro a; fin_cases a; exacts [le_refl _, hc]
theorem aAtC_inb (c : ℕ) (hc : c + 128 ≤ 17408) : ∀ a, aAt c a + S100x128.size a ≤ S100x17408.size a := by
  intro a; fin_cases a; exacts [le_refl _, hc]

/-- One tile of the gate or the up product: tile `kc` of the rows, half `n` of the columns. -/
def tileA (ring : Memref sig .tc .vmem S3x5120x512 .fp8e4m3) (sc : Memref sig .tc .smem S40x136 .f32) (lhs : Memref sig .tc .vmem S112x5120 .bf16)
    (k : Fin k0_t3_loop.trips) (n : Fin 2) (kc : Fin 20) : Pr F (FVec F S112x256 .f32) := do
  let w : Vec F S1x256x256 .fp8e4m3 ← Prog.lift (.load ring (Rect.unit (s := S3x5120x512) (rAt (slotN k) (256 * kc.val) (256 * n.val)) S1x256x256.size
    (rAtA_inb _ _ _ (slotN_lt k) (by omega) (by omega))).toLoadRect (View.loadsAt_vmem h_S1x256x256))
  let s00 ← sload sc (sAt (2 * kc.val) (colW k (BitVec.ofNat 32 (2 * n.val)) (BitVec.ofNat 32 0)).toNat) (sAt_inb _ _ (by omega) (colW_lt k n 0))
  let s01 ← sload sc (sAt (2 * kc.val) (colW k (BitVec.ofNat 32 (2 * n.val)) (BitVec.ofNat 32 1)).toNat) (sAt_inb _ _ (by omega) (colW_lt k n 1))
  let s10 ← sload sc (sAt (2 * kc.val + 1) (colW k (BitVec.ofNat 32 (2 * n.val)) (BitVec.ofNat 32 0)).toNat) (sAt_inb _ _ (by omega) (colW_lt k n 0))
  let s11 ← sload sc (sAt (2 * kc.val + 1) (colW k (BitVec.ofNat 32 (2 * n.val)) (BitVec.ofNat 32 1)).toNat) (sAt_inb _ _ (by omega) (colW_lt k n 1))
  let a : Vec F S112x256 .bf16 ← Prog.lift (.load lhs (Rect.unit (s := S112x5120) (aAt (256 * kc.val)) S112x256.size
    (aAtA_inb _ (by omega))).toLoadRect (View.loadsAt_vmem h_S112x256))
  pure (tdot a w s00 s01 s10 s11)

/-- The tiles' products added one after another onto what is there. -/
def sumA (ring : Memref sig .tc .vmem S3x5120x512 .fp8e4m3) (sc : Memref sig .tc .smem S40x136 .f32) (lhs : Memref sig .tc .vmem S112x5120 .bf16)
    (k : Fin k0_t3_loop.trips) (n : Fin 2) : List (Fin 20) → FVec F S112x256 .f32 → Pr F (FVec F S112x256 .f32)
  | [], acc => pure acc
  | kc :: l, acc => do
    let d ← tileA ring sc lhs k n kc
    sumA ring sc lhs k n l (addf acc d)

/-- A whole product of the gate or the up matrix. -/
def projA (ring : Memref sig .tc .vmem S3x5120x512 .fp8e4m3) (sc : Memref sig .tc .smem S40x136 .f32) (lhs : Memref sig .tc .vmem S112x5120 .bf16)
    (k : Fin k0_t3_loop.trips) (n : Fin 2) : Pr F (FVec F S112x256 .f32) := do
  let d ← tileA ring sc lhs k n 0
  sumA ring sc lhs k n [1, 2, 3, 4, 5, 6, 7, 8, 9, 10, 11, 12, 13, 14, 15, 16, 17, 18, 19] d

/-- One tile of the down product: half `kc` of the rows, tile `n` of the columns. -/
def tileB (ring : Memref sig .tc .vmem S3x512x5120 .fp8e4m3) (sc : Memref sig .tc .smem S40x136 .f32) (lhs : Memref sig .tc .vmem S112x512 .bf16)
    (k : Fin k0_t3_loop.trips) (n : Fin 20) (kc : Fin 2) : Pr F (FVec F S112x256 .f32) := do
  let w : Vec F S1x256x256 .fp8e4m3 ← Prog.lift (.load ring (Rect.unit (s := S3x512x5120) (rAt (slotN k) (256 * kc.val) (256 * n.val)) S1x256x256.size
    (rAtB_inb _ _ _ (slotN_lt k) (by omega) (by omega))).toLoadRect (View.loadsAt_vmem h_S1x256x256))
  let s00 ← sload sc (sAt (2 * n.val) (colW k (BitVec.ofNat 32 (2 * kc.val)) (BitVec.ofNat 32 0)).toNat) (sAt_inb _ _ (by omega) (colW_lt k kc 0))
  let s01 ← sload sc (sAt (2 * n.val + 1) (colW k (BitVec.ofNat 32 (2 * kc.val)) (BitVec.ofNat 32 0)).toNat) (sAt_inb _ _ (by omega) (colW_lt k kc 0))
  let s10 ← sload sc (sAt (2 * n.val) (colW k (BitVec.ofNat 32 (2 * kc.val)) (BitVec.ofNat 32 1)).toNat) (sAt_inb _ _ (by omega) (colW_lt k kc 1))
  let s11 ← sload sc (sAt (2 * n.val + 1) (colW k (BitVec.ofNat 32 (2 * kc.val)) (BitVec.ofNat 32 1)).toNat) (sAt_inb _ _ (by omega) (colW_lt k kc 1))
  let a : Vec F S112x256 .bf16 ← Prog.lift (.load lhs (Rect.unit (s := S112x512) (aAt (256 * kc.val)) S112x256.size
    (aAtB_inb _ (by omega))).toLoadRect (View.loadsAt_vmem h_S112x256))
  pure (tdot a w s00 s01 s10 s11)

/-- One tile of the columns of the down product, added onto the accumulator. -/
def downStep (ring : Memref sig .tc .vmem S3x512x5120 .fp8e4m3) (sc : Memref sig .tc .smem S40x136 .f32) (lhs : Memref sig .tc .vmem S112x512 .bf16)
    (acc : Memref sig .tc .vmem S112x5120 .f32) (k : Fin k0_t3_loop.trips) (n : Fin 20) : Pr F Unit := do
  let d0 ← tileB ring sc lhs k n 0
  let d1 ← tileB ring sc lhs k n 1
  let o : Vec F S112x256 .f32 ← Prog.lift (.load acc (Rect.unit (s := S112x5120) (aAt (256 * n.val)) S112x256.size
    (aAtA_inb _ (by omega))).toLoadRect (View.loadsAt_vmem h_S112x256))
  let _ : Vec F S112x256 .f32 ← Prog.lift (.load acc (Rect.unit (s := S112x5120) (aAt (256 * n.val)) S112x256.size
    (aAtA_inb _ (by omega))).toLoadRect (View.loadsAt_vmem h_S112x256))
  Prog.lift (.store acc (Rect.unit (s := S112x5120) (aAt (256 * n.val)) S112x256.size (aAtA_inb _ (by omega)))
    (shapeCast S112x256 (addf o (addf d0 d1)) shapeCasts_S112x256_S112x256) Finset.univ (View.stores_vmem_bits_univ h_S112x256 rfl) (.inl rfl))

def downAll (ring : Memref sig .tc .vmem S3x512x5120 .fp8e4m3) (sc : Memref sig .tc .smem S40x136 .f32) (lhs : Memref sig .tc .vmem S112x512 .bf16)
    (acc : Memref sig .tc .vmem S112x5120 .f32) (k : Fin k0_t3_loop.trips) : List (Fin 20) → Pr F Unit
  | [] => pure ⟨⟩
  | n :: l => do
    downStep ring sc lhs acc k n
    downAll ring sc lhs acc k l

/-- The scales of one group of lanes put in place `q` of the scale buffer. -/
def laneStore (sb : Memref sig .tc .vmem S2x128x128 .f32) (lanes : IVec S112x128 32) (k : Fin k0_t3_loop.trips) (lb : Fin 4)
    (s : FVec F S112x1 .f32) (q : Fin 2) : Pr F Unit := do
  let old : Vec F S1x112x128 .f32 ← Prog.lift (.load sb (Rect.unit (s := S2x128x128) ![q.val, 0, 0] S1x112x128.size
    (by intro a; fin_cases a; exacts [by have := q.isLt; show q.val + 1 ≤ 2; omega, by show 0 + 112 ≤ 128; omega, le_refl _])).toLoadRect (View.loadsAt_vmem h_S1x112x128))
  let _ : Vec F S1x112x128 .f32 ← Prog.lift (.load sb (Rect.unit (s := S2x128x128) ![q.val, 0, 0] S1x112x128.size
    (by intro a; fin_cases a; exacts [by have := q.isLt; show q.val + 1 ≤ 2; omega, by show 0 + 112 ≤ 128; omega, le_refl _])).toLoadRect (View.loadsAt_vmem h_S1x112x128))
  Prog.lift (.store sb (Rect.unit (s := S2x128x128) ![q.val, 0, 0] S1x112x128.size
    (by intro a; fin_cases a; exacts [by have := q.isLt; show q.val + 1 ≤ 2; omega, by show 0 + 112 ≤ 128; omega, le_refl _]))
    (qlane lanes (BitVec.ofNat 32 (128 * q.val)) (Scalar.addi (Scalar.muli (ivw k) 4#32) (BitVec.ofNat 32 lb.val)) s old)
    Finset.univ (View.stores_vmem_bits_univ h_S1x112x128 rfl) (.inl rfl))

theorem lhs_packed (lb : Fin 4) :
    (Rect.unit (s := S112x512) (aAt (128 * lb.val)) S112x128.size (aAtQ_inb _ (by omega))).PackedRows (EltTy.packing .bf16) := by
  fin_cases lb
  exacts [packedbf16_S112x512_S112x128_0_0, packedbf16_S112x512_S112x128_0_128, packedbf16_S112x512_S112x128_0_256, packedbf16_S112x512_S112x128_0_384]

/-- Group `lb` of the step's columns quantised and stored. -/
def quantStore (mc : Memref sig .tc .vmem S100x17408 .fp8e4m3) (hmc : mc.IsWhole) (lhs : Memref sig .tc .vmem S112x512 .bf16) (hlhs : lhs.IsWhole)
    (sb : Memref sig .tc .vmem S2x128x128 .f32) (lanes : IVec S112x128 32) (k : Fin k0_t3_loop.trips) (lb : Fin 4) (v : FVec F S112x128 .f32) : Pr F Unit := do
  let _ : Vec F S100x128 .fp8e4m3 ← Prog.lift (.load mc (Rect.unit (s := S100x17408)
    (aAt (Scalar.indexCast (Scalar.addi (Scalar.muli (ivw k) 512#32) (BitVec.ofNat 32 (128 * lb.val)))).toNat) S100x128.size (aAtC_inb _ (mcolW_lt k lb))).toLoadRect
    (View.loadsAt_vmem h_S100x128))
  Prog.lift (.store mc (Rect.unit (s := S100x17408)
    (aAt (Scalar.indexCast (Scalar.addi (Scalar.muli (ivw k) 512#32) (BitVec.ofNat 32 (128 * lb.val)))).toNat) S100x128.size (aAtC_inb _ (mcolW_lt k lb)))
    (qcode100 v) Finset.univ (View.stores_vmem h_S100x128 (hmc.storeExact_slice rfl _ (k0_off75_packedfp8e4m3 k lb)) (fun _ => rfl)) (.inl rfl))
  let _ : Vec F S112x128 .bf16 ← Prog.lift (.load lhs (Rect.unit (s := S112x512) (aAt (128 * lb.val)) S112x128.size
    (aAtQ_inb _ (by omega))).toLoadRect (View.loadsAt_vmem h_S112x128))
  Prog.lift (.store lhs (Rect.unit (s := S112x512) (aAt (128 * lb.val)) S112x128.size (aAtQ_inb _ (by omega)))
    (shapeCast S112x128 (qdeq v) shapeCasts_S112x128_S112x128) Finset.univ
    (View.stores_vmem h_S112x128 (hlhs.storeExact_slice rfl _ (lhs_packed lb)) (fun _ => rfl)) (.inl rfl))
  laneStore sb lanes k lb (qscale v) 0
  laneStore sb lanes k lb (qscale v) 1

/-- The step's products, quantisation and down product, once its weights are there. -/
def stepBody (arg0 arg1 arg2 : Memref sig .tc .smem S40x136 .f32)
    (mc : Memref sig .tc .vmem S100x17408 .fp8e4m3) (hmc : mc.IsWhole)
    (gr ur : Memref sig .tc .vmem S3x5120x512 .fp8e4m3) (dr : Memref sig .tc .vmem S3x512x5120 .fp8e4m3)
    (a2 : Memref sig .tc .vmem S112x5120 .bf16) (acc : Memref sig .tc .vmem S112x5120 .f32)
    (lhs : Memref sig .tc .vmem S112x512 .bf16) (hlhs : lhs.IsWhole)
    (sb : Memref sig .tc .vmem S2x128x128 .f32) (lanes : IVec S112x128 32) (k : Fin k0_t3_loop.trips) : Pr F Unit := do
  let g0 ← projA gr arg0 a2 k 0
  let u0 ← projA ur arg1 a2 k 0
  quantStore mc hmc lhs hlhs sb lanes k 0 (extractStridedSlice S112x128 ![0, 0] (swish g0 u0) slices_S112x256_o0_0_S112x128)
  quantStore mc hmc lhs hlhs sb lanes k 1 (extractStridedSlice S112x128 ![0, 128] (swish g0 u0) slices_S112x256_o0_128_S112x128)
  let g1 ← projA gr arg0 a2 k 1
  let u1 ← projA ur arg1 a2 k 1
  quantStore mc hmc lhs hlhs sb lanes k 2 (extractStridedSlice S112x128 ![0, 0] (swish g1 u1) slices_S112x256_o0_0_S112x128)
  quantStore mc hmc lhs hlhs sb lanes k 3 (extractStridedSlice S112x128 ![0, 128] (swish g1 u1) slices_S112x256_o0_128_S112x128)
  downAll dr arg2 lhs acc k [0, 1, 2, 3, 4, 5, 6, 7, 8, 9, 10, 11, 12, 13, 14, 15, 16, 17, 18, 19]

/-! ## A slot filled and waited for -/

/-- The three transfers of a slot started. -/
def issue3 (s5 s6 : Memref sig .tc .hbm S5120x512 .fp8e4m3) (s7 : Memref sig .tc .hbm S512x5120 .fp8e4m3)
    (d13 d14 : Memref sig .tc .vmem S5120x512 .fp8e4m3) (d15 : Memref sig .tc .vmem S512x5120 .fp8e4m3) (sm : DmaSem sig)
    (e5 : s5.view.WordExact) (e6 : s6.view.WordExact) (e7 : s7.view.WordExact)
    (e13 : d13.view.WordExact) (e14 : d14.view.WordExact) (e15 : d15.view.WordExact) : Pr F Unit := do
  Prog.lift (.enqueueDma s5 (.here d13) (.dma sm) e5 e13 ⟨Or.inl rfl, trivial⟩)
  Prog.lift (.enqueueDma s6 (.here d14) (.dma sm) e6 e14 ⟨Or.inl rfl, trivial⟩)
  Prog.lift (.enqueueDma s7 (.here d15) (.dma sm) e7 e15 ⟨Or.inl rfl, trivial⟩)

/-- The three transfers of a slot waited for. -/
def wait3 (s5 s6 : Memref sig .tc .hbm S5120x512 .fp8e4m3) (s7 : Memref sig .tc .hbm S512x5120 .fp8e4m3)
    (d13 d14 : Memref sig .tc .vmem S5120x512 .fp8e4m3) (d15 : Memref sig .tc .vmem S512x5120 .fp8e4m3) (sm : DmaSem sig)
    (e5 : s5.view.WordExact) (e6 : s6.view.WordExact) (e7 : s7.view.WordExact)
    (e13 : d13.view.WordExact) (e14 : d14.view.WordExact) (e15 : d15.view.WordExact) : Pr F Unit := do
  Prog.lift (.waitDma2 sm s5 d13 e5 e13)
  Prog.lift (.waitDma2 sm s6 d14 e6 e14)
  Prog.lift (.waitDma2 sm s7 d15 e7 e15)

abbrev semOf (arg22 : DmaSems sig S3) (o : Fin 1 → ℕ) (h : ∀ a, o a + S1.size a ≤ S3.size a) : DmaSem sig :=
  ((arg22.slice (Rect.unit (s := S3) o S1.size h)).squeeze S_ squeezes_S1_S_).sem

section Fetch
variable (arg5 : Memref sig .tc .hbm S5120x17408 .fp8e4m3) (harg5 : arg5.IsWhole) (arg6 : Memref sig .tc .hbm S5120x17408 .fp8e4m3) (harg6 : arg6.IsWhole)
  (arg7 : Memref sig .tc .hbm S17408x5120 .fp8e4m3) (harg7 : arg7.IsWhole)
  (arg13 : Memref sig .tc .vmem S3x5120x512 .fp8e4m3) (harg13 : arg13.IsWhole) (arg14 : Memref sig .tc .vmem S3x5120x512 .fp8e4m3) (harg14 : arg14.IsWhole)
  (arg15 : Memref sig .tc .vmem S3x512x5120 .fp8e4m3) (harg15 : arg15.IsWhole) (arg22 : DmaSems sig S3)

/-- Step `k`'s start of the transfers of step `k + 2`. -/
def issueAt (k0_t3 : Fin k0_t3_loop.trips) (k0_h1 : k0_cond1 k0_t3 = 1#1) : Pr F Unit :=
  issue3 (srcA arg5 (k0_off7 k0_t3) (k0_off7_inb k0_t3 k0_h1)) (srcA arg6 (k0_off7 k0_t3) (k0_off7_inb k0_t3 k0_h1))
    (srcB arg7 (k0_off9 k0_t3) (k0_off9_inb k0_t3 k0_h1))
    (slotA arg13 (k0_off6 k0_t3) (k0_off6_inb k0_t3 k0_h1)) (slotA arg14 (k0_off6 k0_t3) (k0_off6_inb k0_t3 k0_h1))
    (slotB arg15 (k0_off8 k0_t3) (k0_off8_inb k0_t3 k0_h1)) (semOf arg22 (k0_off5 k0_t3) (k0_off5_inb k0_t3 k0_h1))
    (harg5.wordExact_slice rfl _ (k0_off7_wordsfp8e4m3 k0_t3 k0_h1)) (harg6.wordExact_slice rfl _ (k0_off7_wordsfp8e4m3 k0_t3 k0_h1))
    (harg7.wordExact_slice rfl _ (k0_off9_wordsfp8e4m3 k0_t3 k0_h1))
    ((harg13.wordExact_slice rfl _ (k0_off6_wordsfp8e4m3 k0_t3 k0_h1)).reshape _ _) ((harg14.wordExact_slice rfl _ (k0_off6_wordsfp8e4m3 k0_t3 k0_h1)).reshape _ _)
    ((harg15.wordExact_slice rfl _ (k0_off8_wordsfp8e4m3 k0_t3 k0_h1)).reshape _ _)

/-- Step `k`'s wait for its own transfers. -/
def waitAt (k0_t3 : Fin k0_t3_loop.trips) : Pr F Unit :=
  wait3 (srcA arg5 (k0_off12 k0_t3) (k0_off12_inb k0_t3)) (srcA arg6 (k0_off12 k0_t3) (k0_off12_inb k0_t3))
    (srcB arg7 (k0_off14 k0_t3) (k0_off14_inb k0_t3))
    (slotA arg13 (k0_off11 k0_t3) (k0_off11_inb k0_t3)) (slotA arg14 (k0_off11 k0_t3) (k0_off11_inb k0_t3))
    (slotB arg15 (k0_off13 k0_t3) (k0_off13_inb k0_t3)) (semOf arg22 (k0_off10 k0_t3) (k0_off10_inb k0_t3))
    (harg5.wordExact_slice rfl _ (k0_off12_wordsfp8e4m3 k0_t3)) (harg6.wordExact_slice rfl _ (k0_off12_wordsfp8e4m3 k0_t3))
    (harg7.wordExact_slice rfl _ (k0_off14_wordsfp8e4m3 k0_t3))
    ((harg13.wordExact_slice rfl _ (k0_off11_wordsfp8e4m3 k0_t3)).reshape _ _) ((harg14.wordExact_slice rfl _ (k0_off11_wordsfp8e4m3 k0_t3)).reshape _ _)
    ((harg15.wordExact_slice rfl _ (k0_off13_wordsfp8e4m3 k0_t3)).reshape _ _)

/-- A step's transfers: the next but one's started when there is one, its own waited for. -/
def fetch (k : Fin k0_t3_loop.trips) : Pr F Unit := do
  if h : k0_cond1 k = 1#1 then issueAt arg5 harg5 arg6 harg6 arg7 harg7 arg13 harg13 arg14 harg14 arg15 harg15 arg22 k h
  waitAt arg5 harg5 arg6 harg6 arg7 harg7 arg13 harg13 arg14 harg14 arg15 harg15 arg22 k
end Fetch

section Eq
variable (arg0 : Memref sig .tc .smem S40x136 .f32) (harg0 : arg0.IsWhole) (arg1 : Memref sig .tc .smem S40x136 .f32) (harg1 : arg1.IsWhole) (arg2 : Memref sig .tc .smem S40x136 .f32) (harg2 : arg2.IsWhole) (arg3 : Memref sig .tc .vmem S112x5120 .f32) (harg3 : arg3.IsWhole) (arg4 : Memref sig .tc .vmem S1x5120 .f32) (harg4 : arg4.IsWhole) (arg5 : Memref sig .tc .hbm S5120x17408 .fp8e4m3) (harg5 : arg5.IsWhole) (arg6 : Memref sig .tc .hbm S5120x17408 .fp8e4m3) (harg6 : arg6.IsWhole) (arg7 : Memref sig .tc .hbm S17408x5120 .fp8e4m3) (harg7 : arg7.IsWhole) (arg8 : Memref sig .tc .vmem S100x5120 .bf16) (harg8 : arg8.IsWhole) (arg9 : Memref sig .tc .vmem S100x5120 .fp8e4m3) (harg9 : arg9.IsWhole) (arg10 : Memref sig .tc .vmem S40x100 .f32) (harg10 : arg10.IsWhole) (arg11 : Memref sig .tc .vmem S100x17408 .fp8e4m3) (harg11 : arg11.IsWhole) (arg12 : Memref sig .tc .vmem S136x100 .f32) (harg12 : arg12.IsWhole) (arg13 : Memref sig .tc .vmem S3x5120x512 .fp8e4m3) (harg13 : arg13.IsWhole) (arg14 : Memref sig .tc .vmem S3x5120x512 .fp8e4m3) (harg14 : arg14.IsWhole) (arg15 : Memref sig .tc .vmem S3x512x5120 .fp8e4m3) (harg15 : arg15.IsWhole) (arg16 : Memref sig .tc .vmem S112x5120 .bf16) (harg16 : arg16.IsWhole) (arg17 : Memref sig .tc .vmem S112x5120 .f32) (harg17 : arg17.IsWhole) (arg18 : Memref sig .tc .vmem S112x512 .f32) (harg18 : arg18.IsWhole) (arg19 : Memref sig .tc .vmem S112x512 .bf16) (harg19 : arg19.IsWhole) (arg20 : Memref sig .tc .vmem S2x128x128 .f32) (harg20 : arg20.IsWhole) (arg21 : Memref sig .tc .vmem S128x128 .f32) (harg21 : arg21.IsWhole) (arg22 : DmaSems sig S3)

/-- What the first part reads after its transfers, and returns. -/
def tail4 (k : Fin k0_t3_loop.trips) : Pr F (Σ' (arg23 : BitVec 32) (v73 : BitVec 32) (v98 : FVec F S256x256 .fp8e4m3) (v103 : Elt F .f32) (v104 : BitVec 32), BitVec 32) := do
  let v97 : Vec F S1x256x256 .fp8e4m3 ← Prog.lift (.load arg13 (Rect.unit (s := S3x5120x512) (k0_off15 k) S1x256x256.size (k0_off15_inb k)).toLoadRect (View.loadsAt_vmem h_S1x256x256))
  let v103 : Elt F .f32 ← smemLoad arg0 (Rect.unit (s := S40x136) (k0_off16 k 0#32 0#32) S1x1.size (k0_off16_inb k 0 0)) numel1_S1x1 rfl
  pure ⟨ivw k, Scalar.remsi (ivw k) 3#32, shapeCast S256x256 v97 shapeCasts_S1x256x256_S256x256, v103, Scalar.muli (ivw k) 4#32, 0#32⟩

theorem part4_eq (k : Fin k0_t3_loop.trips) :
    (k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 0#32 1#32 k : Pr F _)
      = fetch arg5 harg5 arg6 harg6 arg7 harg7 arg13 harg13 arg14 harg14 arg15 harg15 arg22 k >>= fun _ => tail4 arg0 arg13 k := by
  by_cases h : k0_cond1 k = 1#1
  · unfold k0_part4 fetch
    simp only [dif_pos h]
    rfl
  · unfold k0_part4 fetch
    simp only [dif_neg h]
    rfl

/-- The trip, written out: its transfers, then its products. -/
theorem body_eq (lanes : IVec S112x128 32) (k : Fin k0_t3_loop.trips) :
    (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 lanes k ⟨⟩ : Pr F Unit)
      = fetch arg5 harg5 arg6 harg6 arg7 harg7 arg13 harg13 arg14 harg14 arg15 harg15 arg22 k >>= fun _ =>
        stepBody arg0 arg1 arg2 arg11 harg11 arg13 arg14 arg15 arg16 arg17 arg19 harg19 arg20 lanes k := by
  unfold k0_t3_body k0_part187
  have e := part4_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k
  rw [e]
  rw [bind_assoc, bind_assoc]
  refine congrArg _ (funext fun _ => ?_)
  sl_kernel_rfl
end Eq

end Cert.Kernel.Hand
end
-- ==== Proof.Kernel.CleanBody.lean ====
/-
  The whole body of the kernel written with the uniform programs, and its equality with the printed body.
-/
module

public import proofs.«01_k».proof.Proof.Kernel.Clean

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The norm -/

/-- One trip of the sum of squares. -/
def sqStep (a3 acc : Memref sig .tc .vmem S112x5120 .f32) (k : Fin k0_t1_loop.trips) (s : FVec F S112x128 .f32) : Pr F (FVec F S112x128 .f32) := do
  let v : Vec F S112x256 .f32 ← Prog.lift (.load a3 (Rect.unit (s := S112x5120) (k0_off1 k) S112x256.size (k0_off1_inb k)).toLoadRect (View.loadsAt_vmem h_S112x256))
  let _ : Vec F S112x256 .f32 ← Prog.lift (.load acc (Rect.unit (s := S112x5120) (k0_off1 k) S112x256.size (k0_off1_inb k)).toLoadRect (View.loadsAt_vmem h_S112x256))
  Prog.lift (.store acc (Rect.unit (s := S112x5120) (k0_off1 k) S112x256.size (k0_off1_inb k)) (shapeCast S112x256 v shapeCasts_S112x256_S112x256) Finset.univ (View.stores_vmem_bits_univ h_S112x256 rfl) (.inl rfl))
  pure (addf (addf s (mulf (extractStridedSlice S112x128 ![0, 0] v slices_S112x256_o0_0_S112x128) (extractStridedSlice S112x128 ![0, 0] v slices_S112x256_o0_0_S112x128)))
    (mulf (extractStridedSlice S112x128 ![0, 128] v slices_S112x256_o0_128_S112x128) (extractStridedSlice S112x128 ![0, 128] v slices_S112x256_o0_128_S112x128)))

/-- The reciprocal root of the mean square, from the lanes' sums. -/
def rnorm (s : FVec F S112x128 .f32) : FVec F S112x1 .f32 :=
  rsqrt (addf (mulf (shapeCast S112x1 (multiReduction .add [1] S112 s 0x00000000#32 reduces_S112x128_S112 (.inl rfl) rfl) shapeCasts_S112_S112x1)
    (broadcast S112x1 (Scalar.ofBits .f32 0x394CCCCD#32))) (broadcast S112x1 (Scalar.ofBits .f32 0x358637BD#32)))

/-- One group of the normed rows. -/
def ngroup (r : FVec F S112x1 .f32) (x : Vec F S112x128 .f32) (w : Vec F S1x128 .f32) : FVec F S112x128 .f32 :=
  mulf (mulf x (broadcastTo S112x128 r broadcasts_S112x1_S112x128))
    (broadcastTo S112x128 (addf (broadcast S1x128 (Scalar.ofBits .f32 0x3F800000#32)) (shapeCast S1x128 w shapeCasts_S1x128_S1x128)) broadcasts_S1x128_S112x128)

/-- One group of the normed rows quantised and stored; its scale. -/
def normGroup (a3 : Memref sig .tc .vmem S112x5120 .f32) (a4 : Memref sig .tc .vmem S1x5120 .f32)
    (xc : Memref sig .tc .vmem S100x5120 .fp8e4m3) (hxc : xc.IsWhole) (a2 : Memref sig .tc .vmem S112x5120 .bf16) (ha2 : a2.IsWhole)
    (r : FVec F S112x1 .f32) (k : Fin k0_t2_loop.trips) (j : Fin 2) : Pr F (FVec F S112x1 .f32) := do
  let x : Vec F S112x128 .f32 ← Prog.lift (.load a3 (Rect.unit (s := S112x5120) (k0_off2 k (BitVec.ofNat 32 (128 * j.val))) S112x128.size (k0_off2_inb k j)).toLoadRect (View.loadsAt_vmem h_S112x128))
  let w : Vec F S1x128 .f32 ← Prog.lift (.load a4 (Rect.unit (s := S1x5120) (k0_off3 k (BitVec.ofNat 32 (128 * j.val))) S1x128.size (k0_off3_inb k j)).toLoadRect (View.loadsAt_vmem h_S1x128))
  let _ : Vec F S100x128 .fp8e4m3 ← Prog.lift (.load xc (Rect.unit (s := S100x5120) (k0_off4 k (BitVec.ofNat 32 (128 * j.val))) S100x128.size (k0_off4_inb k j)).toLoadRect (View.loadsAt_vmem h_S100x128))
  Prog.lift (.store xc (Rect.unit (s := S100x5120) (k0_off4 k (BitVec.ofNat 32 (128 * j.val))) S100x128.size (k0_off4_inb k j)) (qcode100 (ngroup r x w)) Finset.univ
    (View.stores_vmem h_S100x128 (hxc.storeExact_slice rfl _ (k0_off4_packedfp8e4m3 k j)) (fun _ => rfl)) (.inl rfl))
  let _ : Vec F S112x128 .bf16 ← Prog.lift (.load a2 (Rect.unit (s := S112x5120) (k0_off2 k (BitVec.ofNat 32 (128 * j.val))) S112x128.size (k0_off2_inb k j)).toLoadRect (View.loadsAt_vmem h_S112x128))
  Prog.lift (.store a2 (Rect.unit (s := S112x5120) (k0_off2 k (BitVec.ofNat 32 (128 * j.val))) S112x128.size (k0_off2_inb k j)) (shapeCast S112x128 (qdeq (ngroup r x w)) shapeCasts_S112x128_S112x128) Finset.univ
    (View.stores_vmem h_S112x128 (ha2.storeExact_slice rfl _ (k0_off2_packedbf16 k j)) (fun _ => rfl)) (.inl rfl))
  pure (qscale (ngroup r x w))

/-- The scale put in its lane. -/
def nlane (lanes : IVec S112x128 32) (k : Fin k0_t2_loop.trips) (j : Fin 2) (s : FVec F S112x1 .f32) (old : FVec F S112x128 .f32) : FVec F S112x128 .f32 :=
  select (cmpi .eq lanes (broadcast S112x128 (Scalar.addi (Scalar.muli 2#32 (Scf.iv 0#32 1#32 k)) (BitVec.ofNat 32 j.val))))
    (broadcastTo S112x128 (shapeCast S112x1 s shapeCasts_S112x1_S112x1) broadcasts_S112x1_S112x128) old

/-- One trip of the norm. -/
def normStep (a3 : Memref sig .tc .vmem S112x5120 .f32) (a4 : Memref sig .tc .vmem S1x5120 .f32)
    (xc : Memref sig .tc .vmem S100x5120 .fp8e4m3) (hxc : xc.IsWhole) (a2 : Memref sig .tc .vmem S112x5120 .bf16) (ha2 : a2.IsWhole)
    (lanes : IVec S112x128 32) (r : FVec F S112x1 .f32) (k : Fin k0_t2_loop.trips) (old : FVec F S112x128 .f32) : Pr F (FVec F S112x128 .f32) := do
  let s0 ← normGroup a3 a4 xc hxc a2 ha2 r k 0
  let s1 ← normGroup a3 a4 xc hxc a2 ha2 r k 1
  pure (nlane lanes k 1 s1 (nlane lanes k 0 s0 old))

/-- The normed rows' scales, transposed and stored. -/
def normEnd (tmp : Memref sig .tc .vmem S128x128 .f32) (xs : Memref sig .tc .vmem S40x100 .f32) (v : FVec F S112x128 .f32) : Pr F Unit := do
  let _ : Vec F S128x128 .f32 ← Prog.lift (.load tmp (Rect.unit (s := S128x128) ![0, 0] S128x128.size inb_S128x128_S128x128_0_0).toLoadRect (View.loadsAt_vmem h_S128x128))
  Prog.lift (.store tmp (Rect.unit (s := S128x128) ![0, 0] S128x128.size inb_S128x128_S128x128_0_0) (shapeCast S128x128 (broadcast S128x128 (Scalar.ofBits (F := F) .f32 0x00000000#32)) shapeCasts_S128x128_S128x128) Finset.univ (View.stores_vmem_bits_univ h_S128x128 rfl) (.inl rfl))
  let _ : Vec F S112x128 .f32 ← Prog.lift (.load tmp (Rect.unit (s := S128x128) ![0, 0] S112x128.size inb_S128x128_S112x128_0_0).toLoadRect (View.loadsAt_vmem h_S112x128))
  Prog.lift (.store tmp (Rect.unit (s := S128x128) ![0, 0] S112x128.size inb_S128x128_S112x128_0_0) (shapeCast S112x128 v shapeCasts_S112x128_S112x128) Finset.univ (View.stores_vmem_bits_univ h_S112x128 rfl) (.inl rfl))
  let t : Vec F S128x128 .f32 ← Prog.lift (.load tmp (Rect.unit (s := S128x128) ![0, 0] S128x128.size inb_S128x128_S128x128_0_0).toLoadRect (View.loadsAt_vmem h_S128x128))
  let _ : Vec F S40x100 .f32 ← Prog.lift (.load xs (Rect.unit (s := S40x100) ![0, 0] S40x100.size inb_S40x100_S40x100_0_0).toLoadRect (View.loadsAt_vmem h_S40x100))
  Prog.lift (.store xs (Rect.unit (s := S40x100) ![0, 0] S40x100.size inb_S40x100_S40x100_0_0) (extractStridedSlice S40x100 ![0, 0] (transpose S128x128 [1, 0] t transposes_S128x128_p1_0_S128x128) slices_S128x128_o0_0_S40x100) Finset.univ (View.stores_vmem_bits_univ h_S40x100 rfl) (.inl rfl))

/-- The scale buffer emptied. -/
def zeroScales (sb : Memref sig .tc .vmem S2x128x128 .f32) : Pr F Unit := do
  let _ : Vec F S2x128x128 .f32 ← Prog.lift (.load sb (Rect.unit (s := S2x128x128) ![0, 0, 0] S2x128x128.size inb_S2x128x128_S2x128x128_0_0_0).toLoadRect (View.loadsAt_vmem h_S2x128x128))
  Prog.lift (.store sb (Rect.unit (s := S2x128x128) ![0, 0, 0] S2x128x128.size inb_S2x128x128_S2x128x128_0_0_0) (shapeCast S2x128x128 (broadcast S2x128x128 (Scalar.ofBits (F := F) .f32 0x00000000#32)) shapeCasts_S2x128x128_S2x128x128) Finset.univ (View.stores_vmem_bits_univ h_S2x128x128 rfl) (.inl rfl))

/-- The scales of the middle rows, transposed and stored. -/
def midScales (sb : Memref sig .tc .vmem S2x128x128 .f32) (ms : Memref sig .tc .vmem S136x100 .f32) : Pr F Unit := do
  let u : Vec F S1x128x128 .f32 ← Prog.lift (.load sb (Rect.unit (s := S2x128x128) ![0, 0, 0] S1x128x128.size inb_S2x128x128_S1x128x128_0_0_0).toLoadRect (View.loadsAt_vmem h_S1x128x128))
  let _ : Vec F S128x100 .f32 ← Prog.lift (.load ms (Rect.unit (s := S136x100) ![0, 0] S128x100.size inb_S136x100_S128x100_0_0).toLoadRect (View.loadsAt_vmem h_S128x100))
  Prog.lift (.store ms (Rect.unit (s := S136x100) ![0, 0] S128x100.size inb_S136x100_S128x100_0_0) (extractStridedSlice S128x100 ![0, 0] (transpose S128x128 [1, 0] (shapeCast S128x128 u shapeCasts_S1x128x128_S128x128) transposes_S128x128_p1_0_S128x128) slices_S128x128_o0_0_S128x100) Finset.univ (View.stores_vmem_bits_univ h_S128x100 rfl) (.inl rfl))
  let w : Vec F S1x128x128 .f32 ← Prog.lift (.load sb (Rect.unit (s := S2x128x128) ![1, 0, 0] S1x128x128.size inb_S2x128x128_S1x128x128_1_0_0).toLoadRect (View.loadsAt_vmem h_S1x128x128))
  let _ : Vec F S8x100 .f32 ← Prog.lift (.load ms (Rect.unit (s := S136x100) ![128, 0] S8x100.size inb_S136x100_S8x100_128_0).toLoadRect (View.loadsAt_vmem h_S8x100))
  Prog.lift (.store ms (Rect.unit (s := S136x100) ![128, 0] S8x100.size inb_S136x100_S8x100_128_0) (extractStridedSlice S8x100 ![0, 0] (transpose S128x128 [1, 0] (shapeCast S128x128 w shapeCasts_S1x128x128_S128x128) transposes_S128x128_p1_0_S128x128) slices_S128x128_o0_0_S8x100) Finset.univ (View.stores_vmem_bits_univ h_S8x100 rfl) (.inl rfl))

/-- One trip of the copy of the accumulator out. -/
def outStep (acc : Memref sig .tc .vmem S112x5120 .f32) (y : Memref sig .tc .vmem S100x5120 .bf16) (hy : y.IsWhole) (k : Fin k0_t4_loop.trips) : Pr F Unit := do
  let v : Vec F S100x256 .f32 ← Prog.lift (.load acc (Rect.unit (s := S112x5120) (k0_off136 k) S100x256.size (k0_off136_inb k)).toLoadRect (View.loadsAt_vmem h_S100x256))
  let _ : Vec F S100x256 .bf16 ← Prog.lift (.load y (Rect.unit (s := S100x5120) (k0_off137 k) S100x256.size (k0_off137_inb k)).toLoadRect (View.loadsAt_vmem h_S100x256))
  Prog.lift (.store y (Rect.unit (s := S100x5120) (k0_off137 k) S100x256.size (k0_off137_inb k)) (truncf .bf16 v bitsLt_bf16_f32) Finset.univ (View.stores_vmem h_S100x256 (hy.storeExact_slice rfl _ (k0_off137_packedbf16 k)) (fun _ => rfl)) (.inl rfl))

/-! ## The first transfers -/

def enqA (s : Memref sig .tc .hbm S5120x512 .fp8e4m3) (d : Memref sig .tc .vmem S5120x512 .fp8e4m3) (sm : DmaSem sig)
    (es : s.view.WordExact) (ed : d.view.WordExact) : Pr F Unit :=
  Prog.lift (.enqueueDma s (.here d) (.dma sm) es ed ⟨Or.inl rfl, trivial⟩)
def enqB (s : Memref sig .tc .hbm S512x5120 .fp8e4m3) (d : Memref sig .tc .vmem S512x5120 .fp8e4m3) (sm : DmaSem sig)
    (es : s.view.WordExact) (ed : d.view.WordExact) : Pr F Unit :=
  Prog.lift (.enqueueDma s (.here d) (.dma sm) es ed ⟨Or.inl rfl, trivial⟩)

section Body
variable (arg0 : Memref sig .tc .smem S40x136 .f32) (harg0 : arg0.IsWhole) (arg1 : Memref sig .tc .smem S40x136 .f32) (harg1 : arg1.IsWhole) (arg2 : Memref sig .tc .smem S40x136 .f32) (harg2 : arg2.IsWhole) (arg3 : Memref sig .tc .vmem S112x5120 .f32) (harg3 : arg3.IsWhole) (arg4 : Memref sig .tc .vmem S1x5120 .f32) (harg4 : arg4.IsWhole) (arg5 : Memref sig .tc .hbm S5120x17408 .fp8e4m3) (harg5 : arg5.IsWhole) (arg6 : Memref sig .tc .hbm S5120x17408 .fp8e4m3) (harg6 : arg6.IsWhole) (arg7 : Memref sig .tc .hbm S17408x5120 .fp8e4m3) (harg7 : arg7.IsWhole) (arg8 : Memref sig .tc .vmem S100x5120 .bf16) (harg8 : arg8.IsWhole) (arg9 : Memref sig .tc .vmem S100x5120 .fp8e4m3) (harg9 : arg9.IsWhole) (arg10 : Memref sig .tc .vmem S40x100 .f32) (harg10 : arg10.IsWhole) (arg11 : Memref sig .tc .vmem S100x17408 .fp8e4m3) (harg11 : arg11.IsWhole) (arg12 : Memref sig .tc .vmem S136x100 .f32) (harg12 : arg12.IsWhole) (arg13 : Memref sig .tc .vmem S3x5120x512 .fp8e4m3) (harg13 : arg13.IsWhole) (arg14 : Memref sig .tc .vmem S3x5120x512 .fp8e4m3) (harg14 : arg14.IsWhole) (arg15 : Memref sig .tc .vmem S3x512x5120 .fp8e4m3) (harg15 : arg15.IsWhole) (arg16 : Memref sig .tc .vmem S112x5120 .bf16) (harg16 : arg16.IsWhole) (arg17 : Memref sig .tc .vmem S112x5120 .f32) (harg17 : arg17.IsWhole) (arg18 : Memref sig .tc .vmem S112x512 .f32) (harg18 : arg18.IsWhole) (arg19 : Memref sig .tc .vmem S112x512 .bf16) (harg19 : arg19.IsWhole) (arg20 : Memref sig .tc .vmem S2x128x128 .f32) (harg20 : arg20.IsWhole) (arg21 : Memref sig .tc .vmem S128x128 .f32) (harg21 : arg21.IsWhole) (arg22 : DmaSems sig S3)

/-- The transfers of the first step, and the first two of the second. -/
def start5 : Pr F Unit := do
  enqA (srcA arg5 ![0, 0] inb_S5120x17408_S5120x512_0_0) (slotA arg13 ![0, 0, 0] inb_S3x5120x512_S1x5120x512_0_0_0) (semOf arg22 ![0] inb_S3_S1_0)
    (harg5.wordExact_slice rfl _ wordsfp8e4m3_S5120x17408_S5120x512_0_0) ((harg13.wordExact_slice rfl _ wordsfp8e4m3_S3x5120x512_S1x5120x512_0_0_0).reshape _ _)
  enqA (srcA arg6 ![0, 0] inb_S5120x17408_S5120x512_0_0) (slotA arg14 ![0, 0, 0] inb_S3x5120x512_S1x5120x512_0_0_0) (semOf arg22 ![0] inb_S3_S1_0)
    (harg6.wordExact_slice rfl _ wordsfp8e4m3_S5120x17408_S5120x512_0_0) ((harg14.wordExact_slice rfl _ wordsfp8e4m3_S3x5120x512_S1x5120x512_0_0_0).reshape _ _)
  enqB (srcB arg7 ![0, 0] inb_S17408x5120_S512x5120_0_0) (slotB arg15 ![0, 0, 0] inb_S3x512x5120_S1x512x5120_0_0_0) (semOf arg22 ![0] inb_S3_S1_0)
    (harg7.wordExact_slice rfl _ wordsfp8e4m3_S17408x5120_S512x5120_0_0) ((harg15.wordExact_slice rfl _ wordsfp8e4m3_S3x512x5120_S1x512x5120_0_0_0).reshape _ _)
  enqA (srcA arg5 ![0, 512] inb_S5120x17408_S5120x512_0_512) (slotA arg13 ![1, 0, 0] inb_S3x5120x512_S1x5120x512_1_0_0) (semOf arg22 ![1] inb_S3_S1_1)
    (harg5.wordExact_slice rfl _ wordsfp8e4m3_S5120x17408_S5120x512_0_512) ((harg13.wordExact_slice rfl _ wordsfp8e4m3_S3x5120x512_S1x5120x512_1_0_0).reshape _ _)
  enqA (srcA arg6 ![0, 512] inb_S5120x17408_S5120x512_0_512) (slotA arg14 ![1, 0, 0] inb_S3x5120x512_S1x5120x512_1_0_0) (semOf arg22 ![1] inb_S3_S1_1)
    (harg6.wordExact_slice rfl _ wordsfp8e4m3_S5120x17408_S5120x512_0_512) ((harg14.wordExact_slice rfl _ wordsfp8e4m3_S3x5120x512_S1x5120x512_1_0_0).reshape _ _)

/-- The last transfer of the second step. -/
def start6 : Pr F Unit :=
  enqB (srcB arg7 ![512, 0] inb_S17408x5120_S512x5120_512_0) (slotB arg15 ![1, 0, 0] inb_S3x512x5120_S1x512x5120_1_0_0) (semOf arg22 ![1] inb_S3_S1_1)
    (harg7.wordExact_slice rfl _ wordsfp8e4m3_S17408x5120_S512x5120_512_0) ((harg15.wordExact_slice rfl _ wordsfp8e4m3_S3x512x5120_S1x512x5120_1_0_0).reshape _ _)

/-- The lane numbers. -/
def lane : IVec S112x128 32 := iota .tc S112x128 32 [1] iota_S112x128_d1_w32

/-- The norm stage: sums, rows, scales. -/
def normAll : Pr F (IVec S112x128 32) := do
  start6 arg7 harg7 arg15 harg15 arg22
  let s ← Scf.Loop.for k0_t1_loop k0_t1_ok (broadcast S112x128 (Scalar.ofBits .f32 0x00000000#32)) fun k s => sqStep arg3 arg17 k s
  let v ← Scf.Loop.for k0_t2_loop k0_t2_ok (broadcast S112x128 (Scalar.ofBits .f32 0x00000000#32)) fun k v => normStep arg3 arg4 arg9 harg9 arg16 harg16 lane (rnorm s) k v
  normEnd arg21 arg10 v
  pure lane

/-- The whole body. -/
def cleanMlp : Pr F Unit := do
  start5 arg5 harg5 arg6 harg6 arg7 harg7 arg13 harg13 arg14 harg14 arg15 harg15 arg22
  let l ← normAll arg3 arg4 arg7 harg7 arg9 harg9 arg10 arg15 harg15 arg16 harg16 arg17 arg21 arg22
  zeroScales arg20
  Scf.Loop.for k0_t3_loop k0_t3_ok ⟨⟩ fun k _ => k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 l k ⟨⟩
  midScales arg20 arg12
  Scf.Loop.for k0_t4_loop k0_t4_ok ⟨⟩ fun k _ => outStep arg17 arg8 harg8 k
  pure ⟨⟩

theorem part191_eq :
    (k0_part191 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 : Pr F PUnit) = start5 arg5 harg5 arg6 harg6 arg7 harg7 arg13 harg13 arg14 harg14 arg15 harg15 arg22 := by
  unfold k0_part191
  sl_kernel_rfl

theorem part192_eq :
    (k0_part192 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 : Pr F _) = normAll arg3 arg4 arg7 harg7 arg9 harg9 arg10 arg15 harg15 arg16 harg16 arg17 arg21 arg22 := by
  unfold k0_part192
  sl_kernel_rfl

/-- The printed body is the body written out. -/
theorem mlp_eq : (cc0_mlp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 : Pr F PUnit) = cleanMlp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 := by
  unfold cc0_mlp
  rw [part191_eq, part192_eq]
  sl_kernel_rfl
end Body

end Cert.Kernel.Hand
end
-- ==== Proof.Kernel.Wp.lean ====
/-
  Programs that run to one value: what each of the uniform programs does to the contents of the buffers.
-/
module

public import proofs.«01_k».proof.Proof.Kernel.CleanBody
public import Idealize.ShloMosaic.Lib.VecWindow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Programs that run to one value -/

/-- The weakest precondition at this proof's algebra. -/
abbrev wpp (c : Dev nD) {α : Type} (P : Pr F α) (Q : α → sProp 𝕄) : sProp 𝕄 :=
  wp frame (wpE (defs₀ (F := F)) Variants.none (c : Thread nD τ) none) Set.univ P Q

/-- From `pre` the program runs to the value `v` and leaves `post`. -/
def RunsTo (c : Dev nD) {α : Type} (pre : sProp 𝕄) (P : Pr F α) (v : α) (post : sProp 𝕄) : Prop :=
  ∀ (β : Type) (K : α → Pr F β) (Q : β → sProp 𝕄), iprop(pre ∗ (post -∗ wpp c (K v) Q)) ⊢ wpp c (P >>= K) Q

theorem RunsTo.pure (c : Dev nD) {α : Type} (pre : sProp 𝕄) (v : α) : RunsTo (F := F) c pre (Pure.pure v) v pre := by
  intro β K Q
  show _ ⊢ wpp c (K v) Q
  iintro ⟨H, Hk⟩
  iapply Hk; iexact H

theorem RunsTo.bind {c : Dev nD} {α β : Type} {pre mid post : sProp 𝕄} {P : Pr F α} {v : α} {R : α → Pr F β} {w : β}
    (h1 : RunsTo c pre P v mid) (h2 : RunsTo c mid (R v) w post) : RunsTo c pre (P >>= R) w post := by
  intro γ K Q
  rw [bind_assoc]
  refine BIBase.Entails.trans ?_ (h1 γ _ Q)
  iintro ⟨H, Hk⟩
  isplitl [H]; · iexact H
  iintro Hm
  iapply (h2 γ K Q); isplitl [Hm]; · iexact Hm
  iexact Hk

theorem RunsTo.frame {c : Dev nD} {α : Type} {pre post : sProp 𝕄} {P : Pr F α} {v : α} (R : sProp 𝕄)
    (h : RunsTo c pre P v post) : RunsTo c iprop(R ∗ pre) P v iprop(R ∗ post) := by
  intro γ K Q
  refine BIBase.Entails.trans ?_ (h γ _ Q)
  iintro ⟨⟨HR, H⟩, Hk⟩
  isplitl [H]; · iexact H
  iintro Hm
  iapply Hk; isplitl [HR]; · iexact HR
  iexact Hm

theorem RunsTo.conseq {c : Dev nD} {α : Type} {pre post pre' post' : sProp 𝕄} {P : Pr F α} {v : α}
    (h : RunsTo c pre P v post) (h1 : pre' ⊢ pre) (h2 : post ⊢ post') : RunsTo c pre' P v post' := by
  intro γ K Q
  refine BIBase.Entails.trans ?_ (h γ _ Q)
  iintro ⟨H, Hk⟩
  isplitl [H]; · iapply h1; iexact H
  iintro Hm
  iapply Hk; iapply h2; iexact Hm

/-- A load through a memref whose elements are held. -/
theorem run_load (c : Dev nD) {cs : CoreSpace} {S : Shape} {e : EltTy} (m : Memref sig .tc cs S e) (q : PosShare TreeShare) (X : S.Idx → Elt F e)
    (o sz : Fin S.rank → ℕ) (h : ∀ a, o a + sz a ≤ S.size a) (hl : m.view.LoadsAt (Rect.unit o sz h).toLoadRect) :
    RunsTo (F := F) c (owns (c : Thread nD τ) m q X) (Prog.lift (.load m (Rect.unit o sz h).toLoadRect hl)) (VecWindow.window X o sz h) (owns (c : Thread nD τ) m q X) := by
  intro β K Q
  unfold owns
  iintro ⟨⟨%f, %hf, H⟩, Hk⟩
  subst hf
  iapply (wp_load_rect (defs := defs₀ (F := F)) Variants.none (c : Thread nD τ) none Set.univ (m := m) (r := Rect.unit o sz h) (hl := hl) (k := fun x => K x) (S := m.view.set) (View.set_slice_subset m.view (Rect.unit o sz h))) $$ H
  iintro H
  iapply Hk
  iexists f; isplitr; · ipureintro; rfl
  iexact H

theorem run_store (c : Dev nD) {cs : CoreSpace} {S : Shape} {e : EltTy} (m : Memref sig .tc cs S e) (X : S.Idx → Elt F e)
    (o sz : Fin S.rank → ℕ) (h : ∀ a, o a + sz a ≤ S.size a) (w : (Rect.unit o sz h).shape.Idx → Elt F e)
    (hx : (m.access (Rect.unit o sz h)).Stores Finset.univ) (hm : (Finset.univ : Finset (Rect.unit o sz h).shape.Idx) = Finset.univ ∨ ∀ a, (Rect.unit o sz h).stride a = 1) :
    RunsTo (F := F) c (owns (c : Thread nD τ) m fullShare X) (Prog.lift (.store m (Rect.unit o sz h) w Finset.univ hx hm)) ⟨⟩ (owns (c : Thread nD τ) m fullShare (VecWindow.put X o sz w)) := by
  intro β K Q
  show _ ⊢ wpp c (.op (.store m (Rect.unit o sz h) w Finset.univ hx hm) fun f => K f) Q
  unfold owns
  iintro ⟨⟨%f, %hf, H⟩, Hk⟩
  iapply (wp_store (defs := defs₀ (F := F)) Variants.none (c : Thread nD τ) none Set.univ (m := m) (r := Rect.unit o sz h) (S := m.view.set)
    (by rw [View.setOn_univ]; exact View.set_slice_subset m.view (Rect.unit o sz h))) $$ H
  iintro H
  iapply Hk
  iexists ((m.access (Rect.unit o sz h)).write (Elt F) f w Finset.univ); isplitr
  · ipureintro
    have := View.read_writes_cons_put (Val := Elt F) m.view f h w [] rfl
    rw [View.writes_nil] at this
    rw [← hf]
    exact this
  iexact H

/-! ## The buffers the body works on -/

/-- The memrefs the body is called with that are not weights. -/
structure Mems where
  a0 : Memref sig .tc .smem S40x136 .f32
  a1 : Memref sig .tc .smem S40x136 .f32
  a2 : Memref sig .tc .smem S40x136 .f32
  a3 : Memref sig .tc .vmem S112x5120 .f32
  a4 : Memref sig .tc .vmem S1x5120 .f32
  a8 : Memref sig .tc .vmem S100x5120 .bf16
  a9 : Memref sig .tc .vmem S100x5120 .fp8e4m3
  a10 : Memref sig .tc .vmem S40x100 .f32
  a11 : Memref sig .tc .vmem S100x17408 .fp8e4m3
  a12 : Memref sig .tc .vmem S136x100 .f32

abbrev spc : Fin 15 → CoreSpace := ![.smem, .smem, .smem, .vmem, .vmem, .vmem, .vmem, .vmem, .vmem, .vmem, .vmem, .vmem, .vmem, .vmem, .vmem]
abbrev shp : Fin 15 → Shape := ![S40x136, S40x136, S40x136, S112x5120, S1x5120, S100x5120, S100x5120, S40x100, S100x17408, S136x100, S112x5120, S112x5120, S112x512, S2x128x128, S128x128]
abbrev ety : Fin 15 → EltTy := ![.f32, .f32, .f32, .f32, .f32, .bf16, .fp8e4m3, .f32, .fp8e4m3, .f32, .bf16, .f32, .bf16, .f32, .f32]

/-- The buffers: 0–2 scales, 3 rows, 4 norm weight, 5 output rows, 6 codes, 7 their scales, 8 middle codes, 9 their scales,
    10 quantised normed rows, 11 accumulator, 12 the step's quantised middle rows, 13 the scales' lanes, 14 the scratch of the norm's scales. -/
def cell (M : Mems) : (i : Fin 15) → Memref sig .tc (spc i) (shp i) (ety i)
  | 0 => M.a0 | 1 => M.a1 | 2 => M.a2 | 3 => M.a3 | 4 => M.a4 | 5 => M.a8 | 6 => M.a9 | 7 => M.a10 | 8 => M.a11 | 9 => M.a12
  | 10 => M16 | 11 => M17 | 12 => M19 | 13 => M20 | 14 => M21

/-- What the buffers hold. -/
abbrev St (F : FTy → Type) : Type := (i : Fin 15) → (shp i).Idx → Elt F (ety i)

/-- The buffers held whole at those contents. -/
def stp (c : Dev nD) (M : Mems) (σ : St F) : sProp 𝕄 :=
  bigSep Finset.univ fun i => owns (c : Thread nD τ) (cell M i) fullShare (σ i)

/-- One buffer changed. -/
abbrev St.set (σ : St F) (i : Fin 15) (X : (shp i).Idx → Elt F (ety i)) : St F := Function.update σ i X

theorem run_cell (c : Dev nD) (M : Mems) (σ : St F) (i : Fin 15) {α : Type} {P : Pr F α} {v : α} {X : (shp i).Idx → Elt F (ety i)}
    (h : RunsTo c (owns (c : Thread nD τ) (cell M i) fullShare (σ i)) P v (owns (c : Thread nD τ) (cell M i) fullShare X)) :
    RunsTo c (stp c M σ) P v (stp c M (σ.set i X)) := by
  intro β K Q
  refine BIBase.Entails.trans ?_ (h β K Q)
  unfold stp
  iintro ⟨H, Hk⟩
  ihave H := (bigSep_univ_update (Ψ := fun j => owns (c : Thread nD τ) (cell M j) fullShare (σ.set i X j)) i (fun j hj => by
    show owns _ _ _ (Function.update σ i X j) = _
    rw [Function.update_of_ne hj])) $$ H
  icases H with ⟨H, Hr⟩
  isplitl [H]; · iexact H
  iintro H
  iapply Hk
  iapply Hr
  have e : σ.set i X i = X := Function.update_self _ _ _
  rw [e]
  iexact H

theorem run_ld (c : Dev nD) (M : Mems) (σ : St F) (i : Fin 15) (o sz : Fin (shp i).rank → ℕ) (h : ∀ a, o a + sz a ≤ (shp i).size a)
    (hl : (cell M i).view.LoadsAt (Rect.unit o sz h).toLoadRect) :
    RunsTo (F := F) c (stp c M σ) (Prog.lift (.load (cell M i) (Rect.unit o sz h).toLoadRect hl)) (VecWindow.window (σ i) o sz h) (stp c M σ) := by
  have := run_cell c M σ i (run_load c (cell M i) fullShare (σ i) o sz h hl)
  rwa [St.set, Function.update_eq_self] at this

theorem run_st (c : Dev nD) (M : Mems) (σ : St F) (i : Fin 15) (o sz : Fin (shp i).rank → ℕ) (h : ∀ a, o a + sz a ≤ (shp i).size a)
    (w : (Rect.unit o sz h).shape.Idx → Elt F (ety i)) (hx hm) :
    RunsTo (F := F) c (stp c M σ) (Prog.lift (.store (cell M i) (Rect.unit o sz h) w Finset.univ hx hm)) ⟨⟩ (stp c M (σ.set i (VecWindow.put (σ i) o sz w))) :=
  run_cell c M σ i (run_store c (cell M i) (σ i) o sz h w hx hm)

end Cert.Kernel.Hand
end
-- ==== Proof.Kernel.Step.lean ====
/-
  What one trip of the main loop does to the buffers, given the weights its slot holds.
-/
module

public import proofs.«01_k».proof.Proof.Kernel.Wp
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx

local notation "𝕄" => MT nD τ sig Unit (Elt F) ℕ (Pipeline.UD sig nD τ) ℕ

/-! ## Loads of a scale and of a tile of a slot -/

/-- The word a scale's load gives. -/
def sval (X : Vec F S40x136 .f32) (o : Fin 2 → ℕ) (h : ∀ a, o a + S1x1.size a ≤ S40x136.size a) : Elt F .f32 :=
  VecWindow.window X o S1x1.size h (Shape.Idx.first (numel1_S1x1.symm ▸ Nat.one_pos))

theorem run_sload_owns (c : Dev nD) (m : Memref sig .tc .smem S40x136 .f32) (X : Vec F S40x136 .f32) (o : Fin 2 → ℕ) (h : ∀ a, o a + S1x1.size a ≤ S40x136.size a) :
    RunsTo (F := F) c (owns (c : Thread nD τ) m fullShare X) (sload m o h) (sval X o h) (owns (c : Thread nD τ) m fullShare X) := by
  intro β K Q
  unfold owns
  iintro ⟨⟨%f, %hf, H⟩, Hk⟩
  subst hf
  iapply (wp_load_rect (defs := defs₀ (F := F)) Variants.none (c : Thread nD τ) none Set.univ (m := m) (r := Rect.unit o S1x1.size h) (k := fun x => K (x (Shape.Idx.first (numel1_S1x1.symm ▸ Nat.one_pos)))) (S := m.view.set) (View.set_slice_subset m.view (Rect.unit (s := S40x136) o S1x1.size h))) $$ H
  iintro H
  iapply Hk
  iexists f; isplitr; · ipureintro; rfl
  iexact H

theorem slotA_inb (s : ℕ) (hs : s + 1 ≤ 3) : ∀ a, rAt s 0 0 a + S1x5120x512.size a ≤ S3x5120x512.size a := by
  intro a; fin_cases a; exacts [hs, by show 0 + 5120 ≤ 5120; omega, by show 0 + 512 ≤ 512; omega]
theorem slotB_inb (s : ℕ) (hs : s + 1 ≤ 3) : ∀ a, rAt s 0 0 a + S1x512x5120.size a ≤ S3x512x5120.size a := by
  intro a; fin_cases a; exacts [hs, by show 0 + 512 ≤ 512; omega, by show 0 + 5120 ≤ 5120; omega]

/-- A tile of a slot's matrix. -/
def tileOf {R C : ℕ} (X : (⟨2, ![R, C]⟩ : Shape).Idx → Elt F .fp8e4m3) (r c : ℕ) (hr : r + 256 ≤ R) (hc : c + 256 ≤ C) : Vec F S1x256x256 .fp8e4m3 :=
  fun i => X (ix2 ⟨r + (i 1).val, by have : (i 1).val < 256 := (i 1).isLt; omega⟩ ⟨c + (i 2).val, by have : (i 2).val < 256 := (i 2).isLt; omega⟩)

theorem run_tileA (c : Dev nD) (m : Memref sig .tc .vmem S3x5120x512 .fp8e4m3) (s : ℕ) (hs : s + 1 ≤ 3) (X : Vec F S5120x512 .fp8e4m3)
    (r c0 : ℕ) (hr : r + 256 ≤ 5120) (hc : c0 + 256 ≤ 512) (hl) :
    RunsTo (F := F) c (owns (c : Thread nD τ) (slotA m (rAt s 0 0) (slotA_inb s hs)) fullShare X)
      (Prog.lift (.load m (Rect.unit (s := S3x5120x512) (rAt s r c0) S1x256x256.size (rAtA_inb s r c0 hs hr hc)).toLoadRect hl)) (tileOf X r c0 hr hc)
      (owns (c : Thread nD τ) (slotA m (rAt s 0 0) (slotA_inb s hs)) fullShare X) := by
  intro β K Q
  unfold owns
  iintro ⟨⟨%f, %hf, H⟩, Hk⟩
  subst hf
  have hS : (m.access (Rect.unit (s := S3x5120x512) (rAt s r c0) S1x256x256.size (rAtA_inb s r c0 hs hr hc))).set
      ⊆ (slotA m (rAt s 0 0) (slotA_inb s hs)).view.set := by
    have e1 : (slotA m (rAt s 0 0) (slotA_inb s hs)).view.set = (m.view.slice (Rect.unit (s := S3x5120x512) (rAt s 0 0) S1x5120x512.size (slotA_inb s hs))).set :=
      View.set_reshape (m.view.slice (Rect.unit (s := S3x5120x512) (rAt s 0 0) S1x5120x512.size (slotA_inb s hs))) _
    refine Finset.Subset.trans ?_ (le_of_eq (e1.trans (View.set_slice _ _)).symm)
    rw [View.set_slice]
    refine Finset.map_subset_map.mpr fun i hi => ?_
    rw [Rect.mem_set_unit] at hi ⊢
    intro a
    have := hi a
    fin_cases a
    · exact this
    · exact ⟨Nat.zero_le _, by show (i 1).val < 0 + 5120; have := (i 1).isLt; simpa using this⟩
    · exact ⟨Nat.zero_le _, by show (i 2).val < 0 + 512; have := (i 2).isLt; simpa using this⟩
  have e : (m.access (Rect.unit (s := S3x5120x512) (rAt s r c0) S1x256x256.size (rAtA_inb s r c0 hs hr hc))).read (Elt F) f
      = tileOf ((slotA m (rAt s 0 0) (slotA_inb s hs)).view.read (Elt F) f) r c0 hr hc := by
    funext i
    show cast _ (f _) = cast _ (f _)
    refine congrArg (fun z => cast _ (f (m.view.emb z))) ?_
    show Rect.emb _ i = Rect.emb _ (Shape.reshapeEquiv _ (ix2 _ _))
    rw [reshapeEquiv_ix2_1ab]
    funext a; apply Fin.ext
    have h0 : (i 0).val < 1 := (i 0).isLt
    fin_cases a
    · show s + 1 * (i 0).val = s + 1 * 0; omega
    · show r + 1 * (i 1).val = 0 + 1 * (r + (i 1).val); omega
    · show c0 + 1 * (i 2).val = 0 + 1 * (c0 + (i 2).val); omega
  rw [← e]
  iapply (wp_load_rect (defs := defs₀ (F := F)) Variants.none (c : Thread nD τ) none Set.univ (m := m) (hl := hl) (k := fun x => K x) hS) $$ H
  iintro H
  iapply Hk
  iexists f; isplitr; · ipureintro; rfl
  iexact H

theorem run_tileB (c : Dev nD) (m : Memref sig .tc .vmem S3x512x5120 .fp8e4m3) (s : ℕ) (hs : s + 1 ≤ 3) (X : Vec F S512x5120 .fp8e4m3)
    (r c0 : ℕ) (hr : r + 256 ≤ 512) (hc : c0 + 256 ≤ 5120) (hl) :
    RunsTo (F := F) c (owns (c : Thread nD τ) (slotB m (rAt s 0 0) (slotB_inb s hs)) fullShare X)
      (Prog.lift (.load m (Rect.unit (s := S3x512x5120) (rAt s r c0) S1x256x256.size (rAtB_inb s r c0 hs hr hc)).toLoadRect hl)) (tileOf X r c0 hr hc)
      (owns (c : Thread nD τ) (slotB m (rAt s 0 0) (slotB_inb s hs)) fullShare X) := by
  intro β K Q
  unfold owns
  iintro ⟨⟨%f, %hf, H⟩, Hk⟩
  subst hf
  have hS : (m.access (Rect.unit (s := S3x512x5120) (rAt s r c0) S1x256x256.size (rAtB_inb s r c0 hs hr hc))).set
      ⊆ (slotB m (rAt s 0 0) (slotB_inb s hs)).view.set := by
    have e1 : (slotB m (rAt s 0 0) (slotB_inb s hs)).view.set = (m.view.slice (Rect.unit (s := S3x512x5120) (rAt s 0 0) S1x512x5120.size (slotB_inb s hs))).set :=
      View.set_reshape (m.view.slice (Rect.unit (s := S3x512x5120) (rAt s 0 0) S1x512x5120.size (slotB_inb s hs))) _
    refine Finset.Subset.trans ?_ (le_of_eq (e1.trans (View.set_slice _ _)).symm)
    rw [View.set_slice]
    refine Finset.map_subset_map.mpr fun i hi => ?_
    rw [Rect.mem_set_unit] at hi ⊢
    intro a
    have := hi a
    fin_cases a
    · exact this
    · exact ⟨Nat.zero_le _, by show (i 1).val < 0 + 512; have := (i 1).isLt; simpa using this⟩
    · exact ⟨Nat.zero_le _, by show (i 2).val < 0 + 5120; have := (i 2).isLt; simpa using this⟩
  have e : (m.access (Rect.unit (s := S3x512x5120) (rAt s r c0) S1x256x256.size (rAtB_inb s r c0 hs hr hc))).read (Elt F) f
      = tileOf ((slotB m (rAt s 0 0) (slotB_inb s hs)).view.read (Elt F) f) r c0 hr hc := by
    funext i
    show cast _ (f _) = cast _ (f _)
    refine congrArg (fun z => cast _ (f (m.view.emb z))) ?_
    show Rect.emb _ i = Rect.emb _ (Shape.reshapeEquiv _ (ix2 _ _))
    rw [reshapeEquiv_ix2_1ab]
    funext a; apply Fin.ext
    have h0 : (i 0).val < 1 := (i 0).isLt
    fin_cases a
    · show s + 1 * (i 0).val = s + 1 * 0; omega
    · show r + 1 * (i 1).val = 0 + 1 * (r + (i 1).val); omega
    · show c0 + 1 * (i 2).val = 0 + 1 * (c0 + (i 2).val); omega
  rw [← e]
  iapply (wp_load_rect (defs := defs₀ (F := F)) Variants.none (c : Thread nD τ) none Set.univ (m := m) (hl := hl) (k := fun x => K x) hS) $$ H
  iintro H
  iapply Hk
  iexists f; isplitr; · ipureintro; rfl
  iexact H

/-! ## The state of a trip -/

/-- The three matrices a slot holds. -/
structure Wts (F : FTy → Type) where
  g : Vec F S5120x512 .fp8e4m3
  u : Vec F S5120x512 .fp8e4m3
  d : Vec F S512x5120 .fp8e4m3

/-- Slot `s` holding the three matrices. -/
def ringp (c : Dev nD) (s : ℕ) (hs : s + 1 ≤ 3) (W : Wts F) : sProp 𝕄 :=
  iprop(owns (c : Thread nD τ) (slotA M13 (rAt s 0 0) (slotA_inb s hs)) fullShare W.g
    ∗ owns (c : Thread nD τ) (slotA M14 (rAt s 0 0) (slotA_inb s hs)) fullShare W.u
    ∗ owns (c : Thread nD τ) (slotB M15 (rAt s 0 0) (slotB_inb s hs)) fullShare W.d)

/-- A trip's resources. -/
def trp (c : Dev nD) (M : Mems) (s : ℕ) (hs : s + 1 ≤ 3) (W : Wts F) (σ : St F) : sProp 𝕄 := iprop(ringp c s hs W ∗ stp c M σ)

section Lift
variable {c : Dev nD} {M : Mems} {s : ℕ} {hs : s + 1 ≤ 3} {W : Wts F} {σ σ' : St F} {α : Type} {P : Pr F α} {v : α}
theorem run_stp (h : RunsTo c (stp c M σ) P v (stp c M σ')) : RunsTo c (trp c M s hs W σ) P v (trp c M s hs W σ') := h.frame _
theorem run_g (h : RunsTo c (owns (c : Thread nD τ) (slotA M13 (rAt s 0 0) (slotA_inb s hs)) fullShare W.g) P v (owns (c : Thread nD τ) (slotA M13 (rAt s 0 0) (slotA_inb s hs)) fullShare W.g)) :
    RunsTo c (trp c M s hs W σ) P v (trp c M s hs W σ) := by
  intro β K Q
  refine BIBase.Entails.trans ?_ (h β K Q)
  unfold trp ringp
  iintro ⟨⟨⟨H1, H2, H3⟩, H4⟩, Hk⟩
  isplitl [H1]; · iexact H1
  iintro H1; iapply Hk
  isplitl [H1 H2 H3]
  · isplitl [H1]; · iexact H1
    isplitl [H2]; · iexact H2
    iexact H3
  iexact H4
theorem run_u (h : RunsTo c (owns (c : Thread nD τ) (slotA M14 (rAt s 0 0) (slotA_inb s hs)) fullShare W.u) P v (owns (c : Thread nD τ) (slotA M14 (rAt s 0 0) (slotA_inb s hs)) fullShare W.u)) :
    RunsTo c (trp c M s hs W σ) P v (trp c M s hs W σ) := by
  intro β K Q
  refine BIBase.Entails.trans ?_ (h β K Q)
  unfold trp ringp
  iintro ⟨⟨⟨H1, H2, H3⟩, H4⟩, Hk⟩
  isplitl [H2]; · iexact H2
  iintro H2; iapply Hk
  isplitl [H1 H2 H3]
  · isplitl [H1]; · iexact H1
    isplitl [H2]; · iexact H2
    iexact H3
  iexact H4
theorem run_d (h : RunsTo c (owns (c : Thread nD τ) (slotB M15 (rAt s 0 0) (slotB_inb s hs)) fullShare W.d) P v (owns (c : Thread nD τ) (slotB M15 (rAt s 0 0) (slotB_inb s hs)) fullShare W.d)) :
    RunsTo c (trp c M s hs W σ) P v (trp c M s hs W σ) := by
  intro β K Q
  refine BIBase.Entails.trans ?_ (h β K Q)
  unfold trp ringp
  iintro ⟨⟨⟨H1, H2, H3⟩, H4⟩, Hk⟩
  isplitl [H3]; · iexact H3
  iintro H3; iapply Hk
  isplitl [H1 H2 H3]
  · isplitl [H1]; · iexact H1
    isplitl [H2]; · iexact H2
    iexact H3
  iexact H4
end Lift

theorem run_sload (c : Dev nD) (M : Mems) (σ : St F) (o : Fin 2 → ℕ) (h : ∀ a, o a + S1x1.size a ≤ S40x136.size a) :
    RunsTo (F := F) c (stp c M σ) (sload M.a0 o h) (sval (σ 0) o h) (stp c M σ)
    ∧ RunsTo (F := F) c (stp c M σ) (sload M.a1 o h) (sval (σ 1) o h) (stp c M σ)
    ∧ RunsTo (F := F) c (stp c M σ) (sload M.a2 o h) (sval (σ 2) o h) (stp c M σ) := by
  refine ⟨?_, ?_, ?_⟩
  · have := run_cell c M σ 0 (run_sload_owns c M.a0 (σ 0) o h)
    rwa [St.set, Function.update_eq_self] at this
  · have := run_cell c M σ 1 (run_sload_owns c M.a1 (σ 1) o h)
    rwa [St.set, Function.update_eq_self] at this
  · have := run_cell c M σ 2 (run_sload_owns c M.a2 (σ 2) o h)
    rwa [St.set, Function.update_eq_self] at this

/-! ## The values of a trip -/

abbrev sColA (k : Fin k0_t3_loop.trips) (n b : Fin 2) : ℕ := (colW k (BitVec.ofNat 32 (2 * n.val)) (BitVec.ofNat 32 b.val)).toNat

def tileAV (w : Vec F S5120x512 .fp8e4m3) (sc : Vec F S40x136 .f32) (lhs : Vec F S112x5120 .bf16) (k : Fin k0_t3_loop.trips) (n : Fin 2) (kc : Fin 20) : FVec F S112x256 .f32 :=
  tdot (VecWindow.window (s := S112x5120) lhs (aAt (256 * kc.val)) S112x256.size (aAtA_inb _ (by omega)))
    (tileOf w (256 * kc.val) (256 * n.val) (by omega) (by omega))
    (sval sc (sAt (2 * kc.val) (sColA k n 0)) (sAt_inb _ _ (by omega) (colW_lt k n 0)))
    (sval sc (sAt (2 * kc.val) (sColA k n 1)) (sAt_inb _ _ (by omega) (colW_lt k n 1)))
    (sval sc (sAt (2 * kc.val + 1) (sColA k n 0)) (sAt_inb _ _ (by omega) (colW_lt k n 0)))
    (sval sc (sAt (2 * kc.val + 1) (sColA k n 1)) (sAt_inb _ _ (by omega) (colW_lt k n 1)))

def sumAV (w : Vec F S5120x512 .fp8e4m3) (sc : Vec F S40x136 .f32) (lhs : Vec F S112x5120 .bf16) (k : Fin k0_t3_loop.trips) (n : Fin 2) :
    List (Fin 20) → FVec F S112x256 .f32 → FVec F S112x256 .f32
  | [], acc => acc
  | kc :: l, acc => sumAV w sc lhs k n l (addf acc (tileAV w sc lhs k n kc))

def projAV (w : Vec F S5120x512 .fp8e4m3) (sc : Vec F S40x136 .f32) (lhs : Vec F S112x5120 .bf16) (k : Fin k0_t3_loop.trips) (n : Fin 2) : FVec F S112x256 .f32 :=
  sumAV w sc lhs k n [1, 2, 3, 4, 5, 6, 7, 8, 9, 10, 11, 12, 13, 14, 15, 16, 17, 18, 19] (tileAV w sc lhs k n 0)

def tileBV (w : Vec F S512x5120 .fp8e4m3) (sc : Vec F S40x136 .f32) (lhs : Vec F S112x512 .bf16) (k : Fin k0_t3_loop.trips) (n : Fin 20) (kc : Fin 2) : FVec F S112x256 .f32 :=
  tdot (VecWindow.window (s := S112x512) lhs (aAt (256 * kc.val)) S112x256.size (aAtB_inb _ (by omega)))
    (tileOf w (256 * kc.val) (256 * n.val) (by omega) (by omega))
    (sval sc (sAt (2 * n.val) (sColA k kc 0)) (sAt_inb _ _ (by omega) (colW_lt k kc 0)))
    (sval sc (sAt (2 * n.val + 1) (sColA k kc 0)) (sAt_inb _ _ (by omega) (colW_lt k kc 0)))
    (sval sc (sAt (2 * n.val) (sColA k kc 1)) (sAt_inb _ _ (by omega) (colW_lt k kc 1)))
    (sval sc (sAt (2 * n.val + 1) (sColA k kc 1)) (sAt_inb _ _ (by omega) (colW_lt k kc 1)))

/-- The accumulator after one tile of columns. -/
def downV (w : Vec F S512x5120 .fp8e4m3) (sc : Vec F S40x136 .f32) (lhs : Vec F S112x512 .bf16) (k : Fin k0_t3_loop.trips) (n : Fin 20)
    (acc : Vec F S112x5120 .f32) : Vec F S112x5120 .f32 :=
  VecWindow.put (s := S112x5120) acc (aAt (256 * n.val)) S112x256.size
    (shapeCast S112x256 (addf (VecWindow.window (s := S112x5120) acc (aAt (256 * n.val)) S112x256.size (aAtA_inb _ (by omega)))
      (addf (tileBV w sc lhs k n 0) (tileBV w sc lhs k n 1))) shapeCasts_S112x256_S112x256)

def laneV (lanes : IVec S112x128 32) (k : Fin k0_t3_loop.trips) (lb : Fin 4) (s : FVec F S112x1 .f32) (q : Fin 2) (sb : Vec F S2x128x128 .f32) : Vec F S2x128x128 .f32 :=
  VecWindow.put (s := S2x128x128) sb ![q.val, 0, 0] S1x112x128.size
    (qlane lanes (BitVec.ofNat 32 (128 * q.val)) (Scalar.addi (Scalar.muli (ivw k) 4#32) (BitVec.ofNat 32 lb.val)) s
      (VecWindow.window (s := S2x128x128) sb ![q.val, 0, 0] S1x112x128.size
        (by intro a; fin_cases a; exacts [by have := q.isLt; show q.val + 1 ≤ 2; omega, by show 0 + 112 ≤ 128; omega, le_refl _])))

def mcV (k : Fin k0_t3_loop.trips) (lb : Fin 4) (v : FVec F S112x128 .f32) (X : Vec F S100x17408 .fp8e4m3) : Vec F S100x17408 .fp8e4m3 :=
  VecWindow.put (s := S100x17408) X (aAt (Scalar.indexCast (Scalar.addi (Scalar.muli (ivw k) 512#32) (BitVec.ofNat 32 (128 * lb.val)))).toNat) S100x128.size (qcode100 v)

def lhsV (lb : Fin 4) (v : FVec F S112x128 .f32) (X : Vec F S112x512 .bf16) : Vec F S112x512 .bf16 :=
  VecWindow.put (s := S112x512) X (aAt (128 * lb.val)) S112x128.size (shapeCast S112x128 (qdeq v) shapeCasts_S112x128_S112x128)

/-- The buffers after one group is quantised. -/
def quantV (lanes : IVec S112x128 32) (k : Fin k0_t3_loop.trips) (lb : Fin 4) (v : FVec F S112x128 .f32) (σ : St F) : St F :=
  let σ1 := σ.set 8 (mcV k lb v (σ 8))
  let σ2 := σ1.set 12 (lhsV lb v (σ1 12))
  let σ3 := σ2.set 13 (laneV lanes k lb (qscale v) 0 (σ2 13))
  σ3.set 13 (laneV lanes k lb (qscale v) 1 (σ3 13))

def downAllV (w : Vec F S512x5120 .fp8e4m3) (k : Fin k0_t3_loop.trips) : List (Fin 20) → St F → St F
  | [], σ => σ
  | n :: l, σ => downAllV w k l (σ.set 11 (downV w (σ 2) (σ 12) k n (σ 11)))

/-- The trip. -/
def stepV (lanes : IVec S112x128 32) (W : Wts F) (k : Fin k0_t3_loop.trips) (σ : St F) : St F :=
  let s0 := swish (projAV W.g (σ 0) (σ 10) k 0) (projAV W.u (σ 1) (σ 10) k 0)
  let s1 := swish (projAV W.g (σ 0) (σ 10) k 1) (projAV W.u (σ 1) (σ 10) k 1)
  let σ1 := quantV lanes k 0 (extractStridedSlice S112x128 ![0, 0] s0 slices_S112x256_o0_0_S112x128) σ
  let σ2 := quantV lanes k 1 (extractStridedSlice S112x128 ![0, 128] s0 slices_S112x256_o0_128_S112x128) σ1
  let σ3 := quantV lanes k 2 (extractStridedSlice S112x128 ![0, 0] s1 slices_S112x256_o0_0_S112x128) σ2
  let σ4 := quantV lanes k 3 (extractStridedSlice S112x128 ![0, 128] s1 slices_S112x256_o0_128_S112x128) σ3
  downAllV W.d k [0, 1, 2, 3, 4, 5, 6, 7, 8, 9, 10, 11, 12, 13, 14, 15, 16, 17, 18, 19] σ4

/-! ## The trip's run -/

section Run
variable (c : Dev nD) (M : Mems) (k : Fin k0_t3_loop.trips) (W : Wts F)

theorem run_tile0 (σ : St F) (n : Fin 2) (kc : Fin 20) :
    RunsTo c (trp c M (slotN k) (slotN_lt k) W σ) (tileA M13 M.a0 M16 k n kc) (tileAV W.g (σ 0) (σ 10) k n kc) (trp c M (slotN k) (slotN_lt k) W σ) :=
  (run_g (run_tileA c M13 (slotN k) (slotN_lt k) W.g _ _ _ _ _)).bind <|
  (run_stp (run_sload c M σ _ _).1).bind <| (run_stp (run_sload c M σ _ _).1).bind <|
  (run_stp (run_sload c M σ _ _).1).bind <| (run_stp (run_sload c M σ _ _).1).bind <|
  (run_stp (run_ld c M σ 10 _ _ _ _)).bind <| RunsTo.pure c _ _

theorem run_tile1 (σ : St F) (n : Fin 2) (kc : Fin 20) :
    RunsTo c (trp c M (slotN k) (slotN_lt k) W σ) (tileA M14 M.a1 M16 k n kc) (tileAV W.u (σ 1) (σ 10) k n kc) (trp c M (slotN k) (slotN_lt k) W σ) :=
  (run_u (run_tileA c M14 (slotN k) (slotN_lt k) W.u _ _ _ _ _)).bind <|
  (run_stp (run_sload c M σ _ _).2.1).bind <| (run_stp (run_sload c M σ _ _).2.1).bind <|
  (run_stp (run_sload c M σ _ _).2.1).bind <| (run_stp (run_sload c M σ _ _).2.1).bind <|
  (run_stp (run_ld c M σ 10 _ _ _ _)).bind <| RunsTo.pure c _ _

theorem run_tile2 (σ : St F) (n : Fin 20) (kc : Fin 2) :
    RunsTo c (trp c M (slotN k) (slotN_lt k) W σ) (tileB M15 M.a2 M19 k n kc) (tileBV W.d (σ 2) (σ 12) k n kc) (trp c M (slotN k) (slotN_lt k) W σ) :=
  (run_d (run_tileB c M15 (slotN k) (slotN_lt k) W.d _ _ _ _ _)).bind <|
  (run_stp (run_sload c M σ _ _).2.2).bind <| (run_stp (run_sload c M σ _ _).2.2).bind <|
  (run_stp (run_sload c M σ _ _).2.2).bind <| (run_stp (run_sload c M σ _ _).2.2).bind <|
  (run_stp (run_ld c M σ 12 _ _ _ _)).bind <| RunsTo.pure c _ _

theorem run_sum0 (σ : St F) (n : Fin 2) (l : List (Fin 20)) (acc : FVec F S112x256 .f32) :
    RunsTo c (trp c M (slotN k) (slotN_lt k) W σ) (sumA M13 M.a0 M16 k n l acc) (sumAV W.g (σ 0) (σ 10) k n l acc) (trp c M (slotN k) (slotN_lt k) W σ) := by
  induction l generalizing acc with
  | nil => exact RunsTo.pure c _ _
  | cons kc l ih => exact (run_tile0 c M k W σ n kc).bind (ih _)

theorem run_sum1 (σ : St F) (n : Fin 2) (l : List (Fin 20)) (acc : FVec F S112x256 .f32) :
    RunsTo c (trp c M (slotN k) (slotN_lt k) W σ) (sumA M14 M.a1 M16 k n l acc) (sumAV W.u (σ 1) (σ 10) k n l acc) (trp c M (slotN k) (slotN_lt k) W σ) := by
  induction l generalizing acc with
  | nil => exact RunsTo.pure c _ _
  | cons kc l ih => exact (run_tile1 c M k W σ n kc).bind (ih _)

theorem run_proj0 (σ : St F) (n : Fin 2) :
    RunsTo c (trp c M (slotN k) (slotN_lt k) W σ) (projA M13 M.a0 M16 k n) (projAV W.g (σ 0) (σ 10) k n) (trp c M (slotN k) (slotN_lt k) W σ) :=
  (run_tile0 c M k W σ n 0).bind (run_sum0 c M k W σ n _ _)

theorem run_proj1 (σ : St F) (n : Fin 2) :
    RunsTo c (trp c M (slotN k) (slotN_lt k) W σ) (projA M14 M.a1 M16 k n) (projAV W.u (σ 1) (σ 10) k n) (trp c M (slotN k) (slotN_lt k) W σ) :=
  (run_tile1 c M k W σ n 0).bind (run_sum1 c M k W σ n _ _)

theorem run_lane (σ : St F) (lanes : IVec S112x128 32) (lb : Fin 4) (s : FVec F S112x1 .f32) (q : Fin 2) :
    RunsTo c (stp c M σ) (laneStore M20 lanes k lb s q) ⟨⟩ (stp c M (σ.set 13 (laneV lanes k lb s q (σ 13)))) :=
  (run_ld c M σ 13 _ _ _ _).bind <| (run_ld c M σ 13 _ _ _ _).bind <| run_st c M σ 13 _ _ _ _ _ _

theorem run_quant (σ : St F) (lanes : IVec S112x128 32) (hmc : M.a11.IsWhole) (hlhs : M19.IsWhole) (lb : Fin 4) (v : FVec F S112x128 .f32) :
    RunsTo c (stp c M σ) (quantStore M.a11 hmc M19 hlhs M20 lanes k lb v) ⟨⟩ (stp c M (quantV lanes k lb v σ)) :=
  (run_ld c M σ 8 _ _ _ _).bind <| (run_st c M σ 8 _ _ _ _ _ _).bind <| (run_ld c M _ 12 _ _ _ _).bind <| (run_st c M _ 12 _ _ _ _ _ _).bind <|
  (run_lane c M k _ lanes lb (qscale v) 0).bind (run_lane c M k _ lanes lb (qscale v) 1)

theorem run_downStep (σ : St F) (n : Fin 20) :
    RunsTo c (trp c M (slotN k) (slotN_lt k) W σ) (downStep M15 M.a2 M19 M17 k n) ⟨⟩ (trp c M (slotN k) (slotN_lt k) W (σ.set 11 (downV W.d (σ 2) (σ 12) k n (σ 11)))) :=
  (run_tile2 c M k W σ n 0).bind <| (run_tile2 c M k W σ n 1).bind <|
  (run_stp (run_ld c M σ 11 _ _ _ _)).bind <| (run_stp (run_ld c M σ 11 _ _ _ _)).bind <| run_stp (run_st c M σ 11 _ _ _ _ _ _)

theorem run_downAll (l : List (Fin 20)) (σ : St F) :
    RunsTo c (trp c M (slotN k) (slotN_lt k) W σ) (downAll M15 M.a2 M19 M17 k l) ⟨⟩ (trp c M (slotN k) (slotN_lt k) W (downAllV W.d k l σ)) := by
  induction l generalizing σ with
  | nil => exact RunsTo.pure c _ _
  | cons n l ih => exact (run_downStep c M k W σ n).bind (ih _)

/-- The trip's products, quantisation and down product. -/
theorem run_step (σ : St F) (lanes : IVec S112x128 32) (hmc : M.a11.IsWhole) (hlhs : M19.IsWhole) :
    RunsTo c (trp c M (slotN k) (slotN_lt k) W σ) (stepBody M.a0 M.a1 M.a2 M.a11 hmc M13 M14 M15 M16 M17 M19 hlhs M20 lanes k) ⟨⟩
      (trp c M (slotN k) (slotN_lt k) W (stepV lanes W k σ)) :=
  (run_proj0 c M k W σ 0).bind <| (run_proj1 c M k W σ 0).bind <|
  (run_stp (run_quant c M k σ lanes hmc hlhs 0 _)).bind <| (run_stp (run_quant c M k _ lanes hmc hlhs 1 _)).bind <|
  (run_proj0 c M k W _ 1).bind <| (run_proj1 c M k W _ 1).bind <|
  (run_stp (run_quant c M k _ lanes hmc hlhs 2 _)).bind <| (run_stp (run_quant c M k _ lanes hmc hlhs 3 _)).bind <|
  run_downAll c M k W _ _
end Run

end Cert.Kernel.Hand
end
-- ==== Proof.Kernel.Ends.lean ====
/-
  What the norm, the scales and the copy out do to the buffers.
-/
module

public import proofs.«01_k».proof.Proof.Kernel.Step

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A function of the trip's number applied trip after trip. -/
def itr {α : Type} {n : ℕ} (f : Fin n → α → α) (x : α) : ℕ → α
  | 0 => x
  | k + 1 => if h : k < n then f ⟨k, h⟩ (itr f x k) else itr f x k

theorem itr_succ {α : Type} {n : ℕ} (f : Fin n → α → α) (x : α) (k : Fin n) : itr f x (k.val + 1) = f k (itr f x k.val) := by
  rw [itr, dif_pos k.isLt]

/-- A counted loop whose trips each run to one value. -/
theorem runs_loop (c : Dev nD) {α : Type} (L : Scf.Loop 32) (hok : L.OK) (body : Fin L.trips → α → Pr F α) (I : ℕ → sProp 𝕄) (val : ℕ → α)
    (step : ∀ k : Fin L.trips, RunsTo c (I k.val) (body k (val k.val)) (val (k.val + 1)) (I (k.val + 1))) :
    RunsTo c (I 0) (Scf.Loop.for L hok (val 0) body) (val L.trips) (I L.trips) := by
  intro β K Q
  have h := Scf.wp_for_bind (M := 𝕄) frame (wpE (defs₀ (F := F)) Variants.none (c : Thread nD τ) none) Set.univ L.lb L.ub L.st hok (val 0) body
    (fun k acc => iprop(⌜acc = val k⌝ ∗ I k)) (fun k acc => by
      iintro ⟨%e, H⟩
      subst e
      have hs := step k α Pure.pure (fun acc => iprop(⌜acc = val (k.val + 1)⌝ ∗ I (k.val + 1)))
      rw [bind_pure] at hs
      iapply hs
      isplitl [H]; · iexact H
      iintro H
      unfold wpp
      rw [wp_pure]
      imodintro
      isplitr; · ipureintro; rfl
      iexact H) (kk := K) (Q := Q)
  iintro ⟨H, Hk⟩
  iapply h $$ [H]
  · isplitr; · ipureintro; rfl
    iexact H
  iintro %acc ⟨%e, H⟩
  rw [e]
  iapply Hk; iexact H

section Norm
variable (c : Dev nD) (M : Mems)

/-- One trip of the sum of squares: the accumulator and the lanes' sums. -/
def sqV (k : Fin k0_t1_loop.trips) (p : St F × FVec F S112x128 .f32) : St F × FVec F S112x128 .f32 :=
  let v : Vec F S112x256 .f32 := VecWindow.window (s := S112x5120) (p.1 3) (k0_off1 k) S112x256.size (k0_off1_inb k)
  (p.1.set 11 (VecWindow.put (s := S112x5120) (p.1 11) (k0_off1 k) S112x256.size (shapeCast S112x256 v shapeCasts_S112x256_S112x256)),
    addf (addf p.2 (mulf (extractStridedSlice S112x128 ![0, 0] v slices_S112x256_o0_0_S112x128) (extractStridedSlice S112x128 ![0, 0] v slices_S112x256_o0_0_S112x128)))
      (mulf (extractStridedSlice S112x128 ![0, 128] v slices_S112x256_o0_128_S112x128) (extractStridedSlice S112x128 ![0, 128] v slices_S112x256_o0_128_S112x128)))

theorem run_sq (k : Fin k0_t1_loop.trips) (p : St F × FVec F S112x128 .f32) :
    RunsTo c (stp c M p.1) (sqStep M.a3 M17 k p.2) (sqV k p).2 (stp c M (sqV k p).1) :=
  (run_ld c M p.1 3 _ _ _ _).bind <| (run_ld c M p.1 11 _ _ _ _).bind <| (run_st c M p.1 11 _ _ _ _ _ _).bind <| RunsTo.pure c _ _

def groupV (r : FVec F S112x1 .f32) (k : Fin k0_t2_loop.trips) (j : Fin 2) (σ : St F) : FVec F S112x128 .f32 :=
  ngroup r (VecWindow.window (s := S112x5120) (σ 3) (k0_off2 k (BitVec.ofNat 32 (128 * j.val))) S112x128.size (k0_off2_inb k j))
    (VecWindow.window (s := S1x5120) (σ 4) (k0_off3 k (BitVec.ofNat 32 (128 * j.val))) S1x128.size (k0_off3_inb k j))

def normGroupV (r : FVec F S112x1 .f32) (k : Fin k0_t2_loop.trips) (j : Fin 2) (σ : St F) : St F :=
  let σ1 := σ.set 6 (VecWindow.put (s := S100x5120) (σ 6) (k0_off4 k (BitVec.ofNat 32 (128 * j.val))) S100x128.size (qcode100 (groupV r k j σ)))
  σ1.set 10 (VecWindow.put (s := S112x5120) (σ1 10) (k0_off2 k (BitVec.ofNat 32 (128 * j.val))) S112x128.size (shapeCast S112x128 (qdeq (groupV r k j σ)) shapeCasts_S112x128_S112x128))

theorem run_normGroup (hxc : M.a9.IsWhole) (ha2 : M16.IsWhole) (r : FVec F S112x1 .f32) (k : Fin k0_t2_loop.trips) (j : Fin 2) (σ : St F) :
    RunsTo c (stp c M σ) (normGroup M.a3 M.a4 M.a9 hxc M16 ha2 r k j) (qscale (groupV r k j σ)) (stp c M (normGroupV r k j σ)) :=
  (run_ld c M σ 3 _ _ _ _).bind <| (run_ld c M σ 4 _ _ _ _).bind <| (run_ld c M σ 6 _ _ _ _).bind <| (run_st c M σ 6 _ _ _ _ _ _).bind <|
  (run_ld c M _ 10 _ _ _ _).bind <| (run_st c M _ 10 _ _ _ _ _ _).bind <| RunsTo.pure c _ _

def normV (lanes : IVec S112x128 32) (r : FVec F S112x1 .f32) (k : Fin k0_t2_loop.trips) (p : St F × FVec F S112x128 .f32) : St F × FVec F S112x128 .f32 :=
  let σ1 := normGroupV r k 0 p.1
  (normGroupV r k 1 σ1, nlane lanes k 1 (qscale (groupV r k 1 σ1)) (nlane lanes k 0 (qscale (groupV r k 0 p.1)) p.2))

theorem run_norm (hxc : M.a9.IsWhole) (ha2 : M16.IsWhole) (lanes : IVec S112x128 32) (r : FVec F S112x1 .f32) (k : Fin k0_t2_loop.trips) (p : St F × FVec F S112x128 .f32) :
    RunsTo c (stp c M p.1) (normStep M.a3 M.a4 M.a9 hxc M16 ha2 lanes r k p.2) (normV lanes r k p).2 (stp c M (normV lanes r k p).1) :=
  (run_normGroup c M hxc ha2 r k 0 p.1).bind <| (run_normGroup c M hxc ha2 r k 1 _).bind <| RunsTo.pure c _ _

def normEndV (v : FVec F S112x128 .f32) (σ : St F) : St F :=
  let σ1 := σ.set 14 (VecWindow.put (s := S128x128) (σ 14) ![0, 0] S128x128.size (shapeCast S128x128 (broadcast S128x128 (Scalar.ofBits (F := F) .f32 0x00000000#32)) shapeCasts_S128x128_S128x128))
  let σ2 := σ1.set 14 (VecWindow.put (s := S128x128) (σ1 14) ![0, 0] S112x128.size (shapeCast S112x128 v shapeCasts_S112x128_S112x128))
  σ2.set 7 (VecWindow.put (s := S40x100) (σ2 7) ![0, 0] S40x100.size
    (extractStridedSlice S40x100 ![0, 0] (transpose S128x128 [1, 0] (VecWindow.window (s := S128x128) (σ2 14) ![0, 0] S128x128.size inb_S128x128_S128x128_0_0) transposes_S128x128_p1_0_S128x128) slices_S128x128_o0_0_S40x100))

theorem run_normEnd (v : FVec F S112x128 .f32) (σ : St F) :
    RunsTo c (stp c M σ) (normEnd M21 M.a10 v) ⟨⟩ (stp c M (normEndV v σ)) :=
  (run_ld c M σ 14 _ _ _ _).bind <| (run_st c M σ 14 _ _ _ _ _ _).bind <| (run_ld c M _ 14 _ _ _ _).bind <| (run_st c M _ 14 _ _ _ _ _ _).bind <|
  (run_ld c M _ 14 _ _ _ _).bind <| (run_ld c M _ 7 _ _ _ _).bind <| run_st c M _ 7 _ _ _ _ _ _

def zeroV (σ : St F) : St F :=
  σ.set 13 (VecWindow.put (s := S2x128x128) (σ 13) ![0, 0, 0] S2x128x128.size (shapeCast S2x128x128 (broadcast S2x128x128 (Scalar.ofBits (F := F) .f32 0x00000000#32)) shapeCasts_S2x128x128_S2x128x128))

theorem run_zero (σ : St F) : RunsTo c (stp c M σ) (zeroScales M20) ⟨⟩ (stp c M (zeroV σ)) :=
  (run_ld c M σ 13 _ _ _ _).bind <| run_st c M _ 13 _ _ _ _ _ _

def midV (σ : St F) : St F :=
  let σ1 := σ.set 9 (VecWindow.put (s := S136x100) (σ 9) ![0, 0] S128x100.size (extractStridedSlice S128x100 ![0, 0] (transpose S128x128 [1, 0]
    (shapeCast S128x128 (VecWindow.window (s := S2x128x128) (σ 13) ![0, 0, 0] S1x128x128.size inb_S2x128x128_S1x128x128_0_0_0) shapeCasts_S1x128x128_S128x128) transposes_S128x128_p1_0_S128x128) slices_S128x128_o0_0_S128x100))
  σ1.set 9 (VecWindow.put (s := S136x100) (σ1 9) ![128, 0] S8x100.size (extractStridedSlice S8x100 ![0, 0] (transpose S128x128 [1, 0]
    (shapeCast S128x128 (VecWindow.window (s := S2x128x128) (σ1 13) ![1, 0, 0] S1x128x128.size inb_S2x128x128_S1x128x128_1_0_0) shapeCasts_S1x128x128_S128x128) transposes_S128x128_p1_0_S128x128) slices_S128x128_o0_0_S8x100))

theorem run_mid (σ : St F) : RunsTo c (stp c M σ) (midScales M20 M.a12) ⟨⟩ (stp c M (midV σ)) :=
  (run_ld c M σ 13 _ _ _ _).bind <| (run_ld c M σ 9 _ _ _ _).bind <| (run_st c M _ 9 _ _ _ _ _ _).bind <|
  (run_ld c M _ 13 _ _ _ _).bind <| (run_ld c M _ 9 _ _ _ _).bind <| run_st c M _ 9 _ _ _ _ _ _

def outV (k : Fin k0_t4_loop.trips) (σ : St F) : St F :=
  σ.set 5 (VecWindow.put (s := S100x5120) (σ 5) (k0_off137 k) S100x256.size
    (truncf .bf16 (VecWindow.window (s := S112x5120) (σ 11) (k0_off136 k) S100x256.size (k0_off136_inb k) : Vec F S100x256 .f32) bitsLt_bf16_f32))

theorem run_out (hy : M.a8.IsWhole) (k : Fin k0_t4_loop.trips) (σ : St F) : RunsTo c (stp c M σ) (outStep M17 M.a8 hy k) ⟨⟩ (stp c M (outV k σ)) :=
  (run_ld c M σ 11 _ _ _ _).bind <| (run_ld c M σ 5 _ _ _ _).bind <| run_st c M _ 5 _ _ _ _ _ _

/-! ## The loops -/

def sqP (σ : St F) : ℕ → St F × FVec F S112x128 .f32 := itr sqV (σ, broadcast S112x128 (Scalar.ofBits .f32 0x00000000#32))

theorem run_sqs (σ : St F) :
    RunsTo c (stp c M σ) (Scf.Loop.for k0_t1_loop k0_t1_ok (broadcast S112x128 (Scalar.ofBits .f32 0x00000000#32)) fun k s => sqStep M.a3 M17 k s)
      (sqP σ k0_t1_loop.trips).2 (stp c M (sqP σ k0_t1_loop.trips).1) :=
  runs_loop c k0_t1_loop k0_t1_ok _ (fun k => stp c M (sqP σ k).1) (fun k => (sqP σ k).2) fun k => by
    have := run_sq c M k (sqP σ k.val)
    have e : sqP σ (k.val + 1) = _ := itr_succ _ _ k
    rw [e]; exact this

def normP (lanes : IVec S112x128 32) (r : FVec F S112x1 .f32) (σ : St F) : ℕ → St F × FVec F S112x128 .f32 := itr (normV lanes r) (σ, broadcast S112x128 (Scalar.ofBits .f32 0x00000000#32))

theorem run_norms (hxc : M.a9.IsWhole) (ha2 : M16.IsWhole) (lanes : IVec S112x128 32) (r : FVec F S112x1 .f32) (σ : St F) :
    RunsTo c (stp c M σ) (Scf.Loop.for k0_t2_loop k0_t2_ok (broadcast S112x128 (Scalar.ofBits .f32 0x00000000#32)) fun k v => normStep M.a3 M.a4 M.a9 hxc M16 ha2 lanes r k v)
      (normP lanes r σ k0_t2_loop.trips).2 (stp c M (normP lanes r σ k0_t2_loop.trips).1) :=
  runs_loop c k0_t2_loop k0_t2_ok _ (fun k => stp c M (normP lanes r σ k).1) (fun k => (normP lanes r σ k).2) fun k => by
    have := run_norm c M hxc ha2 lanes r k (normP lanes r σ k.val)
    have e : normP lanes r σ (k.val + 1) = _ := itr_succ _ _ k
    rw [e]; exact this

def outP (σ : St F) : ℕ → St F := itr outV σ

theorem run_outs (hy : M.a8.IsWhole) (σ : St F) :
    RunsTo c (stp c M σ) (Scf.Loop.for k0_t4_loop k0_t4_ok ⟨⟩ fun k _ => outStep M17 M.a8 hy k) ⟨⟩ (stp c M (outP σ k0_t4_loop.trips)) :=
  runs_loop c k0_t4_loop k0_t4_ok (fun k _ => outStep M17 M.a8 hy k) (fun k => stp c M (outP σ k)) (fun _ => PUnit.unit) fun k => by
    have := run_out c M hy k (outP σ k.val)
    have e : outP σ (k.val + 1) = _ := itr_succ _ _ k
    rw [e]; exact this

/-- The buffers when the norm is done. -/
def headV (σ : St F) : St F :=
  let p := sqP σ k0_t1_loop.trips
  let q := normP lane (rnorm p.2) p.1 k0_t2_loop.trips
  normEndV q.2 q.1
end Norm

end Cert.Kernel.Hand
end
-- ==== Proof.Kernel.Flight.lean ====
/-
  The ring of weight tiles: a slot is free, filling or ready.
-/
module

public import proofs.«01_k».proof.Proof.Kernel.Ends
public import Idealize.ShloMosaic.Lib.Ring.Trips

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Ends at a slot and a step -/

theorem srcA_inb (p : ℕ) (hp : p < 34) : ∀ a, (![0, 512 * p] : Fin 2 → ℕ) a + S5120x512.size a ≤ S5120x17408.size a := by
  intro a; fin_cases a; exacts [le_refl 5120, by show 512 * p + 512 ≤ 17408; omega]
theorem srcB_inb (p : ℕ) (hp : p < 34) : ∀ a, (![512 * p, 0] : Fin 2 → ℕ) a + S512x5120.size a ≤ S17408x5120.size a := by
  intro a; fin_cases a; exacts [by show 512 * p + 512 ≤ 17408; omega, le_refl 5120]
theorem sem_inb (s : Fin 3) : ∀ a, (![s.val] : Fin 1 → ℕ) a + S1.size a ≤ S3.size a := by
  intro a; fin_cases a; exact s.isLt

abbrev sA (M : Memref sig .tc .hbm S5120x17408 .fp8e4m3) (p : ℕ) (hp : p < 34) := srcA M ![0, 512 * p] (srcA_inb p hp)
abbrev sB (M : Memref sig .tc .hbm S17408x5120 .fp8e4m3) (p : ℕ) (hp : p < 34) := srcB M ![512 * p, 0] (srcB_inb p hp)
abbrev dA (M : Memref sig .tc .vmem S3x5120x512 .fp8e4m3) (s : Fin 3) := slotA M (rAt s.val 0 0) (slotA_inb s.val s.isLt)
abbrev dB (M : Memref sig .tc .vmem S3x512x5120 .fp8e4m3) (s : Fin 3) := slotB M (rAt s.val 0 0) (slotB_inb s.val s.isLt)
abbrev smAt (s : Fin 3) : DmaSem sig := semOf cc0_scratch9 ![s.val] (sem_inb s)

/-- The contents of the three weight arrays. -/
structure Arr (F : FTy → Type) (c : Dev nD) where
  g : Cont (F := F) c M5
  u : Cont (F := F) c M6
  d : Cont (F := F) c M7

/-- The tiles of a step. -/
def Arr.at {c : Dev nD} (A : Arr F c) (p : ℕ) (hp : p < 34) : Wts F :=
  ⟨(sA M5 p hp).view.read (Elt F) A.g, (sA M6 p hp).view.read (Elt F) A.u, (sB M7 p hp).view.read (Elt F) A.d⟩

section Slot
variable (c : Dev nD) (A : Arr F c)

/-- The weight arrays at one share. -/
def arrs (q : PosShare TreeShare) : sProp 𝕄 :=
  iprop((M5.view.loc (c : Thread nD τ) ↦{q} A.g) ∗ (M6.view.loc (c : Thread nD τ) ↦{q} A.u) ∗ (M7.view.loc (c : Thread nD τ) ↦{q} A.d))

abbrev qs (s : Fin 3) : PosShare TreeShare := Ring.shares3 fullShare s

/-- A step's windows of the weight arrays at a slot's share, one by one. -/
abbrev win5 (s : Fin 3) (p : ℕ) (hp : p < 34) : sProp 𝕄 := (sA M5 p hp).view.loc (c : Thread nD τ) ↦[(sA M5 p hp).view.set]{qs s} A.g
abbrev win6 (s : Fin 3) (p : ℕ) (hp : p < 34) : sProp 𝕄 := (sA M6 p hp).view.loc (c : Thread nD τ) ↦[(sA M6 p hp).view.set]{qs s} A.u
abbrev win7 (s : Fin 3) (p : ℕ) (hp : p < 34) : sProp 𝕄 := (sB M7 p hp).view.loc (c : Thread nD τ) ↦[(sB M7 p hp).view.set]{qs s} A.d

/-- and the rest of the arrays. -/
def rests (s : Fin 3) (p : ℕ) (hp : p < 34) : sProp 𝕄 :=
  iprop((M5.view.loc (c : Thread nD τ) ↦[Finset.univ \ (sA M5 p hp).view.set]{qs s} A.g) ∗ (M6.view.loc (c : Thread nD τ) ↦[Finset.univ \ (sA M6 p hp).view.set]{qs s} A.u)
    ∗ (M7.view.loc (c : Thread nD τ) ↦[Finset.univ \ (sB M7 p hp).view.set]{qs s} A.d))

theorem arrs_split (s : Fin 3) (p : ℕ) (hp : p < 34) :
    (arrs c A (qs s) : sProp 𝕄) ⊢ iprop(win5 c A s p hp ∗ win6 c A s p hp ∗ win7 c A s p hp ∗ rests c A s p hp) := by
  unfold arrs rests
  iintro ⟨H5, H6, H7⟩
  ihave H5 := (pointsTo_split_subset (q := qs s) (f := A.g) (Finset.subset_univ (sA M5 p hp).view.set)).1 $$ H5
  ihave H6 := (pointsTo_split_subset (q := qs s) (f := A.u) (Finset.subset_univ (sA M6 p hp).view.set)).1 $$ H6
  ihave H7 := (pointsTo_split_subset (q := qs s) (f := A.d) (Finset.subset_univ (sB M7 p hp).view.set)).1 $$ H7
  icases H5 with ⟨H5, R5⟩
  icases H6 with ⟨H6, R6⟩
  icases H7 with ⟨H7, R7⟩
  isplitl [H5]; · iexact H5
  isplitl [H6]; · iexact H6
  isplitl [H7]; · iexact H7
  isplitl [R5]; · iexact R5
  isplitl [R6]; · iexact R6
  iexact R7

theorem arrs_join (s : Fin 3) (p : ℕ) (hp : p < 34) :
    iprop(win5 c A s p hp ∗ win6 c A s p hp ∗ win7 c A s p hp ∗ rests c A s p hp) ⊢ (arrs c A (qs s) : sProp 𝕄) := by
  unfold arrs rests
  iintro ⟨H5, H6, H7, R5, R6, R7⟩
  isplitl [H5 R5]
  · iapply (pointsTo_split_subset (q := qs s) (f := A.g) (Finset.subset_univ (sA M5 p hp).view.set)).2
    isplitl [H5]; · iexact H5
    iexact R5
  isplitl [H6 R6]
  · iapply (pointsTo_split_subset (q := qs s) (f := A.u) (Finset.subset_univ (sA M6 p hp).view.set)).2
    isplitl [H6]; · iexact H6
    iexact R6
  iapply (pointsTo_split_subset (q := qs s) (f := A.d) (Finset.subset_univ (sB M7 p hp).view.set)).2
  isplitl [H7]; · iexact H7
  iexact R7

/-- What the three transfers of a slot deliver. -/
def dlv (s : Fin 3) (p : ℕ) (hp : p < 34) : Fin 3 → sProp 𝕄
  | 0 => iprop(owns (c : Thread nD τ) (dA M13 s) fullShare (A.at p hp).g ∗ win5 c A s p hp)
  | 1 => iprop(owns (c : Thread nD τ) (dA M14 s) fullShare (A.at p hp).u ∗ win6 c A s p hp)
  | 2 => iprop(owns (c : Thread nD τ) (dB M15 s) fullShare (A.at p hp).d ∗ win7 c A s p hp)

instance dlv_storable (s : Fin 3) (p : ℕ) (hp : p < 34) (t : Fin 3) : Storable (upEmb : UEmb _ 𝕄) (dlv c A s p hp t) := by
  fin_cases t <;> simp only [dlv] <;> infer_instance

/-- The slot's transfers with `j` of them started. -/
def btc (s : Fin 3) (p : ℕ) (hp : p < 34) (j u : ℕ) : sProp 𝕄 :=
  Transfers.Batch (countersEmb (U := Pipeline.UD sig nD τ)) (c : Thread nD τ) (.dma (smAt s)) () credit (dlv c A s p hp) j u

theorem btc_intro (s : Fin 3) (p : ℕ) (hp : p < 34) (j u : ℕ) :
    Transfers.Batch (countersEmb (U := Pipeline.UD sig nD τ)) (c : Thread nD τ) (.dma (smAt s)) () credit (dlv c A s p hp) j u ⊢ (btc c A s p hp j u : sProp 𝕄) := by
  unfold btc; exact .rfl

theorem dlv_all (s : Fin 3) (p : ℕ) (hp : p < 34) :
    bigSep Finset.univ (dlv c A s p hp) ⊢ (iprop((owns (c : Thread nD τ) (dA M13 s) fullShare (A.at p hp).g ∗ win5 c A s p hp)
      ∗ (owns (c : Thread nD τ) (dA M14 s) fullShare (A.at p hp).u ∗ win6 c A s p hp) ∗ owns (c : Thread nD τ) (dB M15 s) fullShare (A.at p hp).d ∗ win7 c A s p hp) : sProp 𝕄) := by
  rw [Ring.bigSep_fin3]; exact .rfl

/-- A slot at rest. -/
def free (s : Fin 3) : sProp 𝕄 := iprop((∃ W, ringp c s.val s.isLt W) ∗ semVal ((c : Thread nD τ), SemLoc.dma (smAt s)) 0 ∗ arrs c A (qs s))
/-- A slot with its three transfers under way. -/
def busy (s : Fin 3) (p : ℕ) (hp : p < 34) : sProp 𝕄 := iprop(btc c A s p hp 3 0 ∗ rests c A s p hp)
/-- A slot filled. -/
def ready (s : Fin 3) (p : ℕ) (hp : p < 34) : sProp 𝕄 :=
  iprop(ringp c s.val s.isLt (A.at p hp) ∗ semVal ((c : Thread nD τ), SemLoc.dma (smAt s)) 0 ∗ arrs c A (qs s))

/-- A slot of whose transfers the first two are under way. -/
def busy2 (s : Fin 3) (p : ℕ) (hp : p < 34) : sProp 𝕄 :=
  iprop((∃ X, owns (c : Thread nD τ) (dB M15 s) fullShare X) ∗ win7 c A s p hp ∗ btc c A s p hp 2 0 ∗ rests c A s p hp)

theorem ready_free (s : Fin 3) (p : ℕ) (hp : p < 34) : (ready c A s p hp : sProp 𝕄) ⊢ free c A s := by
  unfold ready free
  iintro ⟨H, R⟩
  isplitl [H]; · iexists _; iexact H
  iexact R

/-! ## One transfer started -/

theorem run_enqA (src : Memref sig .tc .hbm S5120x512 .fp8e4m3) (dst : Memref sig .tc .vmem S5120x512 .fp8e4m3) (sm : DmaSem sig)
    (es : src.view.WordExact) (ed : dst.view.WordExact) (q : PosShare TreeShare) (f : Buf (Elt F) (src.view.loc (c : Thread nD τ)))
    (X : Vec F S5120x512 .fp8e4m3) (N : ℕ) (hN : dst.view.amount (SemLoc.dma sm) = N) (D : Fin 3 → sProp 𝕄) (j : ℕ) (hj : j < 3)
    (hD : iprop(owns (c : Thread nD τ) dst fullShare (src.view.read (Elt F) f) ∗ (src.view.loc (c : Thread nD τ) ↦[src.view.set]{q} f)) ⊢ D ⟨j, hj⟩) :
    RunsTo (F := F) c iprop((src.view.loc (c : Thread nD τ) ↦[src.view.set]{q} f) ∗ owns (c : Thread nD τ) dst fullShare X ∗ Transfers.Batch (countersEmb (U := Pipeline.UD sig nD τ)) (c : Thread nD τ) (.dma sm) () N D j 0)
      (enqA src dst sm es ed) ⟨⟩ (Transfers.Batch (countersEmb (U := Pipeline.UD sig nD τ)) (c : Thread nD τ) (.dma sm) () N D (j + 1) 0) := by
  intro β K Q
  rw [owns]
  iintro ⟨⟨Hs, ⟨%fd, -, Hd⟩, HB⟩, Hk⟩
  iapply (Transfers.wp_dmaBatch (countersEmb (U := Pipeline.UD sig nD τ)) Variants.none (c : Thread nD τ) none (src := src) (dst := dst) (via := ReadAs.same) (fs := f) (fd := fd) (k := K) () N hN subset_rfl
    (D := D) (j := j) (u := 0) hj (Nat.zero_le _) (BIBase.Entails.trans (by
      iintro ⟨Hd, Hs⟩
      isplitl [Hd]
      · unfold owns
        iexists (dst.view.write (Elt F) fd (ReadAs.same.apply (src.view.read (Elt F) f)) Finset.univ)
        isplitr
        · ipureintro; exact View.read_write_univ _ _
        iexact Hd
      iexact Hs) hD)) $$ [Hs Hd HB]
  · isplitl [Hs]; · iexact Hs
    isplitl [Hd]; · iexact Hd
    iexact HB
  iexact Hk

theorem run_enqB (src : Memref sig .tc .hbm S512x5120 .fp8e4m3) (dst : Memref sig .tc .vmem S512x5120 .fp8e4m3) (sm : DmaSem sig)
    (es : src.view.WordExact) (ed : dst.view.WordExact) (q : PosShare TreeShare) (f : Buf (Elt F) (src.view.loc (c : Thread nD τ)))
    (X : Vec F S512x5120 .fp8e4m3) (N : ℕ) (hN : dst.view.amount (SemLoc.dma sm) = N) (D : Fin 3 → sProp 𝕄) (j : ℕ) (hj : j < 3)
    (hD : iprop(owns (c : Thread nD τ) dst fullShare (src.view.read (Elt F) f) ∗ (src.view.loc (c : Thread nD τ) ↦[src.view.set]{q} f)) ⊢ D ⟨j, hj⟩) :
    RunsTo (F := F) c iprop((src.view.loc (c : Thread nD τ) ↦[src.view.set]{q} f) ∗ owns (c : Thread nD τ) dst fullShare X ∗ Transfers.Batch (countersEmb (U := Pipeline.UD sig nD τ)) (c : Thread nD τ) (.dma sm) () N D j 0)
      (enqB src dst sm es ed) ⟨⟩ (Transfers.Batch (countersEmb (U := Pipeline.UD sig nD τ)) (c : Thread nD τ) (.dma sm) () N D (j + 1) 0) := by
  intro β K Q
  rw [owns]
  iintro ⟨⟨Hs, ⟨%fd, -, Hd⟩, HB⟩, Hk⟩
  iapply (Transfers.wp_dmaBatch (countersEmb (U := Pipeline.UD sig nD τ)) Variants.none (c : Thread nD τ) none (src := src) (dst := dst) (via := ReadAs.same) (fs := f) (fd := fd) (k := K) () N hN subset_rfl
    (D := D) (j := j) (u := 0) hj (Nat.zero_le _) (BIBase.Entails.trans (by
      iintro ⟨Hd, Hs⟩
      isplitl [Hd]
      · unfold owns
        iexists (dst.view.write (Elt F) fd (ReadAs.same.apply (src.view.read (Elt F) f)) Finset.univ)
        isplitr
        · ipureintro; exact View.read_write_univ _ _
        iexact Hd
      iexact Hs) hD)) $$ [Hs Hd HB]
  · isplitl [Hs]; · iexact Hs
    isplitl [Hd]; · iexact Hd
    iexact HB
  iexact Hk

theorem amt13 (s : Fin 3) : (dA M13 s).view.amount (SemLoc.dma (smAt s)) = credit := rfl
theorem amt14 (s : Fin 3) : (dA M14 s).view.amount (SemLoc.dma (smAt s)) = credit := rfl
theorem amt15 (s : Fin 3) : (dB M15 s).view.amount (SemLoc.dma (smAt s)) = credit := rfl
theorem credit_pos : 0 < credit := View.amount_pos _ _ (Shape.numel_pos (by intro a; fin_cases a <;> decide))

variable (s : Fin 3) (p : ℕ) (hp : p < 34)

theorem run_enq5 (e5 : (sA M5 p hp).view.WordExact) (e13 : (dA M13 s).view.WordExact) (X : Vec F S5120x512 .fp8e4m3) :
    RunsTo (F := F) c iprop(win5 c A s p hp ∗ owns (c : Thread nD τ) (dA M13 s) fullShare X ∗ btc c A s p hp 0 0)
      (enqA (sA M5 p hp) (dA M13 s) (smAt s) e5 e13) ⟨⟩ (btc c A s p hp 1 0) :=
  run_enqA c (sA M5 p hp) (dA M13 s) (smAt s) e5 e13 (qs s) A.g X credit (amt13 s) (dlv c A s p hp) 0 (by decide) (by unfold dlv Arr.at; exact .rfl)

theorem run_enq6 (e6 : (sA M6 p hp).view.WordExact) (e14 : (dA M14 s).view.WordExact) (X : Vec F S5120x512 .fp8e4m3) :
    RunsTo (F := F) c iprop(win6 c A s p hp ∗ owns (c : Thread nD τ) (dA M14 s) fullShare X ∗ btc c A s p hp 1 0)
      (enqA (sA M6 p hp) (dA M14 s) (smAt s) e6 e14) ⟨⟩ (btc c A s p hp 2 0) :=
  run_enqA c (sA M6 p hp) (dA M14 s) (smAt s) e6 e14 (qs s) A.u X credit (amt14 s) (dlv c A s p hp) 1 (by decide) (by unfold dlv Arr.at; exact .rfl)

theorem run_enq7 (e7 : (sB M7 p hp).view.WordExact) (e15 : (dB M15 s).view.WordExact) (X : Vec F S512x5120 .fp8e4m3) :
    RunsTo (F := F) c iprop(win7 c A s p hp ∗ owns (c : Thread nD τ) (dB M15 s) fullShare X ∗ btc c A s p hp 2 0)
      (enqB (sB M7 p hp) (dB M15 s) (smAt s) e7 e15) ⟨⟩ (btc c A s p hp 3 0) :=
  run_enqB c (sB M7 p hp) (dB M15 s) (smAt s) e7 e15 (qs s) A.d X credit (amt15 s) (dlv c A s p hp) 2 (by decide) (by unfold dlv Arr.at; exact .rfl)

/-- The first two transfers of a slot started. -/
theorem run_start2 (e5 : (sA M5 p hp).view.WordExact) (e13 : (dA M13 s).view.WordExact) (e6 : (sA M6 p hp).view.WordExact) (e14 : (dA M14 s).view.WordExact) :
    RunsTo (F := F) c (free c A s)
      (enqA (sA M5 p hp) (dA M13 s) (smAt s) e5 e13 >>= fun _ => enqA (sA M6 p hp) (dA M14 s) (smAt s) e6 e14) ⟨⟩ (busy2 c A s p hp) := by
  intro β K Q
  unfold free ringp busy2
  iintro ⟨⟨⟨%W, Hg, Hu, Hd⟩, Hv, HA⟩, Hk⟩
  ihave HA := (arrs_split c A s p hp) $$ HA
  icases HA with ⟨H5, H6, H7, HR⟩
  imod (Transfers.batch_alloc' (Lvl := ℕ) (countersEmb (U := Pipeline.UD sig nD τ)) (c : Thread nD τ) () credit (dlv c A s p hp) (sm := .dma (smAt s)) (E := Set.univ)) $$ Hv with HB
  ihave HB := (btc_intro c A s p hp 0 0) $$ HB
  rw [bind_assoc]
  iapply (run_enq5 c A s p hp e5 e13 W.g _ _ _)
  isplitl [Hg H5 HB]
  · isplitl [H5]; · iexact H5
    isplitl [Hg]; · iexact Hg
    iexact HB
  iintro HB
  iapply (run_enq6 c A s p hp e6 e14 W.u _ _ _)
  isplitl [Hu H6 HB]
  · isplitl [H6]; · iexact H6
    isplitl [Hu]; · iexact Hu
    iexact HB
  iintro HB
  iapply Hk
  isplitl [Hd]; · iexists W.d; iexact Hd
  isplitl [H7]; · iexact H7
  isplitl [HB]; · iexact HB
  iexact HR

/-- The third started. -/
theorem run_start3 (e7 : (sB M7 p hp).view.WordExact) (e15 : (dB M15 s).view.WordExact) :
    RunsTo (F := F) c (busy2 c A s p hp) (enqB (sB M7 p hp) (dB M15 s) (smAt s) e7 e15) ⟨⟩ (busy c A s p hp) := by
  intro β K Q
  unfold busy busy2
  iintro ⟨⟨⟨%X, Hd⟩, H7, HB, HR⟩, Hk⟩
  iapply (run_enq7 c A s p hp e7 e15 X _ _ _)
  isplitl [Hd H7 HB]
  · isplitl [H7]; · iexact H7
    isplitl [Hd]; · iexact Hd
    iexact HB
  iintro HB
  iapply Hk
  isplitl [HB]; · iexact HB
  iexact HR

/-! ## The three started, the three waited for -/

theorem run_issue3 (s5 s6 : Memref sig .tc .hbm S5120x512 .fp8e4m3) (s7 : Memref sig .tc .hbm S512x5120 .fp8e4m3)
    (d13 d14 : Memref sig .tc .vmem S5120x512 .fp8e4m3) (d15 : Memref sig .tc .vmem S512x5120 .fp8e4m3) (sm : DmaSem sig)
    (e5 : s5.view.WordExact) (e6 : s6.view.WordExact) (e7 : s7.view.WordExact)
    (e13 : d13.view.WordExact) (e14 : d14.view.WordExact) (e15 : d15.view.WordExact)
    (h5 : s5 = sA M5 p hp) (h6 : s6 = sA M6 p hp) (h7 : s7 = sB M7 p hp) (h13 : d13 = dA M13 s) (h14 : d14 = dA M14 s) (h15 : d15 = dB M15 s) (hsm : sm = smAt s) :
    RunsTo (F := F) c (free c A s) (issue3 s5 s6 s7 d13 d14 d15 sm e5 e6 e7 e13 e14 e15) ⟨⟩ (busy c A s p hp) := by
  subst h5 h6 h7 h13 h14 h15 hsm
  have h := (run_start2 c A s p hp e5 e13 e6 e14).bind (R := fun _ => enqB (sB M7 p hp) (dB M15 s) (smAt s) e7 e15) (run_start3 c A s p hp e7 e15)
  rw [bind_assoc] at h
  exact h

/-- The core's waits, whatever they are. -/
def owe : sProp 𝕄 := iprop(∃ W, owes (c : Thread nD τ) 0 W)

theorem run_wait3 (s5 s6 : Memref sig .tc .hbm S5120x512 .fp8e4m3) (s7 : Memref sig .tc .hbm S512x5120 .fp8e4m3)
    (d13 d14 : Memref sig .tc .vmem S5120x512 .fp8e4m3) (d15 : Memref sig .tc .vmem S512x5120 .fp8e4m3) (sm : DmaSem sig)
    (e5 : s5.view.WordExact) (e6 : s6.view.WordExact) (e7 : s7.view.WordExact)
    (e13 : d13.view.WordExact) (e14 : d14.view.WordExact) (e15 : d15.view.WordExact)
    (h13 : d13 = dA M13 s) (h14 : d14 = dA M14 s) (h15 : d15 = dB M15 s) (hsm : sm = smAt s) :
    RunsTo (F := F) c iprop(busy c A s p hp ∗ owe c) (wait3 s5 s6 s7 d13 d14 d15 sm e5 e6 e7 e13 e14 e15) ⟨⟩ iprop(ready c A s p hp ∗ owe c) := by
  subst h13 h14 h15 hsm
  intro β K Q
  unfold busy ready ringp owe btc
  iintro ⟨⟨⟨HB, HR⟩, %W, HO⟩, Hk⟩
  iapply (Transfers.wp_waitBatch (countersEmb (U := Pipeline.UD sig nD τ)) Variants.none (c : Thread nD τ) none () (N := credit) (amt13 s) (D := dlv c A s p hp) (u := 0)
    (by have := credit_pos; omega)) $$ [HB HO]
  · isplitl [HB] <;> iassumption
  iintro ⟨HB, HO⟩
  iapply (Transfers.wp_waitBatch (countersEmb (U := Pipeline.UD sig nD τ)) Variants.none (c : Thread nD τ) none () (N := credit) (amt14 s) (D := dlv c A s p hp) (u := 0 + credit)
    (by have := credit_pos; omega)) $$ [HB HO]
  · isplitl [HB] <;> iassumption
  iintro ⟨HB, HO⟩
  iapply (Transfers.wp_waitBatchLast (countersEmb (U := Pipeline.UD sig nD τ)) Variants.none (c : Thread nD τ) none () (N := credit) (amt15 s) credit_pos (D := dlv c A s p hp) (u := 0 + credit + credit)
    (by omega)) $$ [HB HO]
  · isplitl [HB] <;> iassumption
  iintro ⟨HD, Hv, HO⟩
  ihave HD := (dlv_all c A s p hp) $$ HD
  icases HD with ⟨⟨Hg, H5⟩, ⟨Hu, H6⟩, Hd, H7⟩
  iapply Hk
  isplitr [HO]
  · isplitl [Hg Hu Hd]
    · isplitl [Hg]; · iexact Hg
      isplitl [Hu]; · iexact Hu
      iexact Hd
    isplitl [Hv]; · iexact Hv
    iapply (arrs_join c A s p hp)
    isplitl [H5]; · iexact H5
    isplitl [H6]; · iexact H6
    isplitl [H7]; · iexact H7
    iexact HR
  iexists _; iexact HO

end Slot

end Cert.Kernel.Hand
end
-- ==== Proof.Kernel.Run.lean ====
/-
  The run of the whole body.
-/
module

public import proofs.«01_k».proof.Proof.Kernel.Flight

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The loop over the weights -/

theorem slotN_eq : ∀ k : Fin k0_t3_loop.trips, slotN k = k.val % 3 := by decide +kernel
theorem cond_iff : ∀ k : Fin k0_t3_loop.trips, k0_cond1 k = 1#1 ↔ k.val + 2 < 34 := by decide +kernel
theorem trips3 : k0_t3_loop.trips = 34 := by decide +kernel
theorem step_lt (k : Fin k0_t3_loop.trips) : k.val < 34 := Nat.lt_of_lt_of_le k.isLt k0_t3_abs.2.1

/-- The slot a step uses. -/
abbrev slotOf (p : ℕ) : Fin 3 := ⟨p % 3, Nat.mod_lt _ (by decide)⟩

theorem slotA_congr (M : Memref sig .tc .vmem S3x5120x512 .fp8e4m3) {o o' : Fin 3 → ℕ} (e : o = o') (h h') : slotA M o h = slotA M o' h' := by subst e; rfl
theorem slotB_congr (M : Memref sig .tc .vmem S3x512x5120 .fp8e4m3) {o o' : Fin 3 → ℕ} (e : o = o') (h h') : slotB M o h = slotB M o' h' := by subst e; rfl
theorem srcA_congr (M : Memref sig .tc .hbm S5120x17408 .fp8e4m3) {o o' : Fin 2 → ℕ} (e : o = o') (h h') : srcA M o h = srcA M o' h' := by subst e; rfl
theorem srcB_congr (M : Memref sig .tc .hbm S17408x5120 .fp8e4m3) {o o' : Fin 2 → ℕ} (e : o = o') (h h') : srcB M o h = srcB M o' h' := by subst e; rfl
theorem semOf_congr {o o' : Fin 1 → ℕ} (e : o = o') (h h') : semOf cc0_scratch9 o h = semOf cc0_scratch9 o' h' := by subst e; rfl

section Loop
variable (c : Dev nD) (M : Mems) (A : Arr F c)

theorem ringp_congr {s s' : ℕ} (e : s = s') (hs hs') (W : Wts F) : (ringp c s hs W : sProp 𝕄) = ringp c s' hs' W := by subst e; rfl

/-- A step's slot before its turn. -/
def slotSt (p : ℕ) : sProp 𝕄 := if h : p < 34 then busy c A (slotOf p) p h else free c A (slotOf p)
/-- The three slots before step `k`. -/
def ring (k : ℕ) : sProp 𝕄 := iprop(slotSt c A k ∗ slotSt c A (k + 1) ∗ free c A (slotOf (k + 2)))

abbrev fetchM (k : Fin k0_t3_loop.trips) : Pr F Unit :=
  fetch M5 (Memref.isWhole_whole _) M6 (Memref.isWhole_whole _) M7 (Memref.isWhole_whole _) M13 (Memref.isWhole_whole _) M14 (Memref.isWhole_whole _)
    M15 (Memref.isWhole_whole _) cc0_scratch9 k

theorem run_issueAt (k : Fin k0_t3_loop.trips) (h : k0_cond1 k = 1#1) :
    RunsTo (F := F) c (free c A (slotOf (k.val + 2))) (issueAt M5 (Memref.isWhole_whole _) M6 (Memref.isWhole_whole _) M7 (Memref.isWhole_whole _) M13 (Memref.isWhole_whole _)
      M14 (Memref.isWhole_whole _) M15 (Memref.isWhole_whole _) cc0_scratch9 k h) ⟨⟩ (busy c A (slotOf (k.val + 2)) (k.val + 2) ((cond_iff k).1 h)) :=
  run_issue3 c A (slotOf (k.val + 2)) (k.val + 2) ((cond_iff k).1 h) _ _ _ _ _ _ _ _ _ _ _ _ _
    (srcA_congr M5 ((k0_off7_eq k).trans (by rw [Nat.mul_add])) _ _) (srcA_congr M6 ((k0_off7_eq k).trans (by rw [Nat.mul_add])) _ _)
    (srcB_congr M7 ((k0_off9_eq k).trans (by rw [Nat.mul_add])) _ _)
    (slotA_congr M13 (k0_off6_eq k) _ _) (slotA_congr M14 (k0_off6_eq k) _ _) (slotB_congr M15 (k0_off8_eq k) _ _) (semOf_congr (k0_off5_eq k) _ _)

theorem run_waitAt (k : Fin k0_t3_loop.trips) :
    RunsTo (F := F) c iprop(busy c A (slotOf k.val) k.val (step_lt k) ∗ owe c) (waitAt M5 (Memref.isWhole_whole _) M6 (Memref.isWhole_whole _) M7 (Memref.isWhole_whole _) M13 (Memref.isWhole_whole _)
      M14 (Memref.isWhole_whole _) M15 (Memref.isWhole_whole _) cc0_scratch9 k) ⟨⟩ iprop(ready c A (slotOf k.val) k.val (step_lt k) ∗ owe c) :=
  run_wait3 c A (slotOf k.val) k.val (step_lt k) _ _ _ _ _ _ _ _ _ _ _ _ _
    (slotA_congr M13 (k0_off11_eq k) _ _) (slotA_congr M14 (k0_off11_eq k) _ _) (slotB_congr M15 (k0_off13_eq k) _ _) (semOf_congr (k0_off10_eq k) _ _)

theorem run_fetch (k : Fin k0_t3_loop.trips) :
    RunsTo (F := F) c iprop(ring c A k.val ∗ owe c) (fetchM k) ⟨⟩
      iprop((ready c A (slotOf k.val) k.val (step_lt k) ∗ slotSt c A (k.val + 1) ∗ slotSt c A (k.val + 2)) ∗ owe c) := by
  intro β K Q
  have e0 : (slotSt c A k.val : sProp 𝕄) = busy c A (slotOf k.val) k.val (step_lt k) := dif_pos (step_lt k)
  unfold fetchM fetch ring
  rw [e0]
  by_cases h : k0_cond1 k = 1#1
  · have e2 : (slotSt c A (k.val + 2) : sProp 𝕄) = busy c A (slotOf (k.val + 2)) (k.val + 2) ((cond_iff k).1 h) := dif_pos ((cond_iff k).1 h)
    rw [e2]
    simp only [dif_pos h, bind_assoc]
    iintro ⟨⟨⟨H0, H1, H2⟩, HO⟩, Hk⟩
    iapply (run_issueAt c A k h _ _ _)
    isplitl [H2]; · iexact H2
    iintro H2
    iapply (run_waitAt c A k _ _ _)
    isplitl [H0 HO]
    · isplitl [H0]; · iexact H0
      iexact HO
    iintro ⟨H0, HO⟩
    iapply Hk
    isplitr [HO]
    · isplitl [H0]; · iexact H0
      isplitl [H1]; · iexact H1
      iexact H2
    iexact HO
  · have e2 : (slotSt c A (k.val + 2) : sProp 𝕄) = free c A (slotOf (k.val + 2)) := dif_neg (fun h' => h ((cond_iff k).2 h'))
    rw [e2]
    simp only [dif_neg h, bind_assoc, pure_bind]
    iintro ⟨⟨⟨H0, H1, H2⟩, HO⟩, Hk⟩
    iapply (run_waitAt c A k _ _ _)
    isplitl [H0 HO]
    · isplitl [H0]; · iexact H0
      iexact HO
    iintro ⟨H0, HO⟩
    iapply Hk
    isplitr [HO]
    · isplitl [H0]; · iexact H0
      isplitl [H1]; · iexact H1
      iexact H2
    iexact HO

/-- The buffers before step `k`. -/
def stepP (lanes : IVec S112x128 32) (σ : St F) : ℕ → St F := itr (fun k σ => stepV lanes (A.at k.val (step_lt k)) k σ) σ

/-- What the loop holds before step `k`. -/
def inv3 (lanes : IVec S112x128 32) (σ : St F) (k : ℕ) : sProp 𝕄 := iprop((ring c A k ∗ owe c) ∗ stp c M (stepP c A lanes σ k))

theorem run_trip (hmc : M.a11.IsWhole) (lanes : IVec S112x128 32) (σ : St F) (k : Fin k0_t3_loop.trips) :
    RunsTo (F := F) c (inv3 c M A lanes σ k.val) (fetchM k >>= fun _ => stepBody M.a0 M.a1 M.a2 M.a11 hmc M13 M14 M15 M16 M17 M19 (Memref.isWhole_whole _) M20 lanes k) ⟨⟩
      (inv3 c M A lanes σ (k.val + 1)) := by
  intro β K Q
  have e : stepP c A lanes σ (k.val + 1) = stepV lanes (A.at k.val (step_lt k)) k (stepP c A lanes σ k.val) := itr_succ _ _ k
  unfold inv3 ring
  rw [e, bind_assoc]
  iintro ⟨⟨HR, HS⟩, Hk⟩
  iapply (run_fetch c A k _ _ _)
  isplitl [HR]; · unfold ring; iexact HR
  unfold ready
  iintro ⟨⟨⟨HW, HV, HA⟩, H1, H2⟩, HO⟩
  iapply (run_step c M k (A.at k.val (step_lt k)) (stepP c A lanes σ k.val) lanes hmc (Memref.isWhole_whole _) _ _ _)
  unfold trp
  isplitl [HW HS]
  · isplitl [HW]
    · rw [ringp_congr c (slotN_eq k) (slotN_lt k) (slotOf k.val).isLt]; iexact HW
    iexact HS
  iintro ⟨HW, HS⟩
  iapply Hk
  isplitr [HS]
  · isplitr [HO]
    · isplitl [H1]; · iexact H1
      isplitl [H2]; · iexact H2
      have e3 : slotOf (k.val + 1 + 2) = slotOf k.val := by
        apply Fin.ext; show (k.val + 1 + 2) % 3 = k.val % 3; exact Nat.add_mod_right k.val 3
      rw [e3]
      iapply (ready_free c A (slotOf k.val) k.val (step_lt k))
      unfold ready
      isplitl [HW]
      · rw [ringp_congr c (slotN_eq k).symm (slotOf k.val).isLt (slotN_lt k)]; iexact HW
      isplitl [HV]; · iexact HV
      iexact HA
    iexact HO
  iexact HS
end Loop

theorem lt0 : 0 < 34 := by decide
theorem lt1 : 1 < 34 := by decide

section Whole
variable (c : Dev nD) (M : Mems) (A : Arr F c)

/-- The transfers before the loop. -/
theorem run_start (s5 s6 : Memref sig .tc .hbm S5120x512 .fp8e4m3) (s7 : Memref sig .tc .hbm S512x5120 .fp8e4m3)
    (d13 d14 : Memref sig .tc .vmem S5120x512 .fp8e4m3) (d15 : Memref sig .tc .vmem S512x5120 .fp8e4m3) (sm : DmaSem sig)
    (t5 t6 : Memref sig .tc .hbm S5120x512 .fp8e4m3) (f13 f14 : Memref sig .tc .vmem S5120x512 .fp8e4m3) (sm' : DmaSem sig)
    (e5 : s5.view.WordExact) (e13 : d13.view.WordExact) (e6 : s6.view.WordExact) (e14 : d14.view.WordExact) (e7 : s7.view.WordExact) (e15 : d15.view.WordExact)
    (g5 : t5.view.WordExact) (g13 : f13.view.WordExact) (g6 : t6.view.WordExact) (g14 : f14.view.WordExact)
    (h5 : s5 = sA M5 0 (by decide)) (h6 : s6 = sA M6 0 (by decide)) (h7 : s7 = sB M7 0 (by decide)) (h13 : d13 = dA M13 0) (h14 : d14 = dA M14 0) (h15 : d15 = dB M15 0)
    (hsm : sm = smAt 0) (i5 : t5 = sA M5 1 (by decide)) (i6 : t6 = sA M6 1 (by decide)) (i13 : f13 = dA M13 1) (i14 : f14 = dA M14 1) (hsm' : sm' = smAt 1) :
    RunsTo (F := F) c iprop(free c A 0 ∗ free c A 1)
      (do enqA s5 d13 sm e5 e13; enqA s6 d14 sm e6 e14; enqB s7 d15 sm e7 e15; enqA t5 f13 sm' g5 g13; enqA t6 f14 sm' g6 g14) ⟨⟩
      iprop(busy c A 0 0 (by decide) ∗ busy2 c A 1 1 (by decide)) := by
  subst h5 h6 h7 h13 h14 h15 hsm i5 i6 i13 i14 hsm'
  intro β K Q
  have h1 := fun K Q => run_start2 c A 0 0 (by decide) e5 e13 e6 e14 β K Q
  have h3 := fun K Q => run_start2 c A 1 1 (by decide) g5 g13 g6 g14 β K Q
  simp only [bind_assoc] at h1 h3 ⊢
  iintro ⟨⟨H0, H1⟩, Hk⟩
  iapply (h1 _ _)
  isplitl [H0]; · iexact H0
  iintro H0
  iapply (run_start3 c A 0 0 lt0 e7 e15 _ _ _)
  isplitl [H0]; · iexact H0
  iintro H0
  iapply (h3 _ _)
  isplitl [H1]; · iexact H1
  iintro H1
  iapply Hk
  isplitl [H0]; · iexact H0
  iexact H1

abbrev start5M : Pr F Unit :=
  start5 M5 (Memref.isWhole_whole _) M6 (Memref.isWhole_whole _) M7 (Memref.isWhole_whole _) M13 (Memref.isWhole_whole _) M14 (Memref.isWhole_whole _) M15 (Memref.isWhole_whole _) cc0_scratch9

theorem run_start5 : RunsTo (F := F) c iprop(free c A 0 ∗ free c A 1) start5M ⟨⟩ iprop(busy c A 0 0 (by decide) ∗ busy2 c A 1 1 (by decide)) :=
  run_start c A _ _ _ _ _ _ _ _ _ _ _ _ _ _ _ _ _ _ _ _ _ _ rfl rfl rfl rfl rfl rfl rfl rfl rfl rfl rfl rfl

theorem run_start6 : RunsTo (F := F) c (busy2 c A 1 1 (by decide)) (start6 M7 (Memref.isWhole_whole _) M15 (Memref.isWhole_whole _) cc0_scratch9) ⟨⟩ (busy c A 1 1 (by decide)) :=
  run_start3 c A 1 1 (by decide) _ _

theorem run_head (hxc : M.a9.IsWhole) (σ : St F) :
    RunsTo (F := F) c iprop(busy2 c A 1 1 (by decide) ∗ stp c M σ)
      (normAll M.a3 M.a4 M7 (Memref.isWhole_whole _) M.a9 hxc M.a10 M15 (Memref.isWhole_whole _) M16 (Memref.isWhole_whole _) M17 M21 cc0_scratch9) lane
      iprop(busy c A 1 1 (by decide) ∗ stp c M (headV σ)) := by
  intro β K Q
  unfold normAll
  simp only [bind_assoc]
  iintro ⟨⟨H1, HS⟩, Hk⟩
  iapply (run_start6 c A _ _ _)
  isplitl [H1]; · iexact H1
  iintro H1
  iapply (run_sqs c M σ _ _ _)
  isplitl [HS]; · iexact HS
  iintro HS
  iapply (run_norms c M hxc (Memref.isWhole_whole _) lane _ _ _ _ _)
  isplitl [HS]; · iexact HS
  iintro HS
  iapply (run_normEnd c M _ _ _ _ _)
  isplitl [HS]; · iexact HS
  iintro HS
  rw [pure_bind]
  iapply Hk
  isplitl [H1]; · iexact H1
  iexact HS

/-- The buffers at the end. -/
def finV (σ : St F) : St F := outP (midV (stepP c A lane (zeroV (headV σ)) k0_t3_loop.trips)) k0_t4_loop.trips

section Args
variable (h0 : M.a0.IsWhole) (h1 : M.a1.IsWhole) (h2 : M.a2.IsWhole) (h3 : M.a3.IsWhole) (h4 : M.a4.IsWhole) (h8 : M.a8.IsWhole) (h9 : M.a9.IsWhole) (h10 : M.a10.IsWhole) (h11 : M.a11.IsWhole) (h12 : M.a12.IsWhole)

theorem run_loop3 (σ : St F) :
    RunsTo (F := F) c (inv3 c M A lane σ 0) (Scf.Loop.for k0_t3_loop k0_t3_ok ⟨⟩ fun k _ => k0_t3_body M.a0 h0 M.a1 h1 M.a2 h2 M.a3 h3 M.a4 h4 M5 (Memref.isWhole_whole _) M6 (Memref.isWhole_whole _) M7 (Memref.isWhole_whole _) M.a8 h8 M.a9 h9 M.a10 h10 M.a11 h11 M.a12 h12 M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) cc0_scratch9 lane k ⟨⟩) ⟨⟩
      (inv3 c M A lane σ k0_t3_loop.trips) :=
  runs_loop c k0_t3_loop k0_t3_ok (fun k _ => k0_t3_body M.a0 h0 M.a1 h1 M.a2 h2 M.a3 h3 M.a4 h4 M5 (Memref.isWhole_whole _) M6 (Memref.isWhole_whole _) M7 (Memref.isWhole_whole _) M.a8 h8 M.a9 h9 M.a10 h10 M.a11 h11 M.a12 h12 M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) cc0_scratch9 lane k ⟨⟩) (fun k => inv3 c M A lane σ k) (fun _ => PUnit.unit) fun k => by
    have h := run_trip c M A h11 lane σ k
    have e := body_eq M.a0 h0 M.a1 h1 M.a2 h2 M.a3 h3 M.a4 h4 M5 (Memref.isWhole_whole _) M6 (Memref.isWhole_whole _) M7 (Memref.isWhole_whole _) M.a8 h8 M.a9 h9 M.a10 h10 M.a11 h11 M.a12 h12 M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) cc0_scratch9 (lanes := lane) (k := k) (F := F)
    show RunsTo c _ (k0_t3_body M.a0 h0 M.a1 h1 M.a2 h2 M.a3 h3 M.a4 h4 M5 (Memref.isWhole_whole _) M6 (Memref.isWhole_whole _) M7 (Memref.isWhole_whole _) M.a8 h8 M.a9 h9 M.a10 h10 M.a11 h11 M.a12 h12 M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) cc0_scratch9 lane k ⟨⟩) _ _
    rw [e]
    exact h

theorem run_mlp (σ : St F) :
    RunsTo (F := F) c iprop((free c A 0 ∗ free c A 1 ∗ free c A 2) ∗ owe c ∗ stp c M σ)
      (cc0_mlp M.a0 h0 M.a1 h1 M.a2 h2 M.a3 h3 M.a4 h4 M5 (Memref.isWhole_whole _) M6 (Memref.isWhole_whole _) M7 (Memref.isWhole_whole _) M.a8 h8 M.a9 h9 M.a10 h10 M.a11 h11 M.a12 h12 M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) cc0_scratch9) ⟨⟩
      iprop((free c A 0 ∗ free c A 1 ∗ free c A 2) ∗ owe c ∗ stp c M (finV c A σ)) := by
  intro β K Q
  rw [mlp_eq]
  unfold cleanMlp
  simp only [bind_assoc]
  iintro ⟨⟨⟨F0, F1, F2⟩, HO, HS⟩, Hk⟩
  iapply (run_start5 c A _ _ _)
  isplitl [F0 F1]
  · isplitl [F0]; · iexact F0
    iexact F1
  iintro ⟨F0, F1⟩
  iapply (run_head c M A h9 σ _ _ _)
  isplitl [F1 HS]
  · isplitl [F1]; · iexact F1
    iexact HS
  iintro ⟨F1, HS⟩
  iapply (run_zero c M _ _ _ _)
  isplitl [HS]; · iexact HS
  iintro HS
  iapply (run_loop3 c M A h0 h1 h2 h3 h4 h8 h9 h10 h11 h12 (zeroV (headV σ)) _ _ _)
  isplitl [F0 F1 F2 HO HS]
  · unfold inv3 ring
    isplitr [HS]
    · isplitr [HO]
      · isplitl [F0]
        · unfold slotSt; rw [dif_pos (by decide : 0 < 34)]; iexact F0
        isplitl [F1]
        · unfold slotSt; rw [dif_pos (by decide : 0 + 1 < 34)]; iexact F1
        iexact F2
      iexact HO
    iexact HS
  iintro HI
  unfold inv3 ring slotSt
  rw [trips3, dif_neg (by decide : ¬ 34 < 34), dif_neg (by decide : ¬ 34 + 1 < 34)]
  icases HI with ⟨⟨⟨F1, F2, F0⟩, HO⟩, HS⟩
  iapply (run_mid c M _ _ _ _)
  isplitl [HS]; · iexact HS
  iintro HS
  iapply (run_outs c M h8 _ _ _ _)
  isplitl [HS]; · iexact HS
  iintro HS
  rw [pure_bind]
  iapply Hk
  isplitl [F0 F1 F2]
  · isplitl [F0]; · iexact F0
    isplitl [F1]; · iexact F1
    iexact F2
  isplitl [HO]; · iexact HO
  unfold finV; rw [trips3]; iexact HS
end Args
end Whole

end Cert.Kernel.Hand
end
-- ==== Proof.Kernel.Share.lean ====
/-
  The body at the one point, from the launch's resources: rings cut in slots, weights shared in thirds, buffers gathered; and the run of main.
-/
module

public import proofs.«01_k».proof.Proof.Kernel.Run
public import proofs.«01_k».proof.Proof.Gen.Kernel.Frame
public import Idealize.ShloMosaic.Lib.Pipeline.Frame
public import Idealize.ShloMosaic.Lib.Ring.WriteBehind
public import Idealize.ShloMosaic.Lib.ReshapeSlab

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The slots of a ring buffer -/

theorem dA_disj (M : Memref sig .tc .vmem S3x5120x512 .fp8e4m3) (s s' : Fin 3) (h : s ≠ s') : Disjoint (dA M s).view.set (dA M s').view.set := by
  have e : ∀ s : Fin 3, (dA M s).view.set = (M.view.slice (Rect.unit (s := S3x5120x512) (rAt s.val 0 0) S1x5120x512.size (slotA_inb s.val s.isLt))).set := fun s =>
    View.set_reshape _ _
  rw [e, e]
  refine View.disjoint_slice_of_sep _ _ _ 0 rfl rfl ?_
  show s.val + 1 ≤ s'.val ∨ s'.val + 1 ≤ s.val
  have : s.val ≠ s'.val := fun e => h (Fin.ext e)
  omega
theorem dB_disj (M : Memref sig .tc .vmem S3x512x5120 .fp8e4m3) (s s' : Fin 3) (h : s ≠ s') : Disjoint (dB M s).view.set (dB M s').view.set := by
  have e : ∀ s : Fin 3, (dB M s).view.set = (M.view.slice (Rect.unit (s := S3x512x5120) (rAt s.val 0 0) S1x512x5120.size (slotB_inb s.val s.isLt))).set := fun s =>
    View.set_reshape _ _
  rw [e, e]
  refine View.disjoint_slice_of_sep _ _ _ 0 rfl rfl ?_
  show s.val + 1 ≤ s'.val ∨ s'.val + 1 ≤ s.val
  have : s.val ≠ s'.val := fun e => h (Fin.ext e)
  omega

theorem owns_iff (c : Dev nD) {sp : Space} {S : Shape} {e : EltTy} (m : Memref sig .tc sp S e) :
    (iprop(∃ X, owns (c : Thread nD τ) m fullShare X) : sProp 𝕄) ⊣⊢ iprop(∃ f : Buf (Elt F) (m.view.loc (c : Thread nD τ)), m.view.loc (c : Thread nD τ) ↦[m.view.set]{fullShare} f) := by
  unfold owns
  constructor
  · iintro ⟨%X, %f, -, H⟩; iexists f; iexact H
  · iintro ⟨%f, H⟩; iexists _, f; isplitr; · ipureintro; rfl
    iexact H

section Rings
variable (c : Dev nD)

/-- What is left of a ring buffer beside its slots. -/
def spareA (M : Memref sig .tc .vmem S3x5120x512 .fp8e4m3) : sProp 𝕄 :=
  iprop(∃ f : Buf (Elt F) (M.view.loc (c : Thread nD τ)), M.view.loc (c : Thread nD τ) ↦[Finset.univ \ Finset.univ.biUnion fun s : Fin 3 => (dA M s).view.set]{fullShare} f)
def spareB (M : Memref sig .tc .vmem S3x512x5120 .fp8e4m3) : sProp 𝕄 :=
  iprop(∃ f : Buf (Elt F) (M.view.loc (c : Thread nD τ)), M.view.loc (c : Thread nD τ) ↦[Finset.univ \ Finset.univ.biUnion fun s : Fin 3 => (dB M s).view.set]{fullShare} f)

theorem ringA_iff (M : Memref sig .tc .vmem S3x5120x512 .fp8e4m3) :
    (iprop(∃ f : Buf (Elt F) (M.view.loc (c : Thread nD τ)), M.view.loc (c : Thread nD τ) ↦{fullShare} f) : sProp 𝕄)
      ⊣⊢ iprop(((∃ X, owns (c : Thread nD τ) (dA M 0) fullShare X) ∗ (∃ X, owns (c : Thread nD τ) (dA M 1) fullShare X) ∗ (∃ X, owns (c : Thread nD τ) (dA M 2) fullShare X)) ∗ spareA c M) := by
  have h0 := owns_iff (F := F) c (dA M 0)
  have h1 := owns_iff (F := F) c (dA M 1)
  have h2 := owns_iff (F := F) c (dA M 2)
  have hs := Ring.pieces_split_spare (Ix := Unit) (Name := ℕ) (U := Pipeline.UD sig nD τ) (Lvl := ℕ) (Val := Elt F) (ℓ := M.view.loc (c : Thread nD τ)) (fun s : Fin 3 => (dA M s).view.set) (fun s s' h => dA_disj M s s' h) (q := fullShare)
    (fun s f => (M.view.loc (c : Thread nD τ) ↦[(dA M s).view.set]{fullShare} f)) (fun _ _ => rfl)
  have hj := Ring.pieces_join_spare (Ix := Unit) (Name := ℕ) (U := Pipeline.UD sig nD τ) (Lvl := ℕ) (Val := Elt F) (ℓ := M.view.loc (c : Thread nD τ)) (fun s : Fin 3 => (dA M s).view.set) (fun s s' h => dA_disj M s s' h) (q := fullShare)
    (fun s f => (M.view.loc (c : Thread nD τ) ↦[(dA M s).view.set]{fullShare} f)) (fun _ _ => rfl)
  rw [Ring.bigSep_fin3] at hs hj
  unfold spareA
  constructor
  · iintro H
    ihave H' := hs $$ H
    icases H' with ⟨⟨H0, H1, H2⟩, HR⟩
    isplitr [HR]
    · isplitl [H0]; · iapply h0.2; iexact H0
      isplitl [H1]; · iapply h1.2; iexact H1
      iapply h2.2; iexact H2
    iexact HR
  · iintro ⟨⟨H0, H1, H2⟩, HR⟩
    iapply hj
    isplitr [HR]
    · isplitl [H0]; · iapply h0.1; iexact H0
      isplitl [H1]; · iapply h1.1; iexact H1
      iapply h2.1; iexact H2
    iexact HR

theorem ringB_iff (M : Memref sig .tc .vmem S3x512x5120 .fp8e4m3) :
    (iprop(∃ f : Buf (Elt F) (M.view.loc (c : Thread nD τ)), M.view.loc (c : Thread nD τ) ↦{fullShare} f) : sProp 𝕄)
      ⊣⊢ iprop(((∃ X, owns (c : Thread nD τ) (dB M 0) fullShare X) ∗ (∃ X, owns (c : Thread nD τ) (dB M 1) fullShare X) ∗ (∃ X, owns (c : Thread nD τ) (dB M 2) fullShare X)) ∗ spareB c M) := by
  have h0 := owns_iff (F := F) c (dB M 0)
  have h1 := owns_iff (F := F) c (dB M 1)
  have h2 := owns_iff (F := F) c (dB M 2)
  have hs := Ring.pieces_split_spare (Ix := Unit) (Name := ℕ) (U := Pipeline.UD sig nD τ) (Lvl := ℕ) (Val := Elt F) (ℓ := M.view.loc (c : Thread nD τ)) (fun s : Fin 3 => (dB M s).view.set) (fun s s' h => dB_disj M s s' h) (q := fullShare)
    (fun s f => (M.view.loc (c : Thread nD τ) ↦[(dB M s).view.set]{fullShare} f)) (fun _ _ => rfl)
  have hj := Ring.pieces_join_spare (Ix := Unit) (Name := ℕ) (U := Pipeline.UD sig nD τ) (Lvl := ℕ) (Val := Elt F) (ℓ := M.view.loc (c : Thread nD τ)) (fun s : Fin 3 => (dB M s).view.set) (fun s s' h => dB_disj M s s' h) (q := fullShare)
    (fun s f => (M.view.loc (c : Thread nD τ) ↦[(dB M s).view.set]{fullShare} f)) (fun _ _ => rfl)
  rw [Ring.bigSep_fin3] at hs hj
  unfold spareB
  constructor
  · iintro H
    ihave H' := hs $$ H
    icases H' with ⟨⟨H0, H1, H2⟩, HR⟩
    isplitr [HR]
    · isplitl [H0]; · iapply h0.2; iexact H0
      isplitl [H1]; · iapply h1.2; iexact H1
      iapply h2.2; iexact H2
    iexact HR
  · iintro ⟨⟨H0, H1, H2⟩, HR⟩
    iapply hj
    isplitr [HR]
    · isplitl [H0]; · iapply h0.1; iexact H0
      isplitl [H1]; · iapply h1.1; iexact H1
      iapply h2.1; iexact H2
    iexact HR

/-- A slot of the three rings at anything. -/
theorem ringp_iff (s : Fin 3) : (iprop(∃ W, ringp c s.val s.isLt W) : sProp 𝕄) ⊣⊢
    iprop((∃ X, owns (c : Thread nD τ) (dA M13 s) fullShare X) ∗ (∃ X, owns (c : Thread nD τ) (dA M14 s) fullShare X) ∗ (∃ X, owns (c : Thread nD τ) (dB M15 s) fullShare X)) := by
  unfold ringp
  constructor
  · iintro ⟨%W, H0, H1, H2⟩
    isplitl [H0]; · iexists _; iexact H0
    isplitl [H1]; · iexists _; iexact H1
    iexists _; iexact H2
  · iintro ⟨⟨%X, H0⟩, ⟨%Y, H1⟩, ⟨%Z, H2⟩⟩
    iexists (⟨X, Y, Z⟩ : Wts F)
    isplitl [H0]; · iexact H0
    isplitl [H1]; · iexact H1
    iexact H2

/-- The weights whole are the three slots' thirds of them. -/
theorem arrs_thirds (A : Arr F c) : (arrs c A fullShare : sProp 𝕄) ⊣⊢ iprop(arrs c A (qs 0) ∗ arrs c A (qs 1) ∗ arrs c A (qs 2)) := by
  have h5 := Ring.pointsTo_thirds (Ix := Unit) (Name := ℕ) (U := Pipeline.UD sig nD τ) (Lvl := ℕ) (Val := Elt F) (I := Finset.univ) (ℓ := M5.view.loc (c : Thread nD τ)) fullShare A.g
  have h6 := Ring.pointsTo_thirds (Ix := Unit) (Name := ℕ) (U := Pipeline.UD sig nD τ) (Lvl := ℕ) (Val := Elt F) (I := Finset.univ) (ℓ := M6.view.loc (c : Thread nD τ)) fullShare A.u
  have h7 := Ring.pointsTo_thirds (Ix := Unit) (Name := ℕ) (U := Pipeline.UD sig nD τ) (Lvl := ℕ) (Val := Elt F) (I := Finset.univ) (ℓ := M7.view.loc (c : Thread nD τ)) fullShare A.d
  unfold arrs
  constructor
  · iintro ⟨HA, HB, HC⟩
    ihave HA := h5.1 $$ HA
    ihave HB := h6.1 $$ HB
    ihave HC := h7.1 $$ HC
    icases HA with ⟨A0, A1, A2⟩
    icases HB with ⟨B0, B1, B2⟩
    icases HC with ⟨C0, C1, C2⟩
    isplitl [A0 B0 C0]
    · isplitl [A0]; · iexact A0
      isplitl [B0]; · iexact B0
      iexact C0
    isplitl [A1 B1 C1]
    · isplitl [A1]; · iexact A1
      isplitl [B1]; · iexact B1
      iexact C1
    isplitl [A2]; · iexact A2
    isplitl [B2]; · iexact B2
    iexact C2
  · iintro ⟨⟨A0, B0, C0⟩, ⟨A1, B1, C1⟩, A2, B2, C2⟩
    isplitl [A0 A1 A2]
    · iapply h5.2
      isplitl [A0]; · iexact A0
      isplitl [A1]; · iexact A1
      iexact A2
    isplitl [B0 B1 B2]
    · iapply h6.2
      isplitl [B0]; · iexact B0
      isplitl [B1]; · iexact B1
      iexact B2
    iapply h7.2
    isplitl [C0]; · iexact C0
    isplitl [C1]; · iexact C1
    iexact C2

/-- A ring buffer whole at anything. -/
abbrev wholeA (M : Memref sig .tc .vmem S3x5120x512 .fp8e4m3) : sProp 𝕄 := iprop(∃ f : Buf (Elt F) (M.view.loc (c : Thread nD τ)), M.view.loc (c : Thread nD τ) ↦{fullShare} f)
abbrev wholeB (M : Memref sig .tc .vmem S3x512x5120 .fp8e4m3) : sProp 𝕄 := iprop(∃ f : Buf (Elt F) (M.view.loc (c : Thread nD τ)), M.view.loc (c : Thread nD τ) ↦{fullShare} f)

/-- The rings, the semaphores and the weights are the three free slots and what is beside the slots. -/
theorem slots_iff (A : Arr F c) :
    (iprop(wholeA c M13 ∗ wholeA c M14 ∗ wholeB c M15 ∗ (semVal ((c : Thread nD τ), SemLoc.dma (smAt 0)) 0 ∗ semVal ((c : Thread nD τ), SemLoc.dma (smAt 1)) 0 ∗ semVal ((c : Thread nD τ), SemLoc.dma (smAt 2)) 0)
        ∗ arrs c A fullShare) : sProp 𝕄)
      ⊣⊢ iprop((free c A 0 ∗ free c A 1 ∗ free c A 2) ∗ (spareA c M13 ∗ spareA c M14 ∗ spareB c M15)) := by
  have h13 := ringA_iff (F := F) c M13
  have h14 := ringA_iff (F := F) c M14
  have h15 := ringB_iff (F := F) c M15
  have hr0 := ringp_iff (F := F) c 0
  have hr1 := ringp_iff (F := F) c 1
  have hr2 := ringp_iff (F := F) c 2
  have hA := arrs_thirds c A
  unfold free
  constructor
  · iintro ⟨H13, H14, H15, ⟨S0, S1, S2⟩, HA⟩
    ihave H13 := h13.1 $$ H13
    ihave H14 := h14.1 $$ H14
    ihave H15 := h15.1 $$ H15
    ihave HA := hA.1 $$ HA
    icases H13 with ⟨⟨A0, A1, A2⟩, AR⟩
    icases H14 with ⟨⟨B0, B1, B2⟩, BR⟩
    icases H15 with ⟨⟨C0, C1, C2⟩, CR⟩
    icases HA with ⟨D0, D1, D2⟩
    isplitr [AR BR CR]
    · isplitl [A0 B0 C0 S0 D0]
      · isplitl [A0 B0 C0]
        · iapply hr0.2
          isplitl [A0]; · iexact A0
          isplitl [B0]; · iexact B0
          iexact C0
        isplitl [S0]; · iexact S0
        iexact D0
      isplitl [A1 B1 C1 S1 D1]
      · isplitl [A1 B1 C1]
        · iapply hr1.2
          isplitl [A1]; · iexact A1
          isplitl [B1]; · iexact B1
          iexact C1
        isplitl [S1]; · iexact S1
        iexact D1
      isplitl [A2 B2 C2]
      · iapply hr2.2
        isplitl [A2]; · iexact A2
        isplitl [B2]; · iexact B2
        iexact C2
      isplitl [S2]; · iexact S2
      iexact D2
    isplitl [AR]; · iexact AR
    isplitl [BR]; · iexact BR
    iexact CR
  · iintro ⟨⟨⟨R0, S0, D0⟩, ⟨R1, S1, D1⟩, R2, S2, D2⟩, AR, BR, CR⟩
    ihave R0 := hr0.1 $$ R0
    ihave R1 := hr1.1 $$ R1
    ihave R2 := hr2.1 $$ R2
    icases R0 with ⟨A0, B0, C0⟩
    icases R1 with ⟨A1, B1, C1⟩
    icases R2 with ⟨A2, B2, C2⟩
    isplitl [A0 A1 A2 AR]
    · iapply h13.2
      isplitr [AR]
      · isplitl [A0]; · iexact A0
        isplitl [A1]; · iexact A1
        iexact A2
      iexact AR
    isplitl [B0 B1 B2 BR]
    · iapply h14.2
      isplitr [BR]
      · isplitl [B0]; · iexact B0
        isplitl [B1]; · iexact B1
        iexact B2
      iexact BR
    isplitl [C0 C1 C2 CR]
    · iapply h15.2
      isplitr [CR]
      · isplitl [C0]; · iexact C0
        isplitl [C1]; · iexact C1
        iexact C2
      iexact CR
    isplitl [S0 S1 S2]
    · isplitl [S0]; · iexact S0
      isplitl [S1]; · iexact S1
      iexact S2
    iapply hA.2
    isplitl [D0]; · iexact D0
    isplitl [D1]; · iexact D1
    iexact D2

/-- The fifteen buffers, one by one. -/
theorem stp_eq (M : Mems) (σ : St F) : (stp c M σ : sProp 𝕄) =
    iprop(owns (c : Thread nD τ) M.a0 fullShare (σ 0) ∗ owns (c : Thread nD τ) M.a1 fullShare (σ 1) ∗ owns (c : Thread nD τ) M.a2 fullShare (σ 2)
      ∗ owns (c : Thread nD τ) M.a3 fullShare (σ 3) ∗ owns (c : Thread nD τ) M.a4 fullShare (σ 4) ∗ owns (c : Thread nD τ) M.a8 fullShare (σ 5)
      ∗ owns (c : Thread nD τ) M.a9 fullShare (σ 6) ∗ owns (c : Thread nD τ) M.a10 fullShare (σ 7) ∗ owns (c : Thread nD τ) M.a11 fullShare (σ 8)
      ∗ owns (c : Thread nD τ) M.a12 fullShare (σ 9) ∗ owns (c : Thread nD τ) M16 fullShare (σ 10) ∗ owns (c : Thread nD τ) M17 fullShare (σ 11)
      ∗ owns (c : Thread nD τ) M19 fullShare (σ 12) ∗ owns (c : Thread nD τ) M20 fullShare (σ 13) ∗ owns (c : Thread nD τ) M21 fullShare (σ 14)) := by
  unfold stp
  rw [BI.bigSep_eq_bigSepL_of_eq [0, 1, 2, 3, 4, 5, 6, 7, 8, 9, 10, 11, 12, 13, 14] (by decide) (by decide)]
  rfl
end Rings

end Cert.Kernel.Hand
end
-- ==== Proof.Kernel.Inputs.lean ====
/-
  The body leaves its inputs as they are.
-/
module

public import proofs.«01_k».proof.Proof.Kernel.Run

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A property kept by every trip holds after any number of them. -/
theorem itr_inv {α : Type} {n : ℕ} (f : Fin n → α → α) (P : α → Prop) (x : α) (h0 : P x) (hs : ∀ k a, P a → P (f k a)) (k : ℕ) : P (itr f x k) := by
  induction k with
  | zero => exact h0
  | succ k ih =>
    rw [itr]; split
    · exact hs _ _ ih
    · exact ih

theorem set_lo (σ : St F) {i : Fin 15} (hi : i.val < 5) (j : Fin 15) (hj : 5 ≤ j.val) (X) : σ.set j X i = σ i :=
  Function.update_of_ne (fun e => by subst e; omega) _ _

section Keep
variable {i : Fin 15} (hi : i.val < 5)
include hi

theorem sqV_in (k) (p : St F × FVec F S112x128 .f32) : (sqV k p).1 i = p.1 i := set_lo _ hi 11 (by decide) _
theorem normGroupV_in (r : FVec F S112x1 .f32) (k j) (σ : St F) : normGroupV r k j σ i = σ i := by
  exact (set_lo _ hi 10 (by decide) _).trans (set_lo _ hi 6 (by decide) _)
theorem normV_in (lanes) (r : FVec F S112x1 .f32) (k) (p : St F × FVec F S112x128 .f32) : (normV lanes r k p).1 i = p.1 i := by
  exact (normGroupV_in hi _ _ _ _).trans (normGroupV_in hi _ _ _ _)
theorem normEndV_in (v : FVec F S112x128 .f32) (σ : St F) : normEndV v σ i = σ i := by
  exact (set_lo _ hi 7 (by decide) _).trans ((set_lo _ hi 14 (by decide) _).trans (set_lo _ hi 14 (by decide) _))
theorem sqP_in (σ : St F) (n : ℕ) : (sqP σ n).1 i = σ i := by
  unfold sqP
  exact itr_inv sqV (fun p => p.1 i = σ i) _ rfl (fun k a h => (sqV_in hi k a).trans h) n
theorem normP_in (lanes) (r : FVec F S112x1 .f32) (σ : St F) (n : ℕ) : (normP lanes r σ n).1 i = σ i := by
  unfold normP
  exact itr_inv (normV lanes r) (fun p => p.1 i = σ i) _ rfl (fun k a h => (normV_in hi lanes r k a).trans h) n
theorem headV_in (σ : St F) : headV σ i = σ i := by
  unfold headV
  exact (normEndV_in hi _ _).trans ((normP_in hi _ _ _ _).trans (sqP_in hi _ _))
theorem zeroV_in (σ : St F) : zeroV σ i = σ i := set_lo _ hi 13 (by decide) _
theorem midV_in (σ : St F) : midV σ i = σ i := by
  exact (set_lo _ hi 9 (by decide) _).trans (set_lo _ hi 9 (by decide) _)
theorem outP_in (σ : St F) (n) : outP σ n i = σ i :=
  itr_inv outV (fun a => a i = σ i) _ rfl (fun k a h => (set_lo _ hi 5 (by decide) _).trans h) _
theorem quantV_in (lanes) (k lb) (v : FVec F S112x128 .f32) (σ : St F) : quantV lanes k lb v σ i = σ i := by
  exact (set_lo _ hi 13 (by decide) _).trans ((set_lo _ hi 13 (by decide) _).trans ((set_lo _ hi 12 (by decide) _).trans (set_lo _ hi 8 (by decide) _)))
theorem downAllV_in (w : Vec F S512x5120 .fp8e4m3) (k) (l) (σ : St F) : downAllV w k l σ i = σ i := by
  induction l generalizing σ with
  | nil => rfl
  | cons n l ih => exact (ih _).trans (set_lo _ hi 11 (by decide) _)
theorem stepV_in (lanes) (W : Wts F) (k) (σ : St F) : stepV lanes W k σ i = σ i := by
  exact (downAllV_in hi _ _ _ _).trans ((quantV_in hi _ _ _ _ _).trans ((quantV_in hi _ _ _ _ _).trans ((quantV_in hi _ _ _ _ _).trans (quantV_in hi _ _ _ _ _))))
theorem finV_in (c : Dev nD) (A : Arr F c) (σ : St F) : finV c A σ i = σ i := by
  unfold finV
  rw [outP_in hi, midV_in hi]
  refine (itr_inv _ (fun a => a i = σ i) _ ?_ (fun k a h => (stepV_in hi _ _ k a).trans h) _)
  rw [zeroV_in hi, headV_in hi]
end Keep

end Cert.Kernel.Hand
end
-- ==== Proof.Kernel.Core.lean ====
/-
  The body at the one point from what the launch gives it, and the run of main.
-/
module

public import proofs.«01_k».proof.Proof.Kernel.Share
public import proofs.«01_k».proof.Proof.Kernel.Inputs
public import proofs.«01_k».proof.Proof.Gen.Kernel.Frame
public import Idealize.ShloMosaic.Lib.Pipeline.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own semaphores and the arrays left in place -/

abbrev osem0 : Fin 3 → SemLoc sig := ![SemLoc.dma 10, SemLoc.dma 11, SemLoc.dma 12]
theorem ownSemFacts0 : Pipeline.OwnSemFacts spec0 osem0 := by decide
theorem smAt0 : smAt 0 = 10 := by decide
theorem smAt1 : smAt 1 = 11 := by decide
theorem smAt2 : smAt 2 = 12 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (smAt 0)) 0 ∗ semVal ((c : Thread nD τ), SemLoc.dma (smAt 1)) 0 ∗ semVal ((c : Thread nD τ), SemLoc.dma (smAt 2)) 0) := by
  rw [Pipeline.ownSems0_eq_of_list c osem0 [0, 1, 2] (by decide) (by decide), smAt0, smAt1, smAt2]; rfl

def H0 : Finset (Ref sig .tc) := {main_arg5, main_arg6, main_arg7}
theorem H0_sub : H0 ⊆ Pipeline.restRefs sig spec0 := by decide

/-- The weights as the call finds them. -/
def wts (c : Dev nD) : Arr F c := ⟨V m c main_arg5, V m c main_arg6, V m c main_arg7⟩

theorem hbmPts0_eq (c : Dev nD) :
    (bigSep H0 (fun b => ((c : Thread nD τ).loc b) ↦{fullShare} V m c b) : sProp 𝕄) = arrs c (wts m c) fullShare := by
  rw [BI.bigSep_eq_bigSepL_of_eq [main_arg5, main_arg6, main_arg7] (by decide) (by decide)]; rfl

/-- The unused scratch buffer at anything. -/
abbrev spare18 (c : Dev nD) : sProp 𝕄 := iprop(∃ f : Buf (Elt F) (M18.view.loc (c : Thread nD τ)), M18.view.loc (c : Thread nD τ) ↦{fullShare} f)

theorem PhiD0_eq (c : Dev nD) :
    (Pipeline.ΦD osem0 spec0 H0 (V m) c : sProp 𝕄)
      = iprop(iprop(wholeA c M13 ∗ wholeA c M14 ∗ wholeB c M15 ∗ (∃ d, owns (c : Thread nD τ) M16 fullShare d) ∗ (∃ d, owns (c : Thread nD τ) M17 fullShare d) ∗ spare18 c
            ∗ (∃ d, owns (c : Thread nD τ) M19 fullShare d) ∗ (∃ d, owns (c : Thread nD τ) M20 fullShare d) ∗ (∃ d, owns (c : Thread nD τ) M21 fullShare d))
          ∗ (∃ r, prngReg c r)
          ∗ iprop(semVal ((c : Thread nD τ), SemLoc.dma (smAt 0)) 0 ∗ semVal ((c : Thread nD τ), SemLoc.dma (smAt 1)) 0 ∗ semVal ((c : Thread nD τ), SemLoc.dma (smAt 2)) 0)
          ∗ arrs c (wts m c) fullShare) := by
  rw [Pipeline.ΦD_eq, scopedRest0_eq, ownSems00_eq, hbmPts0_eq]; simp only [M16, M17, M19, M20, M21, owns_whole]; try rfl

/-! ## The body -/

abbrev memsAt (t : Fin cfg0.N) : Mems := ⟨win0_0.stage (cfg0.slots t 0), win0_1.stage (cfg0.slots t 1), win0_2.stage (cfg0.slots t 2), win0_3.stage (cfg0.slots t 3), win0_4.stage (cfg0.slots t 4),
  win0_5.stage (cfg0.slots t 5), win0_6.stage (cfg0.slots t 6), win0_7.stage (cfg0.slots t 7), win0_8.stage (cfg0.slots t 8), win0_9.stage (cfg0.slots t 9)⟩

/-- What the staged inputs hold. -/
structure Ins (c : Dev nD) (t : Fin cfg0.N) (σ : St F) : Prop where
  i0 : σ 0 = iblk m c 0 t
  i1 : σ 1 = iblk m c 1 t
  i2 : σ 2 = iblk m c 2 t
  i3 : σ 3 = iblk m c 3 t
  i4 : σ 4 = iblk m c 4 t

/-- The staged inputs held at their blocks. -/
abbrev insP (c : Dev nD) (t : Fin cfg0.N) : sProp 𝕄 :=
  iprop(owns (c : Thread nD τ) (memsAt t).a0 fullShare (iblk m c 0 t) ∗ owns (c : Thread nD τ) (memsAt t).a1 fullShare (iblk m c 1 t) ∗ owns (c : Thread nD τ) (memsAt t).a2 fullShare (iblk m c 2 t)
    ∗ owns (c : Thread nD τ) (memsAt t).a3 fullShare (iblk m c 3 t) ∗ owns (c : Thread nD τ) (memsAt t).a4 fullShare (iblk m c 4 t))

/-- The outputs held at some contents. -/
abbrev outsP (c : Dev nD) (t : Fin cfg0.N) (σ : St F) : sProp 𝕄 :=
  iprop(owns (c : Thread nD τ) (memsAt t).a8 fullShare (σ 5) ∗ owns (c : Thread nD τ) (memsAt t).a9 fullShare (σ 6) ∗ owns (c : Thread nD τ) (memsAt t).a10 fullShare (σ 7)
    ∗ owns (c : Thread nD τ) (memsAt t).a11 fullShare (σ 8) ∗ owns (c : Thread nD τ) (memsAt t).a12 fullShare (σ 9))

/-- Contents for the fifteen buffers. -/
def mkSt (x0 x1 x2 : Vec F S40x136 .f32) (x3 : Vec F S112x5120 .f32) (x4 : Vec F S1x5120 .f32) (x5 : Vec F S100x5120 .bf16) (x6 : Vec F S100x5120 .fp8e4m3) (x7 : Vec F S40x100 .f32)
    (x8 : Vec F S100x17408 .fp8e4m3) (x9 : Vec F S136x100 .f32) (x10 : Vec F S112x5120 .bf16) (x11 : Vec F S112x5120 .f32) (x12 : Vec F S112x512 .bf16) (x13 : Vec F S2x128x128 .f32)
    (x14 : Vec F S128x128 .f32) : St F
  | 0 => x0 | 1 => x1 | 2 => x2 | 3 => x3 | 4 => x4 | 5 => x5 | 6 => x6 | 7 => x7 | 8 => x8 | 9 => x9 | 10 => x10 | 11 => x11 | 12 => x12 | 13 => x13 | 14 => x14

theorem runs_wp {c : Dev nD} {α : Type} {pre post : sProp 𝕄} {P : Pr F α} {v : α} (h : RunsTo c pre P v post) (R : sProp 𝕄) :
    iprop(pre ∗ (post -∗ R)) ⊢ wpp c P (fun _ => R) := by
  have h' := h α (fun x => Pure.pure x) (fun _ => R)
  rw [bind_pure] at h'
  refine BIBase.Entails.trans ?_ h'
  iintro ⟨H, Hk⟩
  isplitl [H]; · iexact H
  iintro Hp
  unfold wpp; rw [wp_pure]; imodintro
  iapply Hk; iexact Hp

theorem sound_core (c : Dev nD) (t : Fin cfg0.N) :
    iprop(Pipeline.ΦD osem0 spec0 H0 (V m) c ∗ owe c ∗ insP m c t ∗ (∃ d, owns (c : Thread nD τ) (memsAt t).a8 fullShare d) ∗ (∃ d, owns (c : Thread nD τ) (memsAt t).a9 fullShare d)
        ∗ (∃ d, owns (c : Thread nD τ) (memsAt t).a10 fullShare d) ∗ (∃ d, owns (c : Thread nD τ) (memsAt t).a11 fullShare d) ∗ (∃ d, owns (c : Thread nD τ) (memsAt t).a12 fullShare d))
      ⊢ wp frame (wpE (defs₀ (F := F)) Variants.none c none) Set.univ (bodyAt0 t)
          (fun _ => iprop(Pipeline.ΦD osem0 spec0 H0 (V m) c ∗ owe c ∗ insP m c t ∗ ∃ σ, ⌜Ins m c t σ⌝ ∗ outsP c t (finV c (wts m c) σ))) := by
  rw [PhiD0_eq]
  iintro ⟨⟨⟨H13, H14, H15, ⟨%x10, H16⟩, ⟨%x11, H17⟩, H18, ⟨%x12, H19⟩, ⟨%x13, H20⟩, ⟨%x14, H21⟩⟩, Hg, HQ, HA⟩, HO, ⟨I0, I1, I2, I3, I4⟩, ⟨%x5, O5⟩, ⟨%x6, O6⟩, ⟨%x7, O7⟩, ⟨%x8, O8⟩, ⟨%x9, O9⟩⟩
  ihave HF := (slots_iff c (wts m c)).1 $$ [H13 H14 H15 HQ HA]
  · isplitl [H13]; · iexact H13
    isplitl [H14]; · iexact H14
    isplitl [H15]; · iexact H15
    isplitl [HQ]; · iexact HQ
    iexact HA
  icases HF with ⟨HF, HR⟩
  have hrun := run_mlp c (memsAt t) (wts m c) (hstage0_0 0) (hstage0_1 0) (hstage0_2 0) (hstage0_3 0) (hstage0_4 0) (hstage0_5 0) (hstage0_6 0) (hstage0_7 0) (hstage0_8 0) (hstage0_9 0)
    (mkSt (iblk m c 0 t) (iblk m c 1 t) (iblk m c 2 t) (iblk m c 3 t) (iblk m c 4 t) x5 x6 x7 x8 x9 x10 x11 x12 x13 x14)
  have hins : Ins m c t (mkSt (iblk m c 0 t) (iblk m c 1 t) (iblk m c 2 t) (iblk m c 3 t) (iblk m c 4 t) x5 x6 x7 x8 x9 x10 x11 x12 x13 x14) := ⟨rfl, rfl, rfl, rfl, rfl⟩
  generalize hσ : mkSt (iblk m c 0 t) (iblk m c 1 t) (iblk m c 2 t) (iblk m c 3 t) (iblk m c 4 t) x5 x6 x7 x8 x9 x10 x11 x12 x13 x14 = σ at hrun hins
  have hst : (stp c (memsAt t) σ : sProp 𝕄) = _ := stp_eq c (memsAt t) σ
  have hfi : (stp c (memsAt t) (finV c (wts m c) σ) : sProp 𝕄) = _ := stp_eq c (memsAt t) (finV c (wts m c) σ)
  rw [finV_in (i := 0) (by decide), finV_in (i := 1) (by decide), finV_in (i := 2) (by decide), finV_in (i := 3) (by decide), finV_in (i := 4) (by decide), hins.i0, hins.i1, hins.i2, hins.i3, hins.i4] at hfi
  have hwp : iprop(((free c (wts m c) 0 ∗ free c (wts m c) 1 ∗ free c (wts m c) 2) ∗ owe c ∗ stp c (memsAt t) σ)
      ∗ (iprop((free c (wts m c) 0 ∗ free c (wts m c) 1 ∗ free c (wts m c) 2) ∗ owe c ∗ stp c (memsAt t) (finV c (wts m c) σ))
          -∗ iprop(Pipeline.ΦD osem0 spec0 H0 (V m) c ∗ owe c ∗ insP m c t ∗ ∃ σ, ⌜Ins m c t σ⌝ ∗ outsP c t (finV c (wts m c) σ))))
      ⊢ wpp c (bodyAt0 t) (fun _ => iprop(Pipeline.ΦD osem0 spec0 H0 (V m) c ∗ owe c ∗ insP m c t ∗ ∃ σ, ⌜Ins m c t σ⌝ ∗ outsP c t (finV c (wts m c) σ))) := runs_wp hrun _
  rw [PhiD0_eq] at hwp
  iapply hwp
  isplitl [HF HO I0 I1 I2 I3 I4 O5 O6 O7 O8 O9 H16 H17 H19 H20 H21]
  · isplitl [HF]; · iexact HF
    isplitl [HO]; · iexact HO
    rw [hst]
    subst hσ
    isplitl [I0]; · iexact I0
    isplitl [I1]; · iexact I1
    isplitl [I2]; · iexact I2
    isplitl [I3]; · iexact I3
    isplitl [I4]; · iexact I4
    isplitl [O5]; · iexact O5
    isplitl [O6]; · iexact O6
    isplitl [O7]; · iexact O7
    isplitl [O8]; · iexact O8
    isplitl [O9]; · iexact O9
    isplitl [H16]; · iexact H16
    isplitl [H17]; · iexact H17
    isplitl [H19]; · iexact H19
    isplitl [H20]; · iexact H20
    iexact H21
  rw [hfi]
  iintro ⟨HF, HO, I0, I1, I2, I3, I4, O5, O6, O7, O8, O9, H16, H17, H19, H20, H21⟩
  ihave HF := (slots_iff c (wts m c)).2 $$ [HF HR]
  · isplitl [HF]; · iexact HF
    iexact HR
  icases HF with ⟨H13, H14, H15, HQ, HA⟩
  isplitl [H13 H14 H15 H16 H17 H18 H19 H20 H21 Hg HQ HA]
  · isplitl [H13 H14 H15 H16 H17 H18 H19 H20 H21]
    · isplitl [H13]; · iexact H13
      isplitl [H14]; · iexact H14
      isplitl [H15]; · iexact H15
      isplitl [H16]; · iexists _; iexact H16
      isplitl [H17]; · iexists _; iexact H17
      isplitl [H18]; · iexact H18
      isplitl [H19]; · iexists _; iexact H19
      isplitl [H20]; · iexists _; iexact H20
      iexists _; iexact H21
    isplitl [Hg]; · iexact Hg
    isplitl [HQ]; · iexact HQ
    iexact HA
  isplitl [HO]; · iexact HO
  isplitl [I0 I1 I2 I3 I4]
  · isplitl [I0]; · iexact I0
    isplitl [I1]; · iexact I1
    isplitl [I2]; · iexact I2
    isplitl [I3]; · iexact I3
    iexact I4
  iexists σ
  isplitr; · ipureintro; exact hins
  isplitl [O5]; · iexact O5
  isplitl [O6]; · iexact O6
  isplitl [O7]; · iexact O7
  isplitl [O8]; · iexact O8
  iexact O9

end Cert.Kernel.Hand
end
-- ==== Proof.Kernel.Frame.lean ====
/-
  The run of main: the arguments unchanged, every semaphore at zero, and each result what the body's run leaves from its inputs.
-/
module

public import proofs.«01_k».proof.Proof.Kernel.Core
public import Idealize.ShloMosaic.Lib.Pipeline.DatRel
public import Idealize.ShloMosaic.Lib.Pipeline.ArrRel

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable [∀ e, Nonempty (Elt F e)]
variable (m : (ℓ : Loc nD τ sig) → Buf (Elt F) ℓ) (ρ : Dev nD → PrngReg)

/-! ## The proof data -/

/-- The outputs' windows, held to a relation. -/
def marked0 : Fin 10 → Bool
  | 0 => false | 1 => false | 2 => false | 3 => false | 4 => false | 5 => true | 6 => true | 7 => true | 8 => true | 9 => true

/-- What the body may leave in an output's window: what its run leaves from the staged inputs. -/
def Rl0 (c : Dev nD) : (w : Fin cfg0.W) → Fin cfg0.N → ((cfg0.win w).block.Idx → Elt F (cfg0.win w).elt) → Prop
  | 0 => fun _ _ => True | 1 => fun _ _ => True | 2 => fun _ _ => True | 3 => fun _ _ => True | 4 => fun _ _ => True
  | 5 => fun t X => ∃ σ, Ins m c t σ ∧ X = finV c (wts m c) σ 5
  | 6 => fun t X => ∃ σ, Ins m c t σ ∧ X = finV c (wts m c) σ 6
  | 7 => fun t X => ∃ σ, Ins m c t σ ∧ X = finV c (wts m c) σ 7
  | 8 => fun t X => ∃ σ, Ins m c t σ ∧ X = finV c (wts m c) σ 8
  | 9 => fun t X => ∃ σ, Ins m c t σ ∧ X = finV c (wts m c) σ 9

def dats (_ : Fin 1) (c : Dev nD) : Dat τ (Elt F) Unit ℕ (Pipeline.UD sig nD τ) ℕ cfg0 c where
  A w := V m c (Pipeline.arrRef spec0 w)
  after w t := match w with
    | 0 => iblk m c 0 t | 1 => iblk m c 1 t | 2 => iblk m c 2 t | 3 => iblk m c 3 t | 4 => iblk m c 4 t
    | 5 => Pipeline.Dat.unnamed (cfg := cfg0) 5 t | 6 => Pipeline.Dat.unnamed (cfg := cfg0) 6 t | 7 => Pipeline.Dat.unnamed (cfg := cfg0) 7 t
    | 8 => Pipeline.Dat.unnamed (cfg := cfg0) 8 t | 9 => Pipeline.Dat.unnamed (cfg := cfg0) 9 t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun t => rfl) t d).trans rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ Y, ⌜((dats m 0 c).toRRel marked0 (Rl0 m c)).Finds 5 t Y⌝ ∗ owns (c : Thread nD τ) (win0_5.stage (cfg0.slots t 5)) fullShare Y)
    ∗ (∃ Y, ⌜((dats m 0 c).toRRel marked0 (Rl0 m c)).Finds 6 t Y⌝ ∗ owns (c : Thread nD τ) (win0_6.stage (cfg0.slots t 6)) fullShare Y)
    ∗ (∃ Y, ⌜((dats m 0 c).toRRel marked0 (Rl0 m c)).Finds 7 t Y⌝ ∗ owns (c : Thread nD τ) (win0_7.stage (cfg0.slots t 7)) fullShare Y)
    ∗ (∃ Y, ⌜((dats m 0 c).toRRel marked0 (Rl0 m c)).Finds 8 t Y⌝ ∗ owns (c : Thread nD τ) (win0_8.stage (cfg0.slots t 8)) fullShare Y)
    ∗ (∃ Y, ⌜((dats m 0 c).toRRel marked0 (Rl0 m c)).Finds 9 t Y⌝ ∗ owns (c : Thread nD τ) (win0_9.stage (cfg0.slots t 9)) fullShare Y))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ (∃ X, ⌜Rl0 m c 5 t X⌝ ∗ owns (c : Thread nD τ) (win0_5.stage (cfg0.slots t 5)) fullShare X)
    ∗ (∃ X, ⌜Rl0 m c 6 t X⌝ ∗ owns (c : Thread nD τ) (win0_6.stage (cfg0.slots t 6)) fullShare X)
    ∗ (∃ X, ⌜Rl0 m c 7 t X⌝ ∗ owns (c : Thread nD τ) (win0_7.stage (cfg0.slots t 7)) fullShare X)
    ∗ (∃ X, ⌜Rl0 m c 8 t X⌝ ∗ owns (c : Thread nD τ) (win0_8.stage (cfg0.slots t 8)) fullShare X)
    ∗ (∃ X, ⌜Rl0 m c 9 t X⌝ ∗ owns (c : Thread nD τ) (win0_9.stage (cfg0.slots t 9)) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Pipeline.ΦD osem0 spec0 H0 (V m) c from rfl,
    show (dats m 0 c).owesAt () t.succ = (dats m 0 c).owesAt () t.castSucc from rfl,
    show (dats m 0 c).Φ t.castSucc = Pipeline.ΦD osem0 spec0 H0 (V m) c from rfl]
  unfold Dat.owesAt Pipeline.owesWithin
  rw [show (dats m 0 c).owed t.castSucc = 0 from rfl]
  simp only [before_0, before_1, before_2, before_3, before_4]
  refine BIBase.Entails.trans ?_ ((sound_core m c t).trans (wp_mono _ _ _ fun _ => ?_))
  · iintro ⟨HP, ⟨%W, -, HO⟩, ⟨%d0, I0⟩, ⟨%d1, I1⟩, ⟨%d2, I2⟩, ⟨%d3, I3⟩, ⟨%d4, I4⟩, ⟨%x5, -, O5⟩, ⟨%x6, -, O6⟩, ⟨%x7, -, O7⟩, ⟨%x8, -, O8⟩, ⟨%x9, -, O9⟩⟩
    isplitl [HP]; · iexact HP
    isplitl [HO]; · unfold owe; iexists W; iexact HO
    isplitl [I0 I1 I2 I3 I4]
    · isplitl [I0]; · iexact I0
      isplitl [I1]; · iexact I1
      isplitl [I2]; · iexact I2
      isplitl [I3]; · iexact I3
      iexact I4
    isplitl [O5]; · iexists x5; iexact O5
    isplitl [O6]; · iexists x6; iexact O6
    isplitl [O7]; · iexists x7; iexact O7
    isplitl [O8]; · iexists x8; iexact O8
    iexists x9; iexact O9
  · unfold owe
    iintro ⟨HP, ⟨%W, HO⟩, ⟨I0, I1, I2, I3, I4⟩, ⟨%σ, %hσ, O5, O6, O7, O8, O9⟩⟩
    isplitl [HP]; · iexact HP
    isplitl [HO]
    · iexists W; isplitr; · ipureintro; exact fun _ _ => Or.inl trivial
      iexact HO
    isplitl [I0]; · iexact I0
    isplitl [I1]; · iexact I1
    isplitl [I2]; · iexact I2
    isplitl [I3]; · iexact I3
    isplitl [I4]; · iexact I4
    isplitl [O5]
    · iexists _; isplitr; swap; · iexact O5
      ipureintro; exact ⟨σ, hσ, rfl⟩
    isplitl [O6]
    · iexists _; isplitr; swap; · iexact O6
      ipureintro; exact ⟨σ, hσ, rfl⟩
    isplitl [O7]
    · iexists _; isplitr; swap; · iexact O7
      ipureintro; exact ⟨σ, hσ, rfl⟩
    isplitl [O8]
    · iexists _; isplitr; swap; · iexact O8
      ipureintro; exact ⟨σ, hσ, rfl⟩
    iexists _; isplitr; swap; · iexact O9
    ipureintro; exact ⟨σ, hσ, rfl⟩

theorem defs₀_row (t : Fin cfg0.N) : defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ marked0 (Rl0 m c) := fun t => by
  rw [bigSep_W0, bigSep_W0, defs₀_row]
  exact triple_restated (sound_body m c t) rfl .rfl fun _ => .rfl

/-! ## The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The data of the run, core by core. -/
abbrev rdat (c : Dev nD) := (dats m 0 c).toRRel marked0 (Rl0 m c)

set_option backward.isDefEq.respectTransparency.types false in
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_dma (Q' := _) cfgs (0 : Fin 1) launch0 osem0 defs₀ Variants.none (rdat m) ownSemFacts0 H0 H0_sub m ρ main
    (hbody := fun c => (body_obligation m c).toRRel) (hshare := fun c => (dats m 0 c).share_full fun _ => rfl)
    (howed := fun _ _ => rfl) (V := V m) (hmain := hmainD m Variants.none) (hA := A_eq m)
    (hin := fun _ => .rfl) (hout := fun _ => .rfl)

variable {m}

/-- The arguments after the run. -/
theorem args_kept {r : PUnit × MemSt nD τ sig (Elt F)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  have key : ∀ w : Fin cfg0.W, (cfg0.win w).isOut = false → r.2.mem (((cfgs 0).spec w).arr.view.loc (c.tc : Thread nD τ)) = V m c (Pipeline.arrRef spec0 w) := fun w hw => by
    have := (h c).1 w
    rw [Pipeline.RDat.ArrAt_in _ w hw] at this
    exact this
  ⟨(key 0 rfl).trans (V_main_arg0 m c), (key 1 rfl).trans (V_main_arg1 m c),
    ((h c).2 main_arg2 (Pipeline.mem_restRefs_of main_arg2 (by decide) (by decide))).trans (V_main_arg2 m c),
    (key 3 rfl).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

end Cert.Kernel.Hand
end
-- ==== Proof.KernelIdeal.Ring.lean ====
/-
  The weight ring of the kernel: three slots of `arg13`, `arg14` and `arg15`, each filled by three transfers counted on the
  slot's one semaphore, and what a slot holds before and after its wait.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's user algebra: the pipeline library's beside the transfers' counters. -/
local notation "𝕄" => MT nD τ sig Unit (Elt F) ℕ (Pipeline.UD sig nD τ) ℕ

/-! ## The operands -/

abbrev M5 : Memref sig .tc .hbm S5120x17408 .fp8e4m3 := Memref.whole main_arg5
abbrev M6 : Memref sig .tc .hbm S5120x17408 .fp8e4m3 := Memref.whole main_arg6
abbrev M7 : Memref sig .tc .hbm S17408x5120 .fp8e4m3 := Memref.whole main_arg7
abbrev M13 : Memref sig .tc .vmem S3x5120x512 .fp8e4m3 := Memref.whole cc0_scratch0
abbrev M14 : Memref sig .tc .vmem S3x5120x512 .fp8e4m3 := Memref.whole cc0_scratch1
abbrev M15 : Memref sig .tc .vmem S3x512x5120 .fp8e4m3 := Memref.whole cc0_scratch2
abbrev M16 : Memref sig .tc .vmem S112x5120 .bf16 := Memref.whole cc0_scratch3
abbrev M17 : Memref sig .tc .vmem S112x5120 .f32 := Memref.whole cc0_scratch4
abbrev M18 : Memref sig .tc .vmem S112x512 .f32 := Memref.whole cc0_scratch5
abbrev M19 : Memref sig .tc .vmem S112x512 .bf16 := Memref.whole cc0_scratch6
abbrev M20 : Memref sig .tc .vmem S2x128x128 .f32 := Memref.whole cc0_scratch7
abbrev M21 : Memref sig .tc .vmem S128x128 .f32 := Memref.whole cc0_scratch8

/-- The contents a memref's buffer can hold. -/
abbrev Cont (c : Dev nD) {sp : Space} {S : Shape} {e : EltTy} (M : Memref sig .tc sp S e) : Type := Buf (Elt F) (M.view.loc (c : Thread nD τ))
/-- A memref's elements held at share `q`, the buffer's contents `f`. -/
abbrev own (c : Dev nD) {sp : Space} {S : Shape} {e : EltTy} (M : Memref sig .tc sp S e) (q : PosShare TreeShare) (f : Cont (F := F) c M) : sProp 𝕄 :=
  M.view.loc (c : Thread nD τ) ↦[M.view.set]{q} f

/-! ## The transfers' ends, as printed -/

abbrev slotA (M : Memref sig .tc .vmem S3x5120x512 .fp8e4m3) (o : Fin 3 → ℕ) (h : ∀ a, o a + S1x5120x512.size a ≤ S3x5120x512.size a) :
    Memref sig .tc .vmem S5120x512 .fp8e4m3 :=
  (M.slice (Rect.unit (s := S3x5120x512) o S1x5120x512.size h) (fun _ => rfl)).squeeze S5120x512 squeezes_S1x5120x512_S5120x512
abbrev slotB (M : Memref sig .tc .vmem S3x512x5120 .fp8e4m3) (o : Fin 3 → ℕ) (h : ∀ a, o a + S1x512x5120.size a ≤ S3x512x5120.size a) :
    Memref sig .tc .vmem S512x5120 .fp8e4m3 :=
  (M.slice (Rect.unit (s := S3x512x5120) o S1x512x5120.size h) (fun _ => rfl)).squeeze S512x5120 squeezes_S1x512x5120_S512x5120
abbrev srcA (M : Memref sig .tc .hbm S5120x17408 .fp8e4m3) (o : Fin 2 → ℕ) (h : ∀ a, o a + S5120x512.size a ≤ S5120x17408.size a) :
    Memref sig .tc .hbm S5120x512 .fp8e4m3 :=
  M.slice (Rect.unit (s := S5120x17408) o S5120x512.size h) (fun _ => rfl)
abbrev srcB (M : Memref sig .tc .hbm S17408x5120 .fp8e4m3) (o : Fin 2 → ℕ) (h : ∀ a, o a + S512x5120.size a ≤ S17408x5120.size a) :
    Memref sig .tc .hbm S512x5120 .fp8e4m3 :=
  M.slice (Rect.unit (s := S17408x5120) o S512x5120.size h) (fun _ => rfl)
abbrev semAt (o : Fin 1 → ℕ) (h : ∀ a, o a + S1.size a ≤ S3.size a) : DmaSem sig :=
  ((cc0_scratch9.slice (Rect.unit (s := S3) o S1.size h)).squeeze S_ squeezes_S1_S_).sem

/-- A slot's window with a weight tile landed in it. -/
abbrev landA (c : Dev nD) (M : Memref sig .tc .vmem S3x5120x512 .fp8e4m3) (N : Memref sig .tc .hbm S5120x17408 .fp8e4m3)
    (o : Fin 3 → ℕ) (h : ∀ a, o a + S1x5120x512.size a ≤ S3x5120x512.size a)
    (p : Fin 2 → ℕ) (hp : ∀ a, p a + S5120x512.size a ≤ S5120x17408.size a) (w : Cont (F := F) c N) : Cont (F := F) c (slotA M o h) :=
  (slotA M o h).view.writes (Elt F) (slotA M o h).view.junk [⟨Rect.whole S5120x512, ReadAs.same.apply ((srcA N p hp).view.read (Elt F) w)⟩]
abbrev landB (c : Dev nD) (M : Memref sig .tc .vmem S3x512x5120 .fp8e4m3) (N : Memref sig .tc .hbm S17408x5120 .fp8e4m3)
    (o : Fin 3 → ℕ) (h : ∀ a, o a + S1x512x5120.size a ≤ S3x512x5120.size a)
    (p : Fin 2 → ℕ) (hp : ∀ a, p a + S512x5120.size a ≤ S17408x5120.size a) (w : Cont (F := F) c N) : Cont (F := F) c (slotB M o h) :=
  (slotB M o h).view.writes (Elt F) (slotB M o h).view.junk [⟨Rect.whole S512x5120, ReadAs.same.apply ((srcB N p hp).view.read (Elt F) w)⟩]

/-- The three deliveries of a slot filled with step `p`'s tiles: gate, up and down. -/
def deliv (c : Dev nD) (q : PosShare TreeShare) (o : Fin 3 → ℕ) (h : ∀ a, o a + S1x5120x512.size a ≤ S3x5120x512.size a)
    (o' : Fin 3 → ℕ) (h' : ∀ a, o' a + S1x512x5120.size a ≤ S3x512x5120.size a)
    (p : Fin 2 → ℕ) (hp : ∀ a, p a + S5120x512.size a ≤ S5120x17408.size a)
    (p' : Fin 2 → ℕ) (hp' : ∀ a, p' a + S512x5120.size a ≤ S17408x5120.size a)
    (w5 : Cont (F := F) c M5) (w6 : Cont (F := F) c M6) (w7 : Cont (F := F) c M7) : Fin 3 → sProp 𝕄
  | 0 => iprop(own c (slotA M13 o h) fullShare (landA c M13 M5 o h p hp w5) ∗ own c (srcA M5 p hp) q w5)
  | 1 => iprop(own c (slotA M14 o h) fullShare (landA c M14 M6 o h p hp w6) ∗ own c (srcA M6 p hp) q w6)
  | 2 => iprop(own c (slotB M15 o' h') fullShare (landB c M15 M7 o' h' p' hp' w7) ∗ own c (srcB M7 p' hp') q w7)

instance deliv_storable (c : Dev nD) (q : PosShare TreeShare) (o : Fin 3 → ℕ) (h : ∀ a, o a + S1x5120x512.size a ≤ S3x5120x512.size a)
    (o' : Fin 3 → ℕ) (h' : ∀ a, o' a + S1x512x5120.size a ≤ S3x512x5120.size a)
    (p : Fin 2 → ℕ) (hp : ∀ a, p a + S5120x512.size a ≤ S5120x17408.size a)
    (p' : Fin 2 → ℕ) (hp' : ∀ a, p' a + S512x5120.size a ≤ S17408x5120.size a)
    (w5 : Cont (F := F) c M5) (w6 : Cont (F := F) c M6) (w7 : Cont (F := F) c M7) (t : Fin 3) :
    Storable (upEmb : UEmb _ 𝕄) (deliv c q o h o' h' p hp p' hp' w5 w6 w7 t) := by
  fin_cases t <;> simp only [deliv] <;> infer_instance

/-- One transfer's credit: the three transfers of a slot count the same. -/
abbrev credit : ℕ := (slotA M13 ![0, 0, 0] inb_S3x5120x512_S1x5120x512_0_0_0).view.amount (SemLoc.dma (semAt ![0] inb_S3_S1_0))

end Cert.KernelIdeal.Hand

end
-- ==== Proof.KernelIdeal.Clean.lean ====
/-
  The trip of the main loop written with uniform tile programs: what the printed body does, one list of tiles at a time.
-/
module

public import proofs.«01_k».proof.Proof.KernelIdeal.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The values -/

/-- A 128×128 block of a weight tile times its scale. -/
def blk (v : FVec F S128x128 .fp8e4m3) (s : Elt F .f32) : FVec F S128x128 .bf16 :=
  shapeCast S128x128 (mulf (shapeCast S8x16x128 (extf .bf16 v bitsLt_fp8e4m3_bf16) shapeCasts_S128x128_S8x16x128)
    (broadcastTo S8x16x128 (shapeCast S1x16x128 (truncf .bf16 (broadcast S16x128 s) bitsLt_bf16_f32) shapeCasts_S16x128_S1x16x128) broadcasts_S1x16x128_S8x16x128))
    shapeCasts_S8x16x128_S128x128
/-- A 256×256 weight tile with its four scales. -/
def wtile (w : Vec F S1x256x256 .fp8e4m3) (s00 s01 s10 s11 : Elt F .f32) : FVec F S256x256 .bf16 :=
  concatenate S256x256 0
    [⟨S128x256, concatenate S128x256 1
        [⟨S128x128, blk (extractStridedSlice S128x128 ![0, 0] (shapeCast S256x256 w shapeCasts_S1x256x256_S256x256) slices_S256x256_o0_0_S128x128) s00⟩,
         ⟨S128x128, blk (extractStridedSlice S128x128 ![0, 128] (shapeCast S256x256 w shapeCasts_S1x256x256_S256x256) slices_S256x256_o0_128_S128x128) s01⟩]
        concatenates_S128x128_S128x128_S128x256_d1⟩,
     ⟨S128x256, concatenate S128x256 1
        [⟨S128x128, blk (extractStridedSlice S128x128 ![128, 0] (shapeCast S256x256 w shapeCasts_S1x256x256_S256x256) slices_S256x256_o128_0_S128x128) s10⟩,
         ⟨S128x128, blk (extractStridedSlice S128x128 ![128, 128] (shapeCast S256x256 w shapeCasts_S1x256x256_S256x256) slices_S256x256_o128_128_S128x128) s11⟩]
        concatenates_S128x128_S128x128_S128x256_d1⟩]
    concatenates_S128x256_S128x256_S256x256_d0
/-- One tile's product. -/
def tdot (a : Vec F S112x256 .bf16) (w : Vec F S1x256x256 .fp8e4m3) (s00 s01 s10 s11 : Elt F .f32) : FVec F S112x256 .f32 :=
  matmul dot_S112x256_S256x256_S112x256_1_0_0_1_n_n none a (wtile w s00 s01 s10 s11) (constant S112x256 .f32 0x00000000#32)

/-- `silu(g) * u`. -/
def swish (g u : FVec F S112x256 .f32) : FVec F S112x256 .f32 :=
  mulf (mulf g (divf (broadcast S112x256 (Scalar.ofBits .f32 0x3F800000#32))
    (addf (broadcast S112x256 (Scalar.ofBits .f32 0x3F800000#32)) (exp (subf (broadcast S112x256 (Scalar.ofBits .f32 0x00000000#32)) g))))) u

/-- The exponent field of a group's scaled largest magnitude, counted. -/
def qexp (v : FVec F S112x128 .f32) : IVec S112x1 32 :=
  let e := shapeCast S112x1 (multiReductionI .add [1] S112
    (select (cmpf .oge (broadcastTo S112x252
        (mulf (shapeCast S112x1 (multiReduction .maximumf [1] S112 (absf v) 0xFF800000#32 reduces_S112x128_S112 (.inl rfl) rfl) shapeCasts_S112_S112x1)
          (broadcast S112x1 (Scalar.ofBits .f32 0x3B124925#32))) broadcasts_S112x1_S112x252)
      (bitcastToFloat .f32 (shli (addi (iota .tc S112x252 32 [1] iota_S112x252_d1_w32) (broadcast S112x252 1#32)) (broadcast S112x252 23#32))))
      (broadcast S112x252 1#32) (broadcast S112x252 0#32)) 0#32 reduces_S112x252_S112 rfl) shapeCasts_S112_S112x1
  select (cmpi .eq e (broadcast S112x1 0#32)) (broadcast S112x1 126#32) e
/-- The scale. -/
def qscale (v : FVec F S112x128 .f32) : FVec F S112x1 .f32 :=
  bitcastToFloat .f32 (shli (addi (qexp v) (broadcast S112x1 1#32)) (broadcast S112x1 23#32))
/-- The codes. -/
def qcode (v : FVec F S112x128 .f32) : FVec F S112x128 .fp8e4m3 :=
  truncf .fp8e4m3 (minimumf (broadcast S112x128 (Scalar.ofBits .f32 0x43E00000#32)) (maximumf (broadcast S112x128 (Scalar.ofBits .f32 0xC3E00000#32))
    (mulf v (broadcastTo S112x128 (bitcastToFloat .f32 (shli (subi (broadcast S112x1 253#32) (qexp v)) (broadcast S112x1 23#32))) broadcasts_S112x1_S112x128)))) bitsLt_fp8e4m3_f32
/-- The codes of the hundred rows kept. -/
def qcode100 (v : FVec F S112x128 .f32) : FVec F S100x128 .fp8e4m3 :=
  extractStridedSlice S100x128 ![0, 0] (qcode v) slices_S112x128_o0_0_S100x128
/-- Codes times scale. -/
def qdeq (v : FVec F S112x128 .f32) : FVec F S112x128 .bf16 :=
  truncf .bf16 (mulf (extf .f32 (qcode v) bitsLt_fp8e4m3_f32) (broadcastTo S112x128 (qscale v) broadcasts_S112x1_S112x128)) bitsLt_bf16_f32
/-- The scale put in the lane the group has. -/
def qlane (lanes : IVec S112x128 32) (o w : BitVec 32) (s : FVec F S112x1 .f32) (old : Vec F S1x112x128 .f32) : FVec F S1x112x128 .f32 :=
  shapeCast S1x112x128 (select (cmpi .eq (addi lanes (broadcast S112x128 o)) (broadcast S112x128 w))
    (broadcastTo S112x128 (shapeCast S112x1 s shapeCasts_S112x1_S112x1) broadcasts_S112x1_S112x128)
    (shapeCast S112x128 old shapeCasts_S1x112x128_S112x128)) shapeCasts_S112x128_S1x112x128

/-! ## The programs -/

/-- The kernel's programs. -/
abbrev Pr (F : FTy → Type) (α : Type) : Type _ := Prog (TpuEff nD τ sig (Elt F) Λ₀ .tc) α

/-- The step's number, as a word. -/
abbrev ivw (k : Fin k0_t3_loop.trips) : BitVec 32 := Scf.iv 0#32 1#32 k
/-- The slot's number. -/
abbrev slotN (k : Fin k0_t3_loop.trips) : ℕ := (Scalar.indexCast (Scalar.remsi (ivw k) 3#32)).toNat
/-- The word a scale's column is read at. -/
abbrev colW (k : Fin k0_t3_loop.trips) (a b : BitVec 32) : BitVec 32 := Scalar.indexCast (Scalar.addi (Scalar.addi (Scalar.muli (ivw k) 4#32) a) b)

/-- One scale's load. -/
def sload (arg : Memref sig .tc .smem S40x136 .f32) (o : Fin 2 → ℕ) (h : ∀ a, o a + S1x1.size a ≤ S40x136.size a) : Pr F (Elt F .f32) :=
  smemLoad arg (Rect.unit (s := S40x136) o S1x1.size h) numel1_S1x1 rfl

theorem slotN_lt (k : Fin k0_t3_loop.trips) : slotN k + 1 ≤ 3 := k0_off15_inb k 0
theorem colW_lt (k : Fin k0_t3_loop.trips) (a b : Fin 2) : (colW k (BitVec.ofNat 32 (2 * a.val)) (BitVec.ofNat 32 b.val)).toNat + 1 ≤ 136 :=
  k0_off16_inb k a b 1
theorem mcolW_lt (k : Fin k0_t3_loop.trips) (b : Fin 4) :
    (Scalar.indexCast (Scalar.addi (Scalar.muli (ivw k) 512#32) (BitVec.ofNat 32 (128 * b.val)))).toNat + 128 ≤ 17408 := k0_off75_inb k b 1

/-- A scale's place: its row and its column. -/
abbrev sAt (r w : ℕ) : Fin 2 → ℕ := ![r, w]
theorem sAt_inb (r w : ℕ) (hr : r + 1 ≤ 40) (hw : w + 1 ≤ 136) : ∀ a, sAt r w a + S1x1.size a ≤ S40x136.size a := by
  intro a; fin_cases a; exacts [hr, hw]
abbrev rAt (s r c : ℕ) : Fin 3 → ℕ := ![s, r, c]
theorem rAtA_inb (s r c : ℕ) (hs : s + 1 ≤ 3) (hr : r + 256 ≤ 5120) (hc : c + 256 ≤ 512) :
    ∀ a, rAt s r c a + S1x256x256.size a ≤ S3x5120x512.size a := by
  intro a; fin_cases a; exacts [hs, hr, hc]
theorem rAtB_inb (s r c : ℕ) (hs : s + 1 ≤ 3) (hr : r + 256 ≤ 512) (hc : c + 256 ≤ 5120) :
    ∀ a, rAt s r c a + S1x256x256.size a ≤ S3x512x5120.size a := by
  intro a; fin_cases a; exacts [hs, hr, hc]
abbrev aAt (c : ℕ) : Fin 2 → ℕ := ![0, c]
theorem aAtA_inb (c : ℕ) (hc : c + 256 ≤ 5120) : ∀ a, aAt c a + S112x256.size a ≤ S112x5120.size a := by
  intro a; fin_cases a; exacts [le_refl _, hc]
theorem aAtB_inb (c : ℕ) (hc : c + 256 ≤ 512) : ∀ a, aAt c a + S112x256.size a ≤ S112x512.size a := by
  intro a; fin_cases a; exacts [le_refl _, hc]
theorem aAtQ_inb (c : ℕ) (hc : c + 128 ≤ 512) : ∀ a, aAt c a + S112x128.size a ≤ S112x512.size a := by
  intro a; fin_cases a; exacts [le_refl _, hc]
theorem aAtC_inb (c : ℕ) (hc : c + 128 ≤ 17408) : ∀ a, aAt c a + S100x128.size a ≤ S100x17408.size a := by
  intro a; fin_cases a; exacts [le_refl _, hc]

/-- One tile of the gate or the up product: tile `kc` of the rows, half `n` of the columns. -/
def tileA (ring : Memref sig .tc .vmem S3x5120x512 .fp8e4m3) (sc : Memref sig .tc .smem S40x136 .f32) (lhs : Memref sig .tc .vmem S112x5120 .bf16)
    (k : Fin k0_t3_loop.trips) (n : Fin 2) (kc : Fin 20) : Pr F (FVec F S112x256 .f32) := do
  let w : Vec F S1x256x256 .fp8e4m3 ← Prog.lift (.load ring (Rect.unit (s := S3x5120x512) (rAt (slotN k) (256 * kc.val) (256 * n.val)) S1x256x256.size
    (rAtA_inb _ _ _ (slotN_lt k) (by omega) (by omega))).toLoadRect (View.loadsAt_vmem h_S1x256x256))
  let s00 ← sload sc (sAt (2 * kc.val) (colW k (BitVec.ofNat 32 (2 * n.val)) (BitVec.ofNat 32 0)).toNat) (sAt_inb _ _ (by omega) (colW_lt k n 0))
  let s01 ← sload sc (sAt (2 * kc.val) (colW k (BitVec.ofNat 32 (2 * n.val)) (BitVec.ofNat 32 1)).toNat) (sAt_inb _ _ (by omega) (colW_lt k n 1))
  let s10 ← sload sc (sAt (2 * kc.val + 1) (colW k (BitVec.ofNat 32 (2 * n.val)) (BitVec.ofNat 32 0)).toNat) (sAt_inb _ _ (by omega) (colW_lt k n 0))
  let s11 ← sload sc (sAt (2 * kc.val + 1) (colW k (BitVec.ofNat 32 (2 * n.val)) (BitVec.ofNat 32 1)).toNat) (sAt_inb _ _ (by omega) (colW_lt k n 1))
  let a : Vec F S112x256 .bf16 ← Prog.lift (.load lhs (Rect.unit (s := S112x5120) (aAt (256 * kc.val)) S112x256.size
    (aAtA_inb _ (by omega))).toLoadRect (View.loadsAt_vmem h_S112x256))
  pure (tdot a w s00 s01 s10 s11)

/-- The tiles' products added one after another onto what is there. -/
def sumA (ring : Memref sig .tc .vmem S3x5120x512 .fp8e4m3) (sc : Memref sig .tc .smem S40x136 .f32) (lhs : Memref sig .tc .vmem S112x5120 .bf16)
    (k : Fin k0_t3_loop.trips) (n : Fin 2) : List (Fin 20) → FVec F S112x256 .f32 → Pr F (FVec F S112x256 .f32)
  | [], acc => pure acc
  | kc :: l, acc => do
    let d ← tileA ring sc lhs k n kc
    sumA ring sc lhs k n l (addf acc d)

/-- A whole product of the gate or the up matrix. -/
def projA (ring : Memref sig .tc .vmem S3x5120x512 .fp8e4m3) (sc : Memref sig .tc .smem S40x136 .f32) (lhs : Memref sig .tc .vmem S112x5120 .bf16)
    (k : Fin k0_t3_loop.trips) (n : Fin 2) : Pr F (FVec F S112x256 .f32) := do
  let d ← tileA ring sc lhs k n 0
  sumA ring sc lhs k n [1, 2, 3, 4, 5, 6, 7, 8, 9, 10, 11, 12, 13, 14, 15, 16, 17, 18, 19] d

/-- One tile of the down product: half `kc` of the rows, tile `n` of the columns. -/
def tileB (ring : Memref sig .tc .vmem S3x512x5120 .fp8e4m3) (sc : Memref sig .tc .smem S40x136 .f32) (lhs : Memref sig .tc .vmem S112x512 .bf16)
    (k : Fin k0_t3_loop.trips) (n : Fin 20) (kc : Fin 2) : Pr F (FVec F S112x256 .f32) := do
  let w : Vec F S1x256x256 .fp8e4m3 ← Prog.lift (.load ring (Rect.unit (s := S3x512x5120) (rAt (slotN k) (256 * kc.val) (256 * n.val)) S1x256x256.size
    (rAtB_inb _ _ _ (slotN_lt k) (by omega) (by omega))).toLoadRect (View.loadsAt_vmem h_S1x256x256))
  let s00 ← sload sc (sAt (2 * n.val) (colW k (BitVec.ofNat 32 (2 * kc.val)) (BitVec.ofNat 32 0)).toNat) (sAt_inb _ _ (by omega) (colW_lt k kc 0))
  let s01 ← sload sc (sAt (2 * n.val + 1) (colW k (BitVec.ofNat 32 (2 * kc.val)) (BitVec.ofNat 32 0)).toNat) (sAt_inb _ _ (by omega) (colW_lt k kc 0))
  let s10 ← sload sc (sAt (2 * n.val) (colW k (BitVec.ofNat 32 (2 * kc.val)) (BitVec.ofNat 32 1)).toNat) (sAt_inb _ _ (by omega) (colW_lt k kc 1))
  let s11 ← sload sc (sAt (2 * n.val + 1) (colW k (BitVec.ofNat 32 (2 * kc.val)) (BitVec.ofNat 32 1)).toNat) (sAt_inb _ _ (by omega) (colW_lt k kc 1))
  let a : Vec F S112x256 .bf16 ← Prog.lift (.load lhs (Rect.unit (s := S112x512) (aAt (256 * kc.val)) S112x256.size
    (aAtB_inb _ (by omega))).toLoadRect (View.loadsAt_vmem h_S112x256))
  pure (tdot a w s00 s01 s10 s11)

/-- One tile of the columns of the down product, added onto the accumulator. -/
def downStep (ring : Memref sig .tc .vmem S3x512x5120 .fp8e4m3) (sc : Memref sig .tc .smem S40x136 .f32) (lhs : Memref sig .tc .vmem S112x512 .bf16)
    (acc : Memref sig .tc .vmem S112x5120 .f32) (k : Fin k0_t3_loop.trips) (n : Fin 20) : Pr F Unit := do
  let d0 ← tileB ring sc lhs k n 0
  let d1 ← tileB ring sc lhs k n 1
  let o : Vec F S112x256 .f32 ← Prog.lift (.load acc (Rect.unit (s := S112x5120) (aAt (256 * n.val)) S112x256.size
    (aAtA_inb _ (by omega))).toLoadRect (View.loadsAt_vmem h_S112x256))
  let _ : Vec F S112x256 .f32 ← Prog.lift (.load acc (Rect.unit (s := S112x5120) (aAt (256 * n.val)) S112x256.size
    (aAtA_inb _ (by omega))).toLoadRect (View.loadsAt_vmem h_S112x256))
  Prog.lift (.store acc (Rect.unit (s := S112x5120) (aAt (256 * n.val)) S112x256.size (aAtA_inb _ (by omega)))
    (shapeCast S112x256 (addf o (addf d0 d1)) shapeCasts_S112x256_S112x256) Finset.univ (View.stores_vmem_bits_univ h_S112x256 rfl) (.inl rfl))

def downAll (ring : Memref sig .tc .vmem S3x512x5120 .fp8e4m3) (sc : Memref sig .tc .smem S40x136 .f32) (lhs : Memref sig .tc .vmem S112x512 .bf16)
    (acc : Memref sig .tc .vmem S112x5120 .f32) (k : Fin k0_t3_loop.trips) : List (Fin 20) → Pr F Unit
  | [] => pure ⟨⟩
  | n :: l => do
    downStep ring sc lhs acc k n
    downAll ring sc lhs acc k l

/-- The scales of one group of lanes put in place `q` of the scale buffer. -/
def laneStore (sb : Memref sig .tc .vmem S2x128x128 .f32) (lanes : IVec S112x128 32) (k : Fin k0_t3_loop.trips) (lb : Fin 4)
    (s : FVec F S112x1 .f32) (q : Fin 2) : Pr F Unit := do
  let old : Vec F S1x112x128 .f32 ← Prog.lift (.load sb (Rect.unit (s := S2x128x128) ![q.val, 0, 0] S1x112x128.size
    (by intro a; fin_cases a; exacts [by have := q.isLt; show q.val + 1 ≤ 2; omega, by show 0 + 112 ≤ 128; omega, le_refl _])).toLoadRect (View.loadsAt_vmem h_S1x112x128))
  let _ : Vec F S1x112x128 .f32 ← Prog.lift (.load sb (Rect.unit (s := S2x128x128) ![q.val, 0, 0] S1x112x128.size
    (by intro a; fin_cases a; exacts [by have := q.isLt; show q.val + 1 ≤ 2; omega, by show 0 + 112 ≤ 128; omega, le_refl _])).toLoadRect (View.loadsAt_vmem h_S1x112x128))
  Prog.lift (.store sb (Rect.unit (s := S2x128x128) ![q.val, 0, 0] S1x112x128.size
    (by intro a; fin_cases a; exacts [by have := q.isLt; show q.val + 1 ≤ 2; omega, by show 0 + 112 ≤ 128; omega, le_refl _]))
    (qlane lanes (BitVec.ofNat 32 (128 * q.val)) (Scalar.addi (Scalar.muli (ivw k) 4#32) (BitVec.ofNat 32 lb.val)) s old)
    Finset.univ (View.stores_vmem_bits_univ h_S1x112x128 rfl) (.inl rfl))

theorem lhs_packed (lb : Fin 4) :
    (Rect.unit (s := S112x512) (aAt (128 * lb.val)) S112x128.size (aAtQ_inb _ (by omega))).PackedRows (EltTy.packing .bf16) := by
  fin_cases lb
  exacts [packedbf16_S112x512_S112x128_0_0, packedbf16_S112x512_S112x128_0_128, packedbf16_S112x512_S112x128_0_256, packedbf16_S112x512_S112x128_0_384]

/-- Group `lb` of the step's columns quantised and stored. -/
def quantStore (mc : Memref sig .tc .vmem S100x17408 .fp8e4m3) (hmc : mc.IsWhole) (lhs : Memref sig .tc .vmem S112x512 .bf16) (hlhs : lhs.IsWhole)
    (sb : Memref sig .tc .vmem S2x128x128 .f32) (lanes : IVec S112x128 32) (k : Fin k0_t3_loop.trips) (lb : Fin 4) (v : FVec F S112x128 .f32) : Pr F Unit := do
  let _ : Vec F S100x128 .fp8e4m3 ← Prog.lift (.load mc (Rect.unit (s := S100x17408)
    (aAt (Scalar.indexCast (Scalar.addi (Scalar.muli (ivw k) 512#32) (BitVec.ofNat 32 (128 * lb.val)))).toNat) S100x128.size (aAtC_inb _ (mcolW_lt k lb))).toLoadRect
    (View.loadsAt_vmem h_S100x128))
  Prog.lift (.store mc (Rect.unit (s := S100x17408)
    (aAt (Scalar.indexCast (Scalar.addi (Scalar.muli (ivw k) 512#32) (BitVec.ofNat 32 (128 * lb.val)))).toNat) S100x128.size (aAtC_inb _ (mcolW_lt k lb)))
    (qcode100 v) Finset.univ (View.stores_vmem h_S100x128 (hmc.storeExact_slice rfl _ (k0_off75_packedfp8e4m3 k lb)) (fun _ => rfl)) (.inl rfl))
  let _ : Vec F S112x128 .bf16 ← Prog.lift (.load lhs (Rect.unit (s := S112x512) (aAt (128 * lb.val)) S112x128.size
    (aAtQ_inb _ (by omega))).toLoadRect (View.loadsAt_vmem h_S112x128))
  Prog.lift (.store lhs (Rect.unit (s := S112x512) (aAt (128 * lb.val)) S112x128.size (aAtQ_inb _ (by omega)))
    (shapeCast S112x128 (qdeq v) shapeCasts_S112x128_S112x128) Finset.univ
    (View.stores_vmem h_S112x128 (hlhs.storeExact_slice rfl _ (lhs_packed lb)) (fun _ => rfl)) (.inl rfl))
  laneStore sb lanes k lb (qscale v) 0
  laneStore sb lanes k lb (qscale v) 1

/-- The step's products, quantisation and down product, once its weights are there. -/
def stepBody (arg0 arg1 arg2 : Memref sig .tc .smem S40x136 .f32)
    (mc : Memref sig .tc .vmem S100x17408 .fp8e4m3) (hmc : mc.IsWhole)
    (gr ur : Memref sig .tc .vmem S3x5120x512 .fp8e4m3) (dr : Memref sig .tc .vmem S3x512x5120 .fp8e4m3)
    (a2 : Memref sig .tc .vmem S112x5120 .bf16) (acc : Memref sig .tc .vmem S112x5120 .f32)
    (lhs : Memref sig .tc .vmem S112x512 .bf16) (hlhs : lhs.IsWhole)
    (sb : Memref sig .tc .vmem S2x128x128 .f32) (lanes : IVec S112x128 32) (k : Fin k0_t3_loop.trips) : Pr F Unit := do
  let g0 ← projA gr arg0 a2 k 0
  let u0 ← projA ur arg1 a2 k 0
  quantStore mc hmc lhs hlhs sb lanes k 0 (extractStridedSlice S112x128 ![0, 0] (swish g0 u0) slices_S112x256_o0_0_S112x128)
  quantStore mc hmc lhs hlhs sb lanes k 1 (extractStridedSlice S112x128 ![0, 128] (swish g0 u0) slices_S112x256_o0_128_S112x128)
  let g1 ← projA gr arg0 a2 k 1
  let u1 ← projA ur arg1 a2 k 1
  quantStore mc hmc lhs hlhs sb lanes k 2 (extractStridedSlice S112x128 ![0, 0] (swish g1 u1) slices_S112x256_o0_0_S112x128)
  quantStore mc hmc lhs hlhs sb lanes k 3 (extractStridedSlice S112x128 ![0, 128] (swish g1 u1) slices_S112x256_o0_128_S112x128)
  downAll dr arg2 lhs acc k [0, 1, 2, 3, 4, 5, 6, 7, 8, 9, 10, 11, 12, 13, 14, 15, 16, 17, 18, 19]

/-! ## A slot filled and waited for -/

/-- The three transfers of a slot started. -/
def issue3 (s5 s6 : Memref sig .tc .hbm S5120x512 .fp8e4m3) (s7 : Memref sig .tc .hbm S512x5120 .fp8e4m3)
    (d13 d14 : Memref sig .tc .vmem S5120x512 .fp8e4m3) (d15 : Memref sig .tc .vmem S512x5120 .fp8e4m3) (sm : DmaSem sig)
    (e5 : s5.view.WordExact) (e6 : s6.view.WordExact) (e7 : s7.view.WordExact)
    (e13 : d13.view.WordExact) (e14 : d14.view.WordExact) (e15 : d15.view.WordExact) : Pr F Unit := do
  Prog.lift (.enqueueDma s5 (.here d13) (.dma sm) e5 e13 ⟨Or.inl rfl, trivial⟩)
  Prog.lift (.enqueueDma s6 (.here d14) (.dma sm) e6 e14 ⟨Or.inl rfl, trivial⟩)
  Prog.lift (.enqueueDma s7 (.here d15) (.dma sm) e7 e15 ⟨Or.inl rfl, trivial⟩)

/-- The three transfers of a slot waited for. -/
def wait3 (s5 s6 : Memref sig .tc .hbm S5120x512 .fp8e4m3) (s7 : Memref sig .tc .hbm S512x5120 .fp8e4m3)
    (d13 d14 : Memref sig .tc .vmem S5120x512 .fp8e4m3) (d15 : Memref sig .tc .vmem S512x5120 .fp8e4m3) (sm : DmaSem sig)
    (e5 : s5.view.WordExact) (e6 : s6.view.WordExact) (e7 : s7.view.WordExact)
    (e13 : d13.view.WordExact) (e14 : d14.view.WordExact) (e15 : d15.view.WordExact) : Pr F Unit := do
  Prog.lift (.waitDma2 sm s5 d13 e5 e13)
  Prog.lift (.waitDma2 sm s6 d14 e6 e14)
  Prog.lift (.waitDma2 sm s7 d15 e7 e15)

abbrev semOf (arg22 : DmaSems sig S3) (o : Fin 1 → ℕ) (h : ∀ a, o a + S1.size a ≤ S3.size a) : DmaSem sig :=
  ((arg22.slice (Rect.unit (s := S3) o S1.size h)).squeeze S_ squeezes_S1_S_).sem

section Fetch
variable (arg5 : Memref sig .tc .hbm S5120x17408 .fp8e4m3) (harg5 : arg5.IsWhole) (arg6 : Memref sig .tc .hbm S5120x17408 .fp8e4m3) (harg6 : arg6.IsWhole)
  (arg7 : Memref sig .tc .hbm S17408x5120 .fp8e4m3) (harg7 : arg7.IsWhole)
  (arg13 : Memref sig .tc .vmem S3x5120x512 .fp8e4m3) (harg13 : arg13.IsWhole) (arg14 : Memref sig .tc .vmem S3x5120x512 .fp8e4m3) (harg14 : arg14.IsWhole)
  (arg15 : Memref sig .tc .vmem S3x512x5120 .fp8e4m3) (harg15 : arg15.IsWhole) (arg22 : DmaSems sig S3)

/-- Step `k`'s start of the transfers of step `k + 2`. -/
def issueAt (k0_t3 : Fin k0_t3_loop.trips) (k0_h1 : k0_cond1 k0_t3 = 1#1) : Pr F Unit :=
  issue3 (srcA arg5 (k0_off7 k0_t3) (k0_off7_inb k0_t3 k0_h1)) (srcA arg6 (k0_off7 k0_t3) (k0_off7_inb k0_t3 k0_h1))
    (srcB arg7 (k0_off9 k0_t3) (k0_off9_inb k0_t3 k0_h1))
    (slotA arg13 (k0_off6 k0_t3) (k0_off6_inb k0_t3 k0_h1)) (slotA arg14 (k0_off6 k0_t3) (k0_off6_inb k0_t3 k0_h1))
    (slotB arg15 (k0_off8 k0_t3) (k0_off8_inb k0_t3 k0_h1)) (semOf arg22 (k0_off5 k0_t3) (k0_off5_inb k0_t3 k0_h1))
    (harg5.wordExact_slice rfl _ (k0_off7_wordsfp8e4m3 k0_t3 k0_h1)) (harg6.wordExact_slice rfl _ (k0_off7_wordsfp8e4m3 k0_t3 k0_h1))
    (harg7.wordExact_slice rfl _ (k0_off9_wordsfp8e4m3 k0_t3 k0_h1))
    ((harg13.wordExact_slice rfl _ (k0_off6_wordsfp8e4m3 k0_t3 k0_h1)).reshape _ _) ((harg14.wordExact_slice rfl _ (k0_off6_wordsfp8e4m3 k0_t3 k0_h1)).reshape _ _)
    ((harg15.wordExact_slice rfl _ (k0_off8_wordsfp8e4m3 k0_t3 k0_h1)).reshape _ _)

/-- Step `k`'s wait for its own transfers. -/
def waitAt (k0_t3 : Fin k0_t3_loop.trips) : Pr F Unit :=
  wait3 (srcA arg5 (k0_off12 k0_t3) (k0_off12_inb k0_t3)) (srcA arg6 (k0_off12 k0_t3) (k0_off12_inb k0_t3))
    (srcB arg7 (k0_off14 k0_t3) (k0_off14_inb k0_t3))
    (slotA arg13 (k0_off11 k0_t3) (k0_off11_inb k0_t3)) (slotA arg14 (k0_off11 k0_t3) (k0_off11_inb k0_t3))
    (slotB arg15 (k0_off13 k0_t3) (k0_off13_inb k0_t3)) (semOf arg22 (k0_off10 k0_t3) (k0_off10_inb k0_t3))
    (harg5.wordExact_slice rfl _ (k0_off12_wordsfp8e4m3 k0_t3)) (harg6.wordExact_slice rfl _ (k0_off12_wordsfp8e4m3 k0_t3))
    (harg7.wordExact_slice rfl _ (k0_off14_wordsfp8e4m3 k0_t3))
    ((harg13.wordExact_slice rfl _ (k0_off11_wordsfp8e4m3 k0_t3)).reshape _ _) ((harg14.wordExact_slice rfl _ (k0_off11_wordsfp8e4m3 k0_t3)).reshape _ _)
    ((harg15.wordExact_slice rfl _ (k0_off13_wordsfp8e4m3 k0_t3)).reshape _ _)

/-- A step's transfers: the next but one's started when there is one, its own waited for. -/
def fetch (k : Fin k0_t3_loop.trips) : Pr F Unit := do
  if h : k0_cond1 k = 1#1 then issueAt arg5 harg5 arg6 harg6 arg7 harg7 arg13 harg13 arg14 harg14 arg15 harg15 arg22 k h
  waitAt arg5 harg5 arg6 harg6 arg7 harg7 arg13 harg13 arg14 harg14 arg15 harg15 arg22 k
end Fetch

section Eq
variable (arg0 : Memref sig .tc .smem S40x136 .f32) (harg0 : arg0.IsWhole) (arg1 : Memref sig .tc .smem S40x136 .f32) (harg1 : arg1.IsWhole) (arg2 : Memref sig .tc .smem S40x136 .f32) (harg2 : arg2.IsWhole) (arg3 : Memref sig .tc .vmem S112x5120 .f32) (harg3 : arg3.IsWhole) (arg4 : Memref sig .tc .vmem S1x5120 .f32) (harg4 : arg4.IsWhole) (arg5 : Memref sig .tc .hbm S5120x17408 .fp8e4m3) (harg5 : arg5.IsWhole) (arg6 : Memref sig .tc .hbm S5120x17408 .fp8e4m3) (harg6 : arg6.IsWhole) (arg7 : Memref sig .tc .hbm S17408x5120 .fp8e4m3) (harg7 : arg7.IsWhole) (arg8 : Memref sig .tc .vmem S100x5120 .bf16) (harg8 : arg8.IsWhole) (arg9 : Memref sig .tc .vmem S100x5120 .fp8e4m3) (harg9 : arg9.IsWhole) (arg10 : Memref sig .tc .vmem S40x100 .f32) (harg10 : arg10.IsWhole) (arg11 : Memref sig .tc .vmem S100x17408 .fp8e4m3) (harg11 : arg11.IsWhole) (arg12 : Memref sig .tc .vmem S136x100 .f32) (harg12 : arg12.IsWhole) (arg13 : Memref sig .tc .vmem S3x5120x512 .fp8e4m3) (harg13 : arg13.IsWhole) (arg14 : Memref sig .tc .vmem S3x5120x512 .fp8e4m3) (harg14 : arg14.IsWhole) (arg15 : Memref sig .tc .vmem S3x512x5120 .fp8e4m3) (harg15 : arg15.IsWhole) (arg16 : Memref sig .tc .vmem S112x5120 .bf16) (harg16 : arg16.IsWhole) (arg17 : Memref sig .tc .vmem S112x5120 .f32) (harg17 : arg17.IsWhole) (arg18 : Memref sig .tc .vmem S112x512 .f32) (harg18 : arg18.IsWhole) (arg19 : Memref sig .tc .vmem S112x512 .bf16) (harg19 : arg19.IsWhole) (arg20 : Memref sig .tc .vmem S2x128x128 .f32) (harg20 : arg20.IsWhole) (arg21 : Memref sig .tc .vmem S128x128 .f32) (harg21 : arg21.IsWhole) (arg22 : DmaSems sig S3)

/-- What the first part reads after its transfers, and returns. -/
def tail4 (k : Fin k0_t3_loop.trips) : Pr F (Σ' (arg23 : BitVec 32) (v73 : BitVec 32) (v98 : FVec F S256x256 .fp8e4m3) (v103 : Elt F .f32) (v104 : BitVec 32), BitVec 32) := do
  let v97 : Vec F S1x256x256 .fp8e4m3 ← Prog.lift (.load arg13 (Rect.unit (s := S3x5120x512) (k0_off15 k) S1x256x256.size (k0_off15_inb k)).toLoadRect (View.loadsAt_vmem h_S1x256x256))
  let v103 : Elt F .f32 ← smemLoad arg0 (Rect.unit (s := S40x136) (k0_off16 k 0#32 0#32) S1x1.size (k0_off16_inb k 0 0)) numel1_S1x1 rfl
  pure ⟨ivw k, Scalar.remsi (ivw k) 3#32, shapeCast S256x256 v97 shapeCasts_S1x256x256_S256x256, v103, Scalar.muli (ivw k) 4#32, 0#32⟩

theorem part4_eq (k : Fin k0_t3_loop.trips) :
    (k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 0#32 1#32 k : Pr F _)
      = fetch arg5 harg5 arg6 harg6 arg7 harg7 arg13 harg13 arg14 harg14 arg15 harg15 arg22 k >>= fun _ => tail4 arg0 arg13 k := by
  by_cases h : k0_cond1 k = 1#1
  · unfold k0_part4 fetch
    simp only [dif_pos h]
    rfl
  · unfold k0_part4 fetch
    simp only [dif_neg h]
    rfl

/-- The trip, written out: its transfers, then its products. -/
theorem body_eq (lanes : IVec S112x128 32) (k : Fin k0_t3_loop.trips) :
    (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 lanes k ⟨⟩ : Pr F Unit)
      = fetch arg5 harg5 arg6 harg6 arg7 harg7 arg13 harg13 arg14 harg14 arg15 harg15 arg22 k >>= fun _ =>
        stepBody arg0 arg1 arg2 arg11 harg11 arg13 arg14 arg15 arg16 arg17 arg19 harg19 arg20 lanes k := by
  unfold k0_t3_body k0_part187
  have e := part4_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k
  rw [e]
  rw [bind_assoc, bind_assoc]
  refine congrArg _ (funext fun _ => ?_)
  sl_kernel_rfl
end Eq

end Cert.KernelIdeal.Hand
end
-- ==== Proof.KernelIdeal.CleanBody.lean ====
/-
  The whole body of the kernel written with the uniform programs, and its equality with the printed body.
-/
module

public import proofs.«01_k».proof.Proof.KernelIdeal.Clean

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The norm -/

/-- One trip of the sum of squares. -/
def sqStep (a3 acc : Memref sig .tc .vmem S112x5120 .f32) (k : Fin k0_t1_loop.trips) (s : FVec F S112x128 .f32) : Pr F (FVec F S112x128 .f32) := do
  let v : Vec F S112x256 .f32 ← Prog.lift (.load a3 (Rect.unit (s := S112x5120) (k0_off1 k) S112x256.size (k0_off1_inb k)).toLoadRect (View.loadsAt_vmem h_S112x256))
  let _ : Vec F S112x256 .f32 ← Prog.lift (.load acc (Rect.unit (s := S112x5120) (k0_off1 k) S112x256.size (k0_off1_inb k)).toLoadRect (View.loadsAt_vmem h_S112x256))
  Prog.lift (.store acc (Rect.unit (s := S112x5120) (k0_off1 k) S112x256.size (k0_off1_inb k)) (shapeCast S112x256 v shapeCasts_S112x256_S112x256) Finset.univ (View.stores_vmem_bits_univ h_S112x256 rfl) (.inl rfl))
  pure (addf (addf s (mulf (extractStridedSlice S112x128 ![0, 0] v slices_S112x256_o0_0_S112x128) (extractStridedSlice S112x128 ![0, 0] v slices_S112x256_o0_0_S112x128)))
    (mulf (extractStridedSlice S112x128 ![0, 128] v slices_S112x256_o0_128_S112x128) (extractStridedSlice S112x128 ![0, 128] v slices_S112x256_o0_128_S112x128)))

/-- The reciprocal root of the mean square, from the lanes' sums. -/
def rnorm (s : FVec F S112x128 .f32) : FVec F S112x1 .f32 :=
  rsqrt (addf (mulf (shapeCast S112x1 (multiReduction .add [1] S112 s 0x00000000#32 reduces_S112x128_S112 (.inl rfl) rfl) shapeCasts_S112_S112x1)
    (broadcast S112x1 (Named.named κ "inv_d" 0x394CCCCD#32))) (broadcast S112x1 (Scalar.ofBits .f32 0x358637BD#32)))

/-- One group of the normed rows. -/
def ngroup (r : FVec F S112x1 .f32) (x : Vec F S112x128 .f32) (w : Vec F S1x128 .f32) : FVec F S112x128 .f32 :=
  mulf (mulf x (broadcastTo S112x128 r broadcasts_S112x1_S112x128))
    (broadcastTo S112x128 (addf (broadcast S1x128 (Scalar.ofBits .f32 0x3F800000#32)) (shapeCast S1x128 w shapeCasts_S1x128_S1x128)) broadcasts_S1x128_S112x128)

/-- One group of the normed rows quantised and stored; its scale. -/
def normGroup (a3 : Memref sig .tc .vmem S112x5120 .f32) (a4 : Memref sig .tc .vmem S1x5120 .f32)
    (xc : Memref sig .tc .vmem S100x5120 .fp8e4m3) (hxc : xc.IsWhole) (a2 : Memref sig .tc .vmem S112x5120 .bf16) (ha2 : a2.IsWhole)
    (r : FVec F S112x1 .f32) (k : Fin k0_t2_loop.trips) (j : Fin 2) : Pr F (FVec F S112x1 .f32) := do
  let x : Vec F S112x128 .f32 ← Prog.lift (.load a3 (Rect.unit (s := S112x5120) (k0_off2 k (BitVec.ofNat 32 (128 * j.val))) S112x128.size (k0_off2_inb k j)).toLoadRect (View.loadsAt_vmem h_S112x128))
  let w : Vec F S1x128 .f32 ← Prog.lift (.load a4 (Rect.unit (s := S1x5120) (k0_off3 k (BitVec.ofNat 32 (128 * j.val))) S1x128.size (k0_off3_inb k j)).toLoadRect (View.loadsAt_vmem h_S1x128))
  let _ : Vec F S100x128 .fp8e4m3 ← Prog.lift (.load xc (Rect.unit (s := S100x5120) (k0_off4 k (BitVec.ofNat 32 (128 * j.val))) S100x128.size (k0_off4_inb k j)).toLoadRect (View.loadsAt_vmem h_S100x128))
  Prog.lift (.store xc (Rect.unit (s := S100x5120) (k0_off4 k (BitVec.ofNat 32 (128 * j.val))) S100x128.size (k0_off4_inb k j)) (qcode100 (ngroup r x w)) Finset.univ
    (View.stores_vmem h_S100x128 (hxc.storeExact_slice rfl _ (k0_off4_packedfp8e4m3 k j)) (fun _ => rfl)) (.inl rfl))
  let _ : Vec F S112x128 .bf16 ← Prog.lift (.load a2 (Rect.unit (s := S112x5120) (k0_off2 k (BitVec.ofNat 32 (128 * j.val))) S112x128.size (k0_off2_inb k j)).toLoadRect (View.loadsAt_vmem h_S112x128))
  Prog.lift (.store a2 (Rect.unit (s := S112x5120) (k0_off2 k (BitVec.ofNat 32 (128 * j.val))) S112x128.size (k0_off2_inb k j)) (shapeCast S112x128 (qdeq (ngroup r x w)) shapeCasts_S112x128_S112x128) Finset.univ
    (View.stores_vmem h_S112x128 (ha2.storeExact_slice rfl _ (k0_off2_packedbf16 k j)) (fun _ => rfl)) (.inl rfl))
  pure (qscale (ngroup r x w))

/-- The scale put in its lane. -/
def nlane (lanes : IVec S112x128 32) (k : Fin k0_t2_loop.trips) (j : Fin 2) (s : FVec F S112x1 .f32) (old : FVec F S112x128 .f32) : FVec F S112x128 .f32 :=
  select (cmpi .eq lanes (broadcast S112x128 (Scalar.addi (Scalar.muli 2#32 (Scf.iv 0#32 1#32 k)) (BitVec.ofNat 32 j.val))))
    (broadcastTo S112x128 (shapeCast S112x1 s shapeCasts_S112x1_S112x1) broadcasts_S112x1_S112x128) old

/-- One trip of the norm. -/
def normStep (a3 : Memref sig .tc .vmem S112x5120 .f32) (a4 : Memref sig .tc .vmem S1x5120 .f32)
    (xc : Memref sig .tc .vmem S100x5120 .fp8e4m3) (hxc : xc.IsWhole) (a2 : Memref sig .tc .vmem S112x5120 .bf16) (ha2 : a2.IsWhole)
    (lanes : IVec S112x128 32) (r : FVec F S112x1 .f32) (k : Fin k0_t2_loop.trips) (old : FVec F S112x128 .f32) : Pr F (FVec F S112x128 .f32) := do
  let s0 ← normGroup a3 a4 xc hxc a2 ha2 r k 0
  let s1 ← normGroup a3 a4 xc hxc a2 ha2 r k 1
  pure (nlane lanes k 1 s1 (nlane lanes k 0 s0 old))

/-- The normed rows' scales, transposed and stored. -/
def normEnd (tmp : Memref sig .tc .vmem S128x128 .f32) (xs : Memref sig .tc .vmem S40x100 .f32) (v : FVec F S112x128 .f32) : Pr F Unit := do
  let _ : Vec F S128x128 .f32 ← Prog.lift (.load tmp (Rect.unit (s := S128x128) ![0, 0] S128x128.size inb_S128x128_S128x128_0_0).toLoadRect (View.loadsAt_vmem h_S128x128))
  Prog.lift (.store tmp (Rect.unit (s := S128x128) ![0, 0] S128x128.size inb_S128x128_S128x128_0_0) (shapeCast S128x128 (broadcast S128x128 (Scalar.ofBits (F := F) .f32 0x00000000#32)) shapeCasts_S128x128_S128x128) Finset.univ (View.stores_vmem_bits_univ h_S128x128 rfl) (.inl rfl))
  let _ : Vec F S112x128 .f32 ← Prog.lift (.load tmp (Rect.unit (s := S128x128) ![0, 0] S112x128.size inb_S128x128_S112x128_0_0).toLoadRect (View.loadsAt_vmem h_S112x128))
  Prog.lift (.store tmp (Rect.unit (s := S128x128) ![0, 0] S112x128.size inb_S128x128_S112x128_0_0) (shapeCast S112x128 v shapeCasts_S112x128_S112x128) Finset.univ (View.stores_vmem_bits_univ h_S112x128 rfl) (.inl rfl))
  let t : Vec F S128x128 .f32 ← Prog.lift (.load tmp (Rect.unit (s := S128x128) ![0, 0] S128x128.size inb_S128x128_S128x128_0_0).toLoadRect (View.loadsAt_vmem h_S128x128))
  let _ : Vec F S40x100 .f32 ← Prog.lift (.load xs (Rect.unit (s := S40x100) ![0, 0] S40x100.size inb_S40x100_S40x100_0_0).toLoadRect (View.loadsAt_vmem h_S40x100))
  Prog.lift (.store xs (Rect.unit (s := S40x100) ![0, 0] S40x100.size inb_S40x100_S40x100_0_0) (extractStridedSlice S40x100 ![0, 0] (transpose S128x128 [1, 0] t transposes_S128x128_p1_0_S128x128) slices_S128x128_o0_0_S40x100) Finset.univ (View.stores_vmem_bits_univ h_S40x100 rfl) (.inl rfl))

/-- The scale buffer emptied. -/
def zeroScales (sb : Memref sig .tc .vmem S2x128x128 .f32) : Pr F Unit := do
  let _ : Vec F S2x128x128 .f32 ← Prog.lift (.load sb (Rect.unit (s := S2x128x128) ![0, 0, 0] S2x128x128.size inb_S2x128x128_S2x128x128_0_0_0).toLoadRect (View.loadsAt_vmem h_S2x128x128))
  Prog.lift (.store sb (Rect.unit (s := S2x128x128) ![0, 0, 0] S2x128x128.size inb_S2x128x128_S2x128x128_0_0_0) (shapeCast S2x128x128 (broadcast S2x128x128 (Scalar.ofBits (F := F) .f32 0x00000000#32)) shapeCasts_S2x128x128_S2x128x128) Finset.univ (View.stores_vmem_bits_univ h_S2x128x128 rfl) (.inl rfl))

/-- The scales of the middle rows, transposed and stored. -/
def midScales (sb : Memref sig .tc .vmem S2x128x128 .f32) (ms : Memref sig .tc .vmem S136x100 .f32) : Pr F Unit := do
  let u : Vec F S1x128x128 .f32 ← Prog.lift (.load sb (Rect.unit (s := S2x128x128) ![0, 0, 0] S1x128x128.size inb_S2x128x128_S1x128x128_0_0_0).toLoadRect (View.loadsAt_vmem h_S1x128x128))
  let _ : Vec F S128x100 .f32 ← Prog.lift (.load ms (Rect.unit (s := S136x100) ![0, 0] S128x100.size inb_S136x100_S128x100_0_0).toLoadRect (View.loadsAt_vmem h_S128x100))
  Prog.lift (.store ms (Rect.unit (s := S136x100) ![0, 0] S128x100.size inb_S136x100_S128x100_0_0) (extractStridedSlice S128x100 ![0, 0] (transpose S128x128 [1, 0] (shapeCast S128x128 u shapeCasts_S1x128x128_S128x128) transposes_S128x128_p1_0_S128x128) slices_S128x128_o0_0_S128x100) Finset.univ (View.stores_vmem_bits_univ h_S128x100 rfl) (.inl rfl))
  let w : Vec F S1x128x128 .f32 ← Prog.lift (.load sb (Rect.unit (s := S2x128x128) ![1, 0, 0] S1x128x128.size inb_S2x128x128_S1x128x128_1_0_0).toLoadRect (View.loadsAt_vmem h_S1x128x128))
  let _ : Vec F S8x100 .f32 ← Prog.lift (.load ms (Rect.unit (s := S136x100) ![128, 0] S8x100.size inb_S136x100_S8x100_128_0).toLoadRect (View.loadsAt_vmem h_S8x100))
  Prog.lift (.store ms (Rect.unit (s := S136x100) ![128, 0] S8x100.size inb_S136x100_S8x100_128_0) (extractStridedSlice S8x100 ![0, 0] (transpose S128x128 [1, 0] (shapeCast S128x128 w shapeCasts_S1x128x128_S128x128) transposes_S128x128_p1_0_S128x128) slices_S128x128_o0_0_S8x100) Finset.univ (View.stores_vmem_bits_univ h_S8x100 rfl) (.inl rfl))

/-- One trip of the copy of the accumulator out. -/
def outStep (acc : Memref sig .tc .vmem S112x5120 .f32) (y : Memref sig .tc .vmem S100x5120 .bf16) (hy : y.IsWhole) (k : Fin k0_t4_loop.trips) : Pr F Unit := do
  let v : Vec F S100x256 .f32 ← Prog.lift (.load acc (Rect.unit (s := S112x5120) (k0_off136 k) S100x256.size (k0_off136_inb k)).toLoadRect (View.loadsAt_vmem h_S100x256))
  let _ : Vec F S100x256 .bf16 ← Prog.lift (.load y (Rect.unit (s := S100x5120) (k0_off137 k) S100x256.size (k0_off137_inb k)).toLoadRect (View.loadsAt_vmem h_S100x256))
  Prog.lift (.store y (Rect.unit (s := S100x5120) (k0_off137 k) S100x256.size (k0_off137_inb k)) (truncf .bf16 v bitsLt_bf16_f32) Finset.univ (View.stores_vmem h_S100x256 (hy.storeExact_slice rfl _ (k0_off137_packedbf16 k)) (fun _ => rfl)) (.inl rfl))

/-! ## The first transfers -/

def enqA (s : Memref sig .tc .hbm S5120x512 .fp8e4m3) (d : Memref sig .tc .vmem S5120x512 .fp8e4m3) (sm : DmaSem sig)
    (es : s.view.WordExact) (ed : d.view.WordExact) : Pr F Unit :=
  Prog.lift (.enqueueDma s (.here d) (.dma sm) es ed ⟨Or.inl rfl, trivial⟩)
def enqB (s : Memref sig .tc .hbm S512x5120 .fp8e4m3) (d : Memref sig .tc .vmem S512x5120 .fp8e4m3) (sm : DmaSem sig)
    (es : s.view.WordExact) (ed : d.view.WordExact) : Pr F Unit :=
  Prog.lift (.enqueueDma s (.here d) (.dma sm) es ed ⟨Or.inl rfl, trivial⟩)

section Body
variable (arg0 : Memref sig .tc .smem S40x136 .f32) (harg0 : arg0.IsWhole) (arg1 : Memref sig .tc .smem S40x136 .f32) (harg1 : arg1.IsWhole) (arg2 : Memref sig .tc .smem S40x136 .f32) (harg2 : arg2.IsWhole) (arg3 : Memref sig .tc .vmem S112x5120 .f32) (harg3 : arg3.IsWhole) (arg4 : Memref sig .tc .vmem S1x5120 .f32) (harg4 : arg4.IsWhole) (arg5 : Memref sig .tc .hbm S5120x17408 .fp8e4m3) (harg5 : arg5.IsWhole) (arg6 : Memref sig .tc .hbm S5120x17408 .fp8e4m3) (harg6 : arg6.IsWhole) (arg7 : Memref sig .tc .hbm S17408x5120 .fp8e4m3) (harg7 : arg7.IsWhole) (arg8 : Memref sig .tc .vmem S100x5120 .bf16) (harg8 : arg8.IsWhole) (arg9 : Memref sig .tc .vmem S100x5120 .fp8e4m3) (harg9 : arg9.IsWhole) (arg10 : Memref sig .tc .vmem S40x100 .f32) (harg10 : arg10.IsWhole) (arg11 : Memref sig .tc .vmem S100x17408 .fp8e4m3) (harg11 : arg11.IsWhole) (arg12 : Memref sig .tc .vmem S136x100 .f32) (harg12 : arg12.IsWhole) (arg13 : Memref sig .tc .vmem S3x5120x512 .fp8e4m3) (harg13 : arg13.IsWhole) (arg14 : Memref sig .tc .vmem S3x5120x512 .fp8e4m3) (harg14 : arg14.IsWhole) (arg15 : Memref sig .tc .vmem S3x512x5120 .fp8e4m3) (harg15 : arg15.IsWhole) (arg16 : Memref sig .tc .vmem S112x5120 .bf16) (harg16 : arg16.IsWhole) (arg17 : Memref sig .tc .vmem S112x5120 .f32) (harg17 : arg17.IsWhole) (arg18 : Memref sig .tc .vmem S112x512 .f32) (harg18 : arg18.IsWhole) (arg19 : Memref sig .tc .vmem S112x512 .bf16) (harg19 : arg19.IsWhole) (arg20 : Memref sig .tc .vmem S2x128x128 .f32) (harg20 : arg20.IsWhole) (arg21 : Memref sig .tc .vmem S128x128 .f32) (harg21 : arg21.IsWhole) (arg22 : DmaSems sig S3)

/-- The transfers of the first step, and the first two of the second. -/
def start5 : Pr F Unit := do
  enqA (srcA arg5 ![0, 0] inb_S5120x17408_S5120x512_0_0) (slotA arg13 ![0, 0, 0] inb_S3x5120x512_S1x5120x512_0_0_0) (semOf arg22 ![0] inb_S3_S1_0)
    (harg5.wordExact_slice rfl _ wordsfp8e4m3_S5120x17408_S5120x512_0_0) ((harg13.wordExact_slice rfl _ wordsfp8e4m3_S3x5120x512_S1x5120x512_0_0_0).reshape _ _)
  enqA (srcA arg6 ![0, 0] inb_S5120x17408_S5120x512_0_0) (slotA arg14 ![0, 0, 0] inb_S3x5120x512_S1x5120x512_0_0_0) (semOf arg22 ![0] inb_S3_S1_0)
    (harg6.wordExact_slice rfl _ wordsfp8e4m3_S5120x17408_S5120x512_0_0) ((harg14.wordExact_slice rfl _ wordsfp8e4m3_S3x5120x512_S1x5120x512_0_0_0).reshape _ _)
  enqB (srcB arg7 ![0, 0] inb_S17408x5120_S512x5120_0_0) (slotB arg15 ![0, 0, 0] inb_S3x512x5120_S1x512x5120_0_0_0) (semOf arg22 ![0] inb_S3_S1_0)
    (harg7.wordExact_slice rfl _ wordsfp8e4m3_S17408x5120_S512x5120_0_0) ((harg15.wordExact_slice rfl _ wordsfp8e4m3_S3x512x5120_S1x512x5120_0_0_0).reshape _ _)
  enqA (srcA arg5 ![0, 512] inb_S5120x17408_S5120x512_0_512) (slotA arg13 ![1, 0, 0] inb_S3x5120x512_S1x5120x512_1_0_0) (semOf arg22 ![1] inb_S3_S1_1)
    (harg5.wordExact_slice rfl _ wordsfp8e4m3_S5120x17408_S5120x512_0_512) ((harg13.wordExact_slice rfl _ wordsfp8e4m3_S3x5120x512_S1x5120x512_1_0_0).reshape _ _)
  enqA (srcA arg6 ![0, 512] inb_S5120x17408_S5120x512_0_512) (slotA arg14 ![1, 0, 0] inb_S3x5120x512_S1x5120x512_1_0_0) (semOf arg22 ![1] inb_S3_S1_1)
    (harg6.wordExact_slice rfl _ wordsfp8e4m3_S5120x17408_S5120x512_0_512) ((harg14.wordExact_slice rfl _ wordsfp8e4m3_S3x5120x512_S1x5120x512_1_0_0).reshape _ _)

/-- The last transfer of the second step. -/
def start6 : Pr F Unit :=
  enqB (srcB arg7 ![512, 0] inb_S17408x5120_S512x5120_512_0) (slotB arg15 ![1, 0, 0] inb_S3x512x5120_S1x512x5120_1_0_0) (semOf arg22 ![1] inb_S3_S1_1)
    (harg7.wordExact_slice rfl _ wordsfp8e4m3_S17408x5120_S512x5120_512_0) ((harg15.wordExact_slice rfl _ wordsfp8e4m3_S3x512x5120_S1x512x5120_1_0_0).reshape _ _)

/-- The lane numbers. -/
def lane : IVec S112x128 32 := iota .tc S112x128 32 [1] iota_S112x128_d1_w32

/-- The norm stage: sums, rows, scales. -/
def normAll : Pr F (IVec S112x128 32) := do
  start6 arg7 harg7 arg15 harg15 arg22
  let s ← Scf.Loop.for k0_t1_loop k0_t1_ok (broadcast S112x128 (Scalar.ofBits .f32 0x00000000#32)) fun k s => sqStep arg3 arg17 k s
  let v ← Scf.Loop.for k0_t2_loop k0_t2_ok (broadcast S112x128 (Scalar.ofBits .f32 0x00000000#32)) fun k v => normStep arg3 arg4 arg9 harg9 arg16 harg16 lane (rnorm s) k v
  normEnd arg21 arg10 v
  pure lane

/-- The whole body. -/
def cleanMlp : Pr F Unit := do
  start5 arg5 harg5 arg6 harg6 arg7 harg7 arg13 harg13 arg14 harg14 arg15 harg15 arg22
  let l ← normAll arg3 arg4 arg7 harg7 arg9 harg9 arg10 arg15 harg15 arg16 harg16 arg17 arg21 arg22
  zeroScales arg20
  Scf.Loop.for k0_t3_loop k0_t3_ok ⟨⟩ fun k _ => k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 l k ⟨⟩
  midScales arg20 arg12
  Scf.Loop.for k0_t4_loop k0_t4_ok ⟨⟩ fun k _ => outStep arg17 arg8 harg8 k
  pure ⟨⟩

theorem part191_eq :
    (k0_part191 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 : Pr F PUnit) = start5 arg5 harg5 arg6 harg6 arg7 harg7 arg13 harg13 arg14 harg14 arg15 harg15 arg22 := by
  unfold k0_part191
  sl_kernel_rfl

theorem part192_eq :
    (k0_part192 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 : Pr F _) = normAll arg3 arg4 arg7 harg7 arg9 harg9 arg10 arg15 harg15 arg16 harg16 arg17 arg21 arg22 := by
  unfold k0_part192
  sl_kernel_rfl

/-- The printed body is the body written out. -/
theorem mlp_eq : (cc0_mlp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 : Pr F PUnit) = cleanMlp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 := by
  unfold cc0_mlp
  rw [part191_eq, part192_eq]
  sl_kernel_rfl
end Body

end Cert.KernelIdeal.Hand
end
-- ==== Proof.KernelIdeal.Wp.lean ====
/-
  Programs that run to one value: what each of the uniform programs does to the contents of the buffers.
-/
module

public import proofs.«01_k».proof.Proof.KernelIdeal.CleanBody
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## Programs that run to one value -/

/-- The weakest precondition at this proof's algebra. -/
abbrev wpp (c : Dev nD) {α : Type} (P : Pr F α) (Q : α → sProp 𝕄) : sProp 𝕄 :=
  wp frame (wpE (defs₀ (F := F)) Variants.none (c : Thread nD τ) none) Set.univ P Q

/-- From `pre` the program runs to the value `v` and leaves `post`. -/
def RunsTo (c : Dev nD) {α : Type} (pre : sProp 𝕄) (P : Pr F α) (v : α) (post : sProp 𝕄) : Prop :=
  ∀ (β : Type) (K : α → Pr F β) (Q : β → sProp 𝕄), iprop(pre ∗ (post -∗ wpp c (K v) Q)) ⊢ wpp c (P >>= K) Q

theorem RunsTo.pure (c : Dev nD) {α : Type} (pre : sProp 𝕄) (v : α) : RunsTo (F := F) c pre (Pure.pure v) v pre := by
  intro β K Q
  show _ ⊢ wpp c (K v) Q
  iintro ⟨H, Hk⟩
  iapply Hk; iexact H

theorem RunsTo.bind {c : Dev nD} {α β : Type} {pre mid post : sProp 𝕄} {P : Pr F α} {v : α} {R : α → Pr F β} {w : β}
    (h1 : RunsTo c pre P v mid) (h2 : RunsTo c mid (R v) w post) : RunsTo c pre (P >>= R) w post := by
  intro γ K Q
  rw [bind_assoc]
  refine BIBase.Entails.trans ?_ (h1 γ _ Q)
  iintro ⟨H, Hk⟩
  isplitl [H]; · iexact H
  iintro Hm
  iapply (h2 γ K Q); isplitl [Hm]; · iexact Hm
  iexact Hk

theorem RunsTo.frame {c : Dev nD} {α : Type} {pre post : sProp 𝕄} {P : Pr F α} {v : α} (R : sProp 𝕄)
    (h : RunsTo c pre P v post) : RunsTo c iprop(R ∗ pre) P v iprop(R ∗ post) := by
  intro γ K Q
  refine BIBase.Entails.trans ?_ (h γ _ Q)
  iintro ⟨⟨HR, H⟩, Hk⟩
  isplitl [H]; · iexact H
  iintro Hm
  iapply Hk; isplitl [HR]; · iexact HR
  iexact Hm

theorem RunsTo.conseq {c : Dev nD} {α : Type} {pre post pre' post' : sProp 𝕄} {P : Pr F α} {v : α}
    (h : RunsTo c pre P v post) (h1 : pre' ⊢ pre) (h2 : post ⊢ post') : RunsTo c pre' P v post' := by
  intro γ K Q
  refine BIBase.Entails.trans ?_ (h γ _ Q)
  iintro ⟨H, Hk⟩
  isplitl [H]; · iapply h1; iexact H
  iintro Hm
  iapply Hk; iapply h2; iexact Hm

/-- A load through a memref whose elements are held. -/
theorem run_load (c : Dev nD) {cs : CoreSpace} {S : Shape} {e : EltTy} (m : Memref sig .tc cs S e) (q : PosShare TreeShare) (X : S.Idx → Elt F e)
    (o sz : Fin S.rank → ℕ) (h : ∀ a, o a + sz a ≤ S.size a) (hl : m.view.LoadsAt (Rect.unit o sz h).toLoadRect) :
    RunsTo (F := F) c (owns (c : Thread nD τ) m q X) (Prog.lift (.load m (Rect.unit o sz h).toLoadRect hl)) (VecWindow.window X o sz h) (owns (c : Thread nD τ) m q X) := by
  intro β K Q
  unfold owns
  iintro ⟨⟨%f, %hf, H⟩, Hk⟩
  subst hf
  iapply (wp_load_rect (defs := defs₀ (F := F)) Variants.none (c : Thread nD τ) none Set.univ (m := m) (r := Rect.unit o sz h) (hl := hl) (k := fun x => K x) (S := m.view.set) (View.set_slice_subset m.view (Rect.unit o sz h))) $$ H
  iintro H
  iapply Hk
  iexists f; isplitr; · ipureintro; rfl
  iexact H

theorem run_store (c : Dev nD) {cs : CoreSpace} {S : Shape} {e : EltTy} (m : Memref sig .tc cs S e) (X : S.Idx → Elt F e)
    (o sz : Fin S.rank → ℕ) (h : ∀ a, o a + sz a ≤ S.size a) (w : (Rect.unit o sz h).shape.Idx → Elt F e)
    (hx : (m.access (Rect.unit o sz h)).Stores Finset.univ) (hm : (Finset.univ : Finset (Rect.unit o sz h).shape.Idx) = Finset.univ ∨ ∀ a, (Rect.unit o sz h).stride a = 1) :
    RunsTo (F := F) c (owns (c : Thread nD τ) m fullShare X) (Prog.lift (.store m (Rect.unit o sz h) w Finset.univ hx hm)) ⟨⟩ (owns (c : Thread nD τ) m fullShare (VecWindow.put X o sz w)) := by
  intro β K Q
  show _ ⊢ wpp c (.op (.store m (Rect.unit o sz h) w Finset.univ hx hm) fun f => K f) Q
  unfold owns
  iintro ⟨⟨%f, %hf, H⟩, Hk⟩
  iapply (wp_store (defs := defs₀ (F := F)) Variants.none (c : Thread nD τ) none Set.univ (m := m) (r := Rect.unit o sz h) (S := m.view.set)
    (by rw [View.setOn_univ]; exact View.set_slice_subset m.view (Rect.unit o sz h))) $$ H
  iintro H
  iapply Hk
  iexists ((m.access (Rect.unit o sz h)).write (Elt F) f w Finset.univ); isplitr
  · ipureintro
    have := View.read_writes_cons_put (Val := Elt F) m.view f h w [] rfl
    rw [View.writes_nil] at this
    rw [← hf]
    exact this
  iexact H

/-! ## The buffers the body works on -/

/-- The memrefs the body is called with that are not weights. -/
structure Mems where
  a0 : Memref sig .tc .smem S40x136 .f32
  a1 : Memref sig .tc .smem S40x136 .f32
  a2 : Memref sig .tc .smem S40x136 .f32
  a3 : Memref sig .tc .vmem S112x5120 .f32
  a4 : Memref sig .tc .vmem S1x5120 .f32
  a8 : Memref sig .tc .vmem S100x5120 .bf16
  a9 : Memref sig .tc .vmem S100x5120 .fp8e4m3
  a10 : Memref sig .tc .vmem S40x100 .f32
  a11 : Memref sig .tc .vmem S100x17408 .fp8e4m3
  a12 : Memref sig .tc .vmem S136x100 .f32

abbrev spc : Fin 15 → CoreSpace := ![.smem, .smem, .smem, .vmem, .vmem, .vmem, .vmem, .vmem, .vmem, .vmem, .vmem, .vmem, .vmem, .vmem, .vmem]
abbrev shp : Fin 15 → Shape := ![S40x136, S40x136, S40x136, S112x5120, S1x5120, S100x5120, S100x5120, S40x100, S100x17408, S136x100, S112x5120, S112x5120, S112x512, S2x128x128, S128x128]
abbrev ety : Fin 15 → EltTy := ![.f32, .f32, .f32, .f32, .f32, .bf16, .fp8e4m3, .f32, .fp8e4m3, .f32, .bf16, .f32, .bf16, .f32, .f32]

/-- The buffers: 0–2 scales, 3 rows, 4 norm weight, 5 output rows, 6 codes, 7 their scales, 8 middle codes, 9 their scales,
    10 quantised normed rows, 11 accumulator, 12 the step's quantised middle rows, 13 the scales' lanes, 14 the scratch of the norm's scales. -/
def cell (M : Mems) : (i : Fin 15) → Memref sig .tc (spc i) (shp i) (ety i)
  | 0 => M.a0 | 1 => M.a1 | 2 => M.a2 | 3 => M.a3 | 4 => M.a4 | 5 => M.a8 | 6 => M.a9 | 7 => M.a10 | 8 => M.a11 | 9 => M.a12
  | 10 => M16 | 11 => M17 | 12 => M19 | 13 => M20 | 14 => M21

/-- What the buffers hold. -/
abbrev St (F : FTy → Type) : Type := (i : Fin 15) → (shp i).Idx → Elt F (ety i)

/-- The buffers held whole at those contents. -/
def stp (c : Dev nD) (M : Mems) (σ : St F) : sProp 𝕄 :=
  bigSep Finset.univ fun i => owns (c : Thread nD τ) (cell M i) fullShare (σ i)

/-- One buffer changed. -/
abbrev St.set (σ : St F) (i : Fin 15) (X : (shp i).Idx → Elt F (ety i)) : St F := Function.update σ i X

theorem run_cell (c : Dev nD) (M : Mems) (σ : St F) (i : Fin 15) {α : Type} {P : Pr F α} {v : α} {X : (shp i).Idx → Elt F (ety i)}
    (h : RunsTo c (owns (c : Thread nD τ) (cell M i) fullShare (σ i)) P v (owns (c : Thread nD τ) (cell M i) fullShare X)) :
    RunsTo c (stp c M σ) P v (stp c M (σ.set i X)) := by
  intro β K Q
  refine BIBase.Entails.trans ?_ (h β K Q)
  unfold stp
  iintro ⟨H, Hk⟩
  ihave H := (bigSep_univ_update (Ψ := fun j => owns (c : Thread nD τ) (cell M j) fullShare (σ.set i X j)) i (fun j hj => by
    show owns _ _ _ (Function.update σ i X j) = _
    rw [Function.update_of_ne hj])) $$ H
  icases H with ⟨H, Hr⟩
  isplitl [H]; · iexact H
  iintro H
  iapply Hk
  iapply Hr
  have e : σ.set i X i = X := Function.update_self _ _ _
  rw [e]
  iexact H

theorem run_ld (c : Dev nD) (M : Mems) (σ : St F) (i : Fin 15) (o sz : Fin (shp i).rank → ℕ) (h : ∀ a, o a + sz a ≤ (shp i).size a)
    (hl : (cell M i).view.LoadsAt (Rect.unit o sz h).toLoadRect) :
    RunsTo (F := F) c (stp c M σ) (Prog.lift (.load (cell M i) (Rect.unit o sz h).toLoadRect hl)) (VecWindow.window (σ i) o sz h) (stp c M σ) := by
  have := run_cell c M σ i (run_load c (cell M i) fullShare (σ i) o sz h hl)
  rwa [St.set, Function.update_eq_self] at this

theorem run_st (c : Dev nD) (M : Mems) (σ : St F) (i : Fin 15) (o sz : Fin (shp i).rank → ℕ) (h : ∀ a, o a + sz a ≤ (shp i).size a)
    (w : (Rect.unit o sz h).shape.Idx → Elt F (ety i)) (hx hm) :
    RunsTo (F := F) c (stp c M σ) (Prog.lift (.store (cell M i) (Rect.unit o sz h) w Finset.univ hx hm)) ⟨⟩ (stp c M (σ.set i (VecWindow.put (σ i) o sz w))) :=
  run_cell c M σ i (run_store c (cell M i) (σ i) o sz h w hx hm)

end Cert.KernelIdeal.Hand
end
-- ==== Proof.KernelIdeal.Step.lean ====
/-
  What one trip of the main loop does to the buffers, given the weights its slot holds.
-/
module

public import proofs.«01_k».proof.Proof.KernelIdeal.Wp
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.ValueIdx

local notation "𝕄" => MT nD τ sig Unit (Elt F) ℕ (Pipeline.UD sig nD τ) ℕ

/-! ## Loads of a scale and of a tile of a slot -/

/-- The word a scale's load gives. -/
def sval (X : Vec F S40x136 .f32) (o : Fin 2 → ℕ) (h : ∀ a, o a + S1x1.size a ≤ S40x136.size a) : Elt F .f32 :=
  VecWindow.window X o S1x1.size h (Shape.Idx.first (numel1_S1x1.symm ▸ Nat.one_pos))

theorem run_sload_owns (c : Dev nD) (m : Memref sig .tc .smem S40x136 .f32) (X : Vec F S40x136 .f32) (o : Fin 2 → ℕ) (h : ∀ a, o a + S1x1.size a ≤ S40x136.size a) :
    RunsTo (F := F) c (owns (c : Thread nD τ) m fullShare X) (sload m o h) (sval X o h) (owns (c : Thread nD τ) m fullShare X) := by
  intro β K Q
  unfold owns
  iintro ⟨⟨%f, %hf, H⟩, Hk⟩
  subst hf
  iapply (wp_load_rect (defs := defs₀ (F := F)) Variants.none (c : Thread nD τ) none Set.univ (m := m) (r := Rect.unit o S1x1.size h) (k := fun x => K (x (Shape.Idx.first (numel1_S1x1.symm ▸ Nat.one_pos)))) (S := m.view.set) (View.set_slice_subset m.view (Rect.unit (s := S40x136) o S1x1.size h))) $$ H
  iintro H
  iapply Hk
  iexists f; isplitr; · ipureintro; rfl
  iexact H

theorem slotA_inb (s : ℕ) (hs : s + 1 ≤ 3) : ∀ a, rAt s 0 0 a + S1x5120x512.size a ≤ S3x5120x512.size a := by
  intro a; fin_cases a; exacts [hs, by show 0 + 5120 ≤ 5120; omega, by show 0 + 512 ≤ 512; omega]
theorem slotB_inb (s : ℕ) (hs : s + 1 ≤ 3) : ∀ a, rAt s 0 0 a + S1x512x5120.size a ≤ S3x512x5120.size a := by
  intro a; fin_cases a; exacts [hs, by show 0 + 512 ≤ 512; omega, by show 0 + 5120 ≤ 5120; omega]

/-- A tile of a slot's matrix. -/
def tileOf {R C : ℕ} (X : (⟨2, ![R, C]⟩ : Shape).Idx → Elt F .fp8e4m3) (r c : ℕ) (hr : r + 256 ≤ R) (hc : c + 256 ≤ C) : Vec F S1x256x256 .fp8e4m3 :=
  fun i => X (ix2 ⟨r + (i 1).val, by have : (i 1).val < 256 := (i 1).isLt; omega⟩ ⟨c + (i 2).val, by have : (i 2).val < 256 := (i 2).isLt; omega⟩)

theorem run_tileA (c : Dev nD) (m : Memref sig .tc .vmem S3x5120x512 .fp8e4m3) (s : ℕ) (hs : s + 1 ≤ 3) (X : Vec F S5120x512 .fp8e4m3)
    (r c0 : ℕ) (hr : r + 256 ≤ 5120) (hc : c0 + 256 ≤ 512) (hl) :
    RunsTo (F := F) c (owns (c : Thread nD τ) (slotA m (rAt s 0 0) (slotA_inb s hs)) fullShare X)
      (Prog.lift (.load m (Rect.unit (s := S3x5120x512) (rAt s r c0) S1x256x256.size (rAtA_inb s r c0 hs hr hc)).toLoadRect hl)) (tileOf X r c0 hr hc)
      (owns (c : Thread nD τ) (slotA m (rAt s 0 0) (slotA_inb s hs)) fullShare X) := by
  intro β K Q
  unfold owns
  iintro ⟨⟨%f, %hf, H⟩, Hk⟩
  subst hf
  have hS : (m.access (Rect.unit (s := S3x5120x512) (rAt s r c0) S1x256x256.size (rAtA_inb s r c0 hs hr hc))).set
      ⊆ (slotA m (rAt s 0 0) (slotA_inb s hs)).view.set := by
    have e1 : (slotA m (rAt s 0 0) (slotA_inb s hs)).view.set = (m.view.slice (Rect.unit (s := S3x5120x512) (rAt s 0 0) S1x5120x512.size (slotA_inb s hs))).set :=
      View.set_reshape (m.view.slice (Rect.unit (s := S3x5120x512) (rAt s 0 0) S1x5120x512.size (slotA_inb s hs))) _
    refine Finset.Subset.trans ?_ (le_of_eq (e1.trans (View.set_slice _ _)).symm)
    rw [View.set_slice]
    refine Finset.map_subset_map.mpr fun i hi => ?_
    rw [Rect.mem_set_unit] at hi ⊢
    intro a
    have := hi a
    fin_cases a
    · exact this
    · exact ⟨Nat.zero_le _, by show (i 1).val < 0 + 5120; have := (i 1).isLt; simpa using this⟩
    · exact ⟨Nat.zero_le _, by show (i 2).val < 0 + 512; have := (i 2).isLt; simpa using this⟩
  have e : (m.access (Rect.unit (s := S3x5120x512) (rAt s r c0) S1x256x256.size (rAtA_inb s r c0 hs hr hc))).read (Elt F) f
      = tileOf ((slotA m (rAt s 0 0) (slotA_inb s hs)).view.read (Elt F) f) r c0 hr hc := by
    funext i
    show cast _ (f _) = cast _ (f _)
    refine congrArg (fun z => cast _ (f (m.view.emb z))) ?_
    show Rect.emb _ i = Rect.emb _ (Shape.reshapeEquiv _ (ix2 _ _))
    rw [reshapeEquiv_ix2_1ab]
    funext a; apply Fin.ext
    have h0 : (i 0).val < 1 := (i 0).isLt
    fin_cases a
    · show s + 1 * (i 0).val = s + 1 * 0; omega
    · show r + 1 * (i 1).val = 0 + 1 * (r + (i 1).val); omega
    · show c0 + 1 * (i 2).val = 0 + 1 * (c0 + (i 2).val); omega
  rw [← e]
  iapply (wp_load_rect (defs := defs₀ (F := F)) Variants.none (c : Thread nD τ) none Set.univ (m := m) (hl := hl) (k := fun x => K x) hS) $$ H
  iintro H
  iapply Hk
  iexists f; isplitr; · ipureintro; rfl
  iexact H

theorem run_tileB (c : Dev nD) (m : Memref sig .tc .vmem S3x512x5120 .fp8e4m3) (s : ℕ) (hs : s + 1 ≤ 3) (X : Vec F S512x5120 .fp8e4m3)
    (r c0 : ℕ) (hr : r + 256 ≤ 512) (hc : c0 + 256 ≤ 5120) (hl) :
    RunsTo (F := F) c (owns (c : Thread nD τ) (slotB m (rAt s 0 0) (slotB_inb s hs)) fullShare X)
      (Prog.lift (.load m (Rect.unit (s := S3x512x5120) (rAt s r c0) S1x256x256.size (rAtB_inb s r c0 hs hr hc)).toLoadRect hl)) (tileOf X r c0 hr hc)
      (owns (c : Thread nD τ) (slotB m (rAt s 0 0) (slotB_inb s hs)) fullShare X) := by
  intro β K Q
  unfold owns
  iintro ⟨⟨%f, %hf, H⟩, Hk⟩
  subst hf
  have hS : (m.access (Rect.unit (s := S3x512x5120) (rAt s r c0) S1x256x256.size (rAtB_inb s r c0 hs hr hc))).set
      ⊆ (slotB m (rAt s 0 0) (slotB_inb s hs)).view.set := by
    have e1 : (slotB m (rAt s 0 0) (slotB_inb s hs)).view.set = (m.view.slice (Rect.unit (s := S3x512x5120) (rAt s 0 0) S1x512x5120.size (slotB_inb s hs))).set :=
      View.set_reshape (m.view.slice (Rect.unit (s := S3x512x5120) (rAt s 0 0) S1x512x5120.size (slotB_inb s hs))) _
    refine Finset.Subset.trans ?_ (le_of_eq (e1.trans (View.set_slice _ _)).symm)
    rw [View.set_slice]
    refine Finset.map_subset_map.mpr fun i hi => ?_
    rw [Rect.mem_set_unit] at hi ⊢
    intro a
    have := hi a
    fin_cases a
    · exact this
    · exact ⟨Nat.zero_le _, by show (i 1).val < 0 + 512; have := (i 1).isLt; simpa using this⟩
    · exact ⟨Nat.zero_le _, by show (i 2).val < 0 + 5120; have := (i 2).isLt; simpa using this⟩
  have e : (m.access (Rect.unit (s := S3x512x5120) (rAt s r c0) S1x256x256.size (rAtB_inb s r c0 hs hr hc))).read (Elt F) f
      = tileOf ((slotB m (rAt s 0 0) (slotB_inb s hs)).view.read (Elt F) f) r c0 hr hc := by
    funext i
    show cast _ (f _) = cast _ (f _)
    refine congrArg (fun z => cast _ (f (m.view.emb z))) ?_
    show Rect.emb _ i = Rect.emb _ (Shape.reshapeEquiv _ (ix2 _ _))
    rw [reshapeEquiv_ix2_1ab]
    funext a; apply Fin.ext
    have h0 : (i 0).val < 1 := (i 0).isLt
    fin_cases a
    · show s + 1 * (i 0).val = s + 1 * 0; omega
    · show r + 1 * (i 1).val = 0 + 1 * (r + (i 1).val); omega
    · show c0 + 1 * (i 2).val = 0 + 1 * (c0 + (i 2).val); omega
  rw [← e]
  iapply (wp_load_rect (defs := defs₀ (F := F)) Variants.none (c : Thread nD τ) none Set.univ (m := m) (hl := hl) (k := fun x => K x) hS) $$ H
  iintro H
  iapply Hk
  iexists f; isplitr; · ipureintro; rfl
  iexact H

/-! ## The state of a trip -/

/-- The three matrices a slot holds. -/
structure Wts (F : FTy → Type) where
  g : Vec F S5120x512 .fp8e4m3
  u : Vec F S5120x512 .fp8e4m3
  d : Vec F S512x5120 .fp8e4m3

/-- Slot `s` holding the three matrices. -/
def ringp (c : Dev nD) (s : ℕ) (hs : s + 1 ≤ 3) (W : Wts F) : sProp 𝕄 :=
  iprop(owns (c : Thread nD τ) (slotA M13 (rAt s 0 0) (slotA_inb s hs)) fullShare W.g
    ∗ owns (c : Thread nD τ) (slotA M14 (rAt s 0 0) (slotA_inb s hs)) fullShare W.u
    ∗ owns (c : Thread nD τ) (slotB M15 (rAt s 0 0) (slotB_inb s hs)) fullShare W.d)

/-- A trip's resources. -/
def trp (c : Dev nD) (M : Mems) (s : ℕ) (hs : s + 1 ≤ 3) (W : Wts F) (σ : St F) : sProp 𝕄 := iprop(ringp c s hs W ∗ stp c M σ)

section Lift
variable {c : Dev nD} {M : Mems} {s : ℕ} {hs : s + 1 ≤ 3} {W : Wts F} {σ σ' : St F} {α : Type} {P : Pr F α} {v : α}
theorem run_stp (h : RunsTo c (stp c M σ) P v (stp c M σ')) : RunsTo c (trp c M s hs W σ) P v (trp c M s hs W σ') := h.frame _
theorem run_g (h : RunsTo c (owns (c : Thread nD τ) (slotA M13 (rAt s 0 0) (slotA_inb s hs)) fullShare W.g) P v (owns (c : Thread nD τ) (slotA M13 (rAt s 0 0) (slotA_inb s hs)) fullShare W.g)) :
    RunsTo c (trp c M s hs W σ) P v (trp c M s hs W σ) := by
  intro β K Q
  refine BIBase.Entails.trans ?_ (h β K Q)
  unfold trp ringp
  iintro ⟨⟨⟨H1, H2, H3⟩, H4⟩, Hk⟩
  isplitl [H1]; · iexact H1
  iintro H1; iapply Hk
  isplitl [H1 H2 H3]
  · isplitl [H1]; · iexact H1
    isplitl [H2]; · iexact H2
    iexact H3
  iexact H4
theorem run_u (h : RunsTo c (owns (c : Thread nD τ) (slotA M14 (rAt s 0 0) (slotA_inb s hs)) fullShare W.u) P v (owns (c : Thread nD τ) (slotA M14 (rAt s 0 0) (slotA_inb s hs)) fullShare W.u)) :
    RunsTo c (trp c M s hs W σ) P v (trp c M s hs W σ) := by
  intro β K Q
  refine BIBase.Entails.trans ?_ (h β K Q)
  unfold trp ringp
  iintro ⟨⟨⟨H1, H2, H3⟩, H4⟩, Hk⟩
  isplitl [H2]; · iexact H2
  iintro H2; iapply Hk
  isplitl [H1 H2 H3]
  · isplitl [H1]; · iexact H1
    isplitl [H2]; · iexact H2
    iexact H3
  iexact H4
theorem run_d (h : RunsTo c (owns (c : Thread nD τ) (slotB M15 (rAt s 0 0) (slotB_inb s hs)) fullShare W.d) P v (owns (c : Thread nD τ) (slotB M15 (rAt s 0 0) (slotB_inb s hs)) fullShare W.d)) :
    RunsTo c (trp c M s hs W σ) P v (trp c M s hs W σ) := by
  intro β K Q
  refine BIBase.Entails.trans ?_ (h β K Q)
  unfold trp ringp
  iintro ⟨⟨⟨H1, H2, H3⟩, H4⟩, Hk⟩
  isplitl [H3]; · iexact H3
  iintro H3; iapply Hk
  isplitl [H1 H2 H3]
  · isplitl [H1]; · iexact H1
    isplitl [H2]; · iexact H2
    iexact H3
  iexact H4
end Lift

theorem run_sload (c : Dev nD) (M : Mems) (σ : St F) (o : Fin 2 → ℕ) (h : ∀ a, o a + S1x1.size a ≤ S40x136.size a) :
    RunsTo (F := F) c (stp c M σ) (sload M.a0 o h) (sval (σ 0) o h) (stp c M σ)
    ∧ RunsTo (F := F) c (stp c M σ) (sload M.a1 o h) (sval (σ 1) o h) (stp c M σ)
    ∧ RunsTo (F := F) c (stp c M σ) (sload M.a2 o h) (sval (σ 2) o h) (stp c M σ) := by
  refine ⟨?_, ?_, ?_⟩
  · have := run_cell c M σ 0 (run_sload_owns c M.a0 (σ 0) o h)
    rwa [St.set, Function.update_eq_self] at this
  · have := run_cell c M σ 1 (run_sload_owns c M.a1 (σ 1) o h)
    rwa [St.set, Function.update_eq_self] at this
  · have := run_cell c M σ 2 (run_sload_owns c M.a2 (σ 2) o h)
    rwa [St.set, Function.update_eq_self] at this

/-! ## The values of a trip -/

abbrev sColA (k : Fin k0_t3_loop.trips) (n b : Fin 2) : ℕ := (colW k (BitVec.ofNat 32 (2 * n.val)) (BitVec.ofNat 32 b.val)).toNat

def tileAV (w : Vec F S5120x512 .fp8e4m3) (sc : Vec F S40x136 .f32) (lhs : Vec F S112x5120 .bf16) (k : Fin k0_t3_loop.trips) (n : Fin 2) (kc : Fin 20) : FVec F S112x256 .f32 :=
  tdot (VecWindow.window (s := S112x5120) lhs (aAt (256 * kc.val)) S112x256.size (aAtA_inb _ (by omega)))
    (tileOf w (256 * kc.val) (256 * n.val) (by omega) (by omega))
    (sval sc (sAt (2 * kc.val) (sColA k n 0)) (sAt_inb _ _ (by omega) (colW_lt k n 0)))
    (sval sc (sAt (2 * kc.val) (sColA k n 1)) (sAt_inb _ _ (by omega) (colW_lt k n 1)))
    (sval sc (sAt (2 * kc.val + 1) (sColA k n 0)) (sAt_inb _ _ (by omega) (colW_lt k n 0)))
    (sval sc (sAt (2 * kc.val + 1) (sColA k n 1)) (sAt_inb _ _ (by omega) (colW_lt k n 1)))

def sumAV (w : Vec F S5120x512 .fp8e4m3) (sc : Vec F S40x136 .f32) (lhs : Vec F S112x5120 .bf16) (k : Fin k0_t3_loop.trips) (n : Fin 2) :
    List (Fin 20) → FVec F S112x256 .f32 → FVec F S112x256 .f32
  | [], acc => acc
  | kc :: l, acc => sumAV w sc lhs k n l (addf acc (tileAV w sc lhs k n kc))

def projAV (w : Vec F S5120x512 .fp8e4m3) (sc : Vec F S40x136 .f32) (lhs : Vec F S112x5120 .bf16) (k : Fin k0_t3_loop.trips) (n : Fin 2) : FVec F S112x256 .f32 :=
  sumAV w sc lhs k n [1, 2, 3, 4, 5, 6, 7, 8, 9, 10, 11, 12, 13, 14, 15, 16, 17, 18, 19] (tileAV w sc lhs k n 0)

def tileBV (w : Vec F S512x5120 .fp8e4m3) (sc : Vec F S40x136 .f32) (lhs : Vec F S112x512 .bf16) (k : Fin k0_t3_loop.trips) (n : Fin 20) (kc : Fin 2) : FVec F S112x256 .f32 :=
  tdot (VecWindow.window (s := S112x512) lhs (aAt (256 * kc.val)) S112x256.size (aAtB_inb _ (by omega)))
    (tileOf w (256 * kc.val) (256 * n.val) (by omega) (by omega))
    (sval sc (sAt (2 * n.val) (sColA k kc 0)) (sAt_inb _ _ (by omega) (colW_lt k kc 0)))
    (sval sc (sAt (2 * n.val + 1) (sColA k kc 0)) (sAt_inb _ _ (by omega) (colW_lt k kc 0)))
    (sval sc (sAt (2 * n.val) (sColA k kc 1)) (sAt_inb _ _ (by omega) (colW_lt k kc 1)))
    (sval sc (sAt (2 * n.val + 1) (sColA k kc 1)) (sAt_inb _ _ (by omega) (colW_lt k kc 1)))

/-- The accumulator after one tile of columns. -/
def downV (w : Vec F S512x5120 .fp8e4m3) (sc : Vec F S40x136 .f32) (lhs : Vec F S112x512 .bf16) (k : Fin k0_t3_loop.trips) (n : Fin 20)
    (acc : Vec F S112x5120 .f32) : Vec F S112x5120 .f32 :=
  VecWindow.put (s := S112x5120) acc (aAt (256 * n.val)) S112x256.size
    (shapeCast S112x256 (addf (VecWindow.window (s := S112x5120) acc (aAt (256 * n.val)) S112x256.size (aAtA_inb _ (by omega)))
      (addf (tileBV w sc lhs k n 0) (tileBV w sc lhs k n 1))) shapeCasts_S112x256_S112x256)

def laneV (lanes : IVec S112x128 32) (k : Fin k0_t3_loop.trips) (lb : Fin 4) (s : FVec F S112x1 .f32) (q : Fin 2) (sb : Vec F S2x128x128 .f32) : Vec F S2x128x128 .f32 :=
  VecWindow.put (s := S2x128x128) sb ![q.val, 0, 0] S1x112x128.size
    (qlane lanes (BitVec.ofNat 32 (128 * q.val)) (Scalar.addi (Scalar.muli (ivw k) 4#32) (BitVec.ofNat 32 lb.val)) s
      (VecWindow.window (s := S2x128x128) sb ![q.val, 0, 0] S1x112x128.size
        (by intro a; fin_cases a; exacts [by have := q.isLt; show q.val + 1 ≤ 2; omega, by show 0 + 112 ≤ 128; omega, le_refl _])))

def mcV (k : Fin k0_t3_loop.trips) (lb : Fin 4) (v : FVec F S112x128 .f32) (X : Vec F S100x17408 .fp8e4m3) : Vec F S100x17408 .fp8e4m3 :=
  VecWindow.put (s := S100x17408) X (aAt (Scalar.indexCast (Scalar.addi (Scalar.muli (ivw k) 512#32) (BitVec.ofNat 32 (128 * lb.val)))).toNat) S100x128.size (qcode100 v)

def lhsV (lb : Fin 4) (v : FVec F S112x128 .f32) (X : Vec F S112x512 .bf16) : Vec F S112x512 .bf16 :=
  VecWindow.put (s := S112x512) X (aAt (128 * lb.val)) S112x128.size (shapeCast S112x128 (qdeq v) shapeCasts_S112x128_S112x128)

/-- The buffers after one group is quantised. -/
def quantV (lanes : IVec S112x128 32) (k : Fin k0_t3_loop.trips) (lb : Fin 4) (v : FVec F S112x128 .f32) (σ : St F) : St F :=
  let σ1 := σ.set 8 (mcV k lb v (σ 8))
  let σ2 := σ1.set 12 (lhsV lb v (σ1 12))
  let σ3 := σ2.set 13 (laneV lanes k lb (qscale v) 0 (σ2 13))
  σ3.set 13 (laneV lanes k lb (qscale v) 1 (σ3 13))

def downAllV (w : Vec F S512x5120 .fp8e4m3) (k : Fin k0_t3_loop.trips) : List (Fin 20) → St F → St F
  | [], σ => σ
  | n :: l, σ => downAllV w k l (σ.set 11 (downV w (σ 2) (σ 12) k n (σ 11)))

/-- The trip. -/
def stepV (lanes : IVec S112x128 32) (W : Wts F) (k : Fin k0_t3_loop.trips) (σ : St F) : St F :=
  let s0 := swish (projAV W.g (σ 0) (σ 10) k 0) (projAV W.u (σ 1) (σ 10) k 0)
  let s1 := swish (projAV W.g (σ 0) (σ 10) k 1) (projAV W.u (σ 1) (σ 10) k 1)
  let σ1 := quantV lanes k 0 (extractStridedSlice S112x128 ![0, 0] s0 slices_S112x256_o0_0_S112x128) σ
  let σ2 := quantV lanes k 1 (extractStridedSlice S112x128 ![0, 128] s0 slices_S112x256_o0_128_S112x128) σ1
  let σ3 := quantV lanes k 2 (extractStridedSlice S112x128 ![0, 0] s1 slices_S112x256_o0_0_S112x128) σ2
  let σ4 := quantV lanes k 3 (extractStridedSlice S112x128 ![0, 128] s1 slices_S112x256_o0_128_S112x128) σ3
  downAllV W.d k [0, 1, 2, 3, 4, 5, 6, 7, 8, 9, 10, 11, 12, 13, 14, 15, 16, 17, 18, 19] σ4

/-! ## The trip's run -/

section Run
variable (c : Dev nD) (M : Mems) (k : Fin k0_t3_loop.trips) (W : Wts F)

theorem run_tile0 (σ : St F) (n : Fin 2) (kc : Fin 20) :
    RunsTo c (trp c M (slotN k) (slotN_lt k) W σ) (tileA M13 M.a0 M16 k n kc) (tileAV W.g (σ 0) (σ 10) k n kc) (trp c M (slotN k) (slotN_lt k) W σ) :=
  (run_g (run_tileA c M13 (slotN k) (slotN_lt k) W.g _ _ _ _ _)).bind <|
  (run_stp (run_sload c M σ _ _).1).bind <| (run_stp (run_sload c M σ _ _).1).bind <|
  (run_stp (run_sload c M σ _ _).1).bind <| (run_stp (run_sload c M σ _ _).1).bind <|
  (run_stp (run_ld c M σ 10 _ _ _ _)).bind <| RunsTo.pure c _ _

theorem run_tile1 (σ : St F) (n : Fin 2) (kc : Fin 20) :
    RunsTo c (trp c M (slotN k) (slotN_lt k) W σ) (tileA M14 M.a1 M16 k n kc) (tileAV W.u (σ 1) (σ 10) k n kc) (trp c M (slotN k) (slotN_lt k) W σ) :=
  (run_u (run_tileA c M14 (slotN k) (slotN_lt k) W.u _ _ _ _ _)).bind <|
  (run_stp (run_sload c M σ _ _).2.1).bind <| (run_stp (run_sload c M σ _ _).2.1).bind <|
  (run_stp (run_sload c M σ _ _).2.1).bind <| (run_stp (run_sload c M σ _ _).2.1).bind <|
  (run_stp (run_ld c M σ 10 _ _ _ _)).bind <| RunsTo.pure c _ _

theorem run_tile2 (σ : St F) (n : Fin 20) (kc : Fin 2) :
    RunsTo c (trp c M (slotN k) (slotN_lt k) W σ) (tileB M15 M.a2 M19 k n kc) (tileBV W.d (σ 2) (σ 12) k n kc) (trp c M (slotN k) (slotN_lt k) W σ) :=
  (run_d (run_tileB c M15 (slotN k) (slotN_lt k) W.d _ _ _ _ _)).bind <|
  (run_stp (run_sload c M σ _ _).2.2).bind <| (run_stp (run_sload c M σ _ _).2.2).bind <|
  (run_stp (run_sload c M σ _ _).2.2).bind <| (run_stp (run_sload c M σ _ _).2.2).bind <|
  (run_stp (run_ld c M σ 12 _ _ _ _)).bind <| RunsTo.pure c _ _

theorem run_sum0 (σ : St F) (n : Fin 2) (l : List (Fin 20)) (acc : FVec F S112x256 .f32) :
    RunsTo c (trp c M (slotN k) (slotN_lt k) W σ) (sumA M13 M.a0 M16 k n l acc) (sumAV W.g (σ 0) (σ 10) k n l acc) (trp c M (slotN k) (slotN_lt k) W σ) := by
  induction l generalizing acc with
  | nil => exact RunsTo.pure c _ _
  | cons kc l ih => exact (run_tile0 c M k W σ n kc).bind (ih _)

theorem run_sum1 (σ : St F) (n : Fin 2) (l : List (Fin 20)) (acc : FVec F S112x256 .f32) :
    RunsTo c (trp c M (slotN k) (slotN_lt k) W σ) (sumA M14 M.a1 M16 k n l acc) (sumAV W.u (σ 1) (σ 10) k n l acc) (trp c M (slotN k) (slotN_lt k) W σ) := by
  induction l generalizing acc with
  | nil => exact RunsTo.pure c _ _
  | cons kc l ih => exact (run_tile1 c M k W σ n kc).bind (ih _)

theorem run_proj0 (σ : St F) (n : Fin 2) :
    RunsTo c (trp c M (slotN k) (slotN_lt k) W σ) (projA M13 M.a0 M16 k n) (projAV W.g (σ 0) (σ 10) k n) (trp c M (slotN k) (slotN_lt k) W σ) :=
  (run_tile0 c M k W σ n 0).bind (run_sum0 c M k W σ n _ _)

theorem run_proj1 (σ : St F) (n : Fin 2) :
    RunsTo c (trp c M (slotN k) (slotN_lt k) W σ) (projA M14 M.a1 M16 k n) (projAV W.u (σ 1) (σ 10) k n) (trp c M (slotN k) (slotN_lt k) W σ) :=
  (run_tile1 c M k W σ n 0).bind (run_sum1 c M k W σ n _ _)

theorem run_lane (σ : St F) (lanes : IVec S112x128 32) (lb : Fin 4) (s : FVec F S112x1 .f32) (q : Fin 2) :
    RunsTo c (stp c M σ) (laneStore M20 lanes k lb s q) ⟨⟩ (stp c M (σ.set 13 (laneV lanes k lb s q (σ 13)))) :=
  (run_ld c M σ 13 _ _ _ _).bind <| (run_ld c M σ 13 _ _ _ _).bind <| run_st c M σ 13 _ _ _ _ _ _

theorem run_quant (σ : St F) (lanes : IVec S112x128 32) (hmc : M.a11.IsWhole) (hlhs : M19.IsWhole) (lb : Fin 4) (v : FVec F S112x128 .f32) :
    RunsTo c (stp c M σ) (quantStore M.a11 hmc M19 hlhs M20 lanes k lb v) ⟨⟩ (stp c M (quantV lanes k lb v σ)) :=
  (run_ld c M σ 8 _ _ _ _).bind <| (run_st c M σ 8 _ _ _ _ _ _).bind <| (run_ld c M _ 12 _ _ _ _).bind <| (run_st c M _ 12 _ _ _ _ _ _).bind <|
  (run_lane c M k _ lanes lb (qscale v) 0).bind (run_lane c M k _ lanes lb (qscale v) 1)

theorem run_downStep (σ : St F) (n : Fin 20) :
    RunsTo c (trp c M (slotN k) (slotN_lt k) W σ) (downStep M15 M.a2 M19 M17 k n) ⟨⟩ (trp c M (slotN k) (slotN_lt k) W (σ.set 11 (downV W.d (σ 2) (σ 12) k n (σ 11)))) :=
  (run_tile2 c M k W σ n 0).bind <| (run_tile2 c M k W σ n 1).bind <|
  (run_stp (run_ld c M σ 11 _ _ _ _)).bind <| (run_stp (run_ld c M σ 11 _ _ _ _)).bind <| run_stp (run_st c M σ 11 _ _ _ _ _ _)

theorem run_downAll (l : List (Fin 20)) (σ : St F) :
    RunsTo c (trp c M (slotN k) (slotN_lt k) W σ) (downAll M15 M.a2 M19 M17 k l) ⟨⟩ (trp c M (slotN k) (slotN_lt k) W (downAllV W.d k l σ)) := by
  induction l generalizing σ with
  | nil => exact RunsTo.pure c _ _
  | cons n l ih => exact (run_downStep c M k W σ n).bind (ih _)

/-- The trip's products, quantisation and down product. -/
theorem run_step (σ : St F) (lanes : IVec S112x128 32) (hmc : M.a11.IsWhole) (hlhs : M19.IsWhole) :
    RunsTo c (trp c M (slotN k) (slotN_lt k) W σ) (stepBody M.a0 M.a1 M.a2 M.a11 hmc M13 M14 M15 M16 M17 M19 hlhs M20 lanes k) ⟨⟩
      (trp c M (slotN k) (slotN_lt k) W (stepV lanes W k σ)) :=
  (run_proj0 c M k W σ 0).bind <| (run_proj1 c M k W σ 0).bind <|
  (run_stp (run_quant c M k σ lanes hmc hlhs 0 _)).bind <| (run_stp (run_quant c M k _ lanes hmc hlhs 1 _)).bind <|
  (run_proj0 c M k W _ 1).bind <| (run_proj1 c M k W _ 1).bind <|
  (run_stp (run_quant c M k _ lanes hmc hlhs 2 _)).bind <| (run_stp (run_quant c M k _ lanes hmc hlhs 3 _)).bind <|
  run_downAll c M k W _ _
end Run

end Cert.KernelIdeal.Hand
end
-- ==== Proof.KernelIdeal.Ends.lean ====
/-
  What the norm, the scales and the copy out do to the buffers.
-/
module

public import proofs.«01_k».proof.Proof.KernelIdeal.Step

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- A function of the trip's number applied trip after trip. -/
def itr {α : Type} {n : ℕ} (f : Fin n → α → α) (x : α) : ℕ → α
  | 0 => x
  | k + 1 => if h : k < n then f ⟨k, h⟩ (itr f x k) else itr f x k

theorem itr_succ {α : Type} {n : ℕ} (f : Fin n → α → α) (x : α) (k : Fin n) : itr f x (k.val + 1) = f k (itr f x k.val) := by
  rw [itr, dif_pos k.isLt]

/-- A counted loop whose trips each run to one value. -/
theorem runs_loop (c : Dev nD) {α : Type} (L : Scf.Loop 32) (hok : L.OK) (body : Fin L.trips → α → Pr F α) (I : ℕ → sProp 𝕄) (val : ℕ → α)
    (step : ∀ k : Fin L.trips, RunsTo c (I k.val) (body k (val k.val)) (val (k.val + 1)) (I (k.val + 1))) :
    RunsTo c (I 0) (Scf.Loop.for L hok (val 0) body) (val L.trips) (I L.trips) := by
  intro β K Q
  have h := Scf.wp_for_bind (M := 𝕄) frame (wpE (defs₀ (F := F)) Variants.none (c : Thread nD τ) none) Set.univ L.lb L.ub L.st hok (val 0) body
    (fun k acc => iprop(⌜acc = val k⌝ ∗ I k)) (fun k acc => by
      iintro ⟨%e, H⟩
      subst e
      have hs := step k α Pure.pure (fun acc => iprop(⌜acc = val (k.val + 1)⌝ ∗ I (k.val + 1)))
      rw [bind_pure] at hs
      iapply hs
      isplitl [H]; · iexact H
      iintro H
      unfold wpp
      rw [wp_pure]
      imodintro
      isplitr; · ipureintro; rfl
      iexact H) (kk := K) (Q := Q)
  iintro ⟨H, Hk⟩
  iapply h $$ [H]
  · isplitr; · ipureintro; rfl
    iexact H
  iintro %acc ⟨%e, H⟩
  rw [e]
  iapply Hk; iexact H

section Norm
variable (c : Dev nD) (M : Mems)

/-- One trip of the sum of squares: the accumulator and the lanes' sums. -/
def sqV (k : Fin k0_t1_loop.trips) (p : St F × FVec F S112x128 .f32) : St F × FVec F S112x128 .f32 :=
  let v : Vec F S112x256 .f32 := VecWindow.window (s := S112x5120) (p.1 3) (k0_off1 k) S112x256.size (k0_off1_inb k)
  (p.1.set 11 (VecWindow.put (s := S112x5120) (p.1 11) (k0_off1 k) S112x256.size (shapeCast S112x256 v shapeCasts_S112x256_S112x256)),
    addf (addf p.2 (mulf (extractStridedSlice S112x128 ![0, 0] v slices_S112x256_o0_0_S112x128) (extractStridedSlice S112x128 ![0, 0] v slices_S112x256_o0_0_S112x128)))
      (mulf (extractStridedSlice S112x128 ![0, 128] v slices_S112x256_o0_128_S112x128) (extractStridedSlice S112x128 ![0, 128] v slices_S112x256_o0_128_S112x128)))

theorem run_sq (k : Fin k0_t1_loop.trips) (p : St F × FVec F S112x128 .f32) :
    RunsTo c (stp c M p.1) (sqStep M.a3 M17 k p.2) (sqV k p).2 (stp c M (sqV k p).1) :=
  (run_ld c M p.1 3 _ _ _ _).bind <| (run_ld c M p.1 11 _ _ _ _).bind <| (run_st c M p.1 11 _ _ _ _ _ _).bind <| RunsTo.pure c _ _

def groupV (r : FVec F S112x1 .f32) (k : Fin k0_t2_loop.trips) (j : Fin 2) (σ : St F) : FVec F S112x128 .f32 :=
  ngroup r (VecWindow.window (s := S112x5120) (σ 3) (k0_off2 k (BitVec.ofNat 32 (128 * j.val))) S112x128.size (k0_off2_inb k j))
    (VecWindow.window (s := S1x5120) (σ 4) (k0_off3 k (BitVec.ofNat 32 (128 * j.val))) S1x128.size (k0_off3_inb k j))

def normGroupV (r : FVec F S112x1 .f32) (k : Fin k0_t2_loop.trips) (j : Fin 2) (σ : St F) : St F :=
  let σ1 := σ.set 6 (VecWindow.put (s := S100x5120) (σ 6) (k0_off4 k (BitVec.ofNat 32 (128 * j.val))) S100x128.size (qcode100 (groupV r k j σ)))
  σ1.set 10 (VecWindow.put (s := S112x5120) (σ1 10) (k0_off2 k (BitVec.ofNat 32 (128 * j.val))) S112x128.size (shapeCast S112x128 (qdeq (groupV r k j σ)) shapeCasts_S112x128_S112x128))

theorem run_normGroup (hxc : M.a9.IsWhole) (ha2 : M16.IsWhole) (r : FVec F S112x1 .f32) (k : Fin k0_t2_loop.trips) (j : Fin 2) (σ : St F) :
    RunsTo c (stp c M σ) (normGroup M.a3 M.a4 M.a9 hxc M16 ha2 r k j) (qscale (groupV r k j σ)) (stp c M (normGroupV r k j σ)) :=
  (run_ld c M σ 3 _ _ _ _).bind <| (run_ld c M σ 4 _ _ _ _).bind <| (run_ld c M σ 6 _ _ _ _).bind <| (run_st c M σ 6 _ _ _ _ _ _).bind <|
  (run_ld c M _ 10 _ _ _ _).bind <| (run_st c M _ 10 _ _ _ _ _ _).bind <| RunsTo.pure c _ _

def normV (lanes : IVec S112x128 32) (r : FVec F S112x1 .f32) (k : Fin k0_t2_loop.trips) (p : St F × FVec F S112x128 .f32) : St F × FVec F S112x128 .f32 :=
  let σ1 := normGroupV r k 0 p.1
  (normGroupV r k 1 σ1, nlane lanes k 1 (qscale (groupV r k 1 σ1)) (nlane lanes k 0 (qscale (groupV r k 0 p.1)) p.2))

theorem run_norm (hxc : M.a9.IsWhole) (ha2 : M16.IsWhole) (lanes : IVec S112x128 32) (r : FVec F S112x1 .f32) (k : Fin k0_t2_loop.trips) (p : St F × FVec F S112x128 .f32) :
    RunsTo c (stp c M p.1) (normStep M.a3 M.a4 M.a9 hxc M16 ha2 lanes r k p.2) (normV lanes r k p).2 (stp c M (normV lanes r k p).1) :=
  (run_normGroup c M hxc ha2 r k 0 p.1).bind <| (run_normGroup c M hxc ha2 r k 1 _).bind <| RunsTo.pure c _ _

def normEndV (v : FVec F S112x128 .f32) (σ : St F) : St F :=
  let σ1 := σ.set 14 (VecWindow.put (s := S128x128) (σ 14) ![0, 0] S128x128.size (shapeCast S128x128 (broadcast S128x128 (Scalar.ofBits (F := F) .f32 0x00000000#32)) shapeCasts_S128x128_S128x128))
  let σ2 := σ1.set 14 (VecWindow.put (s := S128x128) (σ1 14) ![0, 0] S112x128.size (shapeCast S112x128 v shapeCasts_S112x128_S112x128))
  σ2.set 7 (VecWindow.put (s := S40x100) (σ2 7) ![0, 0] S40x100.size
    (extractStridedSlice S40x100 ![0, 0] (transpose S128x128 [1, 0] (VecWindow.window (s := S128x128) (σ2 14) ![0, 0] S128x128.size inb_S128x128_S128x128_0_0) transposes_S128x128_p1_0_S128x128) slices_S128x128_o0_0_S40x100))

theorem run_normEnd (v : FVec F S112x128 .f32) (σ : St F) :
    RunsTo c (stp c M σ) (normEnd M21 M.a10 v) ⟨⟩ (stp c M (normEndV v σ)) :=
  (run_ld c M σ 14 _ _ _ _).bind <| (run_st c M σ 14 _ _ _ _ _ _).bind <| (run_ld c M _ 14 _ _ _ _).bind <| (run_st c M _ 14 _ _ _ _ _ _).bind <|
  (run_ld c M _ 14 _ _ _ _).bind <| (run_ld c M _ 7 _ _ _ _).bind <| run_st c M _ 7 _ _ _ _ _ _

def zeroV (σ : St F) : St F :=
  σ.set 13 (VecWindow.put (s := S2x128x128) (σ 13) ![0, 0, 0] S2x128x128.size (shapeCast S2x128x128 (broadcast S2x128x128 (Scalar.ofBits (F := F) .f32 0x00000000#32)) shapeCasts_S2x128x128_S2x128x128))

theorem run_zero (σ : St F) : RunsTo c (stp c M σ) (zeroScales M20) ⟨⟩ (stp c M (zeroV σ)) :=
  (run_ld c M σ 13 _ _ _ _).bind <| run_st c M _ 13 _ _ _ _ _ _

def midV (σ : St F) : St F :=
  let σ1 := σ.set 9 (VecWindow.put (s := S136x100) (σ 9) ![0, 0] S128x100.size (extractStridedSlice S128x100 ![0, 0] (transpose S128x128 [1, 0]
    (shapeCast S128x128 (VecWindow.window (s := S2x128x128) (σ 13) ![0, 0, 0] S1x128x128.size inb_S2x128x128_S1x128x128_0_0_0) shapeCasts_S1x128x128_S128x128) transposes_S128x128_p1_0_S128x128) slices_S128x128_o0_0_S128x100))
  σ1.set 9 (VecWindow.put (s := S136x100) (σ1 9) ![128, 0] S8x100.size (extractStridedSlice S8x100 ![0, 0] (transpose S128x128 [1, 0]
    (shapeCast S128x128 (VecWindow.window (s := S2x128x128) (σ1 13) ![1, 0, 0] S1x128x128.size inb_S2x128x128_S1x128x128_1_0_0) shapeCasts_S1x128x128_S128x128) transposes_S128x128_p1_0_S128x128) slices_S128x128_o0_0_S8x100))

theorem run_mid (σ : St F) : RunsTo c (stp c M σ) (midScales M20 M.a12) ⟨⟩ (stp c M (midV σ)) :=
  (run_ld c M σ 13 _ _ _ _).bind <| (run_ld c M σ 9 _ _ _ _).bind <| (run_st c M _ 9 _ _ _ _ _ _).bind <|
  (run_ld c M _ 13 _ _ _ _).bind <| (run_ld c M _ 9 _ _ _ _).bind <| run_st c M _ 9 _ _ _ _ _ _

def outV (k : Fin k0_t4_loop.trips) (σ : St F) : St F :=
  σ.set 5 (VecWindow.put (s := S100x5120) (σ 5) (k0_off137 k) S100x256.size
    (truncf .bf16 (VecWindow.window (s := S112x5120) (σ 11) (k0_off136 k) S100x256.size (k0_off136_inb k) : Vec F S100x256 .f32) bitsLt_bf16_f32))

theorem run_out (hy : M.a8.IsWhole) (k : Fin k0_t4_loop.trips) (σ : St F) : RunsTo c (stp c M σ) (outStep M17 M.a8 hy k) ⟨⟩ (stp c M (outV k σ)) :=
  (run_ld c M σ 11 _ _ _ _).bind <| (run_ld c M σ 5 _ _ _ _).bind <| run_st c M _ 5 _ _ _ _ _ _

/-! ## The loops -/

def sqP (σ : St F) : ℕ → St F × FVec F S112x128 .f32 := itr sqV (σ, broadcast S112x128 (Scalar.ofBits .f32 0x00000000#32))

theorem run_sqs (σ : St F) :
    RunsTo c (stp c M σ) (Scf.Loop.for k0_t1_loop k0_t1_ok (broadcast S112x128 (Scalar.ofBits .f32 0x00000000#32)) fun k s => sqStep M.a3 M17 k s)
      (sqP σ k0_t1_loop.trips).2 (stp c M (sqP σ k0_t1_loop.trips).1) :=
  runs_loop c k0_t1_loop k0_t1_ok _ (fun k => stp c M (sqP σ k).1) (fun k => (sqP σ k).2) fun k => by
    have := run_sq c M k (sqP σ k.val)
    have e : sqP σ (k.val + 1) = _ := itr_succ _ _ k
    rw [e]; exact this

def normP (lanes : IVec S112x128 32) (r : FVec F S112x1 .f32) (σ : St F) : ℕ → St F × FVec F S112x128 .f32 := itr (normV lanes r) (σ, broadcast S112x128 (Scalar.ofBits .f32 0x00000000#32))

theorem run_norms (hxc : M.a9.IsWhole) (ha2 : M16.IsWhole) (lanes : IVec S112x128 32) (r : FVec F S112x1 .f32) (σ : St F) :
    RunsTo c (stp c M σ) (Scf.Loop.for k0_t2_loop k0_t2_ok (broadcast S112x128 (Scalar.ofBits .f32 0x00000000#32)) fun k v => normStep M.a3 M.a4 M.a9 hxc M16 ha2 lanes r k v)
      (normP lanes r σ k0_t2_loop.trips).2 (stp c M (normP lanes r σ k0_t2_loop.trips).1) :=
  runs_loop c k0_t2_loop k0_t2_ok _ (fun k => stp c M (normP lanes r σ k).1) (fun k => (normP lanes r σ k).2) fun k => by
    have := run_norm c M hxc ha2 lanes r k (normP lanes r σ k.val)
    have e : normP lanes r σ (k.val + 1) = _ := itr_succ _ _ k
    rw [e]; exact this

def outP (σ : St F) : ℕ → St F := itr outV σ

theorem run_outs (hy : M.a8.IsWhole) (σ : St F) :
    RunsTo c (stp c M σ) (Scf.Loop.for k0_t4_loop k0_t4_ok ⟨⟩ fun k _ => outStep M17 M.a8 hy k) ⟨⟩ (stp c M (outP σ k0_t4_loop.trips)) :=
  runs_loop c k0_t4_loop k0_t4_ok (fun k _ => outStep M17 M.a8 hy k) (fun k => stp c M (outP σ k)) (fun _ => PUnit.unit) fun k => by
    have := run_out c M hy k (outP σ k.val)
    have e : outP σ (k.val + 1) = _ := itr_succ _ _ k
    rw [e]; exact this

/-- The buffers when the norm is done. -/
def headV (σ : St F) : St F :=
  let p := sqP σ k0_t1_loop.trips
  let q := normP lane (rnorm p.2) p.1 k0_t2_loop.trips
  normEndV q.2 q.1
end Norm

end Cert.KernelIdeal.Hand
end
-- ==== Proof.KernelIdeal.Flight.lean ====
/-
  The ring of weight tiles: a slot is free, filling or ready.
-/
module

public import proofs.«01_k».proof.Proof.KernelIdeal.Ends
public import Idealize.ShloMosaic.Lib.Ring.Trips

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## Ends at a slot and a step -/

theorem srcA_inb (p : ℕ) (hp : p < 34) : ∀ a, (![0, 512 * p] : Fin 2 → ℕ) a + S5120x512.size a ≤ S5120x17408.size a := by
  intro a; fin_cases a; exacts [le_refl 5120, by show 512 * p + 512 ≤ 17408; omega]
theorem srcB_inb (p : ℕ) (hp : p < 34) : ∀ a, (![512 * p, 0] : Fin 2 → ℕ) a + S512x5120.size a ≤ S17408x5120.size a := by
  intro a; fin_cases a; exacts [by show 512 * p + 512 ≤ 17408; omega, le_refl 5120]
theorem sem_inb (s : Fin 3) : ∀ a, (![s.val] : Fin 1 → ℕ) a + S1.size a ≤ S3.size a := by
  intro a; fin_cases a; exact s.isLt

abbrev sA (M : Memref sig .tc .hbm S5120x17408 .fp8e4m3) (p : ℕ) (hp : p < 34) := srcA M ![0, 512 * p] (srcA_inb p hp)
abbrev sB (M : Memref sig .tc .hbm S17408x5120 .fp8e4m3) (p : ℕ) (hp : p < 34) := srcB M ![512 * p, 0] (srcB_inb p hp)
abbrev dA (M : Memref sig .tc .vmem S3x5120x512 .fp8e4m3) (s : Fin 3) := slotA M (rAt s.val 0 0) (slotA_inb s.val s.isLt)
abbrev dB (M : Memref sig .tc .vmem S3x512x5120 .fp8e4m3) (s : Fin 3) := slotB M (rAt s.val 0 0) (slotB_inb s.val s.isLt)
abbrev smAt (s : Fin 3) : DmaSem sig := semOf cc0_scratch9 ![s.val] (sem_inb s)

/-- The contents of the three weight arrays. -/
structure Arr (F : FTy → Type) (c : Dev nD) where
  g : Cont (F := F) c M5
  u : Cont (F := F) c M6
  d : Cont (F := F) c M7

/-- The tiles of a step. -/
def Arr.at {c : Dev nD} (A : Arr F c) (p : ℕ) (hp : p < 34) : Wts F :=
  ⟨(sA M5 p hp).view.read (Elt F) A.g, (sA M6 p hp).view.read (Elt F) A.u, (sB M7 p hp).view.read (Elt F) A.d⟩

section Slot
variable (c : Dev nD) (A : Arr F c)

/-- The weight arrays at one share. -/
def arrs (q : PosShare TreeShare) : sProp 𝕄 :=
  iprop((M5.view.loc (c : Thread nD τ) ↦{q} A.g) ∗ (M6.view.loc (c : Thread nD τ) ↦{q} A.u) ∗ (M7.view.loc (c : Thread nD τ) ↦{q} A.d))

abbrev qs (s : Fin 3) : PosShare TreeShare := Ring.shares3 fullShare s

/-- A step's windows of the weight arrays at a slot's share, one by one. -/
abbrev win5 (s : Fin 3) (p : ℕ) (hp : p < 34) : sProp 𝕄 := (sA M5 p hp).view.loc (c : Thread nD τ) ↦[(sA M5 p hp).view.set]{qs s} A.g
abbrev win6 (s : Fin 3) (p : ℕ) (hp : p < 34) : sProp 𝕄 := (sA M6 p hp).view.loc (c : Thread nD τ) ↦[(sA M6 p hp).view.set]{qs s} A.u
abbrev win7 (s : Fin 3) (p : ℕ) (hp : p < 34) : sProp 𝕄 := (sB M7 p hp).view.loc (c : Thread nD τ) ↦[(sB M7 p hp).view.set]{qs s} A.d

/-- and the rest of the arrays. -/
def rests (s : Fin 3) (p : ℕ) (hp : p < 34) : sProp 𝕄 :=
  iprop((M5.view.loc (c : Thread nD τ) ↦[Finset.univ \ (sA M5 p hp).view.set]{qs s} A.g) ∗ (M6.view.loc (c : Thread nD τ) ↦[Finset.univ \ (sA M6 p hp).view.set]{qs s} A.u)
    ∗ (M7.view.loc (c : Thread nD τ) ↦[Finset.univ \ (sB M7 p hp).view.set]{qs s} A.d))

theorem arrs_split (s : Fin 3) (p : ℕ) (hp : p < 34) :
    (arrs c A (qs s) : sProp 𝕄) ⊢ iprop(win5 c A s p hp ∗ win6 c A s p hp ∗ win7 c A s p hp ∗ rests c A s p hp) := by
  unfold arrs rests
  iintro ⟨H5, H6, H7⟩
  ihave H5 := (pointsTo_split_subset (q := qs s) (f := A.g) (Finset.subset_univ (sA M5 p hp).view.set)).1 $$ H5
  ihave H6 := (pointsTo_split_subset (q := qs s) (f := A.u) (Finset.subset_univ (sA M6 p hp).view.set)).1 $$ H6
  ihave H7 := (pointsTo_split_subset (q := qs s) (f := A.d) (Finset.subset_univ (sB M7 p hp).view.set)).1 $$ H7
  icases H5 with ⟨H5, R5⟩
  icases H6 with ⟨H6, R6⟩
  icases H7 with ⟨H7, R7⟩
  isplitl [H5]; · iexact H5
  isplitl [H6]; · iexact H6
  isplitl [H7]; · iexact H7
  isplitl [R5]; · iexact R5
  isplitl [R6]; · iexact R6
  iexact R7

theorem arrs_join (s : Fin 3) (p : ℕ) (hp : p < 34) :
    iprop(win5 c A s p hp ∗ win6 c A s p hp ∗ win7 c A s p hp ∗ rests c A s p hp) ⊢ (arrs c A (qs s) : sProp 𝕄) := by
  unfold arrs rests
  iintro ⟨H5, H6, H7, R5, R6, R7⟩
  isplitl [H5 R5]
  · iapply (pointsTo_split_subset (q := qs s) (f := A.g) (Finset.subset_univ (sA M5 p hp).view.set)).2
    isplitl [H5]; · iexact H5
    iexact R5
  isplitl [H6 R6]
  · iapply (pointsTo_split_subset (q := qs s) (f := A.u) (Finset.subset_univ (sA M6 p hp).view.set)).2
    isplitl [H6]; · iexact H6
    iexact R6
  iapply (pointsTo_split_subset (q := qs s) (f := A.d) (Finset.subset_univ (sB M7 p hp).view.set)).2
  isplitl [H7]; · iexact H7
  iexact R7

/-- What the three transfers of a slot deliver. -/
def dlv (s : Fin 3) (p : ℕ) (hp : p < 34) : Fin 3 → sProp 𝕄
  | 0 => iprop(owns (c : Thread nD τ) (dA M13 s) fullShare (A.at p hp).g ∗ win5 c A s p hp)
  | 1 => iprop(owns (c : Thread nD τ) (dA M14 s) fullShare (A.at p hp).u ∗ win6 c A s p hp)
  | 2 => iprop(owns (c : Thread nD τ) (dB M15 s) fullShare (A.at p hp).d ∗ win7 c A s p hp)

instance dlv_storable (s : Fin 3) (p : ℕ) (hp : p < 34) (t : Fin 3) : Storable (upEmb : UEmb _ 𝕄) (dlv c A s p hp t) := by
  fin_cases t <;> simp only [dlv] <;> infer_instance

/-- The slot's transfers with `j` of them started. -/
def btc (s : Fin 3) (p : ℕ) (hp : p < 34) (j u : ℕ) : sProp 𝕄 :=
  Transfers.Batch (countersEmb (U := Pipeline.UD sig nD τ)) (c : Thread nD τ) (.dma (smAt s)) () credit (dlv c A s p hp) j u

theorem btc_intro (s : Fin 3) (p : ℕ) (hp : p < 34) (j u : ℕ) :
    Transfers.Batch (countersEmb (U := Pipeline.UD sig nD τ)) (c : Thread nD τ) (.dma (smAt s)) () credit (dlv c A s p hp) j u ⊢ (btc c A s p hp j u : sProp 𝕄) := by
  unfold btc; exact .rfl

theorem dlv_all (s : Fin 3) (p : ℕ) (hp : p < 34) :
    bigSep Finset.univ (dlv c A s p hp) ⊢ (iprop((owns (c : Thread nD τ) (dA M13 s) fullShare (A.at p hp).g ∗ win5 c A s p hp)
      ∗ (owns (c : Thread nD τ) (dA M14 s) fullShare (A.at p hp).u ∗ win6 c A s p hp) ∗ owns (c : Thread nD τ) (dB M15 s) fullShare (A.at p hp).d ∗ win7 c A s p hp) : sProp 𝕄) := by
  rw [Ring.bigSep_fin3]; exact .rfl

/-- A slot at rest. -/
def free (s : Fin 3) : sProp 𝕄 := iprop((∃ W, ringp c s.val s.isLt W) ∗ semVal ((c : Thread nD τ), SemLoc.dma (smAt s)) 0 ∗ arrs c A (qs s))
/-- A slot with its three transfers under way. -/
def busy (s : Fin 3) (p : ℕ) (hp : p < 34) : sProp 𝕄 := iprop(btc c A s p hp 3 0 ∗ rests c A s p hp)
/-- A slot filled. -/
def ready (s : Fin 3) (p : ℕ) (hp : p < 34) : sProp 𝕄 :=
  iprop(ringp c s.val s.isLt (A.at p hp) ∗ semVal ((c : Thread nD τ), SemLoc.dma (smAt s)) 0 ∗ arrs c A (qs s))

/-- A slot of whose transfers the first two are under way. -/
def busy2 (s : Fin 3) (p : ℕ) (hp : p < 34) : sProp 𝕄 :=
  iprop((∃ X, owns (c : Thread nD τ) (dB M15 s) fullShare X) ∗ win7 c A s p hp ∗ btc c A s p hp 2 0 ∗ rests c A s p hp)

theorem ready_free (s : Fin 3) (p : ℕ) (hp : p < 34) : (ready c A s p hp : sProp 𝕄) ⊢ free c A s := by
  unfold ready free
  iintro ⟨H, R⟩
  isplitl [H]; · iexists _; iexact H
  iexact R

/-! ## One transfer started -/

theorem run_enqA (src : Memref sig .tc .hbm S5120x512 .fp8e4m3) (dst : Memref sig .tc .vmem S5120x512 .fp8e4m3) (sm : DmaSem sig)
    (es : src.view.WordExact) (ed : dst.view.WordExact) (q : PosShare TreeShare) (f : Buf (Elt F) (src.view.loc (c : Thread nD τ)))
    (X : Vec F S5120x512 .fp8e4m3) (N : ℕ) (hN : dst.view.amount (SemLoc.dma sm) = N) (D : Fin 3 → sProp 𝕄) (j : ℕ) (hj : j < 3)
    (hD : iprop(owns (c : Thread nD τ) dst fullShare (src.view.read (Elt F) f) ∗ (src.view.loc (c : Thread nD τ) ↦[src.view.set]{q} f)) ⊢ D ⟨j, hj⟩) :
    RunsTo (F := F) c iprop((src.view.loc (c : Thread nD τ) ↦[src.view.set]{q} f) ∗ owns (c : Thread nD τ) dst fullShare X ∗ Transfers.Batch (countersEmb (U := Pipeline.UD sig nD τ)) (c : Thread nD τ) (.dma sm) () N D j 0)
      (enqA src dst sm es ed) ⟨⟩ (Transfers.Batch (countersEmb (U := Pipeline.UD sig nD τ)) (c : Thread nD τ) (.dma sm) () N D (j + 1) 0) := by
  intro β K Q
  rw [owns]
  iintro ⟨⟨Hs, ⟨%fd, -, Hd⟩, HB⟩, Hk⟩
  iapply (Transfers.wp_dmaBatch (countersEmb (U := Pipeline.UD sig nD τ)) Variants.none (c : Thread nD τ) none (src := src) (dst := dst) (via := ReadAs.same) (fs := f) (fd := fd) (k := K) () N hN subset_rfl
    (D := D) (j := j) (u := 0) hj (Nat.zero_le _) (BIBase.Entails.trans (by
      iintro ⟨Hd, Hs⟩
      isplitl [Hd]
      · unfold owns
        iexists (dst.view.write (Elt F) fd (ReadAs.same.apply (src.view.read (Elt F) f)) Finset.univ)
        isplitr
        · ipureintro; exact View.read_write_univ _ _
        iexact Hd
      iexact Hs) hD)) $$ [Hs Hd HB]
  · isplitl [Hs]; · iexact Hs
    isplitl [Hd]; · iexact Hd
    iexact HB
  iexact Hk

theorem run_enqB (src : Memref sig .tc .hbm S512x5120 .fp8e4m3) (dst : Memref sig .tc .vmem S512x5120 .fp8e4m3) (sm : DmaSem sig)
    (es : src.view.WordExact) (ed : dst.view.WordExact) (q : PosShare TreeShare) (f : Buf (Elt F) (src.view.loc (c : Thread nD τ)))
    (X : Vec F S512x5120 .fp8e4m3) (N : ℕ) (hN : dst.view.amount (SemLoc.dma sm) = N) (D : Fin 3 → sProp 𝕄) (j : ℕ) (hj : j < 3)
    (hD : iprop(owns (c : Thread nD τ) dst fullShare (src.view.read (Elt F) f) ∗ (src.view.loc (c : Thread nD τ) ↦[src.view.set]{q} f)) ⊢ D ⟨j, hj⟩) :
    RunsTo (F := F) c iprop((src.view.loc (c : Thread nD τ) ↦[src.view.set]{q} f) ∗ owns (c : Thread nD τ) dst fullShare X ∗ Transfers.Batch (countersEmb (U := Pipeline.UD sig nD τ)) (c : Thread nD τ) (.dma sm) () N D j 0)
      (enqB src dst sm es ed) ⟨⟩ (Transfers.Batch (countersEmb (U := Pipeline.UD sig nD τ)) (c : Thread nD τ) (.dma sm) () N D (j + 1) 0) := by
  intro β K Q
  rw [owns]
  iintro ⟨⟨Hs, ⟨%fd, -, Hd⟩, HB⟩, Hk⟩
  iapply (Transfers.wp_dmaBatch (countersEmb (U := Pipeline.UD sig nD τ)) Variants.none (c : Thread nD τ) none (src := src) (dst := dst) (via := ReadAs.same) (fs := f) (fd := fd) (k := K) () N hN subset_rfl
    (D := D) (j := j) (u := 0) hj (Nat.zero_le _) (BIBase.Entails.trans (by
      iintro ⟨Hd, Hs⟩
      isplitl [Hd]
      · unfold owns
        iexists (dst.view.write (Elt F) fd (ReadAs.same.apply (src.view.read (Elt F) f)) Finset.univ)
        isplitr
        · ipureintro; exact View.read_write_univ _ _
        iexact Hd
      iexact Hs) hD)) $$ [Hs Hd HB]
  · isplitl [Hs]; · iexact Hs
    isplitl [Hd]; · iexact Hd
    iexact HB
  iexact Hk

theorem amt13 (s : Fin 3) : (dA M13 s).view.amount (SemLoc.dma (smAt s)) = credit := rfl
theorem amt14 (s : Fin 3) : (dA M14 s).view.amount (SemLoc.dma (smAt s)) = credit := rfl
theorem amt15 (s : Fin 3) : (dB M15 s).view.amount (SemLoc.dma (smAt s)) = credit := rfl
theorem credit_pos : 0 < credit := View.amount_pos _ _ (Shape.numel_pos (by intro a; fin_cases a <;> decide))

variable (s : Fin 3) (p : ℕ) (hp : p < 34)

theorem run_enq5 (e5 : (sA M5 p hp).view.WordExact) (e13 : (dA M13 s).view.WordExact) (X : Vec F S5120x512 .fp8e4m3) :
    RunsTo (F := F) c iprop(win5 c A s p hp ∗ owns (c : Thread nD τ) (dA M13 s) fullShare X ∗ btc c A s p hp 0 0)
      (enqA (sA M5 p hp) (dA M13 s) (smAt s) e5 e13) ⟨⟩ (btc c A s p hp 1 0) :=
  run_enqA c (sA M5 p hp) (dA M13 s) (smAt s) e5 e13 (qs s) A.g X credit (amt13 s) (dlv c A s p hp) 0 (by decide) (by unfold dlv Arr.at; exact .rfl)

theorem run_enq6 (e6 : (sA M6 p hp).view.WordExact) (e14 : (dA M14 s).view.WordExact) (X : Vec F S5120x512 .fp8e4m3) :
    RunsTo (F := F) c iprop(win6 c A s p hp ∗ owns (c : Thread nD τ) (dA M14 s) fullShare X ∗ btc c A s p hp 1 0)
      (enqA (sA M6 p hp) (dA M14 s) (smAt s) e6 e14) ⟨⟩ (btc c A s p hp 2 0) :=
  run_enqA c (sA M6 p hp) (dA M14 s) (smAt s) e6 e14 (qs s) A.u X credit (amt14 s) (dlv c A s p hp) 1 (by decide) (by unfold dlv Arr.at; exact .rfl)

theorem run_enq7 (e7 : (sB M7 p hp).view.WordExact) (e15 : (dB M15 s).view.WordExact) (X : Vec F S512x5120 .fp8e4m3) :
    RunsTo (F := F) c iprop(win7 c A s p hp ∗ owns (c : Thread nD τ) (dB M15 s) fullShare X ∗ btc c A s p hp 2 0)
      (enqB (sB M7 p hp) (dB M15 s) (smAt s) e7 e15) ⟨⟩ (btc c A s p hp 3 0) :=
  run_enqB c (sB M7 p hp) (dB M15 s) (smAt s) e7 e15 (qs s) A.d X credit (amt15 s) (dlv c A s p hp) 2 (by decide) (by unfold dlv Arr.at; exact .rfl)

/-- The first two transfers of a slot started. -/
theorem run_start2 (e5 : (sA M5 p hp).view.WordExact) (e13 : (dA M13 s).view.WordExact) (e6 : (sA M6 p hp).view.WordExact) (e14 : (dA M14 s).view.WordExact) :
    RunsTo (F := F) c (free c A s)
      (enqA (sA M5 p hp) (dA M13 s) (smAt s) e5 e13 >>= fun _ => enqA (sA M6 p hp) (dA M14 s) (smAt s) e6 e14) ⟨⟩ (busy2 c A s p hp) := by
  intro β K Q
  unfold free ringp busy2
  iintro ⟨⟨⟨%W, Hg, Hu, Hd⟩, Hv, HA⟩, Hk⟩
  ihave HA := (arrs_split c A s p hp) $$ HA
  icases HA with ⟨H5, H6, H7, HR⟩
  imod (Transfers.batch_alloc' (Lvl := ℕ) (countersEmb (U := Pipeline.UD sig nD τ)) (c : Thread nD τ) () credit (dlv c A s p hp) (sm := .dma (smAt s)) (E := Set.univ)) $$ Hv with HB
  ihave HB := (btc_intro c A s p hp 0 0) $$ HB
  rw [bind_assoc]
  iapply (run_enq5 c A s p hp e5 e13 W.g _ _ _)
  isplitl [Hg H5 HB]
  · isplitl [H5]; · iexact H5
    isplitl [Hg]; · iexact Hg
    iexact HB
  iintro HB
  iapply (run_enq6 c A s p hp e6 e14 W.u _ _ _)
  isplitl [Hu H6 HB]
  · isplitl [H6]; · iexact H6
    isplitl [Hu]; · iexact Hu
    iexact HB
  iintro HB
  iapply Hk
  isplitl [Hd]; · iexists W.d; iexact Hd
  isplitl [H7]; · iexact H7
  isplitl [HB]; · iexact HB
  iexact HR

/-- The third started. -/
theorem run_start3 (e7 : (sB M7 p hp).view.WordExact) (e15 : (dB M15 s).view.WordExact) :
    RunsTo (F := F) c (busy2 c A s p hp) (enqB (sB M7 p hp) (dB M15 s) (smAt s) e7 e15) ⟨⟩ (busy c A s p hp) := by
  intro β K Q
  unfold busy busy2
  iintro ⟨⟨⟨%X, Hd⟩, H7, HB, HR⟩, Hk⟩
  iapply (run_enq7 c A s p hp e7 e15 X _ _ _)
  isplitl [Hd H7 HB]
  · isplitl [H7]; · iexact H7
    isplitl [Hd]; · iexact Hd
    iexact HB
  iintro HB
  iapply Hk
  isplitl [HB]; · iexact HB
  iexact HR

/-! ## The three started, the three waited for -/

theorem run_issue3 (s5 s6 : Memref sig .tc .hbm S5120x512 .fp8e4m3) (s7 : Memref sig .tc .hbm S512x5120 .fp8e4m3)
    (d13 d14 : Memref sig .tc .vmem S5120x512 .fp8e4m3) (d15 : Memref sig .tc .vmem S512x5120 .fp8e4m3) (sm : DmaSem sig)
    (e5 : s5.view.WordExact) (e6 : s6.view.WordExact) (e7 : s7.view.WordExact)
    (e13 : d13.view.WordExact) (e14 : d14.view.WordExact) (e15 : d15.view.WordExact)
    (h5 : s5 = sA M5 p hp) (h6 : s6 = sA M6 p hp) (h7 : s7 = sB M7 p hp) (h13 : d13 = dA M13 s) (h14 : d14 = dA M14 s) (h15 : d15 = dB M15 s) (hsm : sm = smAt s) :
    RunsTo (F := F) c (free c A s) (issue3 s5 s6 s7 d13 d14 d15 sm e5 e6 e7 e13 e14 e15) ⟨⟩ (busy c A s p hp) := by
  subst h5 h6 h7 h13 h14 h15 hsm
  have h := (run_start2 c A s p hp e5 e13 e6 e14).bind (R := fun _ => enqB (sB M7 p hp) (dB M15 s) (smAt s) e7 e15) (run_start3 c A s p hp e7 e15)
  rw [bind_assoc] at h
  exact h

/-- The core's waits, whatever they are. -/
def owe : sProp 𝕄 := iprop(∃ W, owes (c : Thread nD τ) 0 W)

theorem run_wait3 (s5 s6 : Memref sig .tc .hbm S5120x512 .fp8e4m3) (s7 : Memref sig .tc .hbm S512x5120 .fp8e4m3)
    (d13 d14 : Memref sig .tc .vmem S5120x512 .fp8e4m3) (d15 : Memref sig .tc .vmem S512x5120 .fp8e4m3) (sm : DmaSem sig)
    (e5 : s5.view.WordExact) (e6 : s6.view.WordExact) (e7 : s7.view.WordExact)
    (e13 : d13.view.WordExact) (e14 : d14.view.WordExact) (e15 : d15.view.WordExact)
    (h13 : d13 = dA M13 s) (h14 : d14 = dA M14 s) (h15 : d15 = dB M15 s) (hsm : sm = smAt s) :
    RunsTo (F := F) c iprop(busy c A s p hp ∗ owe c) (wait3 s5 s6 s7 d13 d14 d15 sm e5 e6 e7 e13 e14 e15) ⟨⟩ iprop(ready c A s p hp ∗ owe c) := by
  subst h13 h14 h15 hsm
  intro β K Q
  unfold busy ready ringp owe btc
  iintro ⟨⟨⟨HB, HR⟩, %W, HO⟩, Hk⟩
  iapply (Transfers.wp_waitBatch (countersEmb (U := Pipeline.UD sig nD τ)) Variants.none (c : Thread nD τ) none () (N := credit) (amt13 s) (D := dlv c A s p hp) (u := 0)
    (by have := credit_pos; omega)) $$ [HB HO]
  · isplitl [HB] <;> iassumption
  iintro ⟨HB, HO⟩
  iapply (Transfers.wp_waitBatch (countersEmb (U := Pipeline.UD sig nD τ)) Variants.none (c : Thread nD τ) none () (N := credit) (amt14 s) (D := dlv c A s p hp) (u := 0 + credit)
    (by have := credit_pos; omega)) $$ [HB HO]
  · isplitl [HB] <;> iassumption
  iintro ⟨HB, HO⟩
  iapply (Transfers.wp_waitBatchLast (countersEmb (U := Pipeline.UD sig nD τ)) Variants.none (c : Thread nD τ) none () (N := credit) (amt15 s) credit_pos (D := dlv c A s p hp) (u := 0 + credit + credit)
    (by omega)) $$ [HB HO]
  · isplitl [HB] <;> iassumption
  iintro ⟨HD, Hv, HO⟩
  ihave HD := (dlv_all c A s p hp) $$ HD
  icases HD with ⟨⟨Hg, H5⟩, ⟨Hu, H6⟩, Hd, H7⟩
  iapply Hk
  isplitr [HO]
  · isplitl [Hg Hu Hd]
    · isplitl [Hg]; · iexact Hg
      isplitl [Hu]; · iexact Hu
      iexact Hd
    isplitl [Hv]; · iexact Hv
    iapply (arrs_join c A s p hp)
    isplitl [H5]; · iexact H5
    isplitl [H6]; · iexact H6
    isplitl [H7]; · iexact H7
    iexact HR
  iexists _; iexact HO

end Slot

end Cert.KernelIdeal.Hand
end
-- ==== Proof.KernelIdeal.Run.lean ====
/-
  The run of the whole body.
-/
module

public import proofs.«01_k».proof.Proof.KernelIdeal.Flight

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## The loop over the weights -/

theorem slotN_eq : ∀ k : Fin k0_t3_loop.trips, slotN k = k.val % 3 := by decide +kernel
theorem cond_iff : ∀ k : Fin k0_t3_loop.trips, k0_cond1 k = 1#1 ↔ k.val + 2 < 34 := by decide +kernel
theorem trips3 : k0_t3_loop.trips = 34 := by decide +kernel
theorem step_lt (k : Fin k0_t3_loop.trips) : k.val < 34 := Nat.lt_of_lt_of_le k.isLt k0_t3_abs.2.1

/-- The slot a step uses. -/
abbrev slotOf (p : ℕ) : Fin 3 := ⟨p % 3, Nat.mod_lt _ (by decide)⟩

theorem slotA_congr (M : Memref sig .tc .vmem S3x5120x512 .fp8e4m3) {o o' : Fin 3 → ℕ} (e : o = o') (h h') : slotA M o h = slotA M o' h' := by subst e; rfl
theorem slotB_congr (M : Memref sig .tc .vmem S3x512x5120 .fp8e4m3) {o o' : Fin 3 → ℕ} (e : o = o') (h h') : slotB M o h = slotB M o' h' := by subst e; rfl
theorem srcA_congr (M : Memref sig .tc .hbm S5120x17408 .fp8e4m3) {o o' : Fin 2 → ℕ} (e : o = o') (h h') : srcA M o h = srcA M o' h' := by subst e; rfl
theorem srcB_congr (M : Memref sig .tc .hbm S17408x5120 .fp8e4m3) {o o' : Fin 2 → ℕ} (e : o = o') (h h') : srcB M o h = srcB M o' h' := by subst e; rfl
theorem semOf_congr {o o' : Fin 1 → ℕ} (e : o = o') (h h') : semOf cc0_scratch9 o h = semOf cc0_scratch9 o' h' := by subst e; rfl

section Loop
variable (c : Dev nD) (M : Mems) (A : Arr F c)

theorem ringp_congr {s s' : ℕ} (e : s = s') (hs hs') (W : Wts F) : (ringp c s hs W : sProp 𝕄) = ringp c s' hs' W := by subst e; rfl

/-- A step's slot before its turn. -/
def slotSt (p : ℕ) : sProp 𝕄 := if h : p < 34 then busy c A (slotOf p) p h else free c A (slotOf p)
/-- The three slots before step `k`. -/
def ring (k : ℕ) : sProp 𝕄 := iprop(slotSt c A k ∗ slotSt c A (k + 1) ∗ free c A (slotOf (k + 2)))

abbrev fetchM (k : Fin k0_t3_loop.trips) : Pr F Unit :=
  fetch M5 (Memref.isWhole_whole _) M6 (Memref.isWhole_whole _) M7 (Memref.isWhole_whole _) M13 (Memref.isWhole_whole _) M14 (Memref.isWhole_whole _)
    M15 (Memref.isWhole_whole _) cc0_scratch9 k

theorem run_issueAt (k : Fin k0_t3_loop.trips) (h : k0_cond1 k = 1#1) :
    RunsTo (F := F) c (free c A (slotOf (k.val + 2))) (issueAt M5 (Memref.isWhole_whole _) M6 (Memref.isWhole_whole _) M7 (Memref.isWhole_whole _) M13 (Memref.isWhole_whole _)
      M14 (Memref.isWhole_whole _) M15 (Memref.isWhole_whole _) cc0_scratch9 k h) ⟨⟩ (busy c A (slotOf (k.val + 2)) (k.val + 2) ((cond_iff k).1 h)) :=
  run_issue3 c A (slotOf (k.val + 2)) (k.val + 2) ((cond_iff k).1 h) _ _ _ _ _ _ _ _ _ _ _ _ _
    (srcA_congr M5 ((k0_off7_eq k).trans (by rw [Nat.mul_add])) _ _) (srcA_congr M6 ((k0_off7_eq k).trans (by rw [Nat.mul_add])) _ _)
    (srcB_congr M7 ((k0_off9_eq k).trans (by rw [Nat.mul_add])) _ _)
    (slotA_congr M13 (k0_off6_eq k) _ _) (slotA_congr M14 (k0_off6_eq k) _ _) (slotB_congr M15 (k0_off8_eq k) _ _) (semOf_congr (k0_off5_eq k) _ _)

theorem run_waitAt (k : Fin k0_t3_loop.trips) :
    RunsTo (F := F) c iprop(busy c A (slotOf k.val) k.val (step_lt k) ∗ owe c) (waitAt M5 (Memref.isWhole_whole _) M6 (Memref.isWhole_whole _) M7 (Memref.isWhole_whole _) M13 (Memref.isWhole_whole _)
      M14 (Memref.isWhole_whole _) M15 (Memref.isWhole_whole _) cc0_scratch9 k) ⟨⟩ iprop(ready c A (slotOf k.val) k.val (step_lt k) ∗ owe c) :=
  run_wait3 c A (slotOf k.val) k.val (step_lt k) _ _ _ _ _ _ _ _ _ _ _ _ _
    (slotA_congr M13 (k0_off11_eq k) _ _) (slotA_congr M14 (k0_off11_eq k) _ _) (slotB_congr M15 (k0_off13_eq k) _ _) (semOf_congr (k0_off10_eq k) _ _)

theorem run_fetch (k : Fin k0_t3_loop.trips) :
    RunsTo (F := F) c iprop(ring c A k.val ∗ owe c) (fetchM k) ⟨⟩
      iprop((ready c A (slotOf k.val) k.val (step_lt k) ∗ slotSt c A (k.val + 1) ∗ slotSt c A (k.val + 2)) ∗ owe c) := by
  intro β K Q
  have e0 : (slotSt c A k.val : sProp 𝕄) = busy c A (slotOf k.val) k.val (step_lt k) := dif_pos (step_lt k)
  unfold fetchM fetch ring
  rw [e0]
  by_cases h : k0_cond1 k = 1#1
  · have e2 : (slotSt c A (k.val + 2) : sProp 𝕄) = busy c A (slotOf (k.val + 2)) (k.val + 2) ((cond_iff k).1 h) := dif_pos ((cond_iff k).1 h)
    rw [e2]
    simp only [dif_pos h, bind_assoc]
    iintro ⟨⟨⟨H0, H1, H2⟩, HO⟩, Hk⟩
    iapply (run_issueAt c A k h _ _ _)
    isplitl [H2]; · iexact H2
    iintro H2
    iapply (run_waitAt c A k _ _ _)
    isplitl [H0 HO]
    · isplitl [H0]; · iexact H0
      iexact HO
    iintro ⟨H0, HO⟩
    iapply Hk
    isplitr [HO]
    · isplitl [H0]; · iexact H0
      isplitl [H1]; · iexact H1
      iexact H2
    iexact HO
  · have e2 : (slotSt c A (k.val + 2) : sProp 𝕄) = free c A (slotOf (k.val + 2)) := dif_neg (fun h' => h ((cond_iff k).2 h'))
    rw [e2]
    simp only [dif_neg h, bind_assoc, pure_bind]
    iintro ⟨⟨⟨H0, H1, H2⟩, HO⟩, Hk⟩
    iapply (run_waitAt c A k _ _ _)
    isplitl [H0 HO]
    · isplitl [H0]; · iexact H0
      iexact HO
    iintro ⟨H0, HO⟩
    iapply Hk
    isplitr [HO]
    · isplitl [H0]; · iexact H0
      isplitl [H1]; · iexact H1
      iexact H2
    iexact HO

/-- The buffers before step `k`. -/
def stepP (lanes : IVec S112x128 32) (σ : St F) : ℕ → St F := itr (fun k σ => stepV lanes (A.at k.val (step_lt k)) k σ) σ

/-- What the loop holds before step `k`. -/
def inv3 (lanes : IVec S112x128 32) (σ : St F) (k : ℕ) : sProp 𝕄 := iprop((ring c A k ∗ owe c) ∗ stp c M (stepP c A lanes σ k))

theorem run_trip (hmc : M.a11.IsWhole) (lanes : IVec S112x128 32) (σ : St F) (k : Fin k0_t3_loop.trips) :
    RunsTo (F := F) c (inv3 c M A lanes σ k.val) (fetchM k >>= fun _ => stepBody M.a0 M.a1 M.a2 M.a11 hmc M13 M14 M15 M16 M17 M19 (Memref.isWhole_whole _) M20 lanes k) ⟨⟩
      (inv3 c M A lanes σ (k.val + 1)) := by
  intro β K Q
  have e : stepP c A lanes σ (k.val + 1) = stepV lanes (A.at k.val (step_lt k)) k (stepP c A lanes σ k.val) := itr_succ _ _ k
  unfold inv3 ring
  rw [e, bind_assoc]
  iintro ⟨⟨HR, HS⟩, Hk⟩
  iapply (run_fetch c A k _ _ _)
  isplitl [HR]; · unfold ring; iexact HR
  unfold ready
  iintro ⟨⟨⟨HW, HV, HA⟩, H1, H2⟩, HO⟩
  iapply (run_step c M k (A.at k.val (step_lt k)) (stepP c A lanes σ k.val) lanes hmc (Memref.isWhole_whole _) _ _ _)
  unfold trp
  isplitl [HW HS]
  · isplitl [HW]
    · rw [ringp_congr c (slotN_eq k) (slotN_lt k) (slotOf k.val).isLt]; iexact HW
    iexact HS
  iintro ⟨HW, HS⟩
  iapply Hk
  isplitr [HS]
  · isplitr [HO]
    · isplitl [H1]; · iexact H1
      isplitl [H2]; · iexact H2
      have e3 : slotOf (k.val + 1 + 2) = slotOf k.val := by
        apply Fin.ext; show (k.val + 1 + 2) % 3 = k.val % 3; exact Nat.add_mod_right k.val 3
      rw [e3]
      iapply (ready_free c A (slotOf k.val) k.val (step_lt k))
      unfold ready
      isplitl [HW]
      · rw [ringp_congr c (slotN_eq k).symm (slotOf k.val).isLt (slotN_lt k)]; iexact HW
      isplitl [HV]; · iexact HV
      iexact HA
    iexact HO
  iexact HS
end Loop

theorem lt0 : 0 < 34 := by decide
theorem lt1 : 1 < 34 := by decide

section Whole
variable (c : Dev nD) (M : Mems) (A : Arr F c)

/-- The transfers before the loop. -/
theorem run_start (s5 s6 : Memref sig .tc .hbm S5120x512 .fp8e4m3) (s7 : Memref sig .tc .hbm S512x5120 .fp8e4m3)
    (d13 d14 : Memref sig .tc .vmem S5120x512 .fp8e4m3) (d15 : Memref sig .tc .vmem S512x5120 .fp8e4m3) (sm : DmaSem sig)
    (t5 t6 : Memref sig .tc .hbm S5120x512 .fp8e4m3) (f13 f14 : Memref sig .tc .vmem S5120x512 .fp8e4m3) (sm' : DmaSem sig)
    (e5 : s5.view.WordExact) (e13 : d13.view.WordExact) (e6 : s6.view.WordExact) (e14 : d14.view.WordExact) (e7 : s7.view.WordExact) (e15 : d15.view.WordExact)
    (g5 : t5.view.WordExact) (g13 : f13.view.WordExact) (g6 : t6.view.WordExact) (g14 : f14.view.WordExact)
    (h5 : s5 = sA M5 0 (by decide)) (h6 : s6 = sA M6 0 (by decide)) (h7 : s7 = sB M7 0 (by decide)) (h13 : d13 = dA M13 0) (h14 : d14 = dA M14 0) (h15 : d15 = dB M15 0)
    (hsm : sm = smAt 0) (i5 : t5 = sA M5 1 (by decide)) (i6 : t6 = sA M6 1 (by decide)) (i13 : f13 = dA M13 1) (i14 : f14 = dA M14 1) (hsm' : sm' = smAt 1) :
    RunsTo (F := F) c iprop(free c A 0 ∗ free c A 1)
      (do enqA s5 d13 sm e5 e13; enqA s6 d14 sm e6 e14; enqB s7 d15 sm e7 e15; enqA t5 f13 sm' g5 g13; enqA t6 f14 sm' g6 g14) ⟨⟩
      iprop(busy c A 0 0 (by decide) ∗ busy2 c A 1 1 (by decide)) := by
  subst h5 h6 h7 h13 h14 h15 hsm i5 i6 i13 i14 hsm'
  intro β K Q
  have h1 := fun K Q => run_start2 c A 0 0 (by decide) e5 e13 e6 e14 β K Q
  have h3 := fun K Q => run_start2 c A 1 1 (by decide) g5 g13 g6 g14 β K Q
  simp only [bind_assoc] at h1 h3 ⊢
  iintro ⟨⟨H0, H1⟩, Hk⟩
  iapply (h1 _ _)
  isplitl [H0]; · iexact H0
  iintro H0
  iapply (run_start3 c A 0 0 lt0 e7 e15 _ _ _)
  isplitl [H0]; · iexact H0
  iintro H0
  iapply (h3 _ _)
  isplitl [H1]; · iexact H1
  iintro H1
  iapply Hk
  isplitl [H0]; · iexact H0
  iexact H1

abbrev start5M : Pr F Unit :=
  start5 M5 (Memref.isWhole_whole _) M6 (Memref.isWhole_whole _) M7 (Memref.isWhole_whole _) M13 (Memref.isWhole_whole _) M14 (Memref.isWhole_whole _) M15 (Memref.isWhole_whole _) cc0_scratch9

theorem run_start5 : RunsTo (F := F) c iprop(free c A 0 ∗ free c A 1) start5M ⟨⟩ iprop(busy c A 0 0 (by decide) ∗ busy2 c A 1 1 (by decide)) :=
  run_start c A _ _ _ _ _ _ _ _ _ _ _ _ _ _ _ _ _ _ _ _ _ _ rfl rfl rfl rfl rfl rfl rfl rfl rfl rfl rfl rfl

theorem run_start6 : RunsTo (F := F) c (busy2 c A 1 1 (by decide)) (start6 M7 (Memref.isWhole_whole _) M15 (Memref.isWhole_whole _) cc0_scratch9) ⟨⟩ (busy c A 1 1 (by decide)) :=
  run_start3 c A 1 1 (by decide) _ _

theorem run_head (hxc : M.a9.IsWhole) (σ : St F) :
    RunsTo (F := F) c iprop(busy2 c A 1 1 (by decide) ∗ stp c M σ)
      (normAll M.a3 M.a4 M7 (Memref.isWhole_whole _) M.a9 hxc M.a10 M15 (Memref.isWhole_whole _) M16 (Memref.isWhole_whole _) M17 M21 cc0_scratch9) lane
      iprop(busy c A 1 1 (by decide) ∗ stp c M (headV σ)) := by
  intro β K Q
  unfold normAll
  simp only [bind_assoc]
  iintro ⟨⟨H1, HS⟩, Hk⟩
  iapply (run_start6 c A _ _ _)
  isplitl [H1]; · iexact H1
  iintro H1
  iapply (run_sqs c M σ _ _ _)
  isplitl [HS]; · iexact HS
  iintro HS
  iapply (run_norms c M hxc (Memref.isWhole_whole _) lane _ _ _ _ _)
  isplitl [HS]; · iexact HS
  iintro HS
  iapply (run_normEnd c M _ _ _ _ _)
  isplitl [HS]; · iexact HS
  iintro HS
  rw [pure_bind]
  iapply Hk
  isplitl [H1]; · iexact H1
  iexact HS

/-- The buffers at the end. -/
def finV (σ : St F) : St F := outP (midV (stepP c A lane (zeroV (headV σ)) k0_t3_loop.trips)) k0_t4_loop.trips

section Args
variable (h0 : M.a0.IsWhole) (h1 : M.a1.IsWhole) (h2 : M.a2.IsWhole) (h3 : M.a3.IsWhole) (h4 : M.a4.IsWhole) (h8 : M.a8.IsWhole) (h9 : M.a9.IsWhole) (h10 : M.a10.IsWhole) (h11 : M.a11.IsWhole) (h12 : M.a12.IsWhole)

theorem run_loop3 (σ : St F) :
    RunsTo (F := F) c (inv3 c M A lane σ 0) (Scf.Loop.for k0_t3_loop k0_t3_ok ⟨⟩ fun k _ => k0_t3_body M.a0 h0 M.a1 h1 M.a2 h2 M.a3 h3 M.a4 h4 M5 (Memref.isWhole_whole _) M6 (Memref.isWhole_whole _) M7 (Memref.isWhole_whole _) M.a8 h8 M.a9 h9 M.a10 h10 M.a11 h11 M.a12 h12 M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) cc0_scratch9 lane k ⟨⟩) ⟨⟩
      (inv3 c M A lane σ k0_t3_loop.trips) :=
  runs_loop c k0_t3_loop k0_t3_ok (fun k _ => k0_t3_body M.a0 h0 M.a1 h1 M.a2 h2 M.a3 h3 M.a4 h4 M5 (Memref.isWhole_whole _) M6 (Memref.isWhole_whole _) M7 (Memref.isWhole_whole _) M.a8 h8 M.a9 h9 M.a10 h10 M.a11 h11 M.a12 h12 M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) cc0_scratch9 lane k ⟨⟩) (fun k => inv3 c M A lane σ k) (fun _ => PUnit.unit) fun k => by
    have h := run_trip c M A h11 lane σ k
    have e := body_eq M.a0 h0 M.a1 h1 M.a2 h2 M.a3 h3 M.a4 h4 M5 (Memref.isWhole_whole _) M6 (Memref.isWhole_whole _) M7 (Memref.isWhole_whole _) M.a8 h8 M.a9 h9 M.a10 h10 M.a11 h11 M.a12 h12 M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) cc0_scratch9 (lanes := lane) (k := k) (F := F)
    show RunsTo c _ (k0_t3_body M.a0 h0 M.a1 h1 M.a2 h2 M.a3 h3 M.a4 h4 M5 (Memref.isWhole_whole _) M6 (Memref.isWhole_whole _) M7 (Memref.isWhole_whole _) M.a8 h8 M.a9 h9 M.a10 h10 M.a11 h11 M.a12 h12 M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) cc0_scratch9 lane k ⟨⟩) _ _
    rw [e]
    exact h

theorem run_mlp (σ : St F) :
    RunsTo (F := F) c iprop((free c A 0 ∗ free c A 1 ∗ free c A 2) ∗ owe c ∗ stp c M σ)
      (cc0_mlp M.a0 h0 M.a1 h1 M.a2 h2 M.a3 h3 M.a4 h4 M5 (Memref.isWhole_whole _) M6 (Memref.isWhole_whole _) M7 (Memref.isWhole_whole _) M.a8 h8 M.a9 h9 M.a10 h10 M.a11 h11 M.a12 h12 M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) cc0_scratch9) ⟨⟩
      iprop((free c A 0 ∗ free c A 1 ∗ free c A 2) ∗ owe c ∗ stp c M (finV c A σ)) := by
  intro β K Q
  rw [mlp_eq]
  unfold cleanMlp
  simp only [bind_assoc]
  iintro ⟨⟨⟨F0, F1, F2⟩, HO, HS⟩, Hk⟩
  iapply (run_start5 c A _ _ _)
  isplitl [F0 F1]
  · isplitl [F0]; · iexact F0
    iexact F1
  iintro ⟨F0, F1⟩
  iapply (run_head c M A h9 σ _ _ _)
  isplitl [F1 HS]
  · isplitl [F1]; · iexact F1
    iexact HS
  iintro ⟨F1, HS⟩
  iapply (run_zero c M _ _ _ _)
  isplitl [HS]; · iexact HS
  iintro HS
  iapply (run_loop3 c M A h0 h1 h2 h3 h4 h8 h9 h10 h11 h12 (zeroV (headV σ)) _ _ _)
  isplitl [F0 F1 F2 HO HS]
  · unfold inv3 ring
    isplitr [HS]
    · isplitr [HO]
      · isplitl [F0]
        · unfold slotSt; rw [dif_pos (by decide : 0 < 34)]; iexact F0
        isplitl [F1]
        · unfold slotSt; rw [dif_pos (by decide : 0 + 1 < 34)]; iexact F1
        iexact F2
      iexact HO
    iexact HS
  iintro HI
  unfold inv3 ring slotSt
  rw [trips3, dif_neg (by decide : ¬ 34 < 34), dif_neg (by decide : ¬ 34 + 1 < 34)]
  icases HI with ⟨⟨⟨F1, F2, F0⟩, HO⟩, HS⟩
  iapply (run_mid c M _ _ _ _)
  isplitl [HS]; · iexact HS
  iintro HS
  iapply (run_outs c M h8 _ _ _ _)
  isplitl [HS]; · iexact HS
  iintro HS
  rw [pure_bind]
  iapply Hk
  isplitl [F0 F1 F2]
  · isplitl [F0]; · iexact F0
    isplitl [F1]; · iexact F1
    iexact F2
  isplitl [HO]; · iexact HO
  unfold finV; rw [trips3]; iexact HS
end Args
end Whole

end Cert.KernelIdeal.Hand
end
-- ==== Proof.KernelIdeal.Share.lean ====
/-
  The body at the one point, from the launch's resources: rings cut in slots, weights shared in thirds, buffers gathered; and the run of main.
-/
module

public import proofs.«01_k».proof.Proof.KernelIdeal.Run
public import proofs.«01_k».proof.Proof.Gen.KernelIdeal.Frame
public import Idealize.ShloMosaic.Lib.Pipeline.Frame
public import Idealize.ShloMosaic.Lib.Ring.WriteBehind
public import Idealize.ShloMosaic.Lib.ReshapeSlab

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## The slots of a ring buffer -/

theorem dA_disj (M : Memref sig .tc .vmem S3x5120x512 .fp8e4m3) (s s' : Fin 3) (h : s ≠ s') : Disjoint (dA M s).view.set (dA M s').view.set := by
  have e : ∀ s : Fin 3, (dA M s).view.set = (M.view.slice (Rect.unit (s := S3x5120x512) (rAt s.val 0 0) S1x5120x512.size (slotA_inb s.val s.isLt))).set := fun s =>
    View.set_reshape _ _
  rw [e, e]
  refine View.disjoint_slice_of_sep _ _ _ 0 rfl rfl ?_
  show s.val + 1 ≤ s'.val ∨ s'.val + 1 ≤ s.val
  have : s.val ≠ s'.val := fun e => h (Fin.ext e)
  omega
theorem dB_disj (M : Memref sig .tc .vmem S3x512x5120 .fp8e4m3) (s s' : Fin 3) (h : s ≠ s') : Disjoint (dB M s).view.set (dB M s').view.set := by
  have e : ∀ s : Fin 3, (dB M s).view.set = (M.view.slice (Rect.unit (s := S3x512x5120) (rAt s.val 0 0) S1x512x5120.size (slotB_inb s.val s.isLt))).set := fun s =>
    View.set_reshape _ _
  rw [e, e]
  refine View.disjoint_slice_of_sep _ _ _ 0 rfl rfl ?_
  show s.val + 1 ≤ s'.val ∨ s'.val + 1 ≤ s.val
  have : s.val ≠ s'.val := fun e => h (Fin.ext e)
  omega

theorem owns_iff (c : Dev nD) {sp : Space} {S : Shape} {e : EltTy} (m : Memref sig .tc sp S e) :
    (iprop(∃ X, owns (c : Thread nD τ) m fullShare X) : sProp 𝕄) ⊣⊢ iprop(∃ f : Buf (Elt F) (m.view.loc (c : Thread nD τ)), m.view.loc (c : Thread nD τ) ↦[m.view.set]{fullShare} f) := by
  unfold owns
  constructor
  · iintro ⟨%X, %f, -, H⟩; iexists f; iexact H
  · iintro ⟨%f, H⟩; iexists _, f; isplitr; · ipureintro; rfl
    iexact H

section Rings
variable (c : Dev nD)

/-- What is left of a ring buffer beside its slots. -/
def spareA (M : Memref sig .tc .vmem S3x5120x512 .fp8e4m3) : sProp 𝕄 :=
  iprop(∃ f : Buf (Elt F) (M.view.loc (c : Thread nD τ)), M.view.loc (c : Thread nD τ) ↦[Finset.univ \ Finset.univ.biUnion fun s : Fin 3 => (dA M s).view.set]{fullShare} f)
def spareB (M : Memref sig .tc .vmem S3x512x5120 .fp8e4m3) : sProp 𝕄 :=
  iprop(∃ f : Buf (Elt F) (M.view.loc (c : Thread nD τ)), M.view.loc (c : Thread nD τ) ↦[Finset.univ \ Finset.univ.biUnion fun s : Fin 3 => (dB M s).view.set]{fullShare} f)

theorem ringA_iff (M : Memref sig .tc .vmem S3x5120x512 .fp8e4m3) :
    (iprop(∃ f : Buf (Elt F) (M.view.loc (c : Thread nD τ)), M.view.loc (c : Thread nD τ) ↦{fullShare} f) : sProp 𝕄)
      ⊣⊢ iprop(((∃ X, owns (c : Thread nD τ) (dA M 0) fullShare X) ∗ (∃ X, owns (c : Thread nD τ) (dA M 1) fullShare X) ∗ (∃ X, owns (c : Thread nD τ) (dA M 2) fullShare X)) ∗ spareA c M) := by
  have h0 := owns_iff (F := F) c (dA M 0)
  have h1 := owns_iff (F := F) c (dA M 1)
  have h2 := owns_iff (F := F) c (dA M 2)
  have hs := Ring.pieces_split_spare (Ix := Unit) (Name := ℕ) (U := Pipeline.UD sig nD τ) (Lvl := ℕ) (Val := Elt F) (ℓ := M.view.loc (c : Thread nD τ)) (fun s : Fin 3 => (dA M s).view.set) (fun s s' h => dA_disj M s s' h) (q := fullShare)
    (fun s f => (M.view.loc (c : Thread nD τ) ↦[(dA M s).view.set]{fullShare} f)) (fun _ _ => rfl)
  have hj := Ring.pieces_join_spare (Ix := Unit) (Name := ℕ) (U := Pipeline.UD sig nD τ) (Lvl := ℕ) (Val := Elt F) (ℓ := M.view.loc (c : Thread nD τ)) (fun s : Fin 3 => (dA M s).view.set) (fun s s' h => dA_disj M s s' h) (q := fullShare)
    (fun s f => (M.view.loc (c : Thread nD τ) ↦[(dA M s).view.set]{fullShare} f)) (fun _ _ => rfl)
  rw [Ring.bigSep_fin3] at hs hj
  unfold spareA
  constructor
  · iintro H
    ihave H' := hs $$ H
    icases H' with ⟨⟨H0, H1, H2⟩, HR⟩
    isplitr [HR]
    · isplitl [H0]; · iapply h0.2; iexact H0
      isplitl [H1]; · iapply h1.2; iexact H1
      iapply h2.2; iexact H2
    iexact HR
  · iintro ⟨⟨H0, H1, H2⟩, HR⟩
    iapply hj
    isplitr [HR]
    · isplitl [H0]; · iapply h0.1; iexact H0
      isplitl [H1]; · iapply h1.1; iexact H1
      iapply h2.1; iexact H2
    iexact HR

theorem ringB_iff (M : Memref sig .tc .vmem S3x512x5120 .fp8e4m3) :
    (iprop(∃ f : Buf (Elt F) (M.view.loc (c : Thread nD τ)), M.view.loc (c : Thread nD τ) ↦{fullShare} f) : sProp 𝕄)
      ⊣⊢ iprop(((∃ X, owns (c : Thread nD τ) (dB M 0) fullShare X) ∗ (∃ X, owns (c : Thread nD τ) (dB M 1) fullShare X) ∗ (∃ X, owns (c : Thread nD τ) (dB M 2) fullShare X)) ∗ spareB c M) := by
  have h0 := owns_iff (F := F) c (dB M 0)
  have h1 := owns_iff (F := F) c (dB M 1)
  have h2 := owns_iff (F := F) c (dB M 2)
  have hs := Ring.pieces_split_spare (Ix := Unit) (Name := ℕ) (U := Pipeline.UD sig nD τ) (Lvl := ℕ) (Val := Elt F) (ℓ := M.view.loc (c : Thread nD τ)) (fun s : Fin 3 => (dB M s).view.set) (fun s s' h => dB_disj M s s' h) (q := fullShare)
    (fun s f => (M.view.loc (c : Thread nD τ) ↦[(dB M s).view.set]{fullShare} f)) (fun _ _ => rfl)
  have hj := Ring.pieces_join_spare (Ix := Unit) (Name := ℕ) (U := Pipeline.UD sig nD τ) (Lvl := ℕ) (Val := Elt F) (ℓ := M.view.loc (c : Thread nD τ)) (fun s : Fin 3 => (dB M s).view.set) (fun s s' h => dB_disj M s s' h) (q := fullShare)
    (fun s f => (M.view.loc (c : Thread nD τ) ↦[(dB M s).view.set]{fullShare} f)) (fun _ _ => rfl)
  rw [Ring.bigSep_fin3] at hs hj
  unfold spareB
  constructor
  · iintro H
    ihave H' := hs $$ H
    icases H' with ⟨⟨H0, H1, H2⟩, HR⟩
    isplitr [HR]
    · isplitl [H0]; · iapply h0.2; iexact H0
      isplitl [H1]; · iapply h1.2; iexact H1
      iapply h2.2; iexact H2
    iexact HR
  · iintro ⟨⟨H0, H1, H2⟩, HR⟩
    iapply hj
    isplitr [HR]
    · isplitl [H0]; · iapply h0.1; iexact H0
      isplitl [H1]; · iapply h1.1; iexact H1
      iapply h2.1; iexact H2
    iexact HR

/-- A slot of the three rings at anything. -/
theorem ringp_iff (s : Fin 3) : (iprop(∃ W, ringp c s.val s.isLt W) : sProp 𝕄) ⊣⊢
    iprop((∃ X, owns (c : Thread nD τ) (dA M13 s) fullShare X) ∗ (∃ X, owns (c : Thread nD τ) (dA M14 s) fullShare X) ∗ (∃ X, owns (c : Thread nD τ) (dB M15 s) fullShare X)) := by
  unfold ringp
  constructor
  · iintro ⟨%W, H0, H1, H2⟩
    isplitl [H0]; · iexists _; iexact H0
    isplitl [H1]; · iexists _; iexact H1
    iexists _; iexact H2
  · iintro ⟨⟨%X, H0⟩, ⟨%Y, H1⟩, ⟨%Z, H2⟩⟩
    iexists (⟨X, Y, Z⟩ : Wts F)
    isplitl [H0]; · iexact H0
    isplitl [H1]; · iexact H1
    iexact H2

/-- The weights whole are the three slots' thirds of them. -/
theorem arrs_thirds (A : Arr F c) : (arrs c A fullShare : sProp 𝕄) ⊣⊢ iprop(arrs c A (qs 0) ∗ arrs c A (qs 1) ∗ arrs c A (qs 2)) := by
  have h5 := Ring.pointsTo_thirds (Ix := Unit) (Name := ℕ) (U := Pipeline.UD sig nD τ) (Lvl := ℕ) (Val := Elt F) (I := Finset.univ) (ℓ := M5.view.loc (c : Thread nD τ)) fullShare A.g
  have h6 := Ring.pointsTo_thirds (Ix := Unit) (Name := ℕ) (U := Pipeline.UD sig nD τ) (Lvl := ℕ) (Val := Elt F) (I := Finset.univ) (ℓ := M6.view.loc (c : Thread nD τ)) fullShare A.u
  have h7 := Ring.pointsTo_thirds (Ix := Unit) (Name := ℕ) (U := Pipeline.UD sig nD τ) (Lvl := ℕ) (Val := Elt F) (I := Finset.univ) (ℓ := M7.view.loc (c : Thread nD τ)) fullShare A.d
  unfold arrs
  constructor
  · iintro ⟨HA, HB, HC⟩
    ihave HA := h5.1 $$ HA
    ihave HB := h6.1 $$ HB
    ihave HC := h7.1 $$ HC
    icases HA with ⟨A0, A1, A2⟩
    icases HB with ⟨B0, B1, B2⟩
    icases HC with ⟨C0, C1, C2⟩
    isplitl [A0 B0 C0]
    · isplitl [A0]; · iexact A0
      isplitl [B0]; · iexact B0
      iexact C0
    isplitl [A1 B1 C1]
    · isplitl [A1]; · iexact A1
      isplitl [B1]; · iexact B1
      iexact C1
    isplitl [A2]; · iexact A2
    isplitl [B2]; · iexact B2
    iexact C2
  · iintro ⟨⟨A0, B0, C0⟩, ⟨A1, B1, C1⟩, A2, B2, C2⟩
    isplitl [A0 A1 A2]
    · iapply h5.2
      isplitl [A0]; · iexact A0
      isplitl [A1]; · iexact A1
      iexact A2
    isplitl [B0 B1 B2]
    · iapply h6.2
      isplitl [B0]; · iexact B0
      isplitl [B1]; · iexact B1
      iexact B2
    iapply h7.2
    isplitl [C0]; · iexact C0
    isplitl [C1]; · iexact C1
    iexact C2

/-- A ring buffer whole at anything. -/
abbrev wholeA (M : Memref sig .tc .vmem S3x5120x512 .fp8e4m3) : sProp 𝕄 := iprop(∃ f : Buf (Elt F) (M.view.loc (c : Thread nD τ)), M.view.loc (c : Thread nD τ) ↦{fullShare} f)
abbrev wholeB (M : Memref sig .tc .vmem S3x512x5120 .fp8e4m3) : sProp 𝕄 := iprop(∃ f : Buf (Elt F) (M.view.loc (c : Thread nD τ)), M.view.loc (c : Thread nD τ) ↦{fullShare} f)

/-- The rings, the semaphores and the weights are the three free slots and what is beside the slots. -/
theorem slots_iff (A : Arr F c) :
    (iprop(wholeA c M13 ∗ wholeA c M14 ∗ wholeB c M15 ∗ (semVal ((c : Thread nD τ), SemLoc.dma (smAt 0)) 0 ∗ semVal ((c : Thread nD τ), SemLoc.dma (smAt 1)) 0 ∗ semVal ((c : Thread nD τ), SemLoc.dma (smAt 2)) 0)
        ∗ arrs c A fullShare) : sProp 𝕄)
      ⊣⊢ iprop((free c A 0 ∗ free c A 1 ∗ free c A 2) ∗ (spareA c M13 ∗ spareA c M14 ∗ spareB c M15)) := by
  have h13 := ringA_iff (F := F) c M13
  have h14 := ringA_iff (F := F) c M14
  have h15 := ringB_iff (F := F) c M15
  have hr0 := ringp_iff (F := F) c 0
  have hr1 := ringp_iff (F := F) c 1
  have hr2 := ringp_iff (F := F) c 2
  have hA := arrs_thirds c A
  unfold free
  constructor
  · iintro ⟨H13, H14, H15, ⟨S0, S1, S2⟩, HA⟩
    ihave H13 := h13.1 $$ H13
    ihave H14 := h14.1 $$ H14
    ihave H15 := h15.1 $$ H15
    ihave HA := hA.1 $$ HA
    icases H13 with ⟨⟨A0, A1, A2⟩, AR⟩
    icases H14 with ⟨⟨B0, B1, B2⟩, BR⟩
    icases H15 with ⟨⟨C0, C1, C2⟩, CR⟩
    icases HA with ⟨D0, D1, D2⟩
    isplitr [AR BR CR]
    · isplitl [A0 B0 C0 S0 D0]
      · isplitl [A0 B0 C0]
        · iapply hr0.2
          isplitl [A0]; · iexact A0
          isplitl [B0]; · iexact B0
          iexact C0
        isplitl [S0]; · iexact S0
        iexact D0
      isplitl [A1 B1 C1 S1 D1]
      · isplitl [A1 B1 C1]
        · iapply hr1.2
          isplitl [A1]; · iexact A1
          isplitl [B1]; · iexact B1
          iexact C1
        isplitl [S1]; · iexact S1
        iexact D1
      isplitl [A2 B2 C2]
      · iapply hr2.2
        isplitl [A2]; · iexact A2
        isplitl [B2]; · iexact B2
        iexact C2
      isplitl [S2]; · iexact S2
      iexact D2
    isplitl [AR]; · iexact AR
    isplitl [BR]; · iexact BR
    iexact CR
  · iintro ⟨⟨⟨R0, S0, D0⟩, ⟨R1, S1, D1⟩, R2, S2, D2⟩, AR, BR, CR⟩
    ihave R0 := hr0.1 $$ R0
    ihave R1 := hr1.1 $$ R1
    ihave R2 := hr2.1 $$ R2
    icases R0 with ⟨A0, B0, C0⟩
    icases R1 with ⟨A1, B1, C1⟩
    icases R2 with ⟨A2, B2, C2⟩
    isplitl [A0 A1 A2 AR]
    · iapply h13.2
      isplitr [AR]
      · isplitl [A0]; · iexact A0
        isplitl [A1]; · iexact A1
        iexact A2
      iexact AR
    isplitl [B0 B1 B2 BR]
    · iapply h14.2
      isplitr [BR]
      · isplitl [B0]; · iexact B0
        isplitl [B1]; · iexact B1
        iexact B2
      iexact BR
    isplitl [C0 C1 C2 CR]
    · iapply h15.2
      isplitr [CR]
      · isplitl [C0]; · iexact C0
        isplitl [C1]; · iexact C1
        iexact C2
      iexact CR
    isplitl [S0 S1 S2]
    · isplitl [S0]; · iexact S0
      isplitl [S1]; · iexact S1
      iexact S2
    iapply hA.2
    isplitl [D0]; · iexact D0
    isplitl [D1]; · iexact D1
    iexact D2

/-- The fifteen buffers, one by one. -/
theorem stp_eq (M : Mems) (σ : St F) : (stp c M σ : sProp 𝕄) =
    iprop(owns (c : Thread nD τ) M.a0 fullShare (σ 0) ∗ owns (c : Thread nD τ) M.a1 fullShare (σ 1) ∗ owns (c : Thread nD τ) M.a2 fullShare (σ 2)
      ∗ owns (c : Thread nD τ) M.a3 fullShare (σ 3) ∗ owns (c : Thread nD τ) M.a4 fullShare (σ 4) ∗ owns (c : Thread nD τ) M.a8 fullShare (σ 5)
      ∗ owns (c : Thread nD τ) M.a9 fullShare (σ 6) ∗ owns (c : Thread nD τ) M.a10 fullShare (σ 7) ∗ owns (c : Thread nD τ) M.a11 fullShare (σ 8)
      ∗ owns (c : Thread nD τ) M.a12 fullShare (σ 9) ∗ owns (c : Thread nD τ) M16 fullShare (σ 10) ∗ owns (c : Thread nD τ) M17 fullShare (σ 11)
      ∗ owns (c : Thread nD τ) M19 fullShare (σ 12) ∗ owns (c : Thread nD τ) M20 fullShare (σ 13) ∗ owns (c : Thread nD τ) M21 fullShare (σ 14)) := by
  unfold stp
  rw [BI.bigSep_eq_bigSepL_of_eq [0, 1, 2, 3, 4, 5, 6, 7, 8, 9, 10, 11, 12, 13, 14] (by decide) (by decide)]
  rfl
end Rings

end Cert.KernelIdeal.Hand
end
-- ==== Proof.KernelIdeal.Inputs.lean ====
/-
  The body leaves its inputs as they are.
-/
module

public import proofs.«01_k».proof.Proof.KernelIdeal.Run

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- A property kept by every trip holds after any number of them. -/
theorem itr_inv {α : Type} {n : ℕ} (f : Fin n → α → α) (P : α → Prop) (x : α) (h0 : P x) (hs : ∀ k a, P a → P (f k a)) (k : ℕ) : P (itr f x k) := by
  induction k with
  | zero => exact h0
  | succ k ih =>
    rw [itr]; split
    · exact hs _ _ ih
    · exact ih

theorem set_lo (σ : St F) {i : Fin 15} (hi : i.val < 5) (j : Fin 15) (hj : 5 ≤ j.val) (X) : σ.set j X i = σ i :=
  Function.update_of_ne (fun e => by subst e; omega) _ _

section Keep
variable {i : Fin 15} (hi : i.val < 5)
include hi

theorem sqV_in (k) (p : St F × FVec F S112x128 .f32) : (sqV k p).1 i = p.1 i := set_lo _ hi 11 (by decide) _
theorem normGroupV_in (r : FVec F S112x1 .f32) (k j) (σ : St F) : normGroupV r k j σ i = σ i := by
  exact (set_lo _ hi 10 (by decide) _).trans (set_lo _ hi 6 (by decide) _)
theorem normV_in (lanes) (r : FVec F S112x1 .f32) (k) (p : St F × FVec F S112x128 .f32) : (normV lanes r k p).1 i = p.1 i := by
  exact (normGroupV_in hi _ _ _ _).trans (normGroupV_in hi _ _ _ _)
theorem normEndV_in (v : FVec F S112x128 .f32) (σ : St F) : normEndV v σ i = σ i := by
  exact (set_lo _ hi 7 (by decide) _).trans ((set_lo _ hi 14 (by decide) _).trans (set_lo _ hi 14 (by decide) _))
theorem sqP_in (σ : St F) (n : ℕ) : (sqP σ n).1 i = σ i := by
  unfold sqP
  exact itr_inv sqV (fun p => p.1 i = σ i) _ rfl (fun k a h => (sqV_in hi k a).trans h) n
theorem normP_in (lanes) (r : FVec F S112x1 .f32) (σ : St F) (n : ℕ) : (normP lanes r σ n).1 i = σ i := by
  unfold normP
  exact itr_inv (normV lanes r) (fun p => p.1 i = σ i) _ rfl (fun k a h => (normV_in hi lanes r k a).trans h) n
theorem headV_in (σ : St F) : headV σ i = σ i := by
  unfold headV
  exact (normEndV_in hi _ _).trans ((normP_in hi _ _ _ _).trans (sqP_in hi _ _))
theorem zeroV_in (σ : St F) : zeroV σ i = σ i := set_lo _ hi 13 (by decide) _
theorem midV_in (σ : St F) : midV σ i = σ i := by
  exact (set_lo _ hi 9 (by decide) _).trans (set_lo _ hi 9 (by decide) _)
theorem outP_in (σ : St F) (n) : outP σ n i = σ i :=
  itr_inv outV (fun a => a i = σ i) _ rfl (fun k a h => (set_lo _ hi 5 (by decide) _).trans h) _
theorem quantV_in (lanes) (k lb) (v : FVec F S112x128 .f32) (σ : St F) : quantV lanes k lb v σ i = σ i := by
  exact (set_lo _ hi 13 (by decide) _).trans ((set_lo _ hi 13 (by decide) _).trans ((set_lo _ hi 12 (by decide) _).trans (set_lo _ hi 8 (by decide) _)))
theorem downAllV_in (w : Vec F S512x5120 .fp8e4m3) (k) (l) (σ : St F) : downAllV w k l σ i = σ i := by
  induction l generalizing σ with
  | nil => rfl
  | cons n l ih => exact (ih _).trans (set_lo _ hi 11 (by decide) _)
theorem stepV_in (lanes) (W : Wts F) (k) (σ : St F) : stepV lanes W k σ i = σ i := by
  exact (downAllV_in hi _ _ _ _).trans ((quantV_in hi _ _ _ _ _).trans ((quantV_in hi _ _ _ _ _).trans ((quantV_in hi _ _ _ _ _).trans (quantV_in hi _ _ _ _ _))))
theorem finV_in (c : Dev nD) (A : Arr F c) (σ : St F) : finV c A σ i = σ i := by
  unfold finV
  rw [outP_in hi, midV_in hi]
  refine (itr_inv _ (fun a => a i = σ i) _ ?_ (fun k a h => (stepV_in hi _ _ k a).trans h) _)
  rw [zeroV_in hi, headV_in hi]
end Keep

end Cert.KernelIdeal.Hand
end
-- ==== Proof.KernelIdeal.Core.lean ====
/-
  The body at the one point from what the launch gives it, and the run of main.
-/
module

public import proofs.«01_k».proof.Proof.KernelIdeal.Share
public import proofs.«01_k».proof.Proof.KernelIdeal.Inputs
public import proofs.«01_k».proof.Proof.Gen.KernelIdeal.Frame
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The kernel's own semaphores and the arrays left in place -/

abbrev osem0 : Fin 3 → SemLoc sig := ![SemLoc.dma 10, SemLoc.dma 11, SemLoc.dma 12]
theorem ownSemFacts0 : Pipeline.OwnSemFacts spec0 osem0 := by decide
theorem smAt0 : smAt 0 = 10 := by decide
theorem smAt1 : smAt 1 = 11 := by decide
theorem smAt2 : smAt 2 = 12 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (smAt 0)) 0 ∗ semVal ((c : Thread nD τ), SemLoc.dma (smAt 1)) 0 ∗ semVal ((c : Thread nD τ), SemLoc.dma (smAt 2)) 0) := by
  rw [Pipeline.ownSems0_eq_of_list c osem0 [0, 1, 2] (by decide) (by decide), smAt0, smAt1, smAt2]; rfl

def H0 : Finset (Ref sig .tc) := {main_arg5, main_arg6, main_arg7}
theorem H0_sub : H0 ⊆ Pipeline.restRefs sig spec0 := by decide

/-- The weights as the call finds them. -/
def wts (c : Dev nD) : Arr F c := ⟨V m c main_arg5, V m c main_arg6, V m c main_arg7⟩

theorem hbmPts0_eq (c : Dev nD) :
    (bigSep H0 (fun b => ((c : Thread nD τ).loc b) ↦{fullShare} V m c b) : sProp 𝕄) = arrs c (wts m c) fullShare := by
  rw [BI.bigSep_eq_bigSepL_of_eq [main_arg5, main_arg6, main_arg7] (by decide) (by decide)]; rfl

/-- The unused scratch buffer at anything. -/
abbrev spare18 (c : Dev nD) : sProp 𝕄 := iprop(∃ f : Buf (Elt F) (M18.view.loc (c : Thread nD τ)), M18.view.loc (c : Thread nD τ) ↦{fullShare} f)

theorem PhiD0_eq (c : Dev nD) :
    (Pipeline.ΦD osem0 spec0 H0 (V m) c : sProp 𝕄)
      = iprop(iprop(wholeA c M13 ∗ wholeA c M14 ∗ wholeB c M15 ∗ (∃ d, owns (c : Thread nD τ) M16 fullShare d) ∗ (∃ d, owns (c : Thread nD τ) M17 fullShare d) ∗ spare18 c
            ∗ (∃ d, owns (c : Thread nD τ) M19 fullShare d) ∗ (∃ d, owns (c : Thread nD τ) M20 fullShare d) ∗ (∃ d, owns (c : Thread nD τ) M21 fullShare d))
          ∗ (∃ r, prngReg c r)
          ∗ iprop(semVal ((c : Thread nD τ), SemLoc.dma (smAt 0)) 0 ∗ semVal ((c : Thread nD τ), SemLoc.dma (smAt 1)) 0 ∗ semVal ((c : Thread nD τ), SemLoc.dma (smAt 2)) 0)
          ∗ arrs c (wts m c) fullShare) := by
  rw [Pipeline.ΦD_eq, scopedRest0_eq, ownSems00_eq, hbmPts0_eq]; simp only [M16, M17, M19, M20, M21, owns_whole]; try rfl

/-! ## The body -/

abbrev memsAt (t : Fin cfg0.N) : Mems := ⟨win0_0.stage (cfg0.slots t 0), win0_1.stage (cfg0.slots t 1), win0_2.stage (cfg0.slots t 2), win0_3.stage (cfg0.slots t 3), win0_4.stage (cfg0.slots t 4),
  win0_5.stage (cfg0.slots t 5), win0_6.stage (cfg0.slots t 6), win0_7.stage (cfg0.slots t 7), win0_8.stage (cfg0.slots t 8), win0_9.stage (cfg0.slots t 9)⟩

/-- What the staged inputs hold. -/
structure Ins (c : Dev nD) (t : Fin cfg0.N) (σ : St F) : Prop where
  i0 : σ 0 = iblk m c 0 t
  i1 : σ 1 = iblk m c 1 t
  i2 : σ 2 = iblk m c 2 t
  i3 : σ 3 = iblk m c 3 t
  i4 : σ 4 = iblk m c 4 t

/-- The staged inputs held at their blocks. -/
abbrev insP (c : Dev nD) (t : Fin cfg0.N) : sProp 𝕄 :=
  iprop(owns (c : Thread nD τ) (memsAt t).a0 fullShare (iblk m c 0 t) ∗ owns (c : Thread nD τ) (memsAt t).a1 fullShare (iblk m c 1 t) ∗ owns (c : Thread nD τ) (memsAt t).a2 fullShare (iblk m c 2 t)
    ∗ owns (c : Thread nD τ) (memsAt t).a3 fullShare (iblk m c 3 t) ∗ owns (c : Thread nD τ) (memsAt t).a4 fullShare (iblk m c 4 t))

/-- The outputs held at some contents. -/
abbrev outsP (c : Dev nD) (t : Fin cfg0.N) (σ : St F) : sProp 𝕄 :=
  iprop(owns (c : Thread nD τ) (memsAt t).a8 fullShare (σ 5) ∗ owns (c : Thread nD τ) (memsAt t).a9 fullShare (σ 6) ∗ owns (c : Thread nD τ) (memsAt t).a10 fullShare (σ 7)
    ∗ owns (c : Thread nD τ) (memsAt t).a11 fullShare (σ 8) ∗ owns (c : Thread nD τ) (memsAt t).a12 fullShare (σ 9))

/-- Contents for the fifteen buffers. -/
def mkSt (x0 x1 x2 : Vec F S40x136 .f32) (x3 : Vec F S112x5120 .f32) (x4 : Vec F S1x5120 .f32) (x5 : Vec F S100x5120 .bf16) (x6 : Vec F S100x5120 .fp8e4m3) (x7 : Vec F S40x100 .f32)
    (x8 : Vec F S100x17408 .fp8e4m3) (x9 : Vec F S136x100 .f32) (x10 : Vec F S112x5120 .bf16) (x11 : Vec F S112x5120 .f32) (x12 : Vec F S112x512 .bf16) (x13 : Vec F S2x128x128 .f32)
    (x14 : Vec F S128x128 .f32) : St F
  | 0 => x0 | 1 => x1 | 2 => x2 | 3 => x3 | 4 => x4 | 5 => x5 | 6 => x6 | 7 => x7 | 8 => x8 | 9 => x9 | 10 => x10 | 11 => x11 | 12 => x12 | 13 => x13 | 14 => x14

theorem runs_wp {c : Dev nD} {α : Type} {pre post : sProp 𝕄} {P : Pr F α} {v : α} (h : RunsTo c pre P v post) (R : sProp 𝕄) :
    iprop(pre ∗ (post -∗ R)) ⊢ wpp c P (fun _ => R) := by
  have h' := h α (fun x => Pure.pure x) (fun _ => R)
  rw [bind_pure] at h'
  refine BIBase.Entails.trans ?_ h'
  iintro ⟨H, Hk⟩
  isplitl [H]; · iexact H
  iintro Hp
  unfold wpp; rw [wp_pure]; imodintro
  iapply Hk; iexact Hp

theorem sound_core (c : Dev nD) (t : Fin cfg0.N) :
    iprop(Pipeline.ΦD osem0 spec0 H0 (V m) c ∗ owe c ∗ insP m c t ∗ (∃ d, owns (c : Thread nD τ) (memsAt t).a8 fullShare d) ∗ (∃ d, owns (c : Thread nD τ) (memsAt t).a9 fullShare d)
        ∗ (∃ d, owns (c : Thread nD τ) (memsAt t).a10 fullShare d) ∗ (∃ d, owns (c : Thread nD τ) (memsAt t).a11 fullShare d) ∗ (∃ d, owns (c : Thread nD τ) (memsAt t).a12 fullShare d))
      ⊢ wp frame (wpE (defs₀ (F := F)) Variants.none c none) Set.univ (bodyAt0 t)
          (fun _ => iprop(Pipeline.ΦD osem0 spec0 H0 (V m) c ∗ owe c ∗ insP m c t ∗ ∃ σ, ⌜Ins m c t σ⌝ ∗ outsP c t (finV c (wts m c) σ))) := by
  rw [PhiD0_eq]
  iintro ⟨⟨⟨H13, H14, H15, ⟨%x10, H16⟩, ⟨%x11, H17⟩, H18, ⟨%x12, H19⟩, ⟨%x13, H20⟩, ⟨%x14, H21⟩⟩, Hg, HQ, HA⟩, HO, ⟨I0, I1, I2, I3, I4⟩, ⟨%x5, O5⟩, ⟨%x6, O6⟩, ⟨%x7, O7⟩, ⟨%x8, O8⟩, ⟨%x9, O9⟩⟩
  ihave HF := (slots_iff c (wts m c)).1 $$ [H13 H14 H15 HQ HA]
  · isplitl [H13]; · iexact H13
    isplitl [H14]; · iexact H14
    isplitl [H15]; · iexact H15
    isplitl [HQ]; · iexact HQ
    iexact HA
  icases HF with ⟨HF, HR⟩
  have hrun := run_mlp c (memsAt t) (wts m c) (hstage0_0 0) (hstage0_1 0) (hstage0_2 0) (hstage0_3 0) (hstage0_4 0) (hstage0_5 0) (hstage0_6 0) (hstage0_7 0) (hstage0_8 0) (hstage0_9 0)
    (mkSt (iblk m c 0 t) (iblk m c 1 t) (iblk m c 2 t) (iblk m c 3 t) (iblk m c 4 t) x5 x6 x7 x8 x9 x10 x11 x12 x13 x14)
  have hins : Ins m c t (mkSt (iblk m c 0 t) (iblk m c 1 t) (iblk m c 2 t) (iblk m c 3 t) (iblk m c 4 t) x5 x6 x7 x8 x9 x10 x11 x12 x13 x14) := ⟨rfl, rfl, rfl, rfl, rfl⟩
  generalize hσ : mkSt (iblk m c 0 t) (iblk m c 1 t) (iblk m c 2 t) (iblk m c 3 t) (iblk m c 4 t) x5 x6 x7 x8 x9 x10 x11 x12 x13 x14 = σ at hrun hins
  have hst : (stp c (memsAt t) σ : sProp 𝕄) = _ := stp_eq c (memsAt t) σ
  have hfi : (stp c (memsAt t) (finV c (wts m c) σ) : sProp 𝕄) = _ := stp_eq c (memsAt t) (finV c (wts m c) σ)
  rw [finV_in (i := 0) (by decide), finV_in (i := 1) (by decide), finV_in (i := 2) (by decide), finV_in (i := 3) (by decide), finV_in (i := 4) (by decide), hins.i0, hins.i1, hins.i2, hins.i3, hins.i4] at hfi
  have hwp : iprop(((free c (wts m c) 0 ∗ free c (wts m c) 1 ∗ free c (wts m c) 2) ∗ owe c ∗ stp c (memsAt t) σ)
      ∗ (iprop((free c (wts m c) 0 ∗ free c (wts m c) 1 ∗ free c (wts m c) 2) ∗ owe c ∗ stp c (memsAt t) (finV c (wts m c) σ))
          -∗ iprop(Pipeline.ΦD osem0 spec0 H0 (V m) c ∗ owe c ∗ insP m c t ∗ ∃ σ, ⌜Ins m c t σ⌝ ∗ outsP c t (finV c (wts m c) σ))))
      ⊢ wpp c (bodyAt0 t) (fun _ => iprop(Pipeline.ΦD osem0 spec0 H0 (V m) c ∗ owe c ∗ insP m c t ∗ ∃ σ, ⌜Ins m c t σ⌝ ∗ outsP c t (finV c (wts m c) σ))) := runs_wp hrun _
  rw [PhiD0_eq] at hwp
  iapply hwp
  isplitl [HF HO I0 I1 I2 I3 I4 O5 O6 O7 O8 O9 H16 H17 H19 H20 H21]
  · isplitl [HF]; · iexact HF
    isplitl [HO]; · iexact HO
    rw [hst]
    subst hσ
    isplitl [I0]; · iexact I0
    isplitl [I1]; · iexact I1
    isplitl [I2]; · iexact I2
    isplitl [I3]; · iexact I3
    isplitl [I4]; · iexact I4
    isplitl [O5]; · iexact O5
    isplitl [O6]; · iexact O6
    isplitl [O7]; · iexact O7
    isplitl [O8]; · iexact O8
    isplitl [O9]; · iexact O9
    isplitl [H16]; · iexact H16
    isplitl [H17]; · iexact H17
    isplitl [H19]; · iexact H19
    isplitl [H20]; · iexact H20
    iexact H21
  rw [hfi]
  iintro ⟨HF, HO, I0, I1, I2, I3, I4, O5, O6, O7, O8, O9, H16, H17, H19, H20, H21⟩
  ihave HF := (slots_iff c (wts m c)).2 $$ [HF HR]
  · isplitl [HF]; · iexact HF
    iexact HR
  icases HF with ⟨H13, H14, H15, HQ, HA⟩
  isplitl [H13 H14 H15 H16 H17 H18 H19 H20 H21 Hg HQ HA]
  · isplitl [H13 H14 H15 H16 H17 H18 H19 H20 H21]
    · isplitl [H13]; · iexact H13
      isplitl [H14]; · iexact H14
      isplitl [H15]; · iexact H15
      isplitl [H16]; · iexists _; iexact H16
      isplitl [H17]; · iexists _; iexact H17
      isplitl [H18]; · iexact H18
      isplitl [H19]; · iexists _; iexact H19
      isplitl [H20]; · iexists _; iexact H20
      iexists _; iexact H21
    isplitl [Hg]; · iexact Hg
    isplitl [HQ]; · iexact HQ
    iexact HA
  isplitl [HO]; · iexact HO
  isplitl [I0 I1 I2 I3 I4]
  · isplitl [I0]; · iexact I0
    isplitl [I1]; · iexact I1
    isplitl [I2]; · iexact I2
    isplitl [I3]; · iexact I3
    iexact I4
  iexists σ
  isplitr; · ipureintro; exact hins
  isplitl [O5]; · iexact O5
  isplitl [O6]; · iexact O6
  isplitl [O7]; · iexact O7
  isplitl [O8]; · iexact O8
  iexact O9

end Cert.KernelIdeal.Hand
end
-- ==== Proof.KernelIdeal.Frame.lean ====
/-
  The run of main: the arguments unchanged, every semaphore at zero, and each result what the body's run leaves from its inputs.
-/
module

public import proofs.«01_k».proof.Proof.KernelIdeal.Core
public import Idealize.ShloMosaic.Lib.Pipeline.DatRel
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable [∀ e, Nonempty (Elt F e)]
variable (m : (ℓ : Loc nD τ sig) → Buf (Elt F) ℓ) (ρ : Dev nD → PrngReg)

/-! ## The proof data -/

/-- The outputs' windows, held to a relation. -/
def marked0 : Fin 10 → Bool
  | 0 => false | 1 => false | 2 => false | 3 => false | 4 => false | 5 => true | 6 => true | 7 => true | 8 => true | 9 => true

/-- What the body may leave in an output's window: what its run leaves from the staged inputs. -/
def Rl0 (c : Dev nD) : (w : Fin cfg0.W) → Fin cfg0.N → ((cfg0.win w).block.Idx → Elt F (cfg0.win w).elt) → Prop
  | 0 => fun _ _ => True | 1 => fun _ _ => True | 2 => fun _ _ => True | 3 => fun _ _ => True | 4 => fun _ _ => True
  | 5 => fun t X => ∃ σ, Ins m c t σ ∧ X = finV c (wts m c) σ 5
  | 6 => fun t X => ∃ σ, Ins m c t σ ∧ X = finV c (wts m c) σ 6
  | 7 => fun t X => ∃ σ, Ins m c t σ ∧ X = finV c (wts m c) σ 7
  | 8 => fun t X => ∃ σ, Ins m c t σ ∧ X = finV c (wts m c) σ 8
  | 9 => fun t X => ∃ σ, Ins m c t σ ∧ X = finV c (wts m c) σ 9

def dats (_ : Fin 1) (c : Dev nD) : Dat τ (Elt F) Unit ℕ (Pipeline.UD sig nD τ) ℕ cfg0 c where
  A w := V m c (Pipeline.arrRef spec0 w)
  after w t := match w with
    | 0 => iblk m c 0 t | 1 => iblk m c 1 t | 2 => iblk m c 2 t | 3 => iblk m c 3 t | 4 => iblk m c 4 t
    | 5 => Pipeline.Dat.unnamed (cfg := cfg0) 5 t | 6 => Pipeline.Dat.unnamed (cfg := cfg0) 6 t | 7 => Pipeline.Dat.unnamed (cfg := cfg0) 7 t
    | 8 => Pipeline.Dat.unnamed (cfg := cfg0) 8 t | 9 => Pipeline.Dat.unnamed (cfg := cfg0) 9 t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun t => rfl) t d).trans rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ Y, ⌜((dats m 0 c).toRRel marked0 (Rl0 m c)).Finds 5 t Y⌝ ∗ owns (c : Thread nD τ) (win0_5.stage (cfg0.slots t 5)) fullShare Y)
    ∗ (∃ Y, ⌜((dats m 0 c).toRRel marked0 (Rl0 m c)).Finds 6 t Y⌝ ∗ owns (c : Thread nD τ) (win0_6.stage (cfg0.slots t 6)) fullShare Y)
    ∗ (∃ Y, ⌜((dats m 0 c).toRRel marked0 (Rl0 m c)).Finds 7 t Y⌝ ∗ owns (c : Thread nD τ) (win0_7.stage (cfg0.slots t 7)) fullShare Y)
    ∗ (∃ Y, ⌜((dats m 0 c).toRRel marked0 (Rl0 m c)).Finds 8 t Y⌝ ∗ owns (c : Thread nD τ) (win0_8.stage (cfg0.slots t 8)) fullShare Y)
    ∗ (∃ Y, ⌜((dats m 0 c).toRRel marked0 (Rl0 m c)).Finds 9 t Y⌝ ∗ owns (c : Thread nD τ) (win0_9.stage (cfg0.slots t 9)) fullShare Y))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ (∃ X, ⌜Rl0 m c 5 t X⌝ ∗ owns (c : Thread nD τ) (win0_5.stage (cfg0.slots t 5)) fullShare X)
    ∗ (∃ X, ⌜Rl0 m c 6 t X⌝ ∗ owns (c : Thread nD τ) (win0_6.stage (cfg0.slots t 6)) fullShare X)
    ∗ (∃ X, ⌜Rl0 m c 7 t X⌝ ∗ owns (c : Thread nD τ) (win0_7.stage (cfg0.slots t 7)) fullShare X)
    ∗ (∃ X, ⌜Rl0 m c 8 t X⌝ ∗ owns (c : Thread nD τ) (win0_8.stage (cfg0.slots t 8)) fullShare X)
    ∗ (∃ X, ⌜Rl0 m c 9 t X⌝ ∗ owns (c : Thread nD τ) (win0_9.stage (cfg0.slots t 9)) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Pipeline.ΦD osem0 spec0 H0 (V m) c from rfl,
    show (dats m 0 c).owesAt () t.succ = (dats m 0 c).owesAt () t.castSucc from rfl,
    show (dats m 0 c).Φ t.castSucc = Pipeline.ΦD osem0 spec0 H0 (V m) c from rfl]
  unfold Dat.owesAt Pipeline.owesWithin
  rw [show (dats m 0 c).owed t.castSucc = 0 from rfl]
  simp only [before_0, before_1, before_2, before_3, before_4]
  refine BIBase.Entails.trans ?_ ((sound_core m c t).trans (wp_mono _ _ _ fun _ => ?_))
  · iintro ⟨HP, ⟨%W, -, HO⟩, ⟨%d0, I0⟩, ⟨%d1, I1⟩, ⟨%d2, I2⟩, ⟨%d3, I3⟩, ⟨%d4, I4⟩, ⟨%x5, -, O5⟩, ⟨%x6, -, O6⟩, ⟨%x7, -, O7⟩, ⟨%x8, -, O8⟩, ⟨%x9, -, O9⟩⟩
    isplitl [HP]; · iexact HP
    isplitl [HO]; · unfold owe; iexists W; iexact HO
    isplitl [I0 I1 I2 I3 I4]
    · isplitl [I0]; · iexact I0
      isplitl [I1]; · iexact I1
      isplitl [I2]; · iexact I2
      isplitl [I3]; · iexact I3
      iexact I4
    isplitl [O5]; · iexists x5; iexact O5
    isplitl [O6]; · iexists x6; iexact O6
    isplitl [O7]; · iexists x7; iexact O7
    isplitl [O8]; · iexists x8; iexact O8
    iexists x9; iexact O9
  · unfold owe
    iintro ⟨HP, ⟨%W, HO⟩, ⟨I0, I1, I2, I3, I4⟩, ⟨%σ, %hσ, O5, O6, O7, O8, O9⟩⟩
    isplitl [HP]; · iexact HP
    isplitl [HO]
    · iexists W; isplitr; · ipureintro; exact fun _ _ => Or.inl trivial
      iexact HO
    isplitl [I0]; · iexact I0
    isplitl [I1]; · iexact I1
    isplitl [I2]; · iexact I2
    isplitl [I3]; · iexact I3
    isplitl [I4]; · iexact I4
    isplitl [O5]
    · iexists _; isplitr; swap; · iexact O5
      ipureintro; exact ⟨σ, hσ, rfl⟩
    isplitl [O6]
    · iexists _; isplitr; swap; · iexact O6
      ipureintro; exact ⟨σ, hσ, rfl⟩
    isplitl [O7]
    · iexists _; isplitr; swap; · iexact O7
      ipureintro; exact ⟨σ, hσ, rfl⟩
    isplitl [O8]
    · iexists _; isplitr; swap; · iexact O8
      ipureintro; exact ⟨σ, hσ, rfl⟩
    iexists _; isplitr; swap; · iexact O9
    ipureintro; exact ⟨σ, hσ, rfl⟩

theorem defs₀_row (t : Fin cfg0.N) : defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ marked0 (Rl0 m c) := fun t => by
  rw [bigSep_W0, bigSep_W0, defs₀_row]
  exact triple_restated (sound_body m c t) rfl .rfl fun _ => .rfl

/-! ## The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The data of the run, core by core. -/
abbrev rdat (c : Dev nD) := (dats m 0 c).toRRel marked0 (Rl0 m c)

set_option backward.isDefEq.respectTransparency.types false in
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_dma (Q' := _) cfgs (0 : Fin 1) launch0 osem0 defs₀ Variants.none (rdat m) ownSemFacts0 H0 H0_sub m ρ main
    (hbody := fun c => (body_obligation m c).toRRel) (hshare := fun c => (dats m 0 c).share_full fun _ => rfl)
    (howed := fun _ _ => rfl) (V := V m) (hmain := hmainD m Variants.none) (hA := A_eq m)
    (hin := fun _ => .rfl) (hout := fun _ => .rfl)

variable {m}

/-- The arguments after the run. -/
theorem args_kept {r : PUnit × MemSt nD τ sig (Elt F)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  have key : ∀ w : Fin cfg0.W, (cfg0.win w).isOut = false → r.2.mem (((cfgs 0).spec w).arr.view.loc (c.tc : Thread nD τ)) = V m c (Pipeline.arrRef spec0 w) := fun w hw => by
    have := (h c).1 w
    rw [Pipeline.RDat.ArrAt_in _ w hw] at this
    exact this
  ⟨(key 0 rfl).trans (V_main_arg0 m c), (key 1 rfl).trans (V_main_arg1 m c),
    ((h c).2 main_arg2 (Pipeline.mem_restRefs_of main_arg2 (by decide) (by decide))).trans (V_main_arg2 m c),
    (key 3 rfl).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

end Cert.KernelIdeal.Hand
end
-- ==== Proof.Val.Spec.lean ====
/-
  The values over the extended reals, index by index, and the two ways of writing a group's scale made equal.
-/
module

public import Idealize.ShloMosaic.Lib.Pipeline.Value
public import Idealize.ShloMosaic.Lib.ValueLayout
public import Idealize.ShloMosaic.Lib.ValueLayoutCasts
public import Idealize.ShloMosaic.Lib.MatmulPlain

@[expose] public section

noncomputable section

namespace Cert.Val

open Idealize.ShloMosaic Idealize.ShloMosaic.ValueIdx

/-- A matrix read at two numbers; zero outside it. -/
def at2 {n m : ℕ} (X : (⟨2, ![n, m]⟩ : Shape).Idx → EReal) (i j : ℕ) : EReal := if h : i < n ∧ j < m then X (ix2 ⟨i, h.1⟩ ⟨j, h.2⟩) else 0

theorem at2_eq {n m : ℕ} (X : (⟨2, ![n, m]⟩ : Shape).Idx → EReal) {i j : ℕ} (hi : i < n) (hj : j < m) : at2 X i j = X (ix2 ⟨i, hi⟩ ⟨j, hj⟩) :=
  dif_pos ⟨hi, hj⟩

theorem at2_ix {n m : ℕ} (X : (⟨2, ![n, m]⟩ : Shape).Idx → EReal) (i : Fin n) (j : Fin m) : X (ix2 i j) = at2 X i.val j.val :=
  (at2_eq X i.isLt j.isLt).symm

theorem at2_ext {n m : ℕ} {X Y : (⟨2, ![n, m]⟩ : Shape).Idx → EReal} (h : ∀ i j, i < n → j < m → at2 X i j = at2 Y i j) : X = Y := by
  funext y
  rw [eq_ix2 y]
  have := h (y 0).val (y 1).val (idx2_lt0 y) (idx2_lt1 y)
  rw [at2_eq X (idx2_lt0 y) (idx2_lt1 y), at2_eq Y (idx2_lt0 y) (idx2_lt1 y)] at this
  exact this

/-- A sum over blocks. -/
theorem sum_blocks {M : Type*} [AddCommMonoid M] (a b : ℕ) (f : ℕ → M) :
    ∑ k ∈ Finset.range (b * a), f k = ∑ i ∈ Finset.range a, ∑ j ∈ Finset.range b, f (b * i + j) := by
  induction a with
  | zero => simp
  | succ a ih => rw [Nat.mul_succ, Finset.sum_range_add, ih, Finset.sum_range_succ]

/-- The largest magnitude of a group. -/
def gmax (f : ℕ → EReal) : EReal := (Finset.univ : Finset (Fin 128)).fold max (Ideal.ofBits .f32 0xFF800000#32) (fun k => max (f k.val) (-(f k.val)))

/-- The largest magnitude over 448. -/
def pS (f : ℕ → EReal) : EReal := gmax f * Ideal.ofBits .f32 0x3B124925#32

/-- How many of the powers 2^(k-126), k below 252, are at most `p`. -/
def cnt (p : EReal) : ℕ := ((Finset.range 252).filter fun k : ℕ => (((2 : ℝ) ^ ((k : ℤ) - 126) : ℝ) : EReal) ≤ p).card

/-- The exponent field of the group's scale, less one. -/
def eS (p : EReal) : ℕ := if cnt p = 0 then 126 else cnt p

theorem cnt_le (p : EReal) : cnt p ≤ 252 := (Finset.card_filter_le _ _).trans (by simp)

theorem eS_le (p : EReal) : eS p ≤ 252 := by unfold eS; split; · omega
                                             · exact cnt_le p

theorem eS_pos (p : EReal) : 1 ≤ eS p := by unfold eS; split <;> omega

/-- The group's scale and its inverse. -/
def scl (p : EReal) : EReal := (((2 : ℝ) ^ ((eS p : ℤ) - 126) : ℝ) : EReal)
def inv (p : EReal) : EReal := (((2 : ℝ) ^ (126 - (eS p : ℤ)) : ℝ) : EReal)

/-- A group's code. -/
def codeS (f : ℕ → EReal) (l : ℕ) : EReal :=
  min (Ideal.ofBits .f32 0x43E00000#32) (max (Ideal.ofBits .f32 0xC3E00000#32) (f l * inv (pS f)))

/-- The scale of group `g` of row `r`, the code and the code times the scale at column `j`. -/
def sclA (X : ℕ → ℕ → EReal) (r g : ℕ) : EReal := scl (pS fun l => X r (128 * g + l))
def codeA (X : ℕ → ℕ → EReal) (r j : ℕ) : EReal := codeS (fun l => X r (128 * (j / 128) + l)) (j % 128)
def deqA (X : ℕ → ℕ → EReal) (r j : ℕ) : EReal := codeA X r j * sclA X r (j / 128)

/-- A product with a weight whose 128x128 blocks carry scales. -/
def dotS (n : ℕ) (A W S : ℕ → ℕ → EReal) (r j : ℕ) : EReal := ∑ k ∈ Finset.range n, A r k * (W k j * S (k / 128) (j / 128))

/-- The normed rows. -/
def rsS (h : ℕ → ℕ → EReal) (r : ℕ) : EReal :=
  Ideal.rsqrt ((∑ j ∈ Finset.range 5120, h r j * h r j) * (((1 / 5120 : ℝ)) : EReal) + Ideal.ofBits .f32 0x358637BD#32)
def xS (h : ℕ → ℕ → EReal) (w : ℕ → EReal) (r j : ℕ) : EReal := h r j * rsS h r * (Ideal.ofBits .f32 0x3F800000#32 + w j)

/-- Gate times its logistic times up. -/
def actS (g u : EReal) : EReal := g * Ideal.logistic g * u
def mS (h : ℕ → ℕ → EReal) (w : ℕ → EReal) (Wg Wu sg su : ℕ → ℕ → EReal) (r j : ℕ) : EReal :=
  actS (dotS 5120 (deqA (xS h w)) Wg sg r j) (dotS 5120 (deqA (xS h w)) Wu su r j)
/-- The rows after the block. -/
def yS (h : ℕ → ℕ → EReal) (w : ℕ → EReal) (Wg Wu Wd sg su sd : ℕ → ℕ → EReal) (r j : ℕ) : EReal :=
  h r j + dotS 17408 (deqA (mS h w Wg Wu sg su)) Wd sd r j

/-! ## Constants -/

theorem ofBits_one : Ideal.ofBits .f32 0x3F800000#32 = 1 := by simp [Ideal.ofBits, Ideal.ieee, -EReal.coe_mul]; norm_num
theorem ofBits_zero : Ideal.ofBits .f32 0x00000000#32 = 0 := by simp [Ideal.ofBits, Ideal.ieee]
theorem ofBits_two : Ideal.ofBits .f32 0x40000000#32 = ((2 : ℝ) : EReal) := by simp [Ideal.ofBits, Ideal.ieee, -EReal.coe_mul]; norm_num
theorem ofBits_126 : Ideal.ofBits .f32 0x42FC0000#32 = ((126 : ℝ) : EReal) := by simp [Ideal.ofBits, Ideal.ieee, -EReal.coe_mul]; norm_num
theorem ofBits_5120 : Ideal.ofBits .f32 0x45A00000#32 = ((5120 : ℝ) : EReal) := by simp [Ideal.ofBits, Ideal.ieee, -EReal.coe_mul]; norm_num
theorem ofBits_tiny : Ideal.ofBits .f32 0x00800000#32 = (((2 : ℝ) ^ (-126 : ℤ) : ℝ) : EReal) := by
  simp [Ideal.ofBits, Ideal.ieee, -EReal.coe_mul, -EReal.coe_pow]
  norm_num

theorem div_5120 (x : EReal) : Ideal.div x (Ideal.ofBits .f32 0x45A00000#32) = x * (((1 / 5120 : ℝ)) : EReal) := by
  rw [ofBits_5120, Ideal.div, if_neg (by exact_mod_cast (by norm_num : (5120 : ℝ) ≠ 0)), ← EReal.coe_inv]
  norm_num

theorem silu_eq (g : EReal) : Ideal.div (Ideal.ofBits .f32 0x3F800000#32) (Ideal.ofBits .f32 0x3F800000#32 + Ideal.exp (Ideal.ofBits .f32 0x00000000#32 - g)) = Ideal.logistic g := by
  rw [ofBits_one, ofBits_zero, Ideal.logistic, zero_sub]

/-- A word with exponent field `e` and no fraction is that power of two. -/
theorem ofBits_pow (e : ℕ) (h1 : 1 ≤ e) (h2 : e ≤ 254) : Ideal.ofBits .f32 (BitVec.ofNat 32 (e * 8388608)) = (((2 : ℝ) ^ ((e : ℤ) - 127) : ℝ) : EReal) := by
  have hb : (BitVec.ofNat 32 (e * 8388608)).toNat = e * 8388608 := by rw [BitVec.toNat_ofNat]; exact Nat.mod_eq_of_lt (by omega)
  have hex : ((BitVec.ofNat 32 (e * 8388608)).extractLsb' 23 8).toNat = e := by
    rw [BitVec.extractLsb'_toNat, hb, Nat.shiftRight_eq_div_pow]; omega
  have hfr : ((BitVec.ofNat 32 (e * 8388608)).extractLsb' 0 23).toNat = 0 := by
    rw [BitVec.extractLsb'_toNat, hb]; simp
  have hs : ((BitVec.ofNat 32 (e * 8388608)).extractLsb' 31 1 == 1#1) = false := by
    have : ((BitVec.ofNat 32 (e * 8388608)).extractLsb' 31 1).toNat = 0 := by
      rw [BitVec.extractLsb'_toNat, hb, Nat.shiftRight_eq_div_pow]; omega
    rw [BitVec.eq_of_toNat_eq (y := 0#1) this]; rfl
  show Ideal.ieee 8 23 _ = _
  unfold Ideal.ieee
  dsimp only
  rw [hex, hfr, show (8 + 23 : ℕ) = 31 from rfl, hs]
  rw [if_neg (by omega), if_neg (by omega)]
  congr 1
  simp only [Bool.false_eq_true, if_false, one_mul, add_zero]
  have : ((2 ^ 23 : ℕ) : ℝ) = (2 : ℝ) ^ (23 : ℤ) := by norm_num
  rw [this, ← zpow_add₀ (by norm_num)]
  congr 1
  push_cast
  ring

/-! ## The scale written with a logarithm -/

/-- The exponent as the reference writes it. -/
def refE (p : EReal) : EReal :=
  if p < Ideal.ofBits .f32 0x00800000#32 then Ideal.ofBits .f32 0x00000000#32
  else min (Ideal.liftRound Int.floor (Ideal.div (Ideal.log p) (Ideal.log (Ideal.ofBits .f32 0x40000000#32))) + Ideal.ofBits .f32 0x3F800000#32)
    (Ideal.ofBits .f32 0x42FC0000#32)

theorem cnt_top : cnt ⊤ = 252 := by
  unfold cnt
  rw [Finset.filter_true_of_mem (fun _ _ => le_top)]
  simp

theorem zpow_le_iff {x : ℝ} (hx : 0 < x) (m : ℤ) : (2 : ℝ) ^ m ≤ x ↔ m ≤ ⌊Real.log x / Real.log 2⌋ := by
  rw [Int.le_floor, le_div_iff₀ (Real.log_pos (by norm_num)), ← Real.log_zpow, Real.log_le_log_iff (by positivity) hx]

theorem cnt_real {x : ℝ} (hx : 0 < x) : cnt (x : EReal) = min (⌊Real.log x / Real.log 2⌋ + 127).toNat 252 := by
  unfold cnt
  have e : ((Finset.range 252).filter fun k : ℕ => (((2 : ℝ) ^ ((k : ℤ) - 126) : ℝ) : EReal) ≤ (x : EReal)) = Finset.range (min (⌊Real.log x / Real.log 2⌋ + 127).toNat 252) := by
    ext k
    have hk := zpow_le_iff hx ((k : ℤ) - 126)
    simp only [Finset.mem_filter, Finset.mem_range, EReal.coe_le_coe_iff, hk]
    omega
  rw [e, Finset.card_range]

theorem cnt_small {p : EReal} (h : p < (((2 : ℝ) ^ (-126 : ℤ) : ℝ) : EReal)) : cnt p = 0 := by
  unfold cnt
  rw [Finset.card_eq_zero, Finset.filter_eq_empty_iff]
  intro k _ hk
  refine absurd (lt_of_le_of_lt hk h) (not_lt.2 ?_)
  rw [EReal.coe_le_coe_iff]
  exact zpow_le_zpow_right₀ (by norm_num) (by omega)

theorem refE_eq (p : EReal) : refE p = ((((eS p : ℤ) - 126 : ℤ) : ℝ) : EReal) := by
  unfold refE
  rw [ofBits_tiny]
  split
  · next h =>
    rw [ofBits_zero, eS, cnt_small h]
    simp
  · next h =>
    rw [ofBits_two, ofBits_one, ofBits_126]
    have hl2 : Ideal.log ((2 : ℝ) : EReal) = ((Real.log 2 : ℝ) : EReal) := by
      show (if (2 : ℝ) ≤ 0 then (⊥ : EReal) else _) = _
      rw [if_neg (by norm_num)]
    rw [hl2]
    have hlog2 : Real.log 2 ≠ 0 := (Real.log_pos (by norm_num)).ne'
    have hne : ((Real.log 2 : ℝ) : EReal) ≠ 0 := by exact_mod_cast hlog2
    induction p using EReal.rec with
    | bot => exact absurd (EReal.bot_lt_coe _) h
    | top =>
      have : Ideal.div (Ideal.log ⊤) ((Real.log 2 : ℝ) : EReal) = ⊤ := by
        show Ideal.div ⊤ _ = _
        rw [Ideal.div, if_neg hne, ← EReal.coe_inv, EReal.top_mul_coe_of_pos (inv_pos.2 (Real.log_pos (by norm_num)))]
      rw [this, eS, cnt_top]
      show min ((⊤ : EReal) + 1) _ = _
      rw [EReal.top_add_of_ne_bot (show (1 : EReal) ≠ ⊥ from EReal.coe_ne_bot 1), min_eq_right le_top]
      norm_num
    | coe x =>
      rw [not_lt, EReal.coe_le_coe_iff] at h
      have hx : 0 < x := lt_of_lt_of_le (by positivity) h
      have hlog : Ideal.log ((x : ℝ) : EReal) = ((Real.log x : ℝ) : EReal) := by
        show (if x ≤ 0 then (⊥ : EReal) else _) = _
        rw [if_neg (not_le.2 hx)]
      have hn : -126 ≤ ⌊Real.log x / Real.log 2⌋ := (zpow_le_iff hx (-126)).1 h
      rw [hlog, Ideal.div, if_neg hne, ← EReal.coe_inv, ← EReal.coe_mul, ← div_eq_mul_inv]
      show min ((((⌊Real.log x / Real.log 2⌋ : ℤ) : ℝ) : EReal) + ((1 : ℝ) : EReal)) ((126 : ℝ) : EReal) = _
      rw [← EReal.coe_add, ← EReal.coe_strictMono.monotone.map_min, eS, cnt_real hx]
      congr 1
      have hz : (min (⌊Real.log x / Real.log 2⌋ + 127).toNat 252 : ℕ) ≠ 0 := by omega
      rw [if_neg hz]
      have : ((min (⌊Real.log x / Real.log 2⌋ + 127).toNat 252 : ℕ) : ℤ) - 126 = min (⌊Real.log x / Real.log 2⌋ + 1) 126 := by omega
      rw [this]
      push_cast
      rfl

theorem pow_refE (p : EReal) : Ideal.pow (Ideal.ofBits .f32 0x40000000#32) (refE p) = scl p := by
  rw [refE_eq, ofBits_two]
  show ((Real.rpow 2 _ : ℝ) : EReal) = _
  unfold scl
  congr 1
  exact Real.rpow_intCast 2 _

theorem pow_neg_refE (p : EReal) : Ideal.pow (Ideal.ofBits .f32 0x40000000#32) (Ideal.ofBits .f32 0x00000000#32 - refE p) = inv p := by
  rw [refE_eq, ofBits_two, ofBits_zero, zero_sub, ← EReal.coe_neg]
  show ((Real.rpow 2 _ : ℝ) : EReal) = _
  unfold inv
  congr 1
  rw [← Int.cast_neg]
  refine (Real.rpow_intCast 2 _).trans ?_
  congr 1
  ring

end Cert.Val
end
-- ==== Proof.Val.Quant.lean ====
/-
  The kernel's quantiser at the extended reals: a group's scale, codes and dequantised values, entry by entry.
-/
module

public import proofs.«01_k».proof.Proof.Val.Spec
public import proofs.«01_k».proof.Proof.KernelIdeal.CleanBody
public import Idealize.ShloMosaic.Lib.VecWindow
public import Idealize.ShloMosaic.Lib.IndicatorCount
public import Idealize.ShloMosaic.Lib.WordCmp

@[expose] public section

noncomputable section

namespace Cert.Val

open Idealize.ShloMosaic Idealize.ShloMosaic.ValueIdx
open Cert.KernelIdeal Cert.KernelIdeal.Gen Cert.KernelIdeal.Hand

/-! ## Layout operations at two numbers -/

theorem at2_slice {n m a b : ℕ} (o0 o1 : ℕ) (X : (⟨2, ![n, m]⟩ : Shape).Idx → EReal) (h : (⟨2, ![n, m]⟩ : Shape).Slices ![o0, o1] ⟨2, ![a, b]⟩)
    {i j : ℕ} (hi : i < a) (hj : j < b) (hn : o0 + a ≤ n) (hm : o1 + b ≤ m) :
    at2 (extractStridedSlice ⟨2, ![a, b]⟩ ![o0, o1] X h) i j = at2 X (o0 + i) (o1 + j) := by
  rw [at2_eq _ hi hj, at2_eq X (by omega : o0 + i < n) (by omega : o1 + j < m)]
  exact extractStridedSlice_apply _ _ _ _ _ fun ax => match ax with | ⟨0, _⟩ => rfl | ⟨1, _⟩ => rfl

theorem at2_window {n m a b : ℕ} (X : (⟨2, ![n, m]⟩ : Shape).Idx → EReal) (off : Fin 2 → ℕ) (inb : ∀ x : Fin 2, off x + (![a, b] : Fin 2 → ℕ) x ≤ (![n, m] : Fin 2 → ℕ) x)
    {i j : ℕ} (hi : i < a) (hj : j < b) :
    at2 (n := a) (m := b) (VecWindow.window (s := ⟨2, ![n, m]⟩) X off ![a, b] inb) i j = at2 X (off 0 + i) (off 1 + j) := by
  have h0 : off 0 + a ≤ n := inb 0
  have h1 : off 1 + b ≤ m := inb 1
  rw [at2_eq _ hi hj, at2_eq X (by omega : off 0 + i < n) (by omega : off 1 + j < m)]
  refine congrArg X (funext fun ax => Fin.ext ?_)
  match ax with
  | ⟨0, _⟩ => exact congrArg (off 0 + ·) (Nat.one_mul i)
  | ⟨1, _⟩ => exact congrArg (off 1 + ·) (Nat.one_mul j)

theorem at2_put {n m a b : ℕ} (X : (⟨2, ![n, m]⟩ : Shape).Idx → EReal) (off : Fin 2 → ℕ) (w : (⟨2, ![a, b]⟩ : Shape).Idx → EReal)
    {i j : ℕ} (hi : i < n) (hj : j < m) :
    at2 (n := n) (m := m) (VecWindow.put (s := ⟨2, ![n, m]⟩) X off ![a, b] w) i j
      = if (off 0 ≤ i ∧ i < off 0 + a) ∧ (off 1 ≤ j ∧ j < off 1 + b) then at2 w (i - off 0) (j - off 1) else at2 X i j := by
  rw [at2_eq _ hi hj]
  unfold VecWindow.put
  split
  · next h =>
    have h0 : off 0 ≤ i ∧ i < off 0 + a := h 0
    have h1 : off 1 ≤ j ∧ j < off 1 + b := h 1
    rw [if_pos ⟨h0, h1⟩, at2_eq w (by omega : i - off 0 < a) (by omega : j - off 1 < b)]
    refine congrArg w (funext fun ax => Fin.ext ?_)
    match ax with
    | ⟨0, _⟩ => rfl
    | ⟨1, _⟩ => rfl
  · next h =>
    rw [if_neg, at2_eq X hi hj]
    intro hc
    refine h fun ax => ?_
    match ax with
    | ⟨0, _⟩ => exact hc.1
    | ⟨1, _⟩ => exact hc.2

theorem bc_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_same {α : Type} {s : Shape} (x : s.Idx → α) (h : s.ShapeCasts s) : shapeCast s x h = x := by
  funext j; exact shapeCast_apply x h j j rfl

/-! ## The exponent -/

theorem lift_row {n m : ℕ} (h : (⟨2, ![n, m]⟩ : Shape).Reduces [1] ⟨1, ![n]⟩) (r : Fin n) (k : Fin m) : h.lift (ix1 r) k = ix2 r k := by
  funext ax
  match ax with
  | ⟨0, _⟩ => rfl
  | ⟨1, _⟩ => rfl

theorem rowmax {n m : ℕ} (x : FVec Ideal ⟨2, ![n, m]⟩ .f32) (acc : BitVec 32) (h : (⟨2, ![n, m]⟩ : Shape).Reduces [1] ⟨1, ![n]⟩)
    (hφ : FKind.Formats .f32) (hacc : acc = FKind.maximumf.neutral .f32 hφ) (r : Fin n) :
    multiReduction .maximumf [1] ⟨1, ![n]⟩ x acc h hφ hacc (ix1 r) = (Finset.univ : Finset (Fin m)).fold max (Ideal.ofBits .f32 acc) (fun k => x (ix2 r k)) :=
  (Ideal.multiReduction_maximumf_single x acc h hφ hacc (ix1 r)).trans
    (congrArg (fun f => (Finset.univ : Finset (Fin m)).fold max (Ideal.ofBits .f32 acc) f) (funext fun k => congrArg x (lift_row h r k)))

theorem rowsum {n m : ℕ} (x : FVec Ideal ⟨2, ![n, m]⟩ .f32) (acc : BitVec 32) (h : (⟨2, ![n, m]⟩ : Shape).Reduces [1] ⟨1, ![n]⟩)
    (hφ : FKind.Formats .f32) (hacc : acc = FKind.add.neutral .f32 hφ) (r : Fin n) :
    multiReduction .add [1] ⟨1, ![n]⟩ x acc h hφ hacc (ix1 r) = ∑ k : Fin m, x (ix2 r k) :=
  (Ideal.multiReduction_add_single x acc h hφ hacc (ix1 r)).trans
    (Finset.sum_congr rfl fun k _ => congrArg x (lift_row h r k))

theorem rowcount {n m : ℕ} (x : IVec ⟨2, ![n, m]⟩ 32) (h : (⟨2, ![n, m]⟩ : Shape).Reduces [1] ⟨1, ![n]⟩) (hacc : 0#32 = IKind.add.neutral)
    (r : Fin n) (b : Fin m → BitVec 1) (hx : ∀ k, x (ix2 r k) = (b k).setWidth 32) :
    multiReductionI .add [1] ⟨1, ![n]⟩ x 0#32 h hacc (ix1 r) = BitVec.ofNat 32 ((Finset.univ : Finset (Fin m)).filter fun k => b k = 1#1).card := by
  refine (multiReductionI_eq_fold .add x 0#32 h hacc (ix1 r)).trans ?_
  refine Eq.trans ?_ (IndicatorCount.fold_addi_setWidth_eq_card b Finset.univ)
  refine Eq.trans (h.fold_filter_drop_single IntOp.addi (0#32) x (ix1 r)) ?_
  exact congrArg (fun f => (Finset.univ : Finset (Fin m)).fold IntOp.addi 0#32 f) (funext fun k => (congrArg x (lift_row h r k)).trans (hx k))

theorem pmax (v : FVec Ideal S112x128 .f32) (r : Fin 112) (u : Fin 1) :
    (mulf (shapeCast S112x1 (multiReduction .maximumf [1] S112 (absf v) 0xFF800000#32 reduces_S112x128_S112 (.inl rfl) rfl) shapeCasts_S112_S112x1)
      (broadcast S112x1 (Scalar.ofBits .f32 0x3B124925#32)) : FVec Ideal S112x1 .f32) (ix2 r u) = pS (fun l => at2 v r.val l) := by
  show shapeCast S112x1 _ shapeCasts_S112_S112x1 (ix2 r u) * Ideal.ofBits .f32 0x3B124925#32 = _
  rw [shapeCast_a_a1_apply]
  refine (congrArg (· * Ideal.ofBits .f32 0x3B124925#32) (rowmax (absf v) _ reduces_S112x128_S112 (.inl rfl) rfl r)).trans ?_
  unfold pS gmax
  congr 2
  funext k
  show max (v (ix2 r k)) (-(v (ix2 r k))) = _
  rw [at2_ix v r k]

theorem word_one (k : ℕ) (hk : k < 252) :
    IntOp.shli .vector (IntOp.addi (BitVec.ofNat 32 k) 1#32) 23#32 = BitVec.ofNat 32 ((k + 1) * 8388608) := by
  unfold IntOp.shli IntOp.addi
  rw [if_pos (by decide)]
  apply BitVec.eq_of_toNat_eq
  rw [show (BitVec.ofNat 32 k + 1#32) = BitVec.ofNat 32 (k + 1) from by rw [BitVec.ofNat_add]]
  rw [BitVec.shiftLeft_eq', BitVec.toNat_shiftLeft, Nat.shiftLeft_eq]
  simp only [BitVec.toNat_ofNat]
  rw [show (2 : ℕ) ^ (23 % 2 ^ 32) = 8388608 from by norm_num]
  omega

theorem qexp_at (v : FVec Ideal S112x128 .f32) (r : Fin 112) (u : Fin 1) :
    qexp v (ix2 r u) = BitVec.ofNat 32 (eS (pS (fun l => at2 v r.val l))) := by
  have he : shapeCast S112x1 (multiReductionI .add [1] S112
      (select (cmpf .oge (broadcastTo S112x252
          (mulf (shapeCast S112x1 (multiReduction .maximumf [1] S112 (absf v) 0xFF800000#32 reduces_S112x128_S112 (.inl rfl) rfl) shapeCasts_S112_S112x1)
            (broadcast S112x1 (Scalar.ofBits .f32 0x3B124925#32))) broadcasts_S112x1_S112x252)
        (bitcastToFloat .f32 (shli (addi (iota .tc S112x252 32 [1] iota_S112x252_d1_w32) (broadcast S112x252 1#32)) (broadcast S112x252 23#32))))
        (broadcast S112x252 1#32) (broadcast S112x252 0#32)) 0#32 reduces_S112x252_S112 rfl) shapeCasts_S112_S112x1 (ix2 r u)
      = BitVec.ofNat 32 (cnt (pS (fun l => at2 v r.val l))) := by
    rw [shapeCast_a_a1_apply]
    refine (rowcount _ reduces_S112x252_S112 rfl r (fun k : Fin 252 => BitVec.ofBool (decide ((((2 : ℝ) ^ ((k.val : ℤ) - 126) : ℝ) : EReal) ≤ pS (fun l => at2 v r.val l)))) ?_).trans ?_
    · intro k
      show Scalar.select (Ideal.cmp .oge (broadcastTo S112x252 _ broadcasts_S112x1_S112x252 (ix2 r k))
        (Ideal.ofBits .f32 (IntOp.shli .vector (IntOp.addi (iota .tc S112x252 32 [1] iota_S112x252_d1_w32 (ix2 r k)) 1#32) 23#32))) 1#32 0#32 = _
      rw [bc_col, pmax]
      rw [show iota .tc S112x252 32 [1] iota_S112x252_d1_w32 (ix2 r k) = BitVec.ofNat 32 k.val from by
        show BitVec.ofNat 32 (0 * 252 + k.val) = _
        rw [Nat.zero_mul, Nat.zero_add]]
      rw [word_one _ k.isLt, ofBits_pow _ (by omega) (by have := k.isLt; omega)]
      have e1 : ((k.val + 1 : ℕ) : ℤ) - 127 = (k.val : ℤ) - 126 := by push_cast; ring
      rw [e1]
      show Scalar.select (BitVec.ofBool (decide _)) 1#32 0#32 = _
      by_cases hc : (((2 : ℝ) ^ ((k.val : ℤ) - 126) : ℝ) : EReal) ≤ pS (fun l => at2 v r.val l)
      · simp [hc, Scalar.select]
      · simp [hc, Scalar.select]
    congr 1
    unfold cnt
    refine Finset.card_bij (fun k _ => k.val) ?_ ?_ ?_
    · intro k hk
      rw [Finset.mem_filter, Finset.mem_range]
      refine ⟨k.isLt, ?_⟩
      have := (Finset.mem_filter.1 hk).2
      by_contra hc
      rw [decide_eq_false hc] at this
      exact absurd this (by decide)
    · intro a _ b _ h; exact Fin.ext h
    · intro b hb
      obtain ⟨h1, h2⟩ := Finset.mem_filter.1 hb
      refine ⟨⟨b, Finset.mem_range.1 h1⟩, Finset.mem_filter.2 ⟨Finset.mem_univ _, ?_⟩, rfl⟩
      rw [decide_eq_true h2]; rfl
  unfold qexp
  show Scalar.select (IntOp.cmpi .eq _ 0#32) 126#32 _ = _
  rw [he]
  unfold eS
  have hc := cnt_le (pS (fun l => at2 v r.val l))
  by_cases h : cnt (pS (fun l => at2 v r.val l)) = 0
  · rw [if_pos h, h]; rfl
  · rw [if_neg h]
    have : IntOp.cmpi .eq (BitVec.ofNat 32 (cnt (pS (fun l => at2 v r.val l)))) 0#32 = 0#1 := by
      unfold IntOp.cmpi
      have hne : BitVec.ofNat 32 (cnt (pS (fun l => at2 v r.val l))) ≠ 0#32 := fun e => h (by
        have := congrArg BitVec.toNat e
        rw [BitVec.toNat_ofNat, BitVec.toNat_ofNat] at this
        omega)
      show BitVec.ofBool (_ == _) = 0#1
      rw [beq_eq_false_iff_ne.2 hne]; rfl
    rw [this]; rfl

/-! ## Scales and codes -/

theorem at2_qscale (v : FVec Ideal S112x128 .f32) {r : ℕ} (hr : r < 112) : at2 (qscale v) r 0 = scl (pS (fun l => at2 v r l)) := by
  rw [at2_eq _ hr Nat.one_pos]
  show Ideal.ofBits .f32 (IntOp.shli .vector (IntOp.addi (qexp v (ix2 ⟨r, hr⟩ ⟨0, _⟩)) 1#32) 23#32) = _
  rw [qexp_at]
  dsimp only
  have hl := eS_le (pS (fun l => at2 v r l))
  have hp := eS_pos (pS (fun l => at2 v r l))
  have e : IntOp.shli .vector (IntOp.addi (BitVec.ofNat 32 (eS (pS (fun l => at2 v r l)))) 1#32) 23#32 = BitVec.ofNat 32 ((eS (pS (fun l => at2 v r l)) + 1) * 8388608) := by
    generalize eS (pS (fun l => at2 v r l)) = k at *
    unfold IntOp.shli IntOp.addi
    rw [if_pos (by decide)]
    apply BitVec.eq_of_toNat_eq
    rw [show (BitVec.ofNat 32 k + 1#32) = BitVec.ofNat 32 (k + 1) from by rw [BitVec.ofNat_add]]
    rw [BitVec.shiftLeft_eq', BitVec.toNat_shiftLeft, Nat.shiftLeft_eq]
    simp only [BitVec.toNat_ofNat]
    rw [show (2 : ℕ) ^ (23 % 2 ^ 32) = 8388608 from by norm_num]
    omega
  rw [e, ofBits_pow _ (by omega) (by omega)]
  unfold scl
  congr 2
  push_cast; ring

theorem inv_at (v : FVec Ideal S112x128 .f32) (r : Fin 112) (u : Fin 1) :
    (bitcastToFloat .f32 (shli (subi (broadcast S112x1 253#32) (qexp v)) (broadcast S112x1 23#32)) : FVec Ideal S112x1 .f32) (ix2 r u) = inv (pS (fun l => at2 v r.val l)) := by
  show Ideal.ofBits .f32 (IntOp.shli .vector (IntOp.subi 253#32 (qexp v (ix2 r u))) 23#32) = _
  rw [qexp_at]
  have hl := eS_le (pS (fun l => at2 v r.val l))
  have hp := eS_pos (pS (fun l => at2 v r.val l))
  have e : IntOp.shli .vector (IntOp.subi 253#32 (BitVec.ofNat 32 (eS (pS (fun l => at2 v r.val l))))) 23#32 = BitVec.ofNat 32 ((253 - eS (pS (fun l => at2 v r.val l))) * 8388608) := by
    generalize eS (pS (fun l => at2 v r.val l)) = k at *
    unfold IntOp.shli IntOp.subi
    rw [if_pos (by decide)]
    apply BitVec.eq_of_toNat_eq
    rw [show (253#32 - BitVec.ofNat 32 k) = BitVec.ofNat 32 (253 - k) from by
      apply BitVec.eq_of_toNat_eq
      rw [BitVec.toNat_sub, BitVec.toNat_ofNat, BitVec.toNat_ofNat, BitVec.toNat_ofNat]; omega]
    rw [BitVec.shiftLeft_eq', BitVec.toNat_shiftLeft, Nat.shiftLeft_eq]
    simp only [BitVec.toNat_ofNat]
    rw [show (2 : ℕ) ^ (23 % 2 ^ 32) = 8388608 from by norm_num]
    omega
  rw [e, ofBits_pow _ (by omega) (by omega)]
  unfold inv
  congr 2
  have : ((253 - eS (pS (fun l => at2 v r.val l)) : ℕ) : ℤ) = 253 - (eS (pS (fun l => at2 v r.val l)) : ℤ) := by omega
  rw [this]; ring

theorem qcode_at (v : FVec Ideal S112x128 .f32) (r : Fin 112) (l : Fin 128) : qcode v (ix2 r l) = codeS (fun l => at2 v r.val l) l.val := by
  show min (Ideal.ofBits .f32 0x43E00000#32) (max (Ideal.ofBits .f32 0xC3E00000#32) (v (ix2 r l) * broadcastTo S112x128 _ broadcasts_S112x1_S112x128 (ix2 r l))) = _
  rw [bc_col, inv_at, at2_ix v r l]
  rfl

theorem at2_qcode100 (v : FVec Ideal S112x128 .f32) {r l : ℕ} (hr : r < 100) (hl : l < 128) : at2 (n := 100) (m := 128) (qcode100 v) r l = codeS (fun l => at2 v r l) l := by
  unfold qcode100
  refine (at2_slice 0 0 (qcode v) slices_S112x128_o0_0_S100x128 hr hl (by omega) (by omega)).trans ?_
  rw [Nat.zero_add, Nat.zero_add, at2_eq _ (by omega) hl]
  exact qcode_at v ⟨r, by omega⟩ ⟨l, hl⟩

theorem at2_qdeq (v : FVec Ideal S112x128 .f32) {r l : ℕ} (hr : r < 112) (hl : l < 128) :
    at2 (n := 112) (m := 128) (qdeq v) r l = codeS (fun l => at2 v r l) l * scl (pS (fun l => at2 v r l)) := by
  rw [at2_eq _ hr hl]
  show qcode v (ix2 ⟨r, hr⟩ ⟨l, hl⟩) * broadcastTo S112x128 (qscale v) broadcasts_S112x1_S112x128 (ix2 ⟨r, hr⟩ ⟨l, hl⟩) = _
  rw [bc_col, qcode_at, at2_ix (qscale v)]
  exact congrArg _ (at2_qscale v hr)

end Cert.Val
end
-- ==== Proof.Val.Dot.lean ====
/-
  The tiles' products over the extended reals: a tile with its four scales, a projection's twenty tiles, and the down projection's two.
-/
module

public import proofs.«01_k».proof.Proof.KernelIdeal.Step
public import proofs.«01_k».proof.Proof.Val.Quant

@[expose] public section

noncomputable section

namespace Cert.Val

open Idealize.ShloMosaic Idealize.ShloMosaic.ValueIdx
open Cert.KernelIdeal Cert.KernelIdeal.Gen Cert.KernelIdeal.Hand

theorem at2_cat1 {a b d n : ℕ} (x₁ : (⟨2, ![n, a]⟩ : Shape).Idx → EReal) (x₂ : (⟨2, ![n, b]⟩ : Shape).Idx → EReal)
    (h : Shape.Concatenates [(⟨2, ![n, a]⟩ : Shape), ⟨2, ![n, b]⟩] ⟨2, ![n, d]⟩ 1) {i j : ℕ} (hi : i < n) (hj : j < d) (hd : d = a + b) :
    at2 (concatenate ⟨2, ![n, d]⟩ 1 [⟨⟨2, ![n, a]⟩, x₁⟩, ⟨⟨2, ![n, b]⟩, x₂⟩] h) i j = if j < a then at2 x₁ i j else at2 x₂ i (j - a) := by
  rw [at2_eq _ hi hj]
  split
  · next hja =>
    rw [at2_eq x₁ hi hja]
    exact concatenate_pair_apply_left 1 x₁ x₂ h _ rfl (ix2 ⟨i, hi⟩ ⟨j, hja⟩) fun ax => match ax with | ⟨0, _⟩ => rfl | ⟨1, _⟩ => rfl
  · next hja =>
    rw [at2_eq x₂ hi (by omega : j - a < b)]
    refine concatenate_pair_apply_right 1 x₁ x₂ h _ rfl rfl (ix2 ⟨i, hi⟩ ⟨j - a, by omega⟩) (fun ax hax => ?_) ?_
    · match ax, hax with
      | ⟨0, _⟩, _ => rfl
      | ⟨1, _⟩, hh => exact absurd rfl hh
    · show j - a + a = j
      omega

theorem at2_cat0 {a b d n : ℕ} (x₁ : (⟨2, ![a, n]⟩ : Shape).Idx → EReal) (x₂ : (⟨2, ![b, n]⟩ : Shape).Idx → EReal)
    (h : Shape.Concatenates [(⟨2, ![a, n]⟩ : Shape), ⟨2, ![b, n]⟩] ⟨2, ![d, n]⟩ 0) {i j : ℕ} (hi : i < d) (hj : j < n) (hd : d = a + b) :
    at2 (concatenate ⟨2, ![d, n]⟩ 0 [⟨⟨2, ![a, n]⟩, x₁⟩, ⟨⟨2, ![b, n]⟩, x₂⟩] h) i j = if i < a then at2 x₁ i j else at2 x₂ (i - a) j := by
  rw [at2_eq _ hi hj]
  split
  · next hja =>
    rw [at2_eq x₁ hja hj]
    exact concatenate_pair_apply_left 0 x₁ x₂ h _ rfl (ix2 ⟨i, hja⟩ ⟨j, hj⟩) fun ax => match ax with | ⟨0, _⟩ => rfl | ⟨1, _⟩ => rfl
  · next hja =>
    rw [at2_eq x₂ (by omega : i - a < b) hj]
    refine concatenate_pair_apply_right 0 x₁ x₂ h _ rfl rfl (ix2 ⟨i - a, by omega⟩ ⟨j, hj⟩) (fun ax hax => ?_) ?_
    · match ax, hax with
      | ⟨0, _⟩, hh => exact absurd rfl hh
      | ⟨1, _⟩, _ => rfl
    · show i - a + a = i
      omega

theorem at2_blk (v : FVec Ideal S128x128 .fp8e4m3) (s : Elt Ideal .f32) {i j : ℕ} (hi : i < 128) (hj : j < 128) : at2 (blk v s) i j = at2 v i j * (s : EReal) := by
  rw [at2_eq (blk v s) hi hj, at2_eq v hi hj]
  unfold blk
  refine (shapeCast_apply _ shapeCasts_S8x16x128_S128x128 (ix2 ⟨i, hi⟩ ⟨j, hj⟩)
    (ix3 (⟨i / 16, by omega⟩ : Fin 8) (⟨i % 16, by omega⟩ : Fin 16) (⟨j, hj⟩ : Fin 128)) ?_).trans ?_
  · rw [Shape.rowMajor_val_three, Shape.rowMajor_val_two]
    show (i / 16 * 16 + i % 16) * 128 + j = i * 128 + j
    omega
  · refine congrArg (· * (s : EReal)) ?_
    refine shapeCast_apply _ shapeCasts_S128x128_S8x16x128 _ (ix2 ⟨i, hi⟩ ⟨j, hj⟩) ?_
    rw [Shape.rowMajor_val_three, Shape.rowMajor_val_two]
    show i * 128 + j = (i / 16 * 16 + i % 16) * 128 + j
    omega

/-- A tile read at two numbers. -/
def t2 (w : S1x256x256.Idx → EReal) (i j : ℕ) : EReal := if h : i < 256 ∧ j < 256 then w (ix3 (0 : Fin 1) ⟨i, h.1⟩ ⟨j, h.2⟩) else 0

theorem at2_tile (w : Vec Ideal S1x256x256 .fp8e4m3) {i j : ℕ} (hi : i < 256) (hj : j < 256) :
    at2 (shapeCast S256x256 w shapeCasts_S1x256x256_S256x256) i j = t2 w i j := by
  rw [at2_eq _ hi hj, t2, dif_pos ⟨hi, hj⟩]
  exact shapeCast_1ab_ab_apply w _ _ _

theorem at2_wtile (w : Vec Ideal S1x256x256 .fp8e4m3) (s00 s01 s10 s11 : Elt Ideal .f32) {i j : ℕ} (hi : i < 256) (hj : j < 256) :
    at2 (wtile w s00 s01 s10 s11) i j
      = t2 w i j * (if i < 128 then (if j < 128 then (s00 : EReal) else s01) else (if j < 128 then (s10 : EReal) else s11)) := by
  have B : ∀ (o0 o1 : ℕ) (h : S256x256.Slices ![o0, o1] S128x128) (s : Elt Ideal .f32) (i j : ℕ), i < 128 → j < 128 → o0 + 128 ≤ 256 → o1 + 128 ≤ 256 →
      at2 (blk (extractStridedSlice S128x128 ![o0, o1] (shapeCast S256x256 w shapeCasts_S1x256x256_S256x256) h) s) i j = t2 w (o0 + i) (o1 + j) * (s : EReal) := by
    intro o0 o1 h s i j hi hj h0 h1
    rw [at2_blk _ _ hi hj]
    refine congrArg (· * (s : EReal)) ((at2_slice o0 o1 _ h hi hj h0 h1).trans (at2_tile w (by omega) (by omega)))
  unfold wtile
  refine (at2_cat0 _ _ concatenates_S128x256_S128x256_S256x256_d0 hi hj rfl).trans ?_
  split
  · next h0 =>
    refine (at2_cat1 _ _ concatenates_S128x128_S128x128_S128x256_d1 h0 hj rfl).trans ?_
    split
    · next h1 => rw [B 0 0 _ _ i j h0 h1 (by omega) (by omega), Nat.zero_add, Nat.zero_add]
    · next h1 => rw [B 0 128 _ _ i (j - 128) h0 (by omega) (by omega) (by omega), Nat.zero_add, show 128 + (j - 128) = j by omega]
  · next h0 =>
    refine (at2_cat1 _ _ concatenates_S128x128_S128x128_S128x256_d1 (by omega) hj rfl).trans ?_
    split
    · next h1 => rw [B 128 0 _ _ (i - 128) j (by omega) h1 (by omega) (by omega), Nat.zero_add, show 128 + (i - 128) = i by omega]
    · next h1 => rw [B 128 128 _ _ (i - 128) (j - 128) (by omega) (by omega) (by omega) (by omega), show 128 + (i - 128) = i by omega, show 128 + (j - 128) = j by omega]

theorem at2_tdot (a : Vec Ideal S112x256 .bf16) (w : Vec Ideal S1x256x256 .fp8e4m3) (s00 s01 s10 s11 : Elt Ideal .f32) {r j : ℕ} (hr : r < 112) (hj : j < 256) :
    at2 (tdot a w s00 s01 s10 s11) r j = ∑ k ∈ Finset.range 256, at2 a r k * at2 (wtile w s00 s01 s10 s11) k j := by
  rw [at2_eq _ hr hj, Finset.sum_range]
  refine (Ideal.matmul_plain_apply none a (wtile w s00 s01 s10 s11) (constant S112x256 .f32 0x00000000#32) ⟨r, hr⟩ ⟨j, hj⟩).trans ?_
  rw [show (constant S112x256 .f32 0x00000000#32 : FVec Ideal S112x256 .f32) (ix2 ⟨r, hr⟩ ⟨j, hj⟩) = 0 from ofBits_zero, zero_add]
  refine Finset.sum_congr rfl fun k _ => ?_
  rw [at2_eq a hr k.isLt, at2_eq _ k.isLt hj]

theorem sval_at (X : Vec Ideal S40x136 .f32) (r w : ℕ) (hr : r < 40) (hw : w < 136) (h : ∀ a, sAt r w a + S1x1.size a ≤ S40x136.size a) :
    (sval X (sAt r w) h : EReal) = at2 X r w := by
  have e : (Shape.Idx.first (numel1_S1x1.symm ▸ Nat.one_pos) : S1x1.Idx) = ix2 (0 : Fin 1) (0 : Fin 1) := by
    funext a; match a with | ⟨0, _⟩ => exact Subsingleton.elim (α := Fin 1) _ _ | ⟨1, _⟩ => exact Subsingleton.elim (α := Fin 1) _ _
  unfold sval
  rw [e]
  have := at2_window (n := 40) (m := 136) (a := 1) (b := 1) X (sAt r w) h (i := 0) (j := 0) Nat.one_pos Nat.one_pos
  rw [at2_eq _ Nat.one_pos Nat.one_pos] at this
  exact this

theorem t2_tileOf {R C : ℕ} (X : (⟨2, ![R, C]⟩ : Shape).Idx → Elt Ideal .fp8e4m3) (r c : ℕ) (hr : r + 256 ≤ R) (hc : c + 256 ≤ C) {i j : ℕ} (hi : i < 256) (hj : j < 256) :
    t2 (tileOf X r c hr hc) i j = at2 (n := R) (m := C) X (r + i) (c + j) := by
  rw [t2, dif_pos ⟨hi, hj⟩, at2_eq X (by omega : r + i < R) (by omega : c + j < C)]
  rfl

theorem sColA_eq : ∀ (k : Fin k0_t3_loop.trips) (n b : Fin 2), sColA k n b = 4 * k.val + 2 * n.val + b.val := by decide +kernel

/-- A tile of a projection, at a row and a column. -/
theorem at2_tileAV (w : Vec Ideal S5120x512 .fp8e4m3) (sc : Vec Ideal S40x136 .f32) (lhs : Vec Ideal S112x5120 .bf16) (k : Fin k0_t3_loop.trips) (n : Fin 2) (kc : Fin 20)
    {r j : ℕ} (hr : r < 112) (hj : j < 256) :
    at2 (tileAV w sc lhs k n kc) r j = ∑ l ∈ Finset.range 256, at2 lhs r (256 * kc.val + l)
      * (at2 w (256 * kc.val + l) (256 * n.val + j) * at2 sc ((256 * kc.val + l) / 128) (4 * k.val + 2 * n.val + j / 128)) := by
  have hk : k.val < 34 := lt_of_lt_of_le k.isLt k0_t3_abs.2.1
  unfold tileAV
  rw [at2_tdot _ _ _ _ _ _ hr hj]
  refine Finset.sum_congr rfl fun l hl => ?_
  have hl := Finset.mem_range.1 hl
  rw [at2_wtile _ _ _ _ _ hl hj, t2_tileOf _ _ _ _ _ hl hj]
  refine congrArg₂ (· * ·) ?_ (congrArg (_ * ·) ?_)
  · refine (at2_window (n := 112) (m := 5120) (a := 112) (b := 256) lhs _ _ hr hl).trans ?_
    show at2 lhs (0 + r) (256 * kc.val + l) = _
    rw [Nat.zero_add]
  · rw [sval_at _ _ _ (by omega) (by rw [sColA_eq]; omega), sval_at _ _ _ (by omega) (by rw [sColA_eq]; show _ + 1 < _; omega),
      sval_at _ _ _ (by omega) (by rw [sColA_eq]; omega), sval_at _ _ _ (by omega) (by rw [sColA_eq]; show _ + 1 < _; omega), sColA_eq, sColA_eq]
    by_cases h0 : l < 128 <;> by_cases h1 : j < 128 <;> simp only [h0, h1, if_true, if_false]
    · rw [show (256 * kc.val + l) / 128 = 2 * kc.val by omega, show j / 128 = 0 by omega]; rfl
    · rw [show (256 * kc.val + l) / 128 = 2 * kc.val by omega, show j / 128 = 1 by omega]; rfl
    · rw [show (256 * kc.val + l) / 128 = 2 * kc.val + 1 by omega, show j / 128 = 0 by omega]; rfl
    · rw [show (256 * kc.val + l) / 128 = 2 * kc.val + 1 by omega, show j / 128 = 1 by omega]; rfl

theorem at2_addf {n m : ℕ} {φ : FTy} (X Y : FVec Ideal ⟨2, ![n, m]⟩ φ) {r j : ℕ} (hr : r < n) (hj : j < m) :
    at2 (n := n) (m := m) (addf X Y) r j = at2 X r j + at2 Y r j := by
  rw [at2_eq _ hr hj, at2_eq X hr hj, at2_eq Y hr hj]; rfl

theorem at2_sumAV (w : Vec Ideal S5120x512 .fp8e4m3) (sc : Vec Ideal S40x136 .f32) (lhs : Vec Ideal S112x5120 .bf16) (k : Fin k0_t3_loop.trips) (n : Fin 2)
    {r j : ℕ} (hr : r < 112) (hj : j < 256) (l : List (Fin 20)) (acc : FVec Ideal S112x256 .f32) :
    at2 (sumAV w sc lhs k n l acc) r j = at2 acc r j + (l.map fun kc => at2 (tileAV w sc lhs k n kc) r j).sum := by
  induction l generalizing acc with
  | nil => simp [sumAV]
  | cons kc l ih => rw [sumAV, ih, at2_addf _ _ hr hj, List.map_cons, List.sum_cons, add_assoc]

/-- A projection of the step, at a row and a column. -/
theorem at2_projAV (w : Vec Ideal S5120x512 .fp8e4m3) (sc : Vec Ideal S40x136 .f32) (lhs : Vec Ideal S112x5120 .bf16) (k : Fin k0_t3_loop.trips) (n : Fin 2)
    {r j : ℕ} (hr : r < 112) (hj : j < 256) :
    at2 (projAV w sc lhs k n) r j = ∑ l ∈ Finset.range 5120, at2 lhs r l
      * (at2 w l (256 * n.val + j) * at2 sc (l / 128) (4 * k.val + 2 * n.val + j / 128)) := by
  refine Eq.trans ?_ (sum_blocks 20 256 _).symm
  unfold projAV
  rw [at2_sumAV w sc lhs k n hr hj]
  simp only [at2_tileAV w sc lhs k n _ hr hj]
  simp only [List.map_cons, List.map_nil, List.sum_cons, List.sum_nil, Finset.sum_range_succ (n := 19), Finset.sum_range_succ (n := 18), Finset.sum_range_succ (n := 17),
    Finset.sum_range_succ (n := 16), Finset.sum_range_succ (n := 15), Finset.sum_range_succ (n := 14), Finset.sum_range_succ (n := 13), Finset.sum_range_succ (n := 12),
    Finset.sum_range_succ (n := 11), Finset.sum_range_succ (n := 10), Finset.sum_range_succ (n := 9), Finset.sum_range_succ (n := 8), Finset.sum_range_succ (n := 7),
    Finset.sum_range_succ (n := 6), Finset.sum_range_succ (n := 5), Finset.sum_range_succ (n := 4), Finset.sum_range_succ (n := 3), Finset.sum_range_succ (n := 2),
    Finset.sum_range_succ (n := 1), Finset.sum_range_succ (n := 0), Finset.sum_range_zero, zero_add, add_zero, add_assoc]
  rfl

theorem at2_tileBV (w : Vec Ideal S512x5120 .fp8e4m3) (sc : Vec Ideal S40x136 .f32) (lhs : Vec Ideal S112x512 .bf16) (k : Fin k0_t3_loop.trips) (n : Fin 20) (kc : Fin 2)
    {r j : ℕ} (hr : r < 112) (hj : j < 256) :
    at2 (tileBV w sc lhs k n kc) r j = ∑ l ∈ Finset.range 256, at2 lhs r (256 * kc.val + l)
      * (at2 w (256 * kc.val + l) (256 * n.val + j) * at2 sc ((256 * n.val + j) / 128) (4 * k.val + (256 * kc.val + l) / 128)) := by
  have hk : k.val < 34 := lt_of_lt_of_le k.isLt k0_t3_abs.2.1
  unfold tileBV
  rw [at2_tdot _ _ _ _ _ _ hr hj]
  refine Finset.sum_congr rfl fun l hl => ?_
  have hl := Finset.mem_range.1 hl
  rw [at2_wtile _ _ _ _ _ hl hj, t2_tileOf _ _ _ _ _ hl hj]
  refine congrArg₂ (· * ·) ?_ (congrArg (_ * ·) ?_)
  · refine (at2_window (n := 112) (m := 512) (a := 112) (b := 256) lhs _ _ hr hl).trans ?_
    show at2 lhs (0 + r) (256 * kc.val + l) = _
    rw [Nat.zero_add]
  · rw [sval_at _ _ _ (by omega) (by rw [sColA_eq]; omega), sval_at _ _ _ (by omega) (by rw [sColA_eq]; omega),
      sval_at _ _ _ (by omega) (by rw [sColA_eq]; show _ + 1 < _; omega), sval_at _ _ _ (by omega) (by rw [sColA_eq]; show _ + 1 < _; omega), sColA_eq, sColA_eq]
    by_cases h0 : l < 128 <;> by_cases h1 : j < 128 <;> simp only [h0, h1, if_true, if_false]
    · rw [show (256 * n.val + j) / 128 = 2 * n.val by omega, show (256 * kc.val + l) / 128 = 2 * kc.val by omega]; rfl
    · rw [show (256 * n.val + j) / 128 = 2 * n.val + 1 by omega, show (256 * kc.val + l) / 128 = 2 * kc.val by omega]; rfl
    · rw [show (256 * n.val + j) / 128 = 2 * n.val by omega, show (256 * kc.val + l) / 128 = 2 * kc.val + 1 by omega]; rfl
    · rw [show (256 * n.val + j) / 128 = 2 * n.val + 1 by omega, show (256 * kc.val + l) / 128 = 2 * kc.val + 1 by omega]; rfl

/-- The down projection's contribution of a step to one place of the accumulator. -/
def dnS (w : Vec Ideal S512x5120 .fp8e4m3) (sc : Vec Ideal S40x136 .f32) (lhs : Vec Ideal S112x512 .bf16) (k : ℕ) (r j : ℕ) : EReal :=
  ∑ l ∈ Finset.range 512, at2 lhs r l * (at2 w l j * at2 sc (j / 128) (4 * k + l / 128))

theorem at2_downV (w : Vec Ideal S512x5120 .fp8e4m3) (sc : Vec Ideal S40x136 .f32) (lhs : Vec Ideal S112x512 .bf16) (k : Fin k0_t3_loop.trips) (n : Fin 20)
    (acc : Vec Ideal S112x5120 .f32) {r j : ℕ} (hr : r < 112) (hj : j < 5120) :
    at2 (downV w sc lhs k n acc) r j = if j / 256 = n.val then at2 acc r j + dnS w sc lhs k.val r j else at2 acc r j := by
  unfold downV
  refine (at2_put (n := 112) (m := 5120) (a := 112) (b := 256) acc _ _ hr hj).trans ?_
  show (if (0 ≤ r ∧ r < 0 + 112) ∧ (256 * n.val ≤ j ∧ j < 256 * n.val + 256) then _ else _) = _
  by_cases h : j / 256 = n.val
  · rw [if_pos ⟨⟨by omega, by omega⟩, by omega, by omega⟩, if_pos h]
    have hj' : j - 256 * n.val < 256 := by omega
    refine (congrArg (fun X => at2 (n := 112) (m := 256) X (r - 0) (j - 256 * n.val)) (shapeCast_same _ _)).trans ?_
    rw [Nat.sub_zero, at2_addf _ _ hr hj', at2_addf _ _ hr hj', at2_tileBV _ _ _ _ _ _ hr hj', at2_tileBV _ _ _ _ _ _ hr hj']
    refine congrArg₂ (· + ·) ((at2_window (n := 112) (m := 5120) (a := 112) (b := 256) acc _ _ hr hj').trans ?_) ?_
    · show at2 acc (0 + r) (256 * n.val + (j - 256 * n.val)) = _
      rw [Nat.zero_add, show 256 * n.val + (j - 256 * n.val) = j by omega]
    · unfold dnS
      refine Eq.trans ?_ (sum_blocks 2 256 _).symm
      rw [Finset.sum_range_succ (n := 1), Finset.sum_range_succ (n := 0), Finset.sum_range_zero, zero_add,
        show 256 * n.val + (j - 256 * n.val) = j by omega]
      rfl
  · rw [if_neg (by omega), if_neg h]

end Cert.Val
-- ==== Proof.Val.Head.lean ====
/-
  The values before the loop over the steps: the sum of squares, the normed rows, their codes and their scales.
-/
module

public import proofs.«01_k».proof.Proof.KernelIdeal.Inputs
public import proofs.«01_k».proof.Proof.Val.Dot

@[expose] public section

noncomputable section

namespace Cert.Val

open Idealize.ShloMosaic Idealize.ShloMosaic.ValueIdx
open Cert.KernelIdeal Cert.KernelIdeal.Gen Cert.KernelIdeal.Hand

/-! ## The buffers read at two numbers -/

abbrev SI := St Ideal
def c0 (σ : SI) : ℕ → ℕ → EReal := at2 (n := 40) (m := 136) (σ 0)
def c1 (σ : SI) : ℕ → ℕ → EReal := at2 (n := 40) (m := 136) (σ 1)
def c2 (σ : SI) : ℕ → ℕ → EReal := at2 (n := 40) (m := 136) (σ 2)
def c3 (σ : SI) : ℕ → ℕ → EReal := at2 (n := 112) (m := 5120) (σ 3)
def c4 (σ : SI) : ℕ → ℕ → EReal := at2 (n := 1) (m := 5120) (σ 4)
def c5 (σ : SI) : ℕ → ℕ → EReal := at2 (n := 100) (m := 5120) (σ 5)
def c6 (σ : SI) : ℕ → ℕ → EReal := at2 (n := 100) (m := 5120) (σ 6)
def c7 (σ : SI) : ℕ → ℕ → EReal := at2 (n := 40) (m := 100) (σ 7)
def c8 (σ : SI) : ℕ → ℕ → EReal := at2 (n := 100) (m := 17408) (σ 8)
def c9 (σ : SI) : ℕ → ℕ → EReal := at2 (n := 136) (m := 100) (σ 9)
def c10 (σ : SI) : ℕ → ℕ → EReal := at2 (n := 112) (m := 5120) (σ 10)
def c11 (σ : SI) : ℕ → ℕ → EReal := at2 (n := 112) (m := 5120) (σ 11)
def c12 (σ : SI) : ℕ → ℕ → EReal := at2 (n := 112) (m := 512) (σ 12)

theorem set_self (σ : SI) (i : Fin 15) (X : (shp i).Idx → Elt Ideal (ety i)) : (σ.set i X) i = X := Function.update_self i X σ
theorem set_ne (σ : SI) {i j : Fin 15} (X : (shp i).Idx → Elt Ideal (ety i)) (h : j ≠ i) : (σ.set i X) j = σ j := Function.update_of_ne h X σ

/-! ## Where the loops write -/

theorem trips1 : k0_t1_loop.trips = 20 := by decide +kernel
theorem trips2 : k0_t2_loop.trips = 20 := by decide +kernel
theorem trips3 : k0_t3_loop.trips = 34 := by decide +kernel
theorem trips4 : k0_t4_loop.trips = 20 := by decide +kernel
theorem off1_eq : ∀ k : Fin k0_t1_loop.trips, k0_off1 k = aAt (256 * k.val) := by decide +kernel
theorem off2_eq : ∀ (k : Fin k0_t2_loop.trips) (j : Fin 2), k0_off2 k (BitVec.ofNat 32 (128 * j.val)) = aAt (128 * (2 * k.val + j.val)) := by decide +kernel
theorem off3_eq : ∀ (k : Fin k0_t2_loop.trips) (j : Fin 2), k0_off3 k (BitVec.ofNat 32 (128 * j.val)) = aAt (128 * (2 * k.val + j.val)) := by decide +kernel
theorem off4_eq : ∀ (k : Fin k0_t2_loop.trips) (j : Fin 2), k0_off4 k (BitVec.ofNat 32 (128 * j.val)) = aAt (128 * (2 * k.val + j.val)) := by decide +kernel
theorem off136_eq : ∀ k : Fin k0_t4_loop.trips, k0_off136 k = aAt (256 * k.val) := by decide +kernel
theorem off137_eq : ∀ k : Fin k0_t4_loop.trips, k0_off137 k = aAt (256 * k.val) := by decide +kernel

/-- Columns `c` up to `c + b` put. -/
theorem at2_putc {n m b : ℕ} (X : (⟨2, ![n, m]⟩ : Shape).Idx → EReal) (off : Fin 2 → ℕ) (c : ℕ) (ho : off = aAt c) (w : (⟨2, ![n, b]⟩ : Shape).Idx → EReal)
    {i j : ℕ} (hi : i < n) (hj : j < m) :
    at2 (n := n) (m := m) (VecWindow.put (s := ⟨2, ![n, m]⟩) X off ![n, b] w) i j = if c ≤ j ∧ j < c + b then at2 w i (j - c) else at2 X i j := by
  subst ho
  refine (at2_put X _ w hi hj).trans ?_
  show (if (0 ≤ i ∧ i < 0 + n) ∧ (c ≤ j ∧ j < c + b) then at2 w (i - 0) (j - c) else at2 X i j) = _
  by_cases h : c ≤ j ∧ j < c + b
  · rw [if_pos h, if_pos ⟨⟨by omega, by omega⟩, h⟩, Nat.sub_zero]
  · rw [if_neg h, if_neg (fun hh => h hh.2)]

theorem at2_windowc {n m a b : ℕ} (X : (⟨2, ![n, m]⟩ : Shape).Idx → EReal) (off : Fin 2 → ℕ) (c : ℕ) (ho : off = aAt c)
    (inb : ∀ x : Fin 2, off x + (![a, b] : Fin 2 → ℕ) x ≤ (![n, m] : Fin 2 → ℕ) x) {i j : ℕ} (hi : i < a) (hj : j < b) :
    at2 (n := a) (m := b) (VecWindow.window (s := ⟨2, ![n, m]⟩) X off ![a, b] inb) i j = at2 X i (c + j) := by
  refine (at2_window X off inb hi hj).trans ?_
  subst ho
  show at2 X (0 + i) (c + j) = _
  rw [Nat.zero_add]

/-! ## The sum of squares -/

theorem itr_succ {α : Type} {n : ℕ} (f : Fin n → α → α) (x : α) (k : ℕ) (h : k < n) : itr f x (k + 1) = f ⟨k, h⟩ (itr f x k) := by
  show (if h : k < n then f ⟨k, h⟩ (itr f x k) else itr f x k) = _
  rw [dif_pos h]

theorem sq_step (k : Fin k0_t1_loop.trips) (p : SI × FVec Ideal S112x128 .f32) :
    (∀ i, i ≠ 11 → (sqV k p).1 i = p.1 i)
    ∧ (∀ r j, r < 112 → j < 5120 → c11 (sqV k p).1 r j = if 256 * k.val ≤ j ∧ j < 256 * k.val + 256 then c3 p.1 r j else c11 p.1 r j)
    ∧ (∀ r l, r < 112 → l < 128 → at2 (sqV k p).2 r l = at2 p.2 r l + c3 p.1 r (256 * k.val + l) * c3 p.1 r (256 * k.val + l)
        + c3 p.1 r (256 * k.val + (128 + l)) * c3 p.1 r (256 * k.val + (128 + l))) := by
  have W : ∀ r l, r < 112 → l < 256 → at2 (n := 112) (m := 256) (VecWindow.window (s := S112x5120) (p.1 3) (k0_off1 k) S112x256.size (k0_off1_inb k)) r l = c3 p.1 r (256 * k.val + l) :=
    fun r l hr hl => at2_windowc (n := 112) (m := 5120) (p.1 3) _ _ (off1_eq k) _ hr hl
  refine ⟨fun i hi => set_ne _ _ hi, fun r j hr hj => ?_, fun r l hr hl => ?_⟩
  · refine (congrArg (fun X => at2 (n := 112) (m := 5120) X r j) (set_self p.1 11 _)).trans ?_
    refine (at2_putc (n := 112) (m := 5120) (b := 256) (p.1 11) _ _ (off1_eq k) _ hr hj).trans ?_
    by_cases h : 256 * k.val ≤ j ∧ j < 256 * k.val + 256
    · rw [if_pos h, if_pos h]
      refine (congrArg (fun X => at2 (n := 112) (m := 256) X r (j - 256 * k.val)) (shapeCast_same _ _)).trans ((W r _ hr (by omega)).trans ?_)
      rw [show 256 * k.val + (j - 256 * k.val) = j by omega]
    · rw [if_neg h, if_neg h]; rfl
  · have e0 := (at2_slice 0 0 (VecWindow.window (s := S112x5120) (p.1 3) (k0_off1 k) S112x256.size (k0_off1_inb k)) slices_S112x256_o0_0_S112x128 hr hl (by omega) (by omega)).trans
      (W _ _ (by omega) (by omega))
    have e1 := (at2_slice 0 128 (VecWindow.window (s := S112x5120) (p.1 3) (k0_off1 k) S112x256.size (k0_off1_inb k)) slices_S112x256_o0_128_S112x128 hr hl (by omega) (by omega)).trans
      (W _ _ (by omega) (by omega))
    rw [Nat.zero_add] at e0 e1
    rw [Nat.zero_add] at e0
    refine (at2_addf _ _ hr hl).trans (congrArg₂ (· + ·) ((at2_addf _ _ hr hl).trans (congrArg₂ (· + ·) rfl ?_)) ?_)
    · rw [← e0, at2_eq _ hr hl, at2_eq _ hr hl]; rfl
    · rw [← e1, at2_eq _ hr hl, at2_eq _ hr hl]; rfl

theorem sq_inv (σ : SI) (n : ℕ) (hn : n ≤ 20) :
    (∀ i, i ≠ 11 → (sqP σ n).1 i = σ i)
    ∧ (∀ r j, r < 112 → j < 5120 → c11 (sqP σ n).1 r j = if j < 256 * n then c3 σ r j else c11 σ r j)
    ∧ (∀ r l, r < 112 → l < 128 → at2 (sqP σ n).2 r l = ∑ i ∈ Finset.range n, (c3 σ r (256 * i + l) * c3 σ r (256 * i + l)
        + c3 σ r (256 * i + (128 + l)) * c3 σ r (256 * i + (128 + l)))) := by
  induction n with
  | zero =>
    refine ⟨fun i _ => rfl, fun r j _ _ => by rw [if_neg (by omega)]; rfl, fun r l hr hl => ?_⟩
    rw [at2_eq _ hr hl]
    exact ofBits_zero
  | succ n ih =>
    obtain ⟨i1, i2, i3⟩ := ih (by omega)
    obtain ⟨s1, s2, s3⟩ := sq_step ⟨n, by rw [trips1]; omega⟩ (sqP σ n)
    have e : sqP σ (n + 1) = sqV ⟨n, by rw [trips1]; omega⟩ (sqP σ n) := itr_succ _ _ _ _
    have e3 : c3 (sqP σ n).1 = c3 σ := congrArg (fun X => at2 (n := 112) (m := 5120) X) (i1 3 (by decide))
    rw [e]
    refine ⟨fun i hi => (s1 i hi).trans (i1 i hi), fun r j hr hj => ?_, fun r l hr hl => ?_⟩
    · rw [s2 r j hr hj, i2 r j hr hj, e3]
      show (if 256 * n ≤ j ∧ j < 256 * n + 256 then _ else _) = _
      by_cases h1 : j < 256 * n
      · rw [if_neg (by omega), if_pos h1, if_pos (by omega)]
      · by_cases h2 : j < 256 * n + 256
        · rw [if_pos (by omega), if_pos (by omega)]
        · rw [if_neg (by omega), if_neg (by omega), if_neg (by omega)]
    · rw [s3 r l hr hl, i3 r l hr hl, e3, Finset.sum_range_succ, add_assoc]

theorem at2_rnorm (s : FVec Ideal S112x128 .f32) {r : ℕ} (hr : r < 112) :
    at2 (rnorm s) r 0 = Ideal.rsqrt ((∑ l ∈ Finset.range 128, at2 s r l) * (((1 / 5120 : ℝ)) : EReal) + Ideal.ofBits .f32 0x358637BD#32) := by
  rw [at2_eq _ hr Nat.one_pos]
  refine congrArg (fun z => Ideal.rsqrt (z * (((1 / 5120 : ℝ)) : EReal) + Ideal.ofBits .f32 0x358637BD#32)) ?_
  refine (shapeCast_a_a1_apply _ shapeCasts_S112_S112x1 ⟨r, hr⟩ 0).trans ((rowsum s _ reduces_S112x128_S112 (.inl rfl) rfl ⟨r, hr⟩).trans ?_)
  rw [Finset.sum_range]
  exact Finset.sum_congr rfl fun k _ => at2_ix s _ _

theorem rs_eq (σ : SI) {r : ℕ} (hr : r < 112) : at2 (rnorm (sqP σ 20).2) r 0 = rsS (c3 σ) r := by
  rw [at2_rnorm _ hr, rsS]
  refine congrArg (fun z => Ideal.rsqrt (z * (((1 / 5120 : ℝ)) : EReal) + Ideal.ofBits .f32 0x358637BD#32)) ?_
  rw [Finset.sum_congr rfl fun l hl => (sq_inv σ 20 (le_refl _)).2.2 r l hr (Finset.mem_range.1 hl), Finset.sum_comm]
  refine Eq.trans ?_ (sum_blocks 20 256 _).symm
  refine Finset.sum_congr rfl fun i _ => ?_
  refine Eq.trans ?_ (sum_blocks 2 128 _).symm
  rw [Finset.sum_range_succ (n := 1), Finset.sum_range_succ (n := 0), Finset.sum_range_zero, zero_add, Finset.sum_add_distrib]
  refine congrArg₂ (· + ·) (Finset.sum_congr rfl fun l _ => ?_) (Finset.sum_congr rfl fun l _ => ?_)
  · rw [show 128 * 0 + l = l by omega]
  · rw [show 128 * 1 + l = 128 + l by omega]

/-! ## The normed rows -/

theorem at2_groupV (rr : FVec Ideal S112x1 .f32) (k : Fin k0_t2_loop.trips) (j : Fin 2) (σ : SI) {r l : ℕ} (hr : r < 112) (hl : l < 128) :
    at2 (groupV rr k j σ) r l = c3 σ r (128 * (2 * k.val + j.val) + l) * at2 rr r 0
      * (Ideal.ofBits .f32 0x3F800000#32 + c4 σ 0 (128 * (2 * k.val + j.val) + l)) := by
  rw [at2_eq _ hr hl, at2_eq rr hr Nat.one_pos]
  refine congrArg₂ (· * ·) (congrArg₂ (· * ·) ?_ (bc_col _ _ _ _)) ?_
  · refine ((at2_eq _ hr hl).symm.trans (at2_windowc (n := 112) (m := 5120) (a := 112) (b := 128) (σ 3) _ _ (off2_eq k j) _ hr hl))
  · refine (broadcastTo_1b_ab_apply _ broadcasts_S1x128_S112x128 ⟨r, hr⟩ ⟨l, hl⟩).trans (congrArg (Ideal.ofBits .f32 0x3F800000#32 + ·) ?_)
    refine (congrFun (shapeCast_same _ _) _).trans ?_
    refine ((at2_eq _ Nat.one_pos hl).symm.trans (at2_windowc (n := 1) (m := 5120) (a := 1) (b := 128) (σ 4) _ _ (off3_eq k j) _ Nat.one_pos hl))

theorem group_congr {f f' : ℕ → EReal} (h : ∀ l, l < 128 → f l = f' l) (l : ℕ) (hl : l < 128) : codeS f l = codeS f' l ∧ pS f = pS f' := by
  have e : pS f = pS f' := congrArg (· * Ideal.ofBits .f32 0x3B124925#32) (Finset.fold_congr fun k _ => by rw [h k.val k.isLt])
  exact ⟨by unfold codeS; rw [e, h l hl], e⟩

theorem normGroup_step (rr : FVec Ideal S112x1 .f32) (k : Fin k0_t2_loop.trips) (j : Fin 2) (σ : SI) (x : ℕ → ℕ → EReal)
    (hx : ∀ r l, r < 112 → l < 128 → at2 (groupV rr k j σ) r l = x r (128 * (2 * k.val + j.val) + l)) :
    (∀ i, i ≠ 6 → i ≠ 10 → (normGroupV rr k j σ) i = σ i)
    ∧ (∀ r c, r < 100 → c < 5120 → c6 (normGroupV rr k j σ) r c = if c / 128 = 2 * k.val + j.val then codeA x r c else c6 σ r c)
    ∧ (∀ r c, r < 112 → c < 5120 → c10 (normGroupV rr k j σ) r c = if c / 128 = 2 * k.val + j.val then deqA x r c else c10 σ r c) := by
  have G := fun r (hr : r < 112) l (hl : l < 128) => group_congr (fun l hl => hx r l hr hl) l hl
  refine ⟨fun i h6 h10 => (set_ne _ _ h10).trans (set_ne _ _ h6), fun r c hr hc => ?_, fun r c hr hc => ?_⟩
  · refine (congrArg (fun X => at2 (n := 100) (m := 5120) X r c) ((set_ne _ _ (show (6 : Fin 15) ≠ 10 by decide)).trans (set_self σ 6 _))).trans ?_
    refine (at2_putc (n := 100) (m := 5120) (b := 128) (σ 6) _ _ (off4_eq k j) _ hr hc).trans ?_
    by_cases h : c / 128 = 2 * k.val + j.val
    · rw [if_pos h, if_pos (by omega), at2_qcode100 _ hr (by omega), (G r (by omega) _ (by omega)).1, codeA, h, show c - 128 * (2 * k.val + j.val) = c % 128 by omega]
    · rw [if_neg h, if_neg (by omega)]; rfl
  · refine (congrArg (fun X => at2 (n := 112) (m := 5120) X r c) (set_self _ 10 _)).trans ?_
    refine (at2_putc (n := 112) (m := 5120) (b := 128) _ _ _ (off2_eq k j) _ hr hc).trans ?_
    by_cases h : c / 128 = 2 * k.val + j.val
    · rw [if_pos h, if_pos (by omega)]
      refine (congrArg (fun X => at2 (n := 112) (m := 128) X r (c - 128 * (2 * k.val + j.val))) (shapeCast_same _ _)).trans ?_
      rw [at2_qdeq _ hr (by omega), (G r hr _ (show c - 128 * (2 * k.val + j.val) < 128 by omega)).1, (G r hr 0 (by omega)).2, deqA, codeA, sclA, h, show c - 128 * (2 * k.val + j.val) = c % 128 by omega]
    · rw [if_neg h, if_neg (by omega)]
      exact congrArg (fun X => at2 (n := 112) (m := 5120) X r c) (set_ne _ _ (by decide))

theorem lane_word (l n : ℕ) (hl : l < 2 ^ 32) (hn : n < 2 ^ 32) : (BitVec.ofNat 32 l = BitVec.ofNat 32 n) ↔ l = n := by
  constructor
  · intro h
    have := congrArg BitVec.toNat h
    rwa [BitVec.toNat_ofNat, BitVec.toNat_ofNat, Nat.mod_eq_of_lt hl, Nat.mod_eq_of_lt hn] at this
  · rintro rfl; rfl

theorem lane_at (r : Fin 112) (l : Fin 128) : lane (ix2 r l) = BitVec.ofNat 32 l.val := by
  show BitVec.ofNat 32 (0 * 128 + l.val) = _
  rw [Nat.zero_mul, Nat.zero_add]

theorem nword : ∀ (k : Fin k0_t2_loop.trips) (j : Fin 2), Scalar.addi (Scalar.muli 2#32 (Scf.iv 0#32 1#32 k)) (BitVec.ofNat 32 j.val) = BitVec.ofNat 32 (2 * k.val + j.val) := by
  decide +kernel

theorem sel_eq (a b : BitVec 32) (x y : EReal) : Scalar.select (IntOp.cmpi .eq a b) x y = if a = b then x else y := by
  by_cases h : a = b
  · subst h; simp [Scalar.select, IntOp.cmpi]
  · rw [if_neg h]
    show (if BitVec.ofBool (a == b) = 1 then x else y) = y
    rw [show (a == b) = false from beq_eq_false_iff_ne.2 h]
    rfl

theorem at2_nlane (k : Fin k0_t2_loop.trips) (j : Fin 2) (s : FVec Ideal S112x1 .f32) (old : FVec Ideal S112x128 .f32) {r l : ℕ} (hr : r < 112) (hl : l < 128) :
    at2 (nlane lane k j s old) r l = if l = 2 * k.val + j.val then at2 s r 0 else at2 old r l := by
  have hk : k.val < 20 := lt_of_lt_of_eq k.isLt trips2
  rw [at2_eq _ hr hl, at2_eq s hr Nat.one_pos, at2_eq old hr hl]
  show Scalar.select (IntOp.cmpi .eq (lane (ix2 ⟨r, hr⟩ ⟨l, hl⟩)) (Scalar.addi (Scalar.muli 2#32 (Scf.iv 0#32 1#32 k)) (BitVec.ofNat 32 j.val)))
    (broadcastTo S112x128 (shapeCast S112x1 s shapeCasts_S112x1_S112x1) broadcasts_S112x1_S112x128 (ix2 ⟨r, hr⟩ ⟨l, hl⟩)) (old (ix2 ⟨r, hr⟩ ⟨l, hl⟩)) = _
  rw [bc_col, shapeCast_same, lane_at, nword, sel_eq]
  by_cases h : l = 2 * k.val + j.val
  · rw [if_pos h, if_pos (congrArg (BitVec.ofNat 32) h)]; rfl
  · rw [if_neg h, if_neg (fun e => h ((lane_word _ _ (by omega) (by omega)).1 e))]

theorem norm_step (rr : FVec Ideal S112x1 .f32) (k : Fin k0_t2_loop.trips) (p : SI × FVec Ideal S112x128 .f32) (x : ℕ → ℕ → EReal)
    (hx : ∀ r c, r < 112 → c < 5120 → c3 p.1 r c * at2 rr r 0 * (Ideal.ofBits .f32 0x3F800000#32 + c4 p.1 0 c) = x r c) :
    (∀ i, i ≠ 6 → i ≠ 10 → (normV lane rr k p).1 i = p.1 i)
    ∧ (∀ r c, r < 100 → c < 5120 → c6 (normV lane rr k p).1 r c = if c / 256 = k.val then codeA x r c else c6 p.1 r c)
    ∧ (∀ r c, r < 112 → c < 5120 → c10 (normV lane rr k p).1 r c = if c / 256 = k.val then deqA x r c else c10 p.1 r c)
    ∧ (∀ r g, r < 112 → g < 128 → at2 (normV lane rr k p).2 r g = if g / 2 = k.val then sclA x r g else at2 p.2 r g) := by
  have hk : k.val < 20 := lt_of_lt_of_eq k.isLt trips2
  have g0 : ∀ r l, r < 112 → l < 128 → at2 (groupV rr k 0 p.1) r l = x r (128 * (2 * k.val + (0 : Fin 2).val) + l) := fun r l hr hl =>
    (at2_groupV rr k 0 p.1 hr hl).trans (hx r _ hr (by show 128 * (2 * k.val + 0) + l < 5120; omega))
  obtain ⟨a1, a2, a3⟩ := normGroup_step rr k 0 p.1 x g0
  have e3 : c3 (normGroupV rr k 0 p.1) = c3 p.1 := congrArg (fun X => at2 (n := 112) (m := 5120) X) (a1 3 (by decide) (by decide))
  have e4 : c4 (normGroupV rr k 0 p.1) = c4 p.1 := congrArg (fun X => at2 (n := 1) (m := 5120) X) (a1 4 (by decide) (by decide))
  have g1 : ∀ r l, r < 112 → l < 128 → at2 (groupV rr k 1 (normGroupV rr k 0 p.1)) r l = x r (128 * (2 * k.val + (1 : Fin 2).val) + l) := fun r l hr hl => by
    rw [at2_groupV rr k 1 _ hr hl, e3, e4]
    exact hx r _ hr (by show 128 * (2 * k.val + 1) + l < 5120; omega)
  obtain ⟨b1, b2, b3⟩ := normGroup_step rr k 1 (normGroupV rr k 0 p.1) x g1
  refine ⟨fun i h6 h10 => (b1 i h6 h10).trans (a1 i h6 h10), fun r c hr hc => ?_, fun r c hr hc => ?_, fun r g hr hg => ?_⟩
  · refine (b2 r c hr hc).trans ?_
    rw [a2 r c hr hc]
    show (if c / 128 = 2 * k.val + 1 then _ else if c / 128 = 2 * k.val + 0 then _ else _) = _
    by_cases h : c / 256 = k.val
    · rw [if_pos h]; split
      · rfl
      · rw [if_pos (by omega)]
    · rw [if_neg h, if_neg (by omega), if_neg (by omega)]
  · refine (b3 r c hr hc).trans ?_
    rw [a3 r c hr hc]
    show (if c / 128 = 2 * k.val + 1 then _ else if c / 128 = 2 * k.val + 0 then _ else _) = _
    by_cases h : c / 256 = k.val
    · rw [if_pos h]; split
      · rfl
      · rw [if_pos (by omega)]
    · rw [if_neg h, if_neg (by omega), if_neg (by omega)]
  · refine (at2_nlane k 1 _ _ hr hg).trans ?_
    rw [at2_nlane k 0 _ _ hr hg, at2_qscale _ hr, at2_qscale _ hr, (group_congr (fun l hl => g1 r l hr hl) 0 (by omega)).2, (group_congr (fun l hl => g0 r l hr hl) 0 (by omega)).2]
    show (if g = 2 * k.val + 1 then scl (pS fun l => x r (128 * (2 * k.val + 1) + l)) else if g = 2 * k.val + 0 then scl (pS fun l => x r (128 * (2 * k.val + 0) + l)) else _) = _
    by_cases h : g / 2 = k.val
    · rw [if_pos h, sclA]
      by_cases h1 : g = 2 * k.val + 1
      · rw [if_pos h1, h1]
      · have h0 : g = 2 * k.val + 0 := by omega
        rw [if_neg h1, if_pos h0, h0]
    · rw [if_neg h, if_neg (by omega), if_neg (by omega)]

theorem norm_inv (rr : FVec Ideal S112x1 .f32) (σ : SI) (x : ℕ → ℕ → EReal)
    (hx : ∀ r c, r < 112 → c < 5120 → c3 σ r c * at2 rr r 0 * (Ideal.ofBits .f32 0x3F800000#32 + c4 σ 0 c) = x r c) (n : ℕ) (hn : n ≤ 20) :
    (∀ i, i ≠ 6 → i ≠ 10 → (normP lane rr σ n).1 i = σ i)
    ∧ (∀ r c, r < 100 → c < 5120 → c / 256 < n → c6 (normP lane rr σ n).1 r c = codeA x r c)
    ∧ (∀ r c, r < 112 → c < 5120 → c / 256 < n → c10 (normP lane rr σ n).1 r c = deqA x r c)
    ∧ (∀ r g, r < 112 → g < 128 → g / 2 < n → at2 (normP lane rr σ n).2 r g = sclA x r g) := by
  induction n with
  | zero => exact ⟨fun i _ _ => rfl, fun r c _ _ h => absurd h (by omega), fun r c _ _ h => absurd h (by omega), fun r c _ _ h => absurd h (by omega)⟩
  | succ n ih =>
    obtain ⟨i1, i2, i3, i4⟩ := ih (by omega)
    have e : normP lane rr σ (n + 1) = normV lane rr ⟨n, by rw [trips2]; omega⟩ (normP lane rr σ n) := itr_succ _ _ _ _
    have e3 : c3 (normP lane rr σ n).1 = c3 σ := congrArg (fun X => at2 (n := 112) (m := 5120) X) (i1 3 (by decide) (by decide))
    have e4 : c4 (normP lane rr σ n).1 = c4 σ := congrArg (fun X => at2 (n := 1) (m := 5120) X) (i1 4 (by decide) (by decide))
    obtain ⟨s1, s2, s3, s4⟩ := norm_step rr ⟨n, by rw [trips2]; omega⟩ (normP lane rr σ n) x (by rw [e3, e4]; exact hx)
    rw [e]
    refine ⟨fun i h6 h10 => (s1 i h6 h10).trans (i1 i h6 h10), fun r c hr hc h => ?_, fun r c hr hc h => ?_, fun r g hr hg h => ?_⟩
    · refine (s2 r c hr hc).trans ?_
      show (if c / 256 = n then _ else _) = _
      split
      · rfl
      · exact i2 r c hr hc (by omega)
    · refine (s3 r c hr hc).trans ?_
      show (if c / 256 = n then _ else _) = _
      split
      · rfl
      · exact i3 r c hr hc (by omega)
    · refine (s4 r g hr hg).trans ?_
      show (if g / 2 = n then _ else _) = _
      split
      · rfl
      · exact i4 r g hr hg (by omega)

theorem at2_transpose {a b : ℕ} (X : (⟨2, ![a, b]⟩ : Shape).Idx → EReal) (h : (⟨2, ![a, b]⟩ : Shape).Transposes [1, 0] ⟨2, ![b, a]⟩) {i j : ℕ} (hi : i < b) (hj : j < a) :
    at2 (transpose ⟨2, ![b, a]⟩ [1, 0] X h) i j = at2 X j i := by
  rw [at2_eq _ hi hj, at2_eq X hj hi]
  exact transpose_ix2_apply X h _ _

theorem aAt_zero : (![0, 0] : Fin 2 → ℕ) = aAt 0 := rfl

theorem normEnd_step (v : FVec Ideal S112x128 .f32) (σ : SI) :
    (∀ i, i ≠ 14 → i ≠ 7 → normEndV v σ i = σ i) ∧ (∀ g r, g < 40 → r < 100 → c7 (normEndV v σ) g r = at2 v r g) := by
  refine ⟨fun i h14 h7 => (set_ne _ _ h7).trans ((set_ne _ _ h14).trans (set_ne _ _ h14)), fun g r hg hr => ?_⟩
  refine (congrArg (fun X => at2 (n := 40) (m := 100) X g r) (set_self _ 7 _)).trans ?_
  refine (at2_putc (n := 40) (m := 100) (b := 100) _ _ 0 aAt_zero _ hg hr).trans ?_
  rw [if_pos ⟨by omega, by omega⟩]
  refine (at2_slice 0 0 _ slices_S128x128_o0_0_S40x100 (i := g) (j := r - 0) hg hr (by omega) (by omega)).trans ?_
  rw [Nat.zero_add, Nat.zero_add, Nat.sub_zero]
  refine (at2_transpose (a := 128) (b := 128) _ transposes_S128x128_p1_0_S128x128 (i := g) (j := r) (by omega) (by omega)).trans ?_
  refine (at2_windowc (n := 128) (m := 128) (a := 128) (b := 128) _ _ 0 aAt_zero _ (i := r) (j := g) (by omega) (by omega)).trans ?_
  rw [Nat.zero_add]
  refine (congrArg (fun X => at2 (n := 128) (m := 128) X r g) (set_self _ 14 _)).trans ?_
  refine (at2_put (n := 128) (m := 128) (a := 112) (b := 128) _ _ _ (i := r) (j := g) (by omega) (by omega)).trans ?_
  show (if (0 ≤ r ∧ r < 0 + 112) ∧ (0 ≤ g ∧ g < 0 + 128) then at2 _ (r - 0) (g - 0) else _) = _
  rw [if_pos ⟨⟨by omega, by omega⟩, by omega, by omega⟩, Nat.sub_zero, Nat.sub_zero]
  exact congrArg (fun X => at2 (n := 112) (m := 128) X r g) (shapeCast_same _ _)

/-- The rows, normed. -/
def xK (σ : SI) : ℕ → ℕ → EReal := xS (c3 σ) (c4 σ 0)

/-- The buffers before the loop over the steps. -/
theorem head_eq (σ : SI) :
    (∀ i, i ≠ 6 → i ≠ 7 → i ≠ 10 → i ≠ 11 → i ≠ 14 → headV σ i = σ i)
    ∧ (∀ r c, r < 100 → c < 5120 → c6 (headV σ) r c = codeA (xK σ) r c)
    ∧ (∀ r c, r < 112 → c < 5120 → c10 (headV σ) r c = deqA (xK σ) r c)
    ∧ (∀ r c, r < 112 → c < 5120 → c11 (headV σ) r c = c3 σ r c)
    ∧ (∀ g r, g < 40 → r < 100 → c7 (headV σ) g r = sclA (xK σ) r g) := by
  obtain ⟨q1, q2, q3⟩ := sq_inv σ 20 (le_refl _)
  have e3 : c3 (sqP σ 20).1 = c3 σ := congrArg (fun X => at2 (n := 112) (m := 5120) X) (q1 3 (by decide))
  have e4 : c4 (sqP σ 20).1 = c4 σ := congrArg (fun X => at2 (n := 1) (m := 5120) X) (q1 4 (by decide))
  obtain ⟨n1, n2, n3, n4⟩ := norm_inv (rnorm (sqP σ 20).2) (sqP σ 20).1 (xK σ) (fun r c hr hc => by rw [e3, e4, rs_eq σ hr]; rfl) 20 (le_refl _)
  obtain ⟨d1, d2⟩ := normEnd_step (normP lane (rnorm (sqP σ 20).2) (sqP σ 20).1 20).2 (normP lane (rnorm (sqP σ 20).2) (sqP σ 20).1 20).1
  have e : headV σ = normEndV (normP lane (rnorm (sqP σ 20).2) (sqP σ 20).1 20).2 (normP lane (rnorm (sqP σ 20).2) (sqP σ 20).1 20).1 := by
    unfold headV
    simp only [trips1, trips2]
  rw [e]
  refine ⟨fun i h6 h7 h10 h11 h14 => ((d1 i h14 h7).trans (n1 i h6 h10)).trans (q1 i h11), fun r c hr hc => ?_, fun r c hr hc => ?_, fun r c hr hc => ?_, fun g r hg hr => ?_⟩
  · exact (congrArg (fun X => at2 (n := 100) (m := 5120) X r c) (d1 6 (by decide) (by decide))).trans (n2 r c hr hc (by omega))
  · exact (congrArg (fun X => at2 (n := 112) (m := 5120) X r c) (d1 10 (by decide) (by decide))).trans (n3 r c hr hc (by omega))
  · refine (congrArg (fun X => at2 (n := 112) (m := 5120) X r c) ((d1 11 (by decide) (by decide)).trans (n1 11 (by decide) (by decide)))).trans ((q2 r c hr hc).trans ?_)
    rw [if_pos (by omega)]
  · exact (d2 g r hg hr).trans (n4 r g (by omega) (by omega) (by omega))

end Cert.Val
-- ==== Proof.Val.Steps.lean ====
/-
  The values of the loop over the steps: the codes, the scales and the accumulator.
-/
module

public import proofs.«01_k».proof.Proof.KernelIdeal.Run
public import proofs.«01_k».proof.Proof.Val.Head

@[expose] public section

noncomputable section

namespace Cert.Val

open Idealize.ShloMosaic Idealize.ShloMosaic.ValueIdx
open Cert.KernelIdeal Cert.KernelIdeal.Gen Cert.KernelIdeal.Hand

/-- The scales' buffer read at a plane, a row and a lane. -/
def rd3 {a b d : ℕ} (X : (⟨3, ![a, b, d]⟩ : Shape).Idx → EReal) (q r l : ℕ) : EReal := if h : q < a ∧ r < b ∧ l < d then X (ix3 ⟨q, h.1⟩ ⟨r, h.2.1⟩ ⟨l, h.2.2⟩) else 0
theorem rd3_eq {a b d : ℕ} (X : (⟨3, ![a, b, d]⟩ : Shape).Idx → EReal) {q r l : ℕ} (hq : q < a) (hr : r < b) (hl : l < d) : rd3 X q r l = X (ix3 ⟨q, hq⟩ ⟨r, hr⟩ ⟨l, hl⟩) :=
  dif_pos ⟨hq, hr, hl⟩
def c13 (σ : SI) : ℕ → ℕ → ℕ → EReal := rd3 (a := 2) (b := 128) (d := 128) (σ 13)

/-- Gate and up combined, from the rows and the weights. -/
def mG (A : ℕ → ℕ → EReal) (Wg Wu sg su : ℕ → ℕ → EReal) (r j : ℕ) : EReal := actS (dotS 5120 A Wg sg r j) (dotS 5120 A Wu su r j)

theorem at2_swish (g u : FVec Ideal S112x256 .f32) {r j : ℕ} (hr : r < 112) (hj : j < 256) : at2 (swish g u) r j = actS (at2 g r j) (at2 u r j) := by
  rw [at2_eq _ hr hj, at2_eq g hr hj, at2_eq u hr hj, actS, ← silu_eq]
  rfl

theorem rd3_put {a b d p m : ℕ} (X : (⟨3, ![a, b, d]⟩ : Shape).Idx → EReal) (q0 : ℕ) (w : (⟨3, ![1, p, m]⟩ : Shape).Idx → EReal) {q r l : ℕ}
    (hq : q < a) (hr : r < b) (hl : l < d) :
    rd3 (a := a) (b := b) (d := d) (VecWindow.put (s := ⟨3, ![a, b, d]⟩) X ![q0, 0, 0] ![1, p, m] w) q r l
      = if q = q0 ∧ r < p ∧ l < m then rd3 w 0 r l else rd3 X q r l := by
  rw [rd3_eq _ hq hr hl]
  unfold VecWindow.put
  split
  · next h =>
    have h0 : q0 ≤ q ∧ q < q0 + 1 := h 0
    have h1 : 0 ≤ r ∧ r < 0 + p := h 1
    have h2 : 0 ≤ l ∧ l < 0 + m := h 2
    rw [if_pos ⟨by omega, by omega, by omega⟩, rd3_eq w Nat.one_pos (by omega : r < p) (by omega : l < m)]
    refine congrArg w (funext fun ax => Fin.ext ?_)
    match ax with
    | ⟨0, _⟩ => exact (show q - q0 = 0 by omega)
    | ⟨1, _⟩ => rfl
    | ⟨2, _⟩ => rfl
  · next h =>
    rw [if_neg, rd3_eq X hq hr hl]
    intro hc
    refine h fun ax => ?_
    match ax with
    | ⟨0, _⟩ => exact (show q0 ≤ q ∧ q < q0 + 1 by omega)
    | ⟨1, _⟩ => exact (show 0 ≤ r ∧ r < 0 + p by omega)
    | ⟨2, _⟩ => exact (show 0 ≤ l ∧ l < 0 + m by omega)

theorem rd3_window {a b d p m : ℕ} (X : (⟨3, ![a, b, d]⟩ : Shape).Idx → EReal) (q0 : ℕ)
    (inb : ∀ x : Fin 3, (![q0, 0, 0] : Fin 3 → ℕ) x + (![1, p, m] : Fin 3 → ℕ) x ≤ (![a, b, d] : Fin 3 → ℕ) x) {r l : ℕ} (hr : r < p) (hl : l < m) :
    (VecWindow.window (s := ⟨3, ![a, b, d]⟩) X ![q0, 0, 0] ![1, p, m] inb : (⟨3, ![1, p, m]⟩ : Shape).Idx → EReal) (ix3 (0 : Fin 1) ⟨r, hr⟩ ⟨l, hl⟩) = rd3 X q0 r l := by
  have h0 : q0 + 1 ≤ a := inb 0
  have h1 : 0 + p ≤ b := inb 1
  have h2 : 0 + m ≤ d := inb 2
  rw [rd3_eq X (by omega : q0 < a) (by omega : r < b) (by omega : l < d)]
  refine congrArg X (funext fun ax => Fin.ext ?_)
  match ax with
  | ⟨0, _⟩ => exact (show q0 + 1 * 0 = q0 by omega)
  | ⟨1, _⟩ => exact (show 0 + 1 * r = r by omega)
  | ⟨2, _⟩ => exact (show 0 + 1 * l = l by omega)

theorem qword : ∀ (k : Fin k0_t3_loop.trips) (lb : Fin 4), Scalar.addi (Scalar.muli (ivw k) 4#32) (BitVec.ofNat 32 lb.val) = BitVec.ofNat 32 (4 * k.val + lb.val) := by
  decide +kernel
theorem mcol_eq : ∀ (k : Fin k0_t3_loop.trips) (lb : Fin 4),
    aAt (Scalar.indexCast (Scalar.addi (Scalar.muli (ivw k) 512#32) (BitVec.ofNat 32 (128 * lb.val)))).toNat = aAt (128 * (4 * k.val + lb.val)) := by
  decide +kernel

theorem lane_step (k : Fin k0_t3_loop.trips) (lb : Fin 4) (s : FVec Ideal S112x1 .f32) (q : Fin 2) (sb : Vec Ideal S2x128x128 .f32) {q' r l : ℕ} (hq : q' < 2) (hr : r < 112) (hl : l < 128) :
    rd3 (a := 2) (b := 128) (d := 128) (laneV lane k lb s q sb) q' r l
      = if q' = q.val ∧ 128 * q' + l = 4 * k.val + lb.val then at2 s r 0 else rd3 (a := 2) (b := 128) (d := 128) sb q' r l := by
  have hk : k.val < 34 := step_lt k
  unfold laneV
  refine (rd3_put (a := 2) (b := 128) (d := 128) (p := 112) (m := 128) sb q.val _ hq (by omega : r < 128) hl).trans ?_
  by_cases h : q' = q.val
  · rw [if_pos ⟨h, hr, hl⟩, rd3_eq _ Nat.one_pos hr hl]
    unfold qlane
    refine (shapeCast_ab_1ab_apply _ shapeCasts_S112x128_S1x112x128 ⟨0, Nat.one_pos⟩ ⟨r, hr⟩ ⟨l, hl⟩).trans ?_
    show Scalar.select (IntOp.cmpi .eq (IntOp.addi (lane (ix2 ⟨r, hr⟩ ⟨l, hl⟩)) (BitVec.ofNat 32 (128 * q.val))) (Scalar.addi (Scalar.muli (ivw k) 4#32) (BitVec.ofNat 32 lb.val)))
      (broadcastTo S112x128 (shapeCast S112x1 s shapeCasts_S112x1_S112x1) broadcasts_S112x1_S112x128 (ix2 ⟨r, hr⟩ ⟨l, hl⟩)) (shapeCast S112x128 _ shapeCasts_S1x112x128_S112x128 (ix2 ⟨r, hr⟩ ⟨l, hl⟩)) = _
    rw [bc_col, shapeCast_same, lane_at, qword, sel_eq, shapeCast_1ab_ab_apply]
    have e : IntOp.addi (BitVec.ofNat 32 l) (BitVec.ofNat 32 (128 * q.val)) = BitVec.ofNat 32 (128 * q' + l) := by
      rw [h, Nat.add_comm (128 * q.val) l]; exact (BitVec.ofNat_add l (128 * q.val)).symm
    rw [show (⟨l, hl⟩ : Fin 128).val = l from rfl, e]
    by_cases h1 : 128 * q' + l = 4 * k.val + lb.val
    · rw [if_pos (congrArg (BitVec.ofNat 32) h1), if_pos ⟨h, h1⟩, at2_eq s hr Nat.one_pos]; rfl
    · rw [if_neg (fun ee => h1 ((lane_word _ _ (by omega) (by omega)).1 ee)), if_neg (fun ee => h1 ee.2)]
      refine (rd3_window (a := 2) (b := 128) (d := 128) (p := 112) (m := 128) sb q.val _ hr hl).trans ?_
      rw [h]
  · rw [if_neg (fun ee => h ee.1), if_neg (fun ee => h ee.1)]

theorem quant_step (k : Fin k0_t3_loop.trips) (lb : Fin 4) (v : FVec Ideal S112x128 .f32) (σ : SI) (m : ℕ → ℕ → EReal)
    (hv : ∀ r l, r < 112 → l < 128 → at2 v r l = m r (128 * (4 * k.val + lb.val) + l)) :
    (∀ i, i ≠ 8 → i ≠ 12 → i ≠ 13 → quantV lane k lb v σ i = σ i)
    ∧ (∀ r c, r < 100 → c < 17408 → c8 (quantV lane k lb v σ) r c = if c / 128 = 4 * k.val + lb.val then codeA m r c else c8 σ r c)
    ∧ (∀ r c, r < 112 → c < 512 → c12 (quantV lane k lb v σ) r c = if c / 128 = lb.val then deqA m r (512 * k.val + c) else c12 σ r c)
    ∧ (∀ q r l, q < 2 → r < 112 → l < 128 → c13 (quantV lane k lb v σ) q r l = if 128 * q + l = 4 * k.val + lb.val then sclA m r (128 * q + l) else c13 σ q r l) := by
  have hk : k.val < 34 := step_lt k
  have G := fun r (hr : r < 112) l (hl : l < 128) => group_congr (fun l hl => hv r l hr hl) l hl
  refine ⟨fun i h8 h12 h13 => (set_ne _ _ h13).trans ((set_ne _ _ h13).trans ((set_ne _ _ h12).trans (set_ne _ _ h8))), fun r c hr hc => ?_, fun r c hr hc => ?_, fun q r l hq hr hl => ?_⟩
  · refine (congrArg (fun X => at2 (n := 100) (m := 17408) X r c) ((set_ne _ _ (show (8 : Fin 15) ≠ 13 by decide)).trans
      ((set_ne _ _ (show (8 : Fin 15) ≠ 13 by decide)).trans ((set_ne _ _ (show (8 : Fin 15) ≠ 12 by decide)).trans (set_self σ 8 _))))).trans ?_
    refine (at2_putc (n := 100) (m := 17408) (b := 128) (σ 8) _ _ (mcol_eq k lb) _ hr hc).trans ?_
    by_cases h : c / 128 = 4 * k.val + lb.val
    · rw [if_pos h, if_pos (by omega), at2_qcode100 _ hr (by omega), (G r (by omega) _ (by omega)).1, codeA, h, show c - 128 * (4 * k.val + lb.val) = c % 128 by omega]
    · rw [if_neg h, if_neg (by omega)]; rfl
  · refine (congrArg (fun X => at2 (n := 112) (m := 512) X r c) ((set_ne _ _ (show (12 : Fin 15) ≠ 13 by decide)).trans
      ((set_ne _ _ (show (12 : Fin 15) ≠ 13 by decide)).trans (set_self _ 12 _)))).trans ?_
    refine (at2_putc (n := 112) (m := 512) (b := 128) _ _ (128 * lb.val) rfl _ hr hc).trans ?_
    by_cases h : c / 128 = lb.val
    · rw [if_pos h, if_pos (by omega)]
      refine (congrArg (fun X => at2 (n := 112) (m := 128) X r (c - 128 * lb.val)) (shapeCast_same _ _)).trans ?_
      rw [at2_qdeq _ hr (by omega), (G r hr _ (show c - 128 * lb.val < 128 by omega)).1, (G r hr 0 (by omega)).2, deqA, codeA, sclA,
        show (512 * k.val + c) / 128 = 4 * k.val + lb.val by omega, show c - 128 * lb.val = (512 * k.val + c) % 128 by omega]
    · rw [if_neg h, if_neg (by omega)]
      exact congrArg (fun X => at2 (n := 112) (m := 512) X r c) (set_ne _ _ (by decide))
  · have P : ∀ (X : SI) (Y : Vec Ideal S2x128x128 .f32), c13 (X.set 13 Y) q r l = rd3 (a := 2) (b := 128) (d := 128) Y q r l := fun X Y =>
      congrArg (fun X => rd3 (a := 2) (b := 128) (d := 128) X q r l) (set_self X 13 Y)
    refine (P _ _).trans ((lane_step k lb _ 1 _ hq hr hl).trans ?_)
    rw [at2_qscale _ hr, (G r hr 0 (by omega)).2]
    have e : rd3 (a := 2) (b := 128) (d := 128) (laneV lane k lb (qscale v) 0 (σ 13)) q r l = if q = 0 ∧ 128 * q + l = 4 * k.val + lb.val then scl (pS fun l => m r (128 * (4 * k.val + lb.val) + l)) else c13 σ q r l := by
      refine (lane_step k lb _ 0 _ hq hr hl).trans ?_
      rw [at2_qscale _ hr, (G r hr 0 (by omega)).2]
      rfl
    have e2 := (congrArg (fun X => rd3 (a := 2) (b := 128) (d := 128) X q r l) (set_self ((σ.set 8 (mcV k lb v (σ 8))).set 12 (lhsV lb v ((σ.set 8 (mcV k lb v (σ 8))) 12))) 13
      (laneV lane k lb (qscale v) 0 (σ 13)))).trans e
    refine (congrArg (fun z : EReal => if q = (1 : Fin 2).val ∧ 128 * q + l = 4 * k.val + lb.val then scl (pS fun l => m r (128 * (4 * k.val + lb.val) + l)) else z) e2).trans ?_
    show (if q = 1 ∧ _ then _ else _) = _
    by_cases h : 128 * q + l = 4 * k.val + lb.val
    · rw [if_pos h, sclA, h]
      by_cases h1 : q = 1
      · rw [if_pos ⟨h1, rfl⟩]
      · rw [if_neg (fun ee => h1 ee.1), if_pos ⟨by omega, rfl⟩]
    · rw [if_neg h, if_neg (fun ee => h ee.2), if_neg (fun ee => h ee.2)]

theorem down_all (w : Vec Ideal S512x5120 .fp8e4m3) (k : Fin k0_t3_loop.trips) (l : List (Fin 20)) (hl : l.Nodup) (σ : SI) :
    (∀ i, i ≠ 11 → downAllV w k l σ i = σ i)
    ∧ (∀ r j, r < 112 → j < 5120 → c11 (downAllV w k l σ) r j = if ∃ n ∈ l, j / 256 = n.val then c11 σ r j + dnS w (σ 2) (σ 12) k.val r j else c11 σ r j) := by
  induction l generalizing σ with
  | nil => exact ⟨fun i _ => rfl, fun r j _ _ => by rw [if_neg (by rintro ⟨n, h, _⟩; exact absurd h List.not_mem_nil)]; rfl⟩
  | cons n l ih =>
    obtain ⟨hn, hl⟩ := List.nodup_cons.1 hl
    obtain ⟨a, b⟩ := ih hl (σ.set 11 (downV w (σ 2) (σ 12) k n (σ 11)))
    refine ⟨fun i hi => (a i hi).trans (set_ne _ _ hi), fun r j hr hj => (b r j hr hj).trans ?_⟩
    have e : c11 (σ.set 11 (downV w (σ 2) (σ 12) k n (σ 11))) r j = if j / 256 = n.val then c11 σ r j + dnS w (σ 2) (σ 12) k.val r j else c11 σ r j :=
      (congrArg (fun X => at2 (n := 112) (m := 5120) X r j) (set_self σ 11 _)).trans (at2_downV w (σ 2) (σ 12) k n (σ 11) hr hj)
    have e2 : (σ.set 11 (downV w (σ 2) (σ 12) k n (σ 11))) 2 = σ 2 := set_ne _ _ (by decide)
    have e12 : (σ.set 11 (downV w (σ 2) (σ 12) k n (σ 11))) 12 = σ 12 := set_ne _ _ (by decide)
    rw [e]
    refine (congrArg₂ (fun (X : Vec Ideal S40x136 .f32) (Y : Vec Ideal S112x512 .bf16) => if ∃ n ∈ l, j / 256 = n.val then
      (if j / 256 = n.val then c11 σ r j + dnS w (σ 2) (σ 12) k.val r j else c11 σ r j) + dnS w X Y k.val r j else
      (if j / 256 = n.val then c11 σ r j + dnS w (σ 2) (σ 12) k.val r j else c11 σ r j)) e2 e12).trans ?_
    by_cases h : ∃ n ∈ l, j / 256 = n.val
    · rw [if_pos h, if_neg, if_pos]
      · obtain ⟨x, hx, hh⟩ := h; exact ⟨x, List.mem_cons_of_mem _ hx, hh⟩
      · obtain ⟨x, hx, hh⟩ := h
        intro hc
        exact hn ((Fin.ext (hc.symm.trans hh) : n = x) ▸ hx)
    · rw [if_neg h]
      by_cases h1 : j / 256 = n.val
      · rw [if_pos h1, if_pos ⟨n, List.mem_cons_self, h1⟩]
      · rw [if_neg h1, if_neg]
        rintro ⟨x, hx, hh⟩
        rcases List.mem_cons.1 hx with rfl | hx
        · exact h1 hh
        · exact h ⟨x, hx, hh⟩

end Cert.Val
-- ==== Proof.Val.Final.lean ====
/-
  What the kernel leaves: the loop over the steps, the scales' transposes and the rows' copy.
-/
module

public import proofs.«01_k».proof.Proof.Val.Steps

@[expose] public section

noncomputable section

namespace Cert.Val

open Idealize.ShloMosaic Idealize.ShloMosaic.ValueIdx
open Cert.KernelIdeal Cert.KernelIdeal.Gen Cert.KernelIdeal.Hand

theorem proj_eq (w : Vec Ideal S5120x512 .fp8e4m3) (sc : Vec Ideal S40x136 .f32) (lhs : Vec Ideal S112x5120 .bf16) (k : Fin k0_t3_loop.trips) (n : Fin 2)
    (A Wf : ℕ → ℕ → EReal) (hA : ∀ r c, r < 112 → c < 5120 → at2 lhs r c = A r c)
    (hw : ∀ l j, l < 5120 → j < 512 → at2 w l j = Wf l (512 * k.val + j)) {r j : ℕ} (hr : r < 112) (hj : j < 256) :
    at2 (projAV w sc lhs k n) r j = dotS 5120 A Wf (at2 sc) r (512 * k.val + (256 * n.val + j)) := by
  rw [at2_projAV w sc lhs k n hr hj, dotS]
  refine Finset.sum_congr rfl fun l hl => ?_
  have hl := Finset.mem_range.1 hl
  rw [hA r l hr hl, hw l _ hl (by omega), show (512 * k.val + (256 * n.val + j)) / 128 = 4 * k.val + 2 * n.val + j / 128 by omega]

theorem step_eq (k : Fin k0_t3_loop.trips) (W : Wts Ideal) (σ : SI) (A Wg Wu Wd : ℕ → ℕ → EReal)
    (hA : ∀ r c, r < 112 → c < 5120 → c10 σ r c = A r c)
    (hg : ∀ l j, l < 5120 → j < 512 → at2 (n := 5120) (m := 512) W.g l j = Wg l (512 * k.val + j))
    (hu : ∀ l j, l < 5120 → j < 512 → at2 (n := 5120) (m := 512) W.u l j = Wu l (512 * k.val + j))
    (hd : ∀ l j, l < 512 → j < 5120 → at2 (n := 512) (m := 5120) W.d l j = Wd (512 * k.val + l) j) (m : ℕ → ℕ → EReal) (hm : m = mG A Wg Wu (c0 σ) (c1 σ)) :
    (∀ i, i ≠ 8 → i ≠ 11 → i ≠ 12 → i ≠ 13 → stepV lane W k σ i = σ i)
    ∧ (∀ r c, r < 100 → c < 17408 → c8 (stepV lane W k σ) r c = if c / 512 = k.val then codeA m r c else c8 σ r c)
    ∧ (∀ q r l, q < 2 → r < 112 → l < 128 → c13 (stepV lane W k σ) q r l = if (128 * q + l) / 4 = k.val then sclA m r (128 * q + l) else c13 σ q r l)
    ∧ (∀ r j, r < 112 → j < 5120 → c11 (stepV lane W k σ) r j = c11 σ r j
        + ∑ l ∈ Finset.range 512, deqA m r (512 * k.val + l) * (Wd (512 * k.val + l) j * c2 σ (j / 128) ((512 * k.val + l) / 128))) := by
  have hk : k.val < 34 := step_lt k
  obtain ⟨s0, hs0⟩ : ∃ s0, s0 = swish (projAV W.g (σ 0) (σ 10) k 0) (projAV W.u (σ 1) (σ 10) k 0) := ⟨_, rfl⟩
  obtain ⟨s1, hs1⟩ : ∃ s1, s1 = swish (projAV W.g (σ 0) (σ 10) k 1) (projAV W.u (σ 1) (σ 10) k 1) := ⟨_, rfl⟩
  have v0 : ∀ r j, r < 112 → j < 256 → at2 s0 r j = m r (512 * k.val + j) := fun r j hr hj => by
    have h := (at2_swish _ _ hr hj).trans (congrArg₂ actS (proj_eq W.g (σ 0) (σ 10) k 0 A Wg hA hg hr hj) (proj_eq W.u (σ 1) (σ 10) k 0 A Wu hA hu hr hj))
    rw [show 512 * k.val + (256 * (0 : Fin 2).val + j) = 512 * k.val + j by show 512 * k.val + (256 * 0 + j) = _; omega] at h
    rw [hs0, hm]
    exact h
  have v1 : ∀ r j, r < 112 → j < 256 → at2 s1 r j = m r (512 * k.val + (256 + j)) := fun r j hr hj => by
    have h := (at2_swish _ _ hr hj).trans (congrArg₂ actS (proj_eq W.g (σ 0) (σ 10) k 1 A Wg hA hg hr hj) (proj_eq W.u (σ 1) (σ 10) k 1 A Wu hA hu hr hj))
    rw [show 512 * k.val + (256 * (1 : Fin 2).val + j) = 512 * k.val + (256 + j) by show 512 * k.val + (256 * 1 + j) = _; omega] at h
    rw [hs1, hm]
    exact h
  have e : stepV lane W k σ = downAllV W.d k [0, 1, 2, 3, 4, 5, 6, 7, 8, 9, 10, 11, 12, 13, 14, 15, 16, 17, 18, 19]
      (quantV lane k 3 (extractStridedSlice S112x128 ![0, 128] s1 slices_S112x256_o0_128_S112x128)
        (quantV lane k 2 (extractStridedSlice S112x128 ![0, 0] s1 slices_S112x256_o0_0_S112x128)
          (quantV lane k 1 (extractStridedSlice S112x128 ![0, 128] s0 slices_S112x256_o0_128_S112x128)
            (quantV lane k 0 (extractStridedSlice S112x128 ![0, 0] s0 slices_S112x256_o0_0_S112x128) σ)))) := by
    rw [hs0, hs1]; rfl
  obtain ⟨a1, a2, a3, a4⟩ := quant_step k 0 (extractStridedSlice S112x128 ![0, 0] s0 slices_S112x256_o0_0_S112x128) σ m (fun r l hr hl => by
    refine (at2_slice 0 0 s0 slices_S112x256_o0_0_S112x128 hr hl (by omega) (by omega)).trans ?_
    rw [v0 _ _ (by omega) (by omega), Nat.zero_add, Nat.zero_add]
    exact congrArg (m r) (by show _ = 128 * (4 * k.val + 0) + l; omega))
  generalize (quantV lane k 0 (extractStridedSlice S112x128 ![0, 0] s0 slices_S112x256_o0_0_S112x128) σ) = σ1 at *
  obtain ⟨b1, b2, b3, b4⟩ := quant_step k 1 (extractStridedSlice S112x128 ![0, 128] s0 slices_S112x256_o0_128_S112x128) σ1 m (fun r l hr hl => by
    refine (at2_slice 0 128 s0 slices_S112x256_o0_128_S112x128 hr hl (by omega) (by omega)).trans ?_
    rw [v0 _ _ (by omega) (by omega), Nat.zero_add]
    exact congrArg (m r) (by show _ = 128 * (4 * k.val + 1) + l; omega))
  generalize (quantV lane k 1 (extractStridedSlice S112x128 ![0, 128] s0 slices_S112x256_o0_128_S112x128) σ1) = σ2 at *
  obtain ⟨d1, d2, d3, d4⟩ := quant_step k 2 (extractStridedSlice S112x128 ![0, 0] s1 slices_S112x256_o0_0_S112x128) σ2 m (fun r l hr hl => by
    refine (at2_slice 0 0 s1 slices_S112x256_o0_0_S112x128 hr hl (by omega) (by omega)).trans ?_
    rw [v1 _ _ (by omega) (by omega), Nat.zero_add, Nat.zero_add]
    exact congrArg (m r) (by show _ = 128 * (4 * k.val + 2) + l; omega))
  generalize (quantV lane k 2 (extractStridedSlice S112x128 ![0, 0] s1 slices_S112x256_o0_0_S112x128) σ2) = σ3 at *
  obtain ⟨f1, f2, f3, f4⟩ := quant_step k 3 (extractStridedSlice S112x128 ![0, 128] s1 slices_S112x256_o0_128_S112x128) σ3 m (fun r l hr hl => by
    refine (at2_slice 0 128 s1 slices_S112x256_o0_128_S112x128 hr hl (by omega) (by omega)).trans ?_
    rw [v1 _ _ (by omega) (by omega), Nat.zero_add]
    exact congrArg (m r) (by show _ = 128 * (4 * k.val + 3) + l; omega))
  generalize (quantV lane k 3 (extractStridedSlice S112x128 ![0, 128] s1 slices_S112x256_o0_128_S112x128) σ3) = σ4 at *
  obtain ⟨g1, g2⟩ := down_all W.d k [0, 1, 2, 3, 4, 5, 6, 7, 8, 9, 10, 11, 12, 13, 14, 15, 16, 17, 18, 19] (by decide) σ4
  rw [e]
  have Q : ∀ i, i ≠ 8 → i ≠ 12 → i ≠ 13 → σ4 i = σ i := fun i h8 h12 h13 =>
    (f1 i h8 h12 h13).trans ((d1 i h8 h12 h13).trans ((b1 i h8 h12 h13).trans (a1 i h8 h12 h13)))
  refine ⟨fun i h8 h11 h12 h13 => (g1 i h11).trans (Q i h8 h12 h13), fun r c hr hc => ?_, fun q r l hq hr hl => ?_, fun r j hr hj => ?_⟩
  · refine (congrArg (fun X => at2 (n := 100) (m := 17408) X r c) (g1 8 (by decide))).trans ?_
    refine (f2 r c hr hc).trans ?_
    rw [d2 r c hr hc, b2 r c hr hc, a2 r c hr hc]
    show (if c / 128 = 4 * k.val + 3 then _ else if c / 128 = 4 * k.val + 2 then _ else if c / 128 = 4 * k.val + 1 then _ else if c / 128 = 4 * k.val + 0 then _ else _) = _
    by_cases h : c / 512 = k.val
    · rw [if_pos h]
      split; · rfl
      split; · rfl
      split; · rfl
      rw [if_pos (by omega)]
    · rw [if_neg h, if_neg (by omega), if_neg (by omega), if_neg (by omega), if_neg (by omega)]
  · refine (congrArg (fun X => rd3 (a := 2) (b := 128) (d := 128) X q r l) (g1 13 (by decide))).trans ?_
    refine (f4 q r l hq hr hl).trans ?_
    rw [d4 q r l hq hr hl, b4 q r l hq hr hl, a4 q r l hq hr hl]
    show (if 128 * q + l = 4 * k.val + 3 then _ else if 128 * q + l = 4 * k.val + 2 then _ else if 128 * q + l = 4 * k.val + 1 then _ else if 128 * q + l = 4 * k.val + 0 then _ else _) = _
    by_cases h : (128 * q + l) / 4 = k.val
    · rw [if_pos h]
      split; · rfl
      split; · rfl
      split; · rfl
      rw [if_pos (by omega)]
    · rw [if_neg h, if_neg (by omega), if_neg (by omega), if_neg (by omega), if_neg (by omega)]
  · refine (g2 r j hr hj).trans ?_
    rw [if_pos]
    · refine congrArg₂ (· + ·) (congrArg (fun X => at2 (n := 112) (m := 5120) X r j) (Q 11 (by decide) (by decide) (by decide))) ?_
      refine Finset.sum_congr rfl fun l hl => ?_
      have hl := Finset.mem_range.1 hl
      refine congrArg₂ (· * ·) ?_ (congrArg₂ (· * ·) (hd l j hl hj) ?_)
      · refine (f3 r l hr hl).trans ?_
        rw [d3 r l hr hl, b3 r l hr hl, a3 r l hr hl]
        show (if l / 128 = 3 then _ else if l / 128 = 2 then _ else if l / 128 = 1 then _ else if l / 128 = 0 then _ else _) = _
        split; · rfl
        split; · rfl
        split; · rfl
        rw [if_pos (by omega)]
      · refine (congrArg (fun X => at2 (n := 40) (m := 136) X (j / 128) (4 * k.val + l / 128)) (Q 2 (by decide) (by decide) (by decide))).trans ?_
        rw [show 4 * k.val + l / 128 = (512 * k.val + l) / 128 by omega]
        rfl
    · have hb : j / 256 < 20 := by omega
      refine ⟨⟨j / 256, hb⟩, ?_, rfl⟩
      generalize (⟨j / 256, hb⟩ : Fin 20) = x
      revert x
      decide

theorem steps_inv {c : Dev nD} (A : Arr Ideal c) (σ : SI) (a Wg Wu Wd : ℕ → ℕ → EReal)
    (hA : ∀ r c, r < 112 → c < 5120 → c10 σ r c = a r c)
    (hg : ∀ (k : Fin k0_t3_loop.trips) l j, l < 5120 → j < 512 → at2 (n := 5120) (m := 512) (A.at k.val (step_lt k)).g l j = Wg l (512 * k.val + j))
    (hu : ∀ (k : Fin k0_t3_loop.trips) l j, l < 5120 → j < 512 → at2 (n := 5120) (m := 512) (A.at k.val (step_lt k)).u l j = Wu l (512 * k.val + j))
    (hd : ∀ (k : Fin k0_t3_loop.trips) l j, l < 512 → j < 5120 → at2 (n := 512) (m := 5120) (A.at k.val (step_lt k)).d l j = Wd (512 * k.val + l) j)
    (m : ℕ → ℕ → EReal) (hm : m = mG a Wg Wu (c0 σ) (c1 σ)) (n : ℕ) (hn : n ≤ 34) :
    (∀ i, i ≠ 8 → i ≠ 11 → i ≠ 12 → i ≠ 13 → stepP c A lane σ n i = σ i)
    ∧ (∀ r c', r < 100 → c' < 17408 → c' / 512 < n → c8 (stepP c A lane σ n) r c' = codeA m r c')
    ∧ (∀ q r l, q < 2 → r < 112 → l < 128 → (128 * q + l) / 4 < n → c13 (stepP c A lane σ n) q r l = sclA m r (128 * q + l))
    ∧ (∀ r j, r < 112 → j < 5120 → c11 (stepP c A lane σ n) r j = c11 σ r j
        + ∑ i ∈ Finset.range n, ∑ l ∈ Finset.range 512, deqA m r (512 * i + l) * (Wd (512 * i + l) j * c2 σ (j / 128) ((512 * i + l) / 128))) := by
  induction n with
  | zero =>
    refine ⟨fun i _ _ _ _ => rfl, fun r c _ _ h => absurd h (by omega), fun q r l _ _ _ h => absurd h (by omega), fun r j _ _ => ?_⟩
    rw [Finset.sum_range_zero, add_zero]; rfl
  | succ n ih =>
    obtain ⟨i1, i2, i3, i4⟩ := ih (by omega)
    have hn' : n < k0_t3_loop.trips := by rw [trips3]; omega
    have e : stepP c A lane σ (n + 1) = stepV lane (A.at n (step_lt ⟨n, hn'⟩)) ⟨n, hn'⟩ (stepP c A lane σ n) := itr_succ _ _ _ _
    have e0 : c0 (stepP c A lane σ n) = c0 σ := congrArg (fun X => at2 (n := 40) (m := 136) X) (i1 0 (by decide) (by decide) (by decide) (by decide))
    have e1 : c1 (stepP c A lane σ n) = c1 σ := congrArg (fun X => at2 (n := 40) (m := 136) X) (i1 1 (by decide) (by decide) (by decide) (by decide))
    have e2 : c2 (stepP c A lane σ n) = c2 σ := congrArg (fun X => at2 (n := 40) (m := 136) X) (i1 2 (by decide) (by decide) (by decide) (by decide))
    have e10 : c10 (stepP c A lane σ n) = c10 σ := congrArg (fun X => at2 (n := 112) (m := 5120) X) (i1 10 (by decide) (by decide) (by decide) (by decide))
    obtain ⟨s1, s2, s3, s4⟩ := step_eq ⟨n, hn'⟩ (A.at n (step_lt ⟨n, hn'⟩)) (stepP c A lane σ n) a Wg Wu Wd (by rw [e10]; exact hA)
      (hg ⟨n, hn'⟩) (hu ⟨n, hn'⟩) (hd ⟨n, hn'⟩) m (by rw [e0, e1]; exact hm)
    rw [e]
    refine ⟨fun i h8 h11 h12 h13 => (s1 i h8 h11 h12 h13).trans (i1 i h8 h11 h12 h13), fun r c' hr hc h => ?_, fun q r l hq hr hl h => ?_, fun r j hr hj => ?_⟩
    · refine (s2 r c' hr hc).trans ?_
      show (if c' / 512 = n then _ else _) = _
      split
      · rfl
      · exact i2 r c' hr hc (by omega)
    · refine (s3 q r l hq hr hl).trans ?_
      by_cases h' : (128 * q + l) / 4 = n
      · exact if_pos h'
      · exact (if_neg h').trans (i3 q r l hq hr hl (by omega))
    · refine (s4 r j hr hj).trans ?_
      rw [i4 r j hr hj, e2, Finset.sum_range_succ (n := n), add_assoc]

theorem aAt0 : (![0, 0] : Fin 2 → ℕ) = aAt 0 := rfl

theorem mid_eq (σ : SI) : (∀ i, i ≠ 9 → midV σ i = σ i)
    ∧ (∀ g r, g < 136 → r < 100 → c9 (midV σ) g r = c13 σ (g / 128) r (g % 128)) := by
  have P : ∀ (X : Vec Ideal S2x128x128 .f32) (q0 : ℕ) (inb : ∀ x : Fin 3, (![q0, 0, 0] : Fin 3 → ℕ) x + S1x128x128.size x ≤ S2x128x128.size x) (i j : ℕ), i < 128 → j < 128 →
      at2 (transpose S128x128 [1, 0] (shapeCast S128x128 (VecWindow.window (s := S2x128x128) X ![q0, 0, 0] S1x128x128.size inb : Vec Ideal S1x128x128 .f32) shapeCasts_S1x128x128_S128x128) transposes_S128x128_p1_0_S128x128) i j
        = rd3 (a := 2) (b := 128) (d := 128) X q0 j i := by
    intro X q0 inb i j hi hj
    refine (at2_transpose (a := 128) (b := 128) _ transposes_S128x128_p1_0_S128x128 hi hj).trans ?_
    rw [at2_eq _ hj hi]
    exact (shapeCast_1ab_ab_apply _ shapeCasts_S1x128x128_S128x128 _ _).trans (rd3_window (a := 2) (b := 128) (d := 128) (p := 128) (m := 128) X q0 inb hj hi)
  refine ⟨fun i hi => (set_ne _ _ hi).trans (set_ne _ _ hi), fun g r hg hr => ?_⟩
  refine (congrArg (fun X => at2 (n := 136) (m := 100) X g r) (set_self _ 9 _)).trans ?_
  refine (at2_put (n := 136) (m := 100) (a := 8) (b := 100) _ _ _ hg hr).trans ?_
  show (if (128 ≤ g ∧ g < 128 + 8) ∧ (0 ≤ r ∧ r < 0 + 100) then at2 _ (g - 128) (r - 0) else _) = _
  by_cases h : 128 ≤ g
  · rw [if_pos ⟨⟨h, by omega⟩, by omega, by omega⟩]
    refine (at2_slice 0 0 _ slices_S128x128_o0_0_S8x100 (i := g - 128) (j := r - 0) (by omega) hr (by omega) (by omega)).trans ?_
    rw [Nat.zero_add, Nat.zero_add, Nat.sub_zero]
    refine (P _ 1 _ (g - 128) r (by omega) (by omega)).trans ?_
    rw [show g / 128 = 1 by omega, show g % 128 = g - 128 by omega]
    exact congrArg (fun X => rd3 (a := 2) (b := 128) (d := 128) X 1 r (g - 128)) (set_ne _ _ (by decide))
  · rw [if_neg (fun hh => h hh.1.1)]
    refine (congrArg (fun X => at2 (n := 136) (m := 100) X g r) (set_self _ 9 _)).trans ?_
    refine (at2_put (n := 136) (m := 100) (a := 128) (b := 100) _ _ _ hg hr).trans ?_
    show (if (0 ≤ g ∧ g < 0 + 128) ∧ (0 ≤ r ∧ r < 0 + 100) then at2 _ (g - 0) (r - 0) else _) = _
    rw [if_pos ⟨⟨by omega, by omega⟩, by omega, by omega⟩]
    refine (at2_slice 0 0 _ slices_S128x128_o0_0_S128x100 (i := g - 0) (j := r - 0) (by omega) hr (by omega) (by omega)).trans ?_
    rw [Nat.zero_add, Nat.zero_add, Nat.sub_zero, Nat.sub_zero]
    refine (P _ 0 _ g r (by omega) (by omega)).trans ?_
    rw [show g / 128 = 0 by omega, show g % 128 = g by omega]
    rfl

theorem out_step (k : Fin k0_t4_loop.trips) (σ : SI) : (∀ i, i ≠ 5 → outV k σ i = σ i)
    ∧ (∀ r j, r < 100 → j < 5120 → c5 (outV k σ) r j = if j / 256 = k.val then c11 σ r j else c5 σ r j) := by
  refine ⟨fun i hi => set_ne _ _ hi, fun r j hr hj => ?_⟩
  refine (congrArg (fun X => at2 (n := 100) (m := 5120) X r j) (set_self σ 5 _)).trans ?_
  refine (at2_putc (n := 100) (m := 5120) (b := 256) (σ 5) _ _ (off137_eq k) _ hr hj).trans ?_
  by_cases h : j / 256 = k.val
  · rw [if_pos h, if_pos (by omega)]
    refine (at2_windowc (n := 112) (m := 5120) (a := 100) (b := 256) (σ 11) _ _ (off136_eq k) _ hr (by omega : j - 256 * k.val < 256)).trans ?_
    rw [show 256 * k.val + (j - 256 * k.val) = j by omega]
    rfl
  · rw [if_neg h, if_neg (by omega)]; rfl

theorem out_inv (σ : SI) (n : ℕ) (hn : n ≤ 20) : (∀ i, i ≠ 5 → outP σ n i = σ i)
    ∧ (∀ r j, r < 100 → j < 5120 → j / 256 < n → c5 (outP σ n) r j = c11 σ r j) := by
  induction n with
  | zero => exact ⟨fun i _ => rfl, fun r c _ _ h => absurd h (by omega)⟩
  | succ n ih =>
    obtain ⟨i1, i2⟩ := ih (by omega)
    have hn' : n < k0_t4_loop.trips := by rw [trips4]; omega
    have e : outP σ (n + 1) = outV ⟨n, hn'⟩ (outP σ n) := itr_succ _ _ _ _
    obtain ⟨s1, s2⟩ := out_step ⟨n, hn'⟩ (outP σ n)
    rw [e]
    refine ⟨fun i hi => (s1 i hi).trans (i1 i hi), fun r j hr hj h => (s2 r j hr hj).trans ?_⟩
    show (if j / 256 = n then _ else _) = _
    split
    · exact congrArg (fun X => at2 (n := 112) (m := 5120) X r j) (i1 11 (by decide))
    · exact i2 r j hr hj (by omega)

/-- What the kernel leaves in its five results. -/
theorem fin_eq {c : Dev nD} (A : Arr Ideal c) (σ : SI) (Wg Wu Wd : ℕ → ℕ → EReal)
    (hg : ∀ (k : Fin k0_t3_loop.trips) l j, l < 5120 → j < 512 → at2 (n := 5120) (m := 512) (A.at k.val (step_lt k)).g l j = Wg l (512 * k.val + j))
    (hu : ∀ (k : Fin k0_t3_loop.trips) l j, l < 5120 → j < 512 → at2 (n := 5120) (m := 512) (A.at k.val (step_lt k)).u l j = Wu l (512 * k.val + j))
    (hd : ∀ (k : Fin k0_t3_loop.trips) l j, l < 512 → j < 5120 → at2 (n := 512) (m := 5120) (A.at k.val (step_lt k)).d l j = Wd (512 * k.val + l) j) :
    (∀ r j, r < 100 → j < 5120 → c5 (finV c A σ) r j = yS (c3 σ) (c4 σ 0) Wg Wu Wd (c0 σ) (c1 σ) (fun i j => c2 σ j i) r j)
    ∧ (∀ r j, r < 100 → j < 5120 → c6 (finV c A σ) r j = codeA (xS (c3 σ) (c4 σ 0)) r j)
    ∧ (∀ g r, g < 40 → r < 100 → c7 (finV c A σ) g r = sclA (xS (c3 σ) (c4 σ 0)) r g)
    ∧ (∀ r j, r < 100 → j < 17408 → c8 (finV c A σ) r j = codeA (mS (c3 σ) (c4 σ 0) Wg Wu (c0 σ) (c1 σ)) r j)
    ∧ (∀ g r, g < 136 → r < 100 → c9 (finV c A σ) g r = sclA (mS (c3 σ) (c4 σ 0) Wg Wu (c0 σ) (c1 σ)) r g) := by
  obtain ⟨h1, h6, h10, h11, h7⟩ := head_eq σ
  have z : ∀ i, i ≠ 13 → zeroV (headV σ) i = headV σ i := fun i hi => set_ne _ _ hi
  have z1 : ∀ i, i ≠ 13 → i ≠ 6 → i ≠ 7 → i ≠ 10 → i ≠ 11 → i ≠ 14 → zeroV (headV σ) i = σ i := fun i a b d e f g => (z i a).trans (h1 i b d e f g)
  have e0 : c0 (zeroV (headV σ)) = c0 σ := congrArg (fun X => at2 (n := 40) (m := 136) X) (z1 0 (by decide) (by decide) (by decide) (by decide) (by decide) (by decide))
  have e1 : c1 (zeroV (headV σ)) = c1 σ := congrArg (fun X => at2 (n := 40) (m := 136) X) (z1 1 (by decide) (by decide) (by decide) (by decide) (by decide) (by decide))
  have e2 : c2 (zeroV (headV σ)) = c2 σ := congrArg (fun X => at2 (n := 40) (m := 136) X) (z1 2 (by decide) (by decide) (by decide) (by decide) (by decide) (by decide))
  have e10 : c10 (zeroV (headV σ)) = c10 (headV σ) := congrArg (fun X => at2 (n := 112) (m := 5120) X) (z 10 (by decide))
  have e11 : c11 (zeroV (headV σ)) = c11 (headV σ) := congrArg (fun X => at2 (n := 112) (m := 5120) X) (z 11 (by decide))
  obtain ⟨s1, s8, s13, s11⟩ := steps_inv A (zeroV (headV σ)) (deqA (xK σ)) Wg Wu Wd (by rw [e10]; exact h10) hg hu hd
    (mS (c3 σ) (c4 σ 0) Wg Wu (c0 σ) (c1 σ)) (by rw [e0, e1]; rfl) 34 (le_refl _)
  have e : finV c A σ = outP (midV (stepP c A lane (zeroV (headV σ)) 34)) 20 := by
    unfold finV
    rw [trips3, trips4]
  generalize stepP c A lane (zeroV (headV σ)) 34 = τ at *
  obtain ⟨m1, m9⟩ := mid_eq τ
  generalize midV τ = υ at *
  obtain ⟨o1, o5⟩ := out_inv υ 20 (le_refl _)
  rw [e]
  refine ⟨fun r j hr hj => ?_, fun r j hr hj => ?_, fun g r hg hr => ?_, fun r j hr hj => ?_, fun g r hg hr => ?_⟩
  · refine (o5 r j hr hj (by omega)).trans ((congrArg (fun X => at2 (n := 112) (m := 5120) X r j) (m1 11 (by decide))).trans ((s11 r j (by omega) hj).trans ?_))
    rw [e11, h11 r j (by omega) hj, e2, yS]
    refine congrArg (c3 σ r j + ·) ?_
    unfold dotS
    rw [show Finset.range 17408 = Finset.range (512 * 34) from rfl, sum_blocks 34 512]
  · exact (congrArg (fun X => at2 (n := 100) (m := 5120) X r j) ((o1 6 (by decide)).trans ((m1 6 (by decide)).trans
      ((s1 6 (by decide) (by decide) (by decide) (by decide)).trans (z 6 (by decide)))))).trans (h6 r j hr hj)
  · exact (congrArg (fun X => at2 (n := 40) (m := 100) X g r) ((o1 7 (by decide)).trans ((m1 7 (by decide)).trans
      ((s1 7 (by decide) (by decide) (by decide) (by decide)).trans (z 7 (by decide)))))).trans (h7 g r hg hr)
  · exact (congrArg (fun X => at2 (n := 100) (m := 17408) X r j) ((o1 8 (by decide)).trans (m1 8 (by decide)))).trans (s8 r j hr hj (by omega))
  · refine (congrArg (fun X => at2 (n := 136) (m := 100) X g r) (o1 9 (by decide))).trans ((m9 g r hg hr).trans ((s13 _ r _ (by omega) (by omega) (by omega) (by omega)).trans ?_))
    rw [show 128 * (g / 128) + g % 128 = g by omega]

end Cert.Val
-- ==== Proof.Val.KerVal.lean ====
/-
  The kernel's results, index by index, from the buffers that its region finds.
-/
module

public import proofs.«01_k».proof.Proof.Val.Final
public import proofs.«01_k».proof.Proof.KernelIdeal.Frame
public import Idealize.ShloMosaic.Lib.Claim
public import Idealize.ShloMosaic.Lib.Pipeline.ArrRel
public import Idealize.ShloMosaic.Lib.Pipeline.DatRel
public import Idealize.ShloMosaic.Lib.Pipeline.ValueKit.Geometry

@[expose] public section

set_option maxRecDepth 100000

noncomputable section

namespace Cert.Val.KerSide

open Cert.KernelIdeal Cert.KernelIdeal.Gen Cert.KernelIdeal.Hand Idealize.ShloMosaic Idealize.ShloMosaic.TcCoe Idealize.ShloMosaic.ValueIdx Cert.Val

variable (m : (ℓ : Loc nD τ sig) → Buf (Elt Ideal) ℓ)

/-! ## The staged inputs are the arrays -/

theorem ib0 (c : Dev nD) (t : Fin cfg0.N) : iblk m c 0 t = (V m c main_arg0 : Vec Ideal S40x136 .f32) := by
  funext y
  refine congrArg (V m c main_arg0) (funext fun a => Fin.ext ?_)
  blk_simp
  show 0 * _ + (y a).val = (y a).val
  rw [Nat.zero_mul, Nat.zero_add]

theorem ib1 (c : Dev nD) (t : Fin cfg0.N) : iblk m c 1 t = (V m c main_arg1 : Vec Ideal S40x136 .f32) := by
  funext y
  refine congrArg (V m c main_arg1) (funext fun a => Fin.ext ?_)
  blk_simp
  show 0 * _ + (y a).val = (y a).val
  rw [Nat.zero_mul, Nat.zero_add]

theorem ib2 (c : Dev nD) (t : Fin cfg0.N) : iblk m c 2 t = (V m c main_v0 : Vec Ideal S40x136 .f32) := by
  funext y
  refine congrArg (V m c main_v0) (funext fun a => Fin.ext ?_)
  blk_simp
  show 0 * _ + (y a).val = (y a).val
  rw [Nat.zero_mul, Nat.zero_add]

theorem ib3 (c : Dev nD) (t : Fin cfg0.N) : iblk m c 3 t = (V m c main_arg3 : Vec Ideal S112x5120 .f32) := by
  funext y
  refine congrArg (V m c main_arg3) (funext fun a => Fin.ext ?_)
  blk_simp
  show 0 * _ + (y a).val = (y a).val
  rw [Nat.zero_mul, Nat.zero_add]

theorem ib4 (c : Dev nD) (t : Fin cfg0.N) : iblk m c 4 t = (V m c main_v1 : Vec Ideal S1x5120 .f32) := by
  funext y
  refine congrArg (V m c main_v1) (funext fun a => Fin.ext ?_)
  blk_simp
  show 0 * _ + (y a).val = (y a).val
  rw [Nat.zero_mul, Nat.zero_add]

theorem v0_eq (c : Dev nD) : V m c main_v0 = transpose S40x136 [1, 0] (m ((c : Thread nD τ).loc main_arg2)) transposes_S136x40_S40x136_1_0 := by
  entry_read
  rfl

theorem v1_eq (c : Dev nD) : V m c main_v1 = broadcastInDim S1x5120 ![1] bcast_S5120_S1x5120_1 (m ((c : Thread nD τ).loc main_arg4)) := by
  entry_read
  rfl

/-! ## The tiles of the weights -/

theorem at_g (c : Dev nD) (p : ℕ) (hp : p < 34) {l j : ℕ} (hl : l < 5120) (hj : j < 512) :
    at2 (n := 5120) (m := 512) ((wts m c).at p hp).g l j = at2 (n := 5120) (m := 17408) (V m c main_arg5) l (512 * p + j) := by
  have hc : 512 * p + j < 17408 := by omega
  rw [at2_eq _ hl hj, at2_eq (V m c main_arg5) hl hc]
  refine congrArg (V m c main_arg5) (funext fun a => Fin.ext ?_)
  match a with
  | ⟨0, _⟩ => show 0 + 1 * l = l; omega
  | ⟨1, _⟩ => show 512 * p + 1 * j = 512 * p + j; omega

theorem at_u (c : Dev nD) (p : ℕ) (hp : p < 34) {l j : ℕ} (hl : l < 5120) (hj : j < 512) :
    at2 (n := 5120) (m := 512) ((wts m c).at p hp).u l j = at2 (n := 5120) (m := 17408) (V m c main_arg6) l (512 * p + j) := by
  have hc : 512 * p + j < 17408 := by omega
  rw [at2_eq _ hl hj, at2_eq (V m c main_arg6) hl hc]
  refine congrArg (V m c main_arg6) (funext fun a => Fin.ext ?_)
  match a with
  | ⟨0, _⟩ => show 0 + 1 * l = l; omega
  | ⟨1, _⟩ => show 512 * p + 1 * j = 512 * p + j; omega

theorem at_d (c : Dev nD) (p : ℕ) (hp : p < 34) {l j : ℕ} (hl : l < 512) (hj : j < 5120) :
    at2 (n := 512) (m := 5120) ((wts m c).at p hp).d l j = at2 (n := 17408) (m := 5120) (V m c main_arg7) (512 * p + l) j := by
  have hc : 512 * p + l < 17408 := by omega
  rw [at2_eq _ hl hj, at2_eq (V m c main_arg7) hc hj]
  refine congrArg (V m c main_arg7) (funext fun a => Fin.ext ?_)
  match a with
  | ⟨0, _⟩ => show 512 * p + 1 * l = 512 * p + l; omega
  | ⟨1, _⟩ => show 0 + 1 * j = j; omega

/-! ## The result arrays -/

variable {m}

set_option maxHeartbeats 1600000 in
theorem res5 {r : PUnit × MemSt nD τ sig (Elt Ideal)} (h : Pipeline.RDat.FramePost (cfgs 0) (rdat m) (V m) r) (c : Dev nD) :
    ∃ σ, Ins m c ⟨0, by decide⟩ σ ∧ r.2.mem ((c.tc : Thread nD τ).loc main_v2_0) = finV c (wts m c) σ 5 := by
  obtain ⟨X, hX, e⟩ := Pipeline.RDat.ArrAt.emb_eq_of_wholeAt ((h c).1 5) (t₀ := ⟨0, by decide⟩) (by decide +kernel)
  have hR : Rl0 m c 5 ⟨0, by decide⟩ X := Pipeline.Dat.toRRel_leaves (dat := dats m 0 c) (fgt := marked0) (Rl := Rl0 m c) rfl hX
  obtain ⟨σ, hσ, hE⟩ : ∃ σ, Ins m c ⟨0, by decide⟩ σ ∧ X = finV c (wts m c) σ 5 := hR
  exact ⟨σ, hσ, funext fun j => (e j).trans (congrFun hE j)⟩

set_option maxHeartbeats 1600000 in
theorem res6 {r : PUnit × MemSt nD τ sig (Elt Ideal)} (h : Pipeline.RDat.FramePost (cfgs 0) (rdat m) (V m) r) (c : Dev nD) :
    ∃ σ, Ins m c ⟨0, by decide⟩ σ ∧ r.2.mem ((c.tc : Thread nD τ).loc main_v2_1) = finV c (wts m c) σ 6 := by
  obtain ⟨X, hX, e⟩ := Pipeline.RDat.ArrAt.emb_eq_of_wholeAt ((h c).1 6) (t₀ := ⟨0, by decide⟩) (by decide +kernel)
  have hR : Rl0 m c 6 ⟨0, by decide⟩ X := Pipeline.Dat.toRRel_leaves (dat := dats m 0 c) (fgt := marked0) (Rl := Rl0 m c) rfl hX
  obtain ⟨σ, hσ, hE⟩ : ∃ σ, Ins m c ⟨0, by decide⟩ σ ∧ X = finV c (wts m c) σ 6 := hR
  exact ⟨σ, hσ, funext fun j => (e j).trans (congrFun hE j)⟩

set_option maxHeartbeats 1600000 in
theorem res7 {r : PUnit × MemSt nD τ sig (Elt Ideal)} (h : Pipeline.RDat.FramePost (cfgs 0) (rdat m) (V m) r) (c : Dev nD) :
    ∃ σ, Ins m c ⟨0, by decide⟩ σ ∧ r.2.mem ((c.tc : Thread nD τ).loc main_v2_2) = finV c (wts m c) σ 7 := by
  obtain ⟨X, hX, e⟩ := Pipeline.RDat.ArrAt.emb_eq_of_wholeAt ((h c).1 7) (t₀ := ⟨0, by decide⟩) (by decide +kernel)
  have hR : Rl0 m c 7 ⟨0, by decide⟩ X := Pipeline.Dat.toRRel_leaves (dat := dats m 0 c) (fgt := marked0) (Rl := Rl0 m c) rfl hX
  obtain ⟨σ, hσ, hE⟩ : ∃ σ, Ins m c ⟨0, by decide⟩ σ ∧ X = finV c (wts m c) σ 7 := hR
  exact ⟨σ, hσ, funext fun j => (e j).trans (congrFun hE j)⟩

set_option maxHeartbeats 1600000 in
theorem res8 {r : PUnit × MemSt nD τ sig (Elt Ideal)} (h : Pipeline.RDat.FramePost (cfgs 0) (rdat m) (V m) r) (c : Dev nD) :
    ∃ σ, Ins m c ⟨0, by decide⟩ σ ∧ r.2.mem ((c.tc : Thread nD τ).loc main_v2_3) = finV c (wts m c) σ 8 := by
  obtain ⟨X, hX, e⟩ := Pipeline.RDat.ArrAt.emb_eq_of_wholeAt ((h c).1 8) (t₀ := ⟨0, by decide⟩) (by decide +kernel)
  have hR : Rl0 m c 8 ⟨0, by decide⟩ X := Pipeline.Dat.toRRel_leaves (dat := dats m 0 c) (fgt := marked0) (Rl := Rl0 m c) rfl hX
  obtain ⟨σ, hσ, hE⟩ : ∃ σ, Ins m c ⟨0, by decide⟩ σ ∧ X = finV c (wts m c) σ 8 := hR
  exact ⟨σ, hσ, funext fun j => (e j).trans (congrFun hE j)⟩

set_option maxHeartbeats 1600000 in
theorem res9 {r : PUnit × MemSt nD τ sig (Elt Ideal)} (h : Pipeline.RDat.FramePost (cfgs 0) (rdat m) (V m) r) (c : Dev nD) :
    ∃ σ, Ins m c ⟨0, by decide⟩ σ ∧ r.2.mem ((c.tc : Thread nD τ).loc main_v2_4) = finV c (wts m c) σ 9 := by
  obtain ⟨X, hX, e⟩ := Pipeline.RDat.ArrAt.emb_eq_of_wholeAt ((h c).1 9) (t₀ := ⟨0, by decide⟩) (by decide +kernel)
  have hR : Rl0 m c 9 ⟨0, by decide⟩ X := Pipeline.Dat.toRRel_leaves (dat := dats m 0 c) (fgt := marked0) (Rl := Rl0 m c) rfl hX
  obtain ⟨σ, hσ, hE⟩ : ∃ σ, Ins m c ⟨0, by decide⟩ σ ∧ X = finV c (wts m c) σ 9 := hR
  exact ⟨σ, hσ, funext fun j => (e j).trans (congrFun hE j)⟩

section
variable (m) (c : Dev nD)

abbrev hh := at2 (n := 112) (m := 5120) (V m c main_arg3)
abbrev ww := at2 (n := 1) (m := 5120) (V m c main_v1) 0
abbrev mm := mS (hh m c) (ww m c) (at2 (n := 5120) (m := 17408) (V m c main_arg5)) (at2 (n := 5120) (m := 17408) (V m c main_arg6)) (at2 (n := 40) (m := 136) (V m c main_arg0)) (at2 (n := 40) (m := 136) (V m c main_arg1))

/-- What the body leaves from the staged inputs. -/
theorem fin_at (t : Fin cfg0.N) (σ : SI) (hσ : Ins m c t σ) :
    (∀ r j, r < 100 → j < 5120 → c5 (finV c (wts m c) σ) r j = yS (hh m c) (ww m c) (at2 (n := 5120) (m := 17408) (V m c main_arg5)) (at2 (n := 5120) (m := 17408) (V m c main_arg6))
      (at2 (n := 17408) (m := 5120) (V m c main_arg7)) (at2 (n := 40) (m := 136) (V m c main_arg0)) (at2 (n := 40) (m := 136) (V m c main_arg1))
      (fun i j => at2 (n := 40) (m := 136) (V m c main_v0) j i) r j)
    ∧ (∀ r j, r < 100 → j < 5120 → c6 (finV c (wts m c) σ) r j = codeA (xS (hh m c) (ww m c)) r j)
    ∧ (∀ g r, g < 40 → r < 100 → c7 (finV c (wts m c) σ) g r = sclA (xS (hh m c) (ww m c)) r g)
    ∧ (∀ r j, r < 100 → j < 17408 → c8 (finV c (wts m c) σ) r j = codeA (mm m c) r j)
    ∧ (∀ g r, g < 136 → r < 100 → c9 (finV c (wts m c) σ) g r = sclA (mm m c) r g) := by
  have e0 : c0 σ = at2 (n := 40) (m := 136) (V m c main_arg0) := congrArg (fun X => at2 (n := 40) (m := 136) X) (hσ.i0.trans (ib0 m c t))
  have e1 : c1 σ = at2 (n := 40) (m := 136) (V m c main_arg1) := congrArg (fun X => at2 (n := 40) (m := 136) X) (hσ.i1.trans (ib1 m c t))
  have e2 : c2 σ = at2 (n := 40) (m := 136) (V m c main_v0) := congrArg (fun X => at2 (n := 40) (m := 136) X) (hσ.i2.trans (ib2 m c t))
  have e3 : c3 σ = hh m c := congrArg (fun X => at2 (n := 112) (m := 5120) X) (hσ.i3.trans (ib3 m c t))
  have e4 : c4 σ 0 = ww m c := congrArg (fun X => at2 (n := 1) (m := 5120) X 0) (hσ.i4.trans (ib4 m c t))
  have := fin_eq (wts m c) σ (at2 (n := 5120) (m := 17408) (V m c main_arg5)) (at2 (n := 5120) (m := 17408) (V m c main_arg6)) (at2 (n := 17408) (m := 5120) (V m c main_arg7))
    (fun k l j hl hj => at_g m c k.val (step_lt k) hl hj) (fun k l j hl hj => at_u m c k.val (step_lt k) hl hj) (fun k l j hl hj => at_d m c k.val (step_lt k) hl hj)
  rw [e0, e1, e2, e3, e4] at this
  exact this

end

end Cert.Val.KerSide
end
-- ==== Proof.Val.Ref.lean ====
/-
  The reference's payloads, index by index.
-/
module

public import proofs.«01_k».proof.Proof.Gen.ReferenceIdeal.Frame
public import proofs.«01_k».proof.Proof.Val.Steps

@[expose] public section

set_option maxRecDepth 100000

noncomputable section

namespace Cert.Val

open Idealize.ShloMosaic Idealize.ShloMosaic.ValueIdx

/-! ## Groups of a row as a third axis -/

theorem rd3_cast {n a m : ℕ} (hm : m = a * 128) (X : (⟨2, ![n, m]⟩ : Shape).Idx → EReal) (h : (⟨2, ![n, m]⟩ : Shape).ShapeCasts ⟨3, ![n, a, 128]⟩) {r g l : ℕ}
    (hr : r < n) (hg : g < a) (hl : l < 128) : rd3 (shapeCast ⟨3, ![n, a, 128]⟩ X h) r g l = at2 X r (128 * g + l) := by
  have hc : 128 * g + l < m := by omega
  rw [rd3_eq _ hr hg hl, at2_eq X hr hc]
  refine shapeCast_apply X h _ _ ?_
  rw [Shape.rowMajor_val_three, Shape.rowMajor_val_two]
  show r * m + (128 * g + l) = (r * a + g) * 128 + l
  rw [hm, Nat.add_mul, Nat.mul_assoc]; omega

theorem at2_cast {n a m : ℕ} (hm : m = a * 128) (X : (⟨3, ![n, a, 128]⟩ : Shape).Idx → EReal) (h : (⟨3, ![n, a, 128]⟩ : Shape).ShapeCasts ⟨2, ![n, m]⟩) {r j : ℕ}
    (hr : r < n) (hj : j < m) : at2 (shapeCast ⟨2, ![n, m]⟩ X h) r j = rd3 X r (j / 128) (j % 128) := by
  have hg : j / 128 < a := by omega
  rw [at2_eq _ hr hj, rd3_eq X hr hg (by omega)]
  refine shapeCast_apply X h _ _ ?_
  rw [Shape.rowMajor_val_three, Shape.rowMajor_val_two]
  show (r * a + j / 128) * 128 + j % 128 = r * m + j
  rw [hm, Nat.add_mul, Nat.mul_assoc]; omega

theorem rd3_bc {n a : ℕ} (v : (⟨2, ![n, a]⟩ : Shape).Idx → EReal) (h : (⟨2, ![n, a]⟩ : Shape).ShapeCasts ⟨3, ![n, a, 1]⟩)
    (hb : (⟨3, ![n, a, 1]⟩ : Shape).Broadcasts ⟨3, ![n, a, 128]⟩) {r g l : ℕ} (hr : r < n) (hg : g < a) (hl : l < 128) :
    rd3 (broadcastTo ⟨3, ![n, a, 128]⟩ (shapeCast ⟨3, ![n, a, 1]⟩ v h) hb) r g l = at2 v r g := by
  rw [rd3_eq _ hr hg hl, at2_eq v hr hg]
  refine (broadcastTo_apply _ hb _ (ix3 ⟨r, hr⟩ ⟨g, hg⟩ (0 : Fin 1)) fun ax => ?_).trans ?_
  · match ax with
    | ⟨0, _⟩ =>
      show r = if n = 1 then 0 else r
      split
      · omega
      · rfl
    | ⟨1, _⟩ =>
      show g = if a = 1 then 0 else g
      split
      · omega
      · rfl
    | ⟨2, _⟩ => rfl
  · refine shapeCast_apply v h _ _ ?_
    rw [Shape.rowMajor_val_three, Shape.rowMajor_val_two]
    show r * a + g = (r * a + g) * 1 + 0
    omega

theorem lift_grp {n a m : ℕ} (h : (⟨3, ![n, a, m]⟩ : Shape).Reduces [2] ⟨2, ![n, a]⟩) (r : Fin n) (g : Fin a) (k : Fin m) : h.lift (ix2 r g) k = ix3 r g k := by
  funext ax
  match ax with
  | ⟨0, _⟩ => rfl
  | ⟨1, _⟩ => rfl
  | ⟨2, _⟩ => rfl

theorem grpmax {n a : ℕ} (x : FVec Ideal ⟨3, ![n, a, 128]⟩ .f32) (h : (⟨3, ![n, a, 128]⟩ : Shape).Reduces [2] ⟨2, ![n, a]⟩)
    (hφ : FKind.Formats .f32) (hacc : 0xFF800000#32 = FKind.maximumf.neutral .f32 hφ) {r g : ℕ} (hr : r < n) (hg : g < a) (f : ℕ → EReal)
    (hf : ∀ l, l < 128 → rd3 x r g l = f l) :
    at2 (multiReduction .maximumf [2] ⟨2, ![n, a]⟩ (absf x) 0xFF800000#32 h hφ hacc) r g = gmax f := by
  rw [at2_eq _ hr hg]
  refine (Ideal.multiReduction_maximumf_single (absf x) 0xFF800000#32 h hφ hacc (ix2 ⟨r, hr⟩ ⟨g, hg⟩)).trans ?_
  unfold gmax
  refine congrArg (fun f => (Finset.univ : Finset (Fin 128)).fold max (Ideal.ofBits .f32 0xFF800000#32) f) (funext fun k => ?_)
  refine (congrArg (absf x) (lift_grp h ⟨r, hr⟩ ⟨g, hg⟩ k)).trans ?_
  have := hf k.val k.isLt
  rw [rd3_eq x hr hg k.isLt] at this
  rw [← this]
  rfl

theorem grpmaxS {n a : ℕ} (x : FVec Ideal ⟨3, ![n, a, 128]⟩ .f32) (h : (⟨3, ![n, a, 128]⟩ : Shape).Reduces [2] ⟨2, ![n, a]⟩)
    (hφ : FKind.Formats .f32) (hacc : 0xFF800000#32 = FKind.maximumf.neutral .f32 hφ) {r g : ℕ} (hr : r < n) (hg : g < a) (f : ℕ → EReal)
    (hf : ∀ l, l < 128 → rd3 x r g l = f l) :
    (mulf (multiReduction .maximumf [2] ⟨2, ![n, a]⟩ (absf x) 0xFF800000#32 h hφ hacc) (broadcast ⟨2, ![n, a]⟩ (Scalar.ofBits .f32 0x3B124925#32)) : FVec Ideal ⟨2, ![n, a]⟩ .f32)
      (ix2 ⟨r, hr⟩ ⟨g, hg⟩) = pS f := by
  have := grpmax x h hφ hacc hr hg f hf
  rw [at2_eq _ hr hg] at this
  exact congrArg (· * Ideal.ofBits .f32 0x3B124925#32) this

/-! ## A weight with a scale for each of its 128x128 blocks -/

theorem at2_deq {M A N B : ℕ} (hM : M = A * 128) (hN : N = B * 128) (W : FVec Ideal ⟨2, ![M, N]⟩ .bf16) (S : FVec Ideal ⟨2, ![A, B]⟩ .bf16)
    (h1 : (⟨2, ![M, N]⟩ : Shape).ShapeCasts ⟨4, ![A, 128, B, 128]⟩) (h2 : (⟨2, ![A, B]⟩ : Shape).ShapeCasts ⟨4, ![A, 1, B, 1]⟩)
    (h3 : (⟨4, ![A, 1, B, 1]⟩ : Shape).Broadcasts ⟨4, ![A, 128, B, 128]⟩) (h4 : (⟨4, ![A, 128, B, 128]⟩ : Shape).ShapeCasts ⟨2, ![M, N]⟩)
    {k j : ℕ} (hk : k < M) (hj : j < N) :
    at2 (n := M) (m := N) (shapeCast ⟨2, ![M, N]⟩ (mulf (shapeCast ⟨4, ![A, 128, B, 128]⟩ W h1) (broadcastTo ⟨4, ![A, 128, B, 128]⟩ (shapeCast ⟨4, ![A, 1, B, 1]⟩ S h2) h3)) h4) k j
      = at2 (n := M) (m := N) W k j * at2 (n := A) (m := B) S (k / 128) (j / 128) := by
  have ha : k / 128 < A := by omega
  have hb : j / 128 < B := by omega
  have e : ∀ x y : ℕ, ((x / 128 * 128 + x % 128) * B + y / 128) * 128 + y % 128 = x * N + y := by
    intro x y
    rw [show x / 128 * 128 + x % 128 = x by omega, hN, Nat.add_mul, Nat.mul_assoc]; omega
  rw [at2_eq _ hk hj, at2_eq W hk hj, at2_eq S ha hb]
  refine (shapeCast_apply _ h4 (ix2 ⟨k, hk⟩ ⟨j, hj⟩) (ix4 (⟨k / 128, ha⟩ : Fin A) (⟨k % 128, by omega⟩ : Fin 128) (⟨j / 128, hb⟩ : Fin B) (⟨j % 128, by omega⟩ : Fin 128)) ?_).trans ?_
  · rw [Shape.rowMajor_val_four, Shape.rowMajor_val_two]
    exact e k j
  · refine congrArg₂ (· * ·) ?_ ?_
    · refine shapeCast_apply W h1 _ _ ?_
      rw [Shape.rowMajor_val_four, Shape.rowMajor_val_two]
      exact (e k j).symm
    · refine (broadcastTo_apply _ h3 _ (ix4 (⟨k / 128, ha⟩ : Fin A) (0 : Fin 1) (⟨j / 128, hb⟩ : Fin B) (0 : Fin 1)) fun ax => ?_).trans ?_
      · match ax with
        | ⟨0, _⟩ =>
          show k / 128 = if A = 1 then 0 else k / 128
          split
          · omega
          · rfl
        | ⟨1, _⟩ => rfl
        | ⟨2, _⟩ =>
          show j / 128 = if B = 1 then 0 else j / 128
          split
          · omega
          · rfl
        | ⟨3, _⟩ => rfl
      · refine shapeCast_apply S h2 _ _ ?_
        rw [Shape.rowMajor_val_four, Shape.rowMajor_val_two]
        show k / 128 * B + j / 128 = ((k / 128 * 1 + 0) * B + j / 128) * 1 + 0
        rw [Nat.mul_one, Nat.mul_one, Nat.add_zero, Nat.add_zero]

theorem at2_matmul {M K N : ℕ} (lhs : FVec Ideal ⟨2, ![M, K]⟩ .bf16) (rhs : FVec Ideal ⟨2, ![K, N]⟩ .bf16) {r j : ℕ} (hr : r < M) (hj : j < N) :
    at2 (n := M) (m := N) (FloatOps.matmul (DotDims.plain M K N) none lhs rhs (constant ⟨2, ![M, N]⟩ .f32 0x00000000#32)) r j
      = ∑ k ∈ Finset.range K, at2 lhs r k * at2 rhs k j := by
  rw [at2_eq _ hr hj, Finset.sum_range]
  refine (Ideal.matmul_plain_apply none lhs rhs (constant ⟨2, ![M, N]⟩ .f32 0x00000000#32) ⟨r, hr⟩ ⟨j, hj⟩).trans ?_
  rw [show (constant ⟨2, ![M, N]⟩ .f32 0x00000000#32 : FVec Ideal ⟨2, ![M, N]⟩ .f32) (ix2 ⟨r, hr⟩ ⟨j, hj⟩) = 0 from ofBits_zero, zero_add]
  refine Finset.sum_congr rfl fun k _ => ?_
  rw [at2_eq lhs hr k.isLt, at2_eq rhs k.isLt hj]

theorem rd3_mulf {n a b : ℕ} {φ : FTy} (X Y : FVec Ideal ⟨3, ![n, a, b]⟩ φ) {r g l : ℕ} (hr : r < n) (hg : g < a) (hl : l < b) :
    rd3 (a := n) (b := a) (d := b) (mulf X Y) r g l = rd3 X r g l * rd3 Y r g l := by
  rw [rd3_eq _ hr hg hl, rd3_eq X hr hg hl, rd3_eq Y hr hg hl]; rfl

open Cert.ReferenceIdeal Cert.ReferenceIdeal.Gen

/-! ## The quantiser over groups -/

theorem lt_sel (x y a b : EReal) : Scalar.select (Scalar.cmpf (F := Ideal) (φ := .f32) .olt x y) a b = if x < y then a else b := by
  by_cases h : x < y
  · rw [if_pos h]
    show (if BitVec.ofBool (decide (x < y)) = 1 then a else b) = a
    rw [decide_eq_true h]; rfl
  · rw [if_neg h]
    show (if BitVec.ofBool (decide (x < y)) = 1 then a else b) = b
    rw [decide_eq_false h]; rfl

/-- The exponent as the reference writes it. -/
def expV {s : Shape} (v : FVec Ideal s .f32) : FVec Ideal s .f32 :=
  select (cmpf .olt v (broadcast s (Scalar.ofBits .f32 0x00800000#32))) (broadcast s (Scalar.ofBits .f32 0x00000000#32))
    (minimumf (addf (floor (divf (log v) (log (broadcast s (Scalar.ofBits .f32 0x40000000#32))))) (broadcast s (Scalar.ofBits .f32 0x3F800000#32)))
      (broadcast s (Scalar.ofBits .f32 0x42FC0000#32)))

theorem expV_at {s : Shape} (v : FVec Ideal s .f32) (i : s.Idx) : expV v i = refE (v i) := by
  unfold refE
  exact lt_sel (v i) _ _ _

/-- The code, three-dimensional, from the values and the exponents. -/
def codeV {n a : ℕ} (X : FVec Ideal ⟨3, ![n, a, 128]⟩ .f32) (e : FVec Ideal ⟨2, ![n, a]⟩ .f32) (h : (⟨2, ![n, a]⟩ : Shape).ShapeCasts ⟨3, ![n, a, 1]⟩)
    (hb : (⟨3, ![n, a, 1]⟩ : Shape).Broadcasts ⟨3, ![n, a, 128]⟩) : FVec Ideal ⟨3, ![n, a, 128]⟩ .f32 :=
  mulf X (broadcastTo ⟨3, ![n, a, 128]⟩ (shapeCast ⟨3, ![n, a, 1]⟩
    (powf (broadcast ⟨2, ![n, a]⟩ (Scalar.ofBits .f32 0x40000000#32)) (subf (broadcast ⟨2, ![n, a]⟩ (Scalar.ofBits .f32 0x00000000#32)) e) : FVec Ideal ⟨2, ![n, a]⟩ .f32) h) hb)

theorem codeV_at {n a : ℕ} (X : FVec Ideal ⟨3, ![n, a, 128]⟩ .f32) (e : FVec Ideal ⟨2, ![n, a]⟩ .f32) (h : (⟨2, ![n, a]⟩ : Shape).ShapeCasts ⟨3, ![n, a, 1]⟩)
    (hb : (⟨3, ![n, a, 1]⟩ : Shape).Broadcasts ⟨3, ![n, a, 128]⟩) {r g l : ℕ} (hr : r < n) (hg : g < a) (hl : l < 128) (p : EReal)
    (he : at2 e r g = refE p) : rd3 (codeV X e h hb) r g l = rd3 X r g l * inv p := by
  unfold codeV
  refine (rd3_mulf _ _ hr hg hl).trans (congrArg (rd3 X r g l * ·) ?_)
  refine (rd3_bc _ h hb hr hg hl).trans ?_
  rw [at2_eq e hr hg] at he
  rw [at2_eq _ hr hg, ← pow_neg_refE, ← he]
  rfl

/-- The clamped code, two-dimensional. -/
def clampV {n a m : ℕ} (Y : FVec Ideal ⟨3, ![n, a, 128]⟩ .f32) (h : (⟨3, ![n, a, 128]⟩ : Shape).ShapeCasts ⟨2, ![n, m]⟩) : FVec Ideal ⟨2, ![n, m]⟩ .fp8e4m3 :=
  shapeCast ⟨2, ![n, m]⟩ (truncf .fp8e4m3 (minimumf (broadcast ⟨3, ![n, a, 128]⟩ (Scalar.ofBits .f32 0x43E00000#32))
    (maximumf (broadcast ⟨3, ![n, a, 128]⟩ (Scalar.ofBits .f32 0xC3E00000#32)) Y)) bitsLt_fp8e4m3_f32) h

theorem clampV_at {n a m : ℕ} (hm : m = a * 128) (Y : FVec Ideal ⟨3, ![n, a, 128]⟩ .f32) (h : (⟨3, ![n, a, 128]⟩ : Shape).ShapeCasts ⟨2, ![n, m]⟩)
    {r j : ℕ} (hr : r < n) (hj : j < m) (f : ℕ → EReal) (hf : rd3 Y r (j / 128) (j % 128) = f (j % 128) * inv (pS f)) :
    at2 (n := n) (m := m) (clampV Y h) r j = codeS f (j % 128) := by
  unfold clampV codeS
  refine (at2_cast hm _ h hr hj).trans ?_
  rw [rd3_eq _ hr (show j / 128 < a by omega) (show j % 128 < 128 by omega)] at hf ⊢
  rw [← hf]
  rfl

/-- The code times the scale of its group. -/
def deqV {n a m : ℕ} (C : FVec Ideal ⟨2, ![n, m]⟩ .fp8e4m3) (s : FVec Ideal ⟨2, ![n, a]⟩ .f32) (h : (⟨2, ![n, m]⟩ : Shape).ShapeCasts ⟨3, ![n, a, 128]⟩)
    (hc : (⟨2, ![n, a]⟩ : Shape).ShapeCasts ⟨3, ![n, a, 1]⟩) (hb : (⟨3, ![n, a, 1]⟩ : Shape).Broadcasts ⟨3, ![n, a, 128]⟩)
    (h' : (⟨3, ![n, a, 128]⟩ : Shape).ShapeCasts ⟨2, ![n, m]⟩) : FVec Ideal ⟨2, ![n, m]⟩ .bf16 :=
  shapeCast ⟨2, ![n, m]⟩ (mulf (shapeCast ⟨3, ![n, a, 128]⟩ (extf .bf16 C bitsLt_fp8e4m3_bf16) h)
    (broadcastTo ⟨3, ![n, a, 128]⟩ (shapeCast ⟨3, ![n, a, 1]⟩ (truncf .bf16 s bitsLt_bf16_f32) hc) hb)) h'

theorem deqV_at {n a m : ℕ} (hm : m = a * 128) (C : FVec Ideal ⟨2, ![n, m]⟩ .fp8e4m3) (s : FVec Ideal ⟨2, ![n, a]⟩ .f32) (h : (⟨2, ![n, m]⟩ : Shape).ShapeCasts ⟨3, ![n, a, 128]⟩)
    (hc : (⟨2, ![n, a]⟩ : Shape).ShapeCasts ⟨3, ![n, a, 1]⟩) (hb : (⟨3, ![n, a, 1]⟩ : Shape).Broadcasts ⟨3, ![n, a, 128]⟩)
    (h' : (⟨3, ![n, a, 128]⟩ : Shape).ShapeCasts ⟨2, ![n, m]⟩) {r j : ℕ} (hr : r < n) (hj : j < m) :
    at2 (n := n) (m := m) (deqV C s h hc hb h') r j = at2 (n := n) (m := m) C r j * at2 (n := n) (m := a) s r (j / 128) := by
  have hg : j / 128 < a := by omega
  have hl : j % 128 < 128 := by omega
  unfold deqV
  refine (at2_cast hm _ h' hr hj).trans ((rd3_mulf _ _ hr hg hl).trans (congrArg₂ (· * ·) ?_ ?_))
  · refine (rd3_cast hm _ h hr hg hl).trans ?_
    rw [show 128 * (j / 128) + j % 128 = j by omega]
    rfl
  · exact rd3_bc _ hc hb hr hg hl

/-- A weight times its scales. -/
def wtV {M A N B : ℕ} (W : FVec Ideal ⟨2, ![M, N]⟩ .fp8e4m3) (S : FVec Ideal ⟨2, ![A, B]⟩ .f32)
    (h1 : (⟨2, ![M, N]⟩ : Shape).ShapeCasts ⟨4, ![A, 128, B, 128]⟩) (h2 : (⟨2, ![A, B]⟩ : Shape).ShapeCasts ⟨4, ![A, 1, B, 1]⟩)
    (h3 : (⟨4, ![A, 1, B, 1]⟩ : Shape).Broadcasts ⟨4, ![A, 128, B, 128]⟩) (h4 : (⟨4, ![A, 128, B, 128]⟩ : Shape).ShapeCasts ⟨2, ![M, N]⟩) : FVec Ideal ⟨2, ![M, N]⟩ .bf16 :=
  shapeCast ⟨2, ![M, N]⟩ (mulf (shapeCast ⟨4, ![A, 128, B, 128]⟩ (extf .bf16 W bitsLt_fp8e4m3_bf16) h1)
    (broadcastTo ⟨4, ![A, 128, B, 128]⟩ (shapeCast ⟨4, ![A, 1, B, 1]⟩ (truncf .bf16 S bitsLt_bf16_f32) h2) h3)) h4

/-- A product of dequantised rows and a dequantised weight. -/
theorem dot_at {M K A N B : ℕ} (hK : K = A * 128) (hN : N = B * 128) (L : FVec Ideal ⟨2, ![M, K]⟩ .bf16) (W : FVec Ideal ⟨2, ![K, N]⟩ .fp8e4m3) (S : FVec Ideal ⟨2, ![A, B]⟩ .f32)
    (h1 : (⟨2, ![K, N]⟩ : Shape).ShapeCasts ⟨4, ![A, 128, B, 128]⟩) (h2 : (⟨2, ![A, B]⟩ : Shape).ShapeCasts ⟨4, ![A, 1, B, 1]⟩)
    (h3 : (⟨4, ![A, 1, B, 1]⟩ : Shape).Broadcasts ⟨4, ![A, 128, B, 128]⟩) (h4 : (⟨4, ![A, 128, B, 128]⟩ : Shape).ShapeCasts ⟨2, ![K, N]⟩)
    (a w s : ℕ → ℕ → EReal) {r j : ℕ} (hr : r < M) (hj : j < N) (ha : ∀ k, k < K → at2 L r k = a r k)
    (hw : ∀ k j, k < K → j < N → at2 (n := K) (m := N) W k j = w k j) (hs : ∀ g q, g < A → q < B → at2 (n := A) (m := B) S g q = s g q) :
    at2 (n := M) (m := N) (FloatOps.matmul (DotDims.plain M K N) none L (wtV W S h1 h2 h3 h4) (constant ⟨2, ![M, N]⟩ .f32 0x00000000#32)) r j
      = dotS K a w s r j := by
  refine (at2_matmul L (wtV W S h1 h2 h3 h4) hr hj).trans ?_
  unfold dotS
  refine Finset.sum_congr rfl fun k hk => ?_
  have hk' := Finset.mem_range.1 hk
  refine congrArg₂ (· * ·) (ha k hk') ?_
  refine (at2_deq hK hN (extf .bf16 W bitsLt_fp8e4m3_bf16) (truncf .bf16 S bitsLt_bf16_f32) h1 h2 h3 h4 hk' hj).trans ?_
  exact congrArg₂ (· * ·) (hw k j hk' hj) (hs _ _ (by omega) (by omega))

/-! ## The payloads -/

theorem pay5_eq (v0 : Vec Ideal S100x5120 .f32) (v1 : Vec Ideal S1x5120 .f32) : k0_pay5 v0 v1 =
    expV (mulf (multiReduction .maximumf [2] S100x40 (absf (k0_pay4 v0 v1)) 0xFF800000#32 reduces_S100x40x128_S100x40 (.inl rfl) rfl) (broadcast S100x40 (Scalar.ofBits .f32 0x3B124925#32))) := by
  unfold k0_pay5 expV
  generalize k0_pay4 v0 v1 = x
  rfl

section Pay
variable (v0 : Vec Ideal S100x5120 .f32) (v1 : Vec Ideal S1x5120 .f32) (h : ℕ → ℕ → EReal) (w : ℕ → EReal)
  (hh : ∀ r j, r < 100 → j < 5120 → at2 (n := 100) (m := 5120) v0 r j = h r j) (hw : ∀ j, j < 5120 → at2 (n := 1) (m := 5120) v1 0 j = w j)
include hh hw

theorem pay4_at {r g l : ℕ} (hr : r < 100) (hg : g < 40) (hl : l < 128) : rd3 (a := 100) (b := 40) (d := 128) (k0_pay4 v0 v1) r g l = xS h w r (128 * g + l) := by
  have hc : 128 * g + l < 5120 := by omega
  unfold k0_pay4
  refine (rd3_cast rfl _ shapeCasts_S100x5120_S100x40x128 hr hg hl).trans ?_
  rw [at2_eq _ hr hc, xS, ← hh r _ hr hc, ← hw _ hc, at2_eq v0 hr hc, at2_eq v1 Nat.one_pos hc]
  refine congrArg₂ (· * ·) (congrArg (v0 (ix2 ⟨r, hr⟩ ⟨128 * g + l, hc⟩) * ·) ?_) ?_
  · refine (bc_col _ broadcasts_S100x1_S100x5120 ⟨r, hr⟩ ⟨128 * g + l, hc⟩).trans ?_
    refine congrArg (fun z => Ideal.rsqrt (z + Ideal.ofBits .f32 0x358637BD#32)) ?_
    refine (div_5120 _).trans (congrArg (· * (((1 / 5120 : ℝ)) : EReal)) ?_)
    refine (shapeCast_a_a1_apply _ shapeCasts_S100_S100x1 ⟨r, hr⟩ 0).trans ((rowsum (mulf v0 v0) _ reduces_S100x5120_S100 (.inl rfl) rfl ⟨r, hr⟩).trans ?_)
    rw [Finset.sum_range]
    refine Finset.sum_congr rfl fun k _ => ?_
    rw [← hh r k.val hr k.isLt, at2_eq v0 hr k.isLt]
    rfl
  · refine (broadcastTo_1b_ab_apply _ broadcasts_S1x5120_S100x5120 ⟨r, hr⟩ ⟨128 * g + l, hc⟩).trans (congrArg (Ideal.ofBits .f32 0x3F800000#32 + ·) ?_)
    exact congrFun (shapeCast_same _ _) _

theorem pay5_at {r g : ℕ} (hr : r < 100) (hg : g < 40) : at2 (n := 100) (m := 40) (k0_pay5 v0 v1) r g = refE (pS fun l => xS h w r (128 * g + l)) := by
  rw [at2_eq _ hr hg]
  refine (congrFun (pay5_eq v0 v1) _).trans ((expV_at _ _).trans (congrArg refE ?_))
  exact grpmaxS (k0_pay4 v0 v1) reduces_S100x40x128_S100x40 (.inl rfl) rfl hr hg _ fun l hl => pay4_at v0 v1 h w hh hw hr hg hl

theorem pay7_at {r g l : ℕ} (hr : r < 100) (hg : g < 40) (hl : l < 128) :
    rd3 (a := 100) (b := 40) (d := 128) (k0_pay7 v0 v1) r g l = xS h w r (128 * g + l) * inv (pS fun l => xS h w r (128 * g + l)) :=
  (codeV_at (k0_pay4 v0 v1) (k0_pay5 v0 v1) shapeCasts_S100x40_S100x40x1 broadcasts_S100x40x1_S100x40x128 hr hg hl _ (pay5_at v0 v1 h w hh hw hr hg)).trans
    (congrArg (· * _) (pay4_at v0 v1 h w hh hw hr hg hl))

theorem pay8_at {r j : ℕ} (hr : r < 100) (hj : j < 5120) :
    at2 (n := 100) (m := 5120) (k0_pay8 (k0_pay7 v0 v1) (Scalar.ofBits .f32 0xC3E00000#32)) r j = codeA (xS h w) r j :=
  clampV_at (a := 40) rfl (k0_pay7 v0 v1) shapeCasts_S100x40x128_S100x5120 hr hj _
    (pay7_at v0 v1 h w hh hw hr (by omega) (by omega))

theorem pay9_at {r g : ℕ} (hr : r < 100) (hg : g < 40) :
    at2 (n := 100) (m := 40) (k0_pay9 (k0_pay5 v0 v1) (k0_pay6 (F := Ideal))) r g = sclA (xS h w) r g := by
  have := pay5_at v0 v1 h w hh hw hr hg
  rw [sclA, ← pow_refE, ← this]
  generalize k0_pay5 v0 v1 = e
  rw [at2_eq _ hr hg, at2_eq _ hr hg]
  rfl

section Mid
variable (u5 : Vec Ideal S5120x17408 .fp8e4m3) (u0 : Vec Ideal S40x136 .f32) (u6 : Vec Ideal S5120x17408 .fp8e4m3) (u1 : Vec Ideal S40x136 .f32) (Wg Wu sg su : ℕ → ℕ → EReal)
  (h5 : ∀ k j, k < 5120 → j < 17408 → at2 (n := 5120) (m := 17408) u5 k j = Wg k j) (h6 : ∀ k j, k < 5120 → j < 17408 → at2 (n := 5120) (m := 17408) u6 k j = Wu k j)
  (h0 : ∀ k j, k < 40 → j < 136 → at2 (n := 40) (m := 136) u0 k j = sg k j) (h1 : ∀ k j, k < 40 → j < 136 → at2 (n := 40) (m := 136) u1 k j = su k j)

/-- The dequantised normed rows. -/
def xdV : FVec Ideal S100x5120 .bf16 :=
  deqV (k0_pay8 (k0_pay7 v0 v1) (Scalar.ofBits .f32 0xC3E00000#32)) (k0_pay9 (k0_pay5 v0 v1) (k0_pay6 (F := Ideal))) shapeCasts_S100x5120_S100x40x128
    shapeCasts_S100x40_S100x40x1 broadcasts_S100x40x1_S100x40x128 shapeCasts_S100x40x128_S100x5120

theorem xdV_at {r j : ℕ} (hr : r < 100) (hj : j < 5120) : at2 (n := 100) (m := 5120) (xdV v0 v1) r j = deqA (xS h w) r j := by
  unfold xdV deqA
  refine (deqV_at (a := 40) rfl _ _ shapeCasts_S100x5120_S100x40x128 shapeCasts_S100x40_S100x40x1 broadcasts_S100x40x1_S100x40x128 shapeCasts_S100x40x128_S100x5120 hr hj).trans ?_
  exact congrArg₂ (· * ·) (pay8_at v0 v1 h w hh hw hr hj) (pay9_at v0 v1 h w hh hw hr (by omega))

/-- One projection. -/
def prV (u : Vec Ideal S5120x17408 .fp8e4m3) (s : Vec Ideal S40x136 .f32) : FVec Ideal S100x17408 .f32 :=
  matmul dot_S100x5120_S5120x17408_S100x17408_1_0_0_1_n_n none (xdV v0 v1)
    (wtV (A := 40) (B := 136) u s shapeCasts_S5120x17408_S40x128x136x128 shapeCasts_S40x136_S40x1x136x1 broadcasts_S40x1x136x1_S40x128x136x128 shapeCasts_S40x128x136x128_S5120x17408)
    (constant S100x17408 .f32 0x00000000#32)

theorem prV_at (u : Vec Ideal S5120x17408 .fp8e4m3) (s : Vec Ideal S40x136 .f32) (W S : ℕ → ℕ → EReal)
    (hu : ∀ k j, k < 5120 → j < 17408 → at2 (n := 5120) (m := 17408) u k j = W k j) (hs : ∀ k j, k < 40 → j < 136 → at2 (n := 40) (m := 136) s k j = S k j)
    {r j : ℕ} (hr : r < 100) (hj : j < 17408) : at2 (n := 100) (m := 17408) (prV v0 v1 u s) r j = dotS 5120 (deqA (xS h w)) W S r j :=
  dot_at (M := 100) (K := 5120) (A := 40) (N := 17408) (B := 136) rfl rfl (xdV v0 v1) u s shapeCasts_S5120x17408_S40x128x136x128 shapeCasts_S40x136_S40x1x136x1
    broadcasts_S40x1x136x1_S40x128x136x128 shapeCasts_S40x128x136x128_S5120x17408 _ W S hr hj (fun k hk => xdV_at v0 v1 h w hh hw hr hk) hu hs

include h5 h6 h0 h1

theorem pay10_at {r g l : ℕ} (hr : r < 100) (hg : g < 136) (hl : l < 128) :
    rd3 (a := 100) (b := 136) (d := 128) (k0_pay10 (k0_pay5 v0 v1) (k0_pay6 (F := Ideal)) (k0_pay7 v0 v1) (Scalar.ofBits .f32 0xC3E00000#32) u5 u0 u6 u1) r g l
      = mS h w Wg Wu sg su r (128 * g + l) := by
  have hc : 128 * g + l < 17408 := by omega
  refine (rd3_cast (m := 17408) rfl (mulf (mulf (prV v0 v1 u5 u0) (logistic (prV v0 v1 u5 u0))) (prV v0 v1 u6 u1)) shapeCasts_S100x17408_S100x136x128 hr hg hl).trans ?_
  unfold mS actS
  rw [← prV_at v0 v1 h w hh hw u5 u0 Wg sg h5 h0 hr hc, ← prV_at v0 v1 h w hh hw u6 u1 Wu su h6 h1 hr hc, at2_eq _ hr hc, at2_eq _ hr hc, at2_eq _ hr hc]
  rfl

end Mid
end Pay

section Tail
variable (v86 : FVec Ideal S100x136x128 .f32) (M : ℕ → ℕ → EReal) (hM : ∀ r g l, r < 100 → g < 136 → l < 128 → rd3 (a := 100) (b := 136) (d := 128) v86 r g l = M r (128 * g + l))

/-- The largest magnitude of each group. -/
def mxV : FVec Ideal S100x136 .f32 := multiReduction .maximumf [2] S100x136 (absf v86) 0xFF800000#32 reduces_S100x136x128_S100x136 (.inl rfl) rfl

theorem pay12_eq (v86 : FVec Ideal S100x136x128 .f32) : k0_pay12 (mxV v86) (Scalar.ofBits .f32 0x3B124925#32) =
    expV (mulf (multiReduction .maximumf [2] S100x136 (absf v86) 0xFF800000#32 reduces_S100x136x128_S100x136 (.inl rfl) rfl) (broadcast S100x136 (Scalar.ofBits .f32 0x3B124925#32))) := by
  unfold k0_pay12 expV mxV
  rfl

include hM

theorem pay12_at {r g : ℕ} (hr : r < 100) (hg : g < 136) :
    at2 (n := 100) (m := 136) (k0_pay12 (mxV v86) (Scalar.ofBits .f32 0x3B124925#32)) r g = refE (pS fun l => M r (128 * g + l)) := by
  rw [at2_eq _ hr hg]
  refine (congrFun (pay12_eq v86) _).trans ((expV_at _ _).trans (congrArg refE ?_))
  exact grpmaxS v86 reduces_S100x136x128_S100x136 (.inl rfl) rfl hr hg _ fun l hl => hM r g l hr hg hl

theorem pay14_at {r j : ℕ} (hr : r < 100) (hj : j < 17408) :
    at2 (n := 100) (m := 17408) (k0_pay14 v86 (mxV v86) (Scalar.ofBits .f32 0x3B124925#32)) r j = codeA M r j := by
  have hg : j / 128 < 136 := by omega
  have hl : j % 128 < 128 := by omega
  refine clampV_at (a := 136) rfl (codeV v86 (k0_pay12 (mxV v86) (Scalar.ofBits .f32 0x3B124925#32)) shapeCasts_S100x136_S100x136x1 broadcasts_S100x136x1_S100x136x128)
    shapeCasts_S100x136x128_S100x17408 hr hj (fun l => M r (128 * (j / 128) + l)) ?_
  exact (codeV_at v86 (k0_pay12 (mxV v86) (Scalar.ofBits .f32 0x3B124925#32)) shapeCasts_S100x136_S100x136x1 broadcasts_S100x136x1_S100x136x128 hr hg hl _ (pay12_at v86 M hM hr hg)).trans
    (congrArg (· * _) (hM r _ _ hr hg hl))

theorem pay15_at {r g : ℕ} (hr : r < 100) (hg : g < 136) :
    at2 (n := 100) (m := 136) (k0_pay15 (mxV v86) (Scalar.ofBits .f32 0x3B124925#32)) r g = sclA M r g := by
  have := pay12_at v86 M hM hr hg
  rw [sclA, ← pow_refE, ← this]
  unfold k0_pay15
  generalize k0_pay12 (mxV v86) (Scalar.ofBits .f32 0x3B124925#32) = e
  rw [at2_eq _ hr hg, at2_eq _ hr hg]
  rfl

theorem pay16_at (u7 : Vec Ideal S17408x5120 .fp8e4m3) (u2 : Vec Ideal S136x40 .f32) (Wd sd : ℕ → ℕ → EReal)
    (h7 : ∀ k j, k < 17408 → j < 5120 → at2 (n := 17408) (m := 5120) u7 k j = Wd k j) (h2 : ∀ k j, k < 136 → j < 40 → at2 (n := 136) (m := 40) u2 k j = sd k j)
    {r j : ℕ} (hr : r < 100) (hj : j < 5120) :
    at2 (n := 100) (m := 5120) (k0_pay16 v86 (mxV v86) (Scalar.ofBits .f32 0x3B124925#32) u7 u2) r j = dotS 17408 (deqA M) Wd sd r j := by
  refine dot_at (M := 100) (K := 17408) (A := 136) (N := 5120) (B := 40) rfl rfl
    (deqV (k0_pay14 v86 (mxV v86) (Scalar.ofBits .f32 0x3B124925#32)) (k0_pay15 (mxV v86) (Scalar.ofBits .f32 0x3B124925#32)) shapeCasts_S100x17408_S100x136x128
      shapeCasts_S100x136_S100x136x1 broadcasts_S100x136x1_S100x136x128 shapeCasts_S100x136x128_S100x17408) u7 u2
    shapeCasts_S17408x5120_S136x128x40x128 shapeCasts_S136x40_S136x1x40x1 broadcasts_S136x1x40x1_S136x128x40x128 shapeCasts_S136x128x40x128_S17408x5120
    (deqA M) Wd sd hr hj (fun k hk => ?_) h7 h2
  refine (deqV_at (a := 136) rfl _ _ shapeCasts_S100x17408_S100x136x128 shapeCasts_S100x136_S100x136x1 broadcasts_S100x136x1_S100x136x128 shapeCasts_S100x136x128_S100x17408 hr hk).trans ?_
  exact congrArg₂ (· * ·) (pay14_at v86 M hM hr hk) (pay15_at v86 M hM hr (by omega))

end Tail
end Cert.Val
-- ==== Proof.Val.RefRun.lean ====
/-
  What the reference's run leaves in its result arrays.
-/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t) (iblk m c 7 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S100x5120.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t) (iblk m c 7 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S100x5120.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S40x100.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S100x17408.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t)) := by
  show (cfg0.win 12).cut (grid0.coords t) ((dats m 0 c).after 12 t) = _
  rw [after0_12]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S136x100.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v1_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v1_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v1_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v1_3) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v1_4) = (dats m 0 c).arrAt 12 cfg0.N :=
  (h c).1 12

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 8 cfg0.N
      ∧ r.2.mem ((c : Thread nD τ).loc main_v1_1) = (dats m 0 c).arrAt 9 cfg0.N
      ∧ r.2.mem ((c : Thread nD τ).loc main_v1_2) = (dats m 0 c).arrAt 10 cfg0.N
      ∧ r.2.mem ((c : Thread nD τ).loc main_v1_3) = (dats m 0 c).arrAt 11 cfg0.N
      ∧ r.2.mem ((c : Thread nD τ).loc main_v1_4) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      post10 m r h c,
      post11 m r h c,
      post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ReferenceIdeal.Value

end
-- ==== Proof.Val.RefVal.lean ====
/-
  The reference's results, index by index, from the buffers that its kernel region finds.
-/
module

public import proofs.«01_k».proof.Proof.Val.Ref
public import proofs.«01_k».proof.Proof.Val.RefRun
public import Idealize.ShloMosaic.Lib.Claim
public import Idealize.ShloMosaic.Lib.Pipeline.ValueKit.Geometry

@[expose] public section

set_option maxRecDepth 100000

noncomputable section

namespace Cert.Val.RefSide

open Cert.ReferenceIdeal Cert.ReferenceIdeal.Gen Idealize.ShloMosaic Idealize.ShloMosaic.TcCoe Idealize.ShloMosaic.ValueIdx Cert.Val

variable (m : (ℓ : Loc nD τ sig) → Buf (Elt Ideal) ℓ)

/-! ## The staged inputs are the arrays -/

theorem ib0 (c : Dev nD) (t : Fin cfg0.N) : iblk m c 0 t = (V m c main_arg0 : Vec Ideal S40x136 .f32) := by
  funext y
  refine congrArg (V m c main_arg0) (funext fun a => Fin.ext ?_)
  blk_simp
  show 0 * _ + (y a).val = (y a).val
  rw [Nat.zero_mul, Nat.zero_add]

theorem ib1 (c : Dev nD) (t : Fin cfg0.N) : iblk m c 1 t = (V m c main_arg1 : Vec Ideal S40x136 .f32) := by
  funext y
  refine congrArg (V m c main_arg1) (funext fun a => Fin.ext ?_)
  blk_simp
  show 0 * _ + (y a).val = (y a).val
  rw [Nat.zero_mul, Nat.zero_add]

theorem ib2 (c : Dev nD) (t : Fin cfg0.N) : iblk m c 2 t = (V m c main_arg2 : Vec Ideal S136x40 .f32) := by
  funext y
  refine congrArg (V m c main_arg2) (funext fun a => Fin.ext ?_)
  blk_simp
  show 0 * _ + (y a).val = (y a).val
  rw [Nat.zero_mul, Nat.zero_add]

theorem ib3 (c : Dev nD) (t : Fin cfg0.N) : iblk m c 3 t = (V m c main_arg3 : Vec Ideal S112x5120 .f32) := by
  funext y
  refine congrArg (V m c main_arg3) (funext fun a => Fin.ext ?_)
  blk_simp
  show 0 * _ + (y a).val = (y a).val
  rw [Nat.zero_mul, Nat.zero_add]

theorem ib4 (c : Dev nD) (t : Fin cfg0.N) : iblk m c 4 t = (V m c main_v0 : Vec Ideal S1x5120 .f32) := by
  funext y
  refine congrArg (V m c main_v0) (funext fun a => Fin.ext ?_)
  blk_simp
  show 0 * _ + (y a).val = (y a).val
  rw [Nat.zero_mul, Nat.zero_add]

theorem ib5 (c : Dev nD) (t : Fin cfg0.N) : iblk m c 5 t = (V m c main_arg5 : Vec Ideal S5120x17408 .fp8e4m3) := by
  funext y
  refine congrArg (V m c main_arg5) (funext fun a => Fin.ext ?_)
  blk_simp
  show 0 * _ + (y a).val = (y a).val
  rw [Nat.zero_mul, Nat.zero_add]

theorem ib6 (c : Dev nD) (t : Fin cfg0.N) : iblk m c 6 t = (V m c main_arg6 : Vec Ideal S5120x17408 .fp8e4m3) := by
  funext y
  refine congrArg (V m c main_arg6) (funext fun a => Fin.ext ?_)
  blk_simp
  show 0 * _ + (y a).val = (y a).val
  rw [Nat.zero_mul, Nat.zero_add]

theorem ib7 (c : Dev nD) (t : Fin cfg0.N) : iblk m c 7 t = (V m c main_arg7 : Vec Ideal S17408x5120 .fp8e4m3) := by
  funext y
  refine congrArg (V m c main_arg7) (funext fun a => Fin.ext ?_)
  blk_simp
  show 0 * _ + (y a).val = (y a).val
  rw [Nat.zero_mul, Nat.zero_add]

theorem v0_eq (c : Dev nD) : V m c main_v0 = broadcastInDim S1x5120 ![1] bcast_S5120_S1x5120_1 (m ((c : Thread nD τ).loc main_arg4)) := by
  entry_read
  rfl

/-! ## The result arrays are the body's results -/

theorem arr8 (c : Dev nD) : (dats m 0 c).arrAt 8 cfg0.N = (out0_8 (V m c main_arg0) (V m c main_arg1) (V m c main_arg2) (V m c main_arg3) (V m c main_v0) (V m c main_arg5) (V m c main_arg6) (V m c main_arg7) : Vec Ideal S100x5120 .bf16) := by
  have e (t : Fin cfg0.N) : (dats m 0 c).after 8 t = (out0_8 (V m c main_arg0) (V m c main_arg1) (V m c main_arg2) (V m c main_arg3) (V m c main_v0) (V m c main_arg5) (V m c main_arg6) (V m c main_arg7) : Vec Ideal S100x5120 .bf16) := by
    rw [after0_8, ib0, ib1, ib2, ib3, ib4, ib5, ib6, ib7]
  exact (dats m 0 c).arrAt_eq_of_after_last 8 ⟨0, by decide⟩ (by decide +kernel) _ fun j => congrFun (e ⟨0, by decide⟩) j

theorem arr9 (c : Dev nD) : (dats m 0 c).arrAt 9 cfg0.N = (out0_9 (V m c main_arg0) (V m c main_arg1) (V m c main_arg2) (V m c main_arg3) (V m c main_v0) (V m c main_arg5) (V m c main_arg6) (V m c main_arg7) : Vec Ideal S100x5120 .fp8e4m3) := by
  have e (t : Fin cfg0.N) : (dats m 0 c).after 9 t = (out0_9 (V m c main_arg0) (V m c main_arg1) (V m c main_arg2) (V m c main_arg3) (V m c main_v0) (V m c main_arg5) (V m c main_arg6) (V m c main_arg7) : Vec Ideal S100x5120 .fp8e4m3) := by
    rw [after0_9, ib0, ib1, ib2, ib3, ib4, ib5, ib6, ib7]
  exact (dats m 0 c).arrAt_eq_of_after_last 9 ⟨0, by decide⟩ (by decide +kernel) _ fun j => congrFun (e ⟨0, by decide⟩) j

theorem arr10 (c : Dev nD) : (dats m 0 c).arrAt 10 cfg0.N = (out0_10 (V m c main_arg0) (V m c main_arg1) (V m c main_arg2) (V m c main_arg3) (V m c main_v0) (V m c main_arg5) (V m c main_arg6) (V m c main_arg7) : Vec Ideal S40x100 .f32) := by
  have e (t : Fin cfg0.N) : (dats m 0 c).after 10 t = (out0_10 (V m c main_arg0) (V m c main_arg1) (V m c main_arg2) (V m c main_arg3) (V m c main_v0) (V m c main_arg5) (V m c main_arg6) (V m c main_arg7) : Vec Ideal S40x100 .f32) := by
    rw [after0_10, ib0, ib1, ib2, ib3, ib4, ib5, ib6, ib7]
  exact (dats m 0 c).arrAt_eq_of_after_last 10 ⟨0, by decide⟩ (by decide +kernel) _ fun j => congrFun (e ⟨0, by decide⟩) j

theorem arr11 (c : Dev nD) : (dats m 0 c).arrAt 11 cfg0.N = (out0_11 (V m c main_arg0) (V m c main_arg1) (V m c main_arg2) (V m c main_arg3) (V m c main_v0) (V m c main_arg5) (V m c main_arg6) (V m c main_arg7) : Vec Ideal S100x17408 .fp8e4m3) := by
  have e (t : Fin cfg0.N) : (dats m 0 c).after 11 t = (out0_11 (V m c main_arg0) (V m c main_arg1) (V m c main_arg2) (V m c main_arg3) (V m c main_v0) (V m c main_arg5) (V m c main_arg6) (V m c main_arg7) : Vec Ideal S100x17408 .fp8e4m3) := by
    rw [after0_11, ib0, ib1, ib2, ib3, ib4, ib5, ib6, ib7]
  exact (dats m 0 c).arrAt_eq_of_after_last 11 ⟨0, by decide⟩ (by decide +kernel) _ fun j => congrFun (e ⟨0, by decide⟩) j

theorem arr12 (c : Dev nD) : (dats m 0 c).arrAt 12 cfg0.N = (out0_12 (V m c main_arg0) (V m c main_arg1) (V m c main_arg2) (V m c main_arg3) (V m c main_v0) (V m c main_arg5) (V m c main_arg6) (V m c main_arg7) : Vec Ideal S136x100 .f32) := by
  have e (t : Fin cfg0.N) : (dats m 0 c).after 12 t = (out0_12 (V m c main_arg0) (V m c main_arg1) (V m c main_arg2) (V m c main_arg3) (V m c main_v0) (V m c main_arg5) (V m c main_arg6) (V m c main_arg7) : Vec Ideal S136x100 .f32) := by
    rw [after0_12, ib0, ib1, ib2, ib3, ib4, ib5, ib6, ib7]
  exact (dats m 0 c).arrAt_eq_of_after_last 12 ⟨0, by decide⟩ (by decide +kernel) _ fun j => congrFun (e ⟨0, by decide⟩) j

/-! ## The body's results, index by index -/

theorem hz : (![0, 0] : Fin 2 → ℕ) = fun _ => 0 := by
  funext a
  match a with
  | ⟨0, _⟩ => rfl
  | ⟨1, _⟩ => rfl

theorem at2_tr {n m : ℕ} (X : (⟨2, ![n, m]⟩ : Shape).Idx → EReal) (h : (⟨2, ![n, m]⟩ : Shape).Transposes [1, 0] ⟨2, ![m, n]⟩) {r g : ℕ} (hr : r < n) (hg : g < m) :
    at2 (n := m) (m := n) (transpose ⟨2, ![m, n]⟩ [1, 0] X h) g r = at2 X r g := by
  rw [at2_eq _ hg hr, at2_eq X hr hg]
  exact transpose_ix2_apply X h ⟨g, hg⟩ ⟨r, hr⟩

section
variable (x0 : Vec Ideal S40x136 .f32) (x1 : Vec Ideal S40x136 .f32) (x2 : Vec Ideal S136x40 .f32) (x3 : Vec Ideal S112x5120 .f32) (x4 : Vec Ideal S1x5120 .f32)
  (x5 : Vec Ideal S5120x17408 .fp8e4m3) (x6 : Vec Ideal S5120x17408 .fp8e4m3) (x7 : Vec Ideal S17408x5120 .fp8e4m3)

theorem ld3 {r j : ℕ} (hr : r < 100) (hj : j < 5120) : at2 (n := 100) (m := 5120) (View.ld x3 r0_0) r j = at2 (n := 112) (m := 5120) x3 r j := by
  rw [at2_eq _ hr hj, at2_eq x3 (by omega) hj]
  refine congrArg x3 (funext fun a => Fin.ext ?_)
  match a with
  | ⟨0, _⟩ => show 0 + 1 * r = r; omega
  | ⟨1, _⟩ => show 0 + 1 * j = j; omega

theorem ld4 : View.ld x4 r0_1 = x4 := View.ld_unit_zero hz _ _
theorem ld0 : View.ld x0 r0_3 = x0 := View.ld_unit_zero hz _ _
theorem ld5 : View.ld x5 r0_2 = x5 := View.ld_unit_zero hz _ _
theorem ld7 : View.ld x7 r0_4 = x7 := View.ld_unit_zero hz _ _
theorem ld2 : View.ld x2 r0_5 = x2 := View.ld_unit_zero hz _ _

abbrev hh := at2 (n := 112) (m := 5120) x3
abbrev ww := at2 (n := 1) (m := 5120) x4 0
abbrev mm := mS (hh x3) (ww x4) (at2 (n := 5120) (m := 17408) x5) (at2 (n := 5120) (m := 17408) x6) (at2 (n := 40) (m := 136) x0) (at2 (n := 40) (m := 136) x1)

theorem out9_at {r j : ℕ} (hr : r < 100) (hj : j < 5120) :
    at2 (n := 100) (m := 5120) (out0_9 x0 x1 x2 x3 x4 x5 x6 x7) r j = codeA (xS (hh x3) (ww x4)) r j := by
  unfold out0_9 k0_pay19
  rw [View.canon_unit_zero hz, ld4]
  exact pay8_at (View.ld x3 r0_0) x4 _ _ (fun r j hr hj => ld3 x3 hr hj) (fun _ _ => rfl) hr hj

theorem out10_at {r g : ℕ} (hr : r < 100) (hg : g < 40) :
    at2 (n := 40) (m := 100) (out0_10 x0 x1 x2 x3 x4 x5 x6 x7) g r = sclA (xS (hh x3) (ww x4)) r g := by
  unfold out0_10 k0_pay18 k0_pay17
  rw [View.canon_unit_zero hz, ld4]
  refine Eq.trans ?_ (pay9_at (View.ld x3 r0_0) x4 _ _ (fun r j hr hj => ld3 x3 hr hj) (fun _ _ => rfl) hr hg)
  exact at2_tr _ _ hr hg

/-- The gated products as the body computes them. -/
def vv : FVec Ideal S100x136x128 .f32 :=
  k0_pay10 (k0_pay5 (View.ld x3 r0_0) x4) (k0_pay6 (F := Ideal)) (k0_pay7 (View.ld x3 r0_0) x4) (Scalar.ofBits .f32 0xC3E00000#32) x5 x0 x6 x1

theorem vv_at (r g l : ℕ) (hr : r < 100) (hg : g < 136) (hl : l < 128) :
    rd3 (a := 100) (b := 136) (d := 128) (vv x0 x1 x3 x4 x5 x6) r g l = mm x0 x1 x3 x4 x5 x6 r (128 * g + l) :=
  pay10_at (View.ld x3 r0_0) x4 _ _ (fun r j hr hj => ld3 x3 hr hj) (fun _ _ => rfl) x5 x0 x6 x1 _ _ _ _ (fun _ _ _ _ => rfl) (fun _ _ _ _ => rfl) (fun _ _ _ _ => rfl) (fun _ _ _ _ => rfl) hr hg hl

theorem p20_eq : k0_pay20 x0 x1 x2 x3 x4 x5 x6 x7 = vv x0 x1 x3 x4 x5 x6 := by
  unfold k0_pay20 k0_pay17 k0_pay18 k0_pay19 vv
  rw [ld4, ld0, ld0, ld5, ld5]

theorem p21_eq : k0_pay21 x0 x1 x2 x3 x4 x5 x6 x7 = mxV (vv x0 x1 x3 x4 x5 x6) := by
  rw [← p20_eq x0 x1 x2 x3 x4 x5 x6 x7]
  unfold k0_pay21 k0_pay20 k0_pay11 mxV
  rfl

theorem out11_at {r j : ℕ} (hr : r < 100) (hj : j < 17408) :
    at2 (n := 100) (m := 17408) (out0_11 x0 x1 x2 x3 x4 x5 x6 x7) r j = codeA (mm x0 x1 x3 x4 x5 x6) r j := by
  unfold out0_11
  rw [View.canon_unit_zero hz, p20_eq, p21_eq]
  exact pay14_at _ _ (vv_at x0 x1 x3 x4 x5 x6) hr hj

theorem out12_at {r g : ℕ} (hr : r < 100) (hg : g < 136) :
    at2 (n := 136) (m := 100) (out0_12 x0 x1 x2 x3 x4 x5 x6 x7) g r = sclA (mm x0 x1 x3 x4 x5 x6) r g := by
  unfold out0_12
  rw [View.canon_unit_zero hz, p21_eq]
  refine Eq.trans ?_ (pay15_at _ _ (vv_at x0 x1 x3 x4 x5 x6) hr hg)
  exact at2_tr _ _ hr hg

theorem out8_at {r j : ℕ} (hr : r < 100) (hj : j < 5120) :
    at2 (n := 100) (m := 5120) (out0_8 x0 x1 x2 x3 x4 x5 x6 x7) r j
      = yS (hh x3) (ww x4) (at2 (n := 5120) (m := 17408) x5) (at2 (n := 5120) (m := 17408) x6) (at2 (n := 17408) (m := 5120) x7)
        (at2 (n := 40) (m := 136) x0) (at2 (n := 40) (m := 136) x1) (at2 (n := 136) (m := 40) x2) r j := by
  unfold out0_8
  rw [View.canon_unit_zero hz, p20_eq, p21_eq, ld7, ld2]
  refine (at2_addf (n := 100) (m := 5120) (View.ld x3 r0_0) (k0_pay16 (vv x0 x1 x3 x4 x5 x6) (mxV (vv x0 x1 x3 x4 x5 x6)) (Scalar.ofBits .f32 0x3B124925#32) x7 x2) hr hj).trans ?_
  exact congrArg₂ (· + ·) (ld3 x3 hr hj) (pay16_at _ _ (vv_at x0 x1 x3 x4 x5 x6) x7 x2 _ _ (fun _ _ _ _ => rfl) (fun _ _ _ _ => rfl) hr hj)

end

end Cert.Val.RefSide
end
-- ==== Proof.Algebraic.lean ====
/-
  The kernel and the reference leave the same results, from the same arguments.
-/
module

public import proofs.«01_k».proof.Defs
public import proofs.«01_k».proof.Proof.Gen.KernelIdeal
public import proofs.«01_k».proof.Proof.Gen.ReferenceIdeal
public import proofs.«01_k».proof.Proof.Val.KerVal
public import proofs.«01_k».proof.Proof.Val.RefVal

@[expose] public section

set_option maxRecDepth 100000

noncomputable section

namespace Cert.Proof

open Idealize.ShloMosaic Idealize.SL.Sem Cert.Val

/-- Equal arrays give equal intermediate activations. -/
theorem mS_congr {x0 y0 x1 y1 : (⟨2, ![40, 136]⟩ : Shape).Idx → EReal} {x3 y3 : (⟨2, ![112, 5120]⟩ : Shape).Idx → EReal} {x4 y4 : (⟨2, ![1, 5120]⟩ : Shape).Idx → EReal}
    {x5 y5 x6 y6 : (⟨2, ![5120, 17408]⟩ : Shape).Idx → EReal} (h0 : x0 = y0) (h1 : x1 = y1) (h3 : x3 = y3) (h4 : x4 = y4) (h5 : x5 = y5) (h6 : x6 = y6) :
    mS (at2 x3) (at2 x4 0) (at2 x5) (at2 x6) (at2 x0) (at2 x1) = mS (at2 y3) (at2 y4 0) (at2 y5) (at2 y6) (at2 y0) (at2 y1) := by
  subst h0 h1 h3 h4 h5 h6
  rfl

/-- Equal arrays give equal products. -/
theorem yS_congr {x0 y0 x1 y1 : (⟨2, ![40, 136]⟩ : Shape).Idx → EReal} {x3 y3 : (⟨2, ![112, 5120]⟩ : Shape).Idx → EReal} {x4 y4 : (⟨2, ![1, 5120]⟩ : Shape).Idx → EReal}
    {x5 y5 x6 y6 : (⟨2, ![5120, 17408]⟩ : Shape).Idx → EReal} {x7 y7 : (⟨2, ![17408, 5120]⟩ : Shape).Idx → EReal} {f g : ℕ → ℕ → EReal}
    (h0 : x0 = y0) (h1 : x1 = y1) (h2 : f = g) (h3 : x3 = y3) (h4 : x4 = y4) (h5 : x5 = y5) (h6 : x6 = y6) (h7 : x7 = y7) :
    yS (at2 x3) (at2 x4 0) (at2 x5) (at2 x6) (at2 x7) (at2 x0) (at2 x1) f = yS (at2 y3) (at2 y4 0) (at2 y5) (at2 y6) (at2 y7) (at2 y0) (at2 y1) g := by
  subst h0 h1 h2 h3 h4 h5 h6 h7
  rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments on core `c`. -/
structure Same : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

abbrev KV := Cert.KernelIdeal.Gen.V m c
abbrev RV := Cert.ReferenceIdeal.Gen.V m' c

variable {m m' c} (h : Same m m' c)
include h

theorem e0 : (RV m' c Cert.ReferenceIdeal.main_arg0 : (⟨2, ![40, 136]⟩ : Shape).Idx → EReal) = KV m c Cert.KernelIdeal.main_arg0 :=
  (Cert.ReferenceIdeal.Gen.V_main_arg0 m' c).trans (h.a0.trans (Cert.KernelIdeal.Gen.V_main_arg0 m c).symm)
theorem e1 : (RV m' c Cert.ReferenceIdeal.main_arg1 : (⟨2, ![40, 136]⟩ : Shape).Idx → EReal) = KV m c Cert.KernelIdeal.main_arg1 :=
  (Cert.ReferenceIdeal.Gen.V_main_arg1 m' c).trans (h.a1.trans (Cert.KernelIdeal.Gen.V_main_arg1 m c).symm)
theorem e3 : (RV m' c Cert.ReferenceIdeal.main_arg3 : (⟨2, ![112, 5120]⟩ : Shape).Idx → EReal) = KV m c Cert.KernelIdeal.main_arg3 :=
  (Cert.ReferenceIdeal.Gen.V_main_arg3 m' c).trans (h.a3.trans (Cert.KernelIdeal.Gen.V_main_arg3 m c).symm)
theorem e5 : (RV m' c Cert.ReferenceIdeal.main_arg5 : (⟨2, ![5120, 17408]⟩ : Shape).Idx → EReal) = KV m c Cert.KernelIdeal.main_arg5 :=
  (Cert.ReferenceIdeal.Gen.V_main_arg5 m' c).trans (h.a5.trans (Cert.KernelIdeal.Gen.V_main_arg5 m c).symm)
theorem e6 : (RV m' c Cert.ReferenceIdeal.main_arg6 : (⟨2, ![5120, 17408]⟩ : Shape).Idx → EReal) = KV m c Cert.KernelIdeal.main_arg6 :=
  (Cert.ReferenceIdeal.Gen.V_main_arg6 m' c).trans (h.a6.trans (Cert.KernelIdeal.Gen.V_main_arg6 m c).symm)
theorem e7 : (RV m' c Cert.ReferenceIdeal.main_arg7 : (⟨2, ![17408, 5120]⟩ : Shape).Idx → EReal) = KV m c Cert.KernelIdeal.main_arg7 :=
  (Cert.ReferenceIdeal.Gen.V_main_arg7 m' c).trans (h.a7.trans (Cert.KernelIdeal.Gen.V_main_arg7 m c).symm)

/-- The norm's weight as one row. -/
theorem e4 : (RV m' c Cert.ReferenceIdeal.main_v0 : (⟨2, ![1, 5120]⟩ : Shape).Idx → EReal) = KV m c Cert.KernelIdeal.main_v1 := by
  refine (RefSide.v0_eq m' c).trans (Eq.trans ?_ (KerSide.v1_eq m c).symm)
  exact congrArg (broadcastInDim (⟨2, ![1, 5120]⟩ : Shape) ![1] Cert.KernelIdeal.Gen.bcast_S5120_S1x5120_1) h.a4

/-- The scales of the last weight, read transposed by the kernel. -/
theorem e2 : (fun i j => at2 (n := 40) (m := 136) (KV m c Cert.KernelIdeal.main_v0) j i) = at2 (n := 136) (m := 40) (RV m' c Cert.ReferenceIdeal.main_arg2) := by
  funext i j
  have e : (RV m' c Cert.ReferenceIdeal.main_arg2 : (⟨2, ![136, 40]⟩ : Shape).Idx → EReal) = m ((c.tc : Thread Cert.KernelIdeal.nD Cert.KernelIdeal.τ).loc Cert.KernelIdeal.main_arg2) :=
    (Cert.ReferenceIdeal.Gen.V_main_arg2 m' c).trans h.a2
  rw [e]
  refine (congrArg (fun X => at2 (n := 40) (m := 136) X j i) (KerSide.v0_eq m c)).trans ?_
  by_cases hij : i < 136 ∧ j < 40
  · exact at2_transpose _ _ hij.2 hij.1
  · unfold at2
    rw [dif_neg fun x => hij ⟨x.2, x.1⟩, dif_neg hij]

theorem hh_eq : RefSide.hh (RV m' c Cert.ReferenceIdeal.main_arg3) = KerSide.hh m c := congrArg (fun X => at2 (n := 112) (m := 5120) X) (e3 h)
theorem ww_eq : RefSide.ww (RV m' c Cert.ReferenceIdeal.main_v0) = KerSide.ww m c := congrArg (fun X => at2 (n := 1) (m := 5120) X 0) (e4 h)
theorem mm_eq : RefSide.mm (RV m' c Cert.ReferenceIdeal.main_arg0) (RV m' c Cert.ReferenceIdeal.main_arg1) (RV m' c Cert.ReferenceIdeal.main_arg3) (RV m' c Cert.ReferenceIdeal.main_v0)
    (RV m' c Cert.ReferenceIdeal.main_arg5) (RV m' c Cert.ReferenceIdeal.main_arg6) = KerSide.mm m c :=
  mS_congr (e0 h) (e1 h) (e3 h) (e4 h) (e5 h) (e6 h)

variable {r : PUnit × MemSt Cert.KernelIdeal.nD Cert.KernelIdeal.τ Cert.KernelIdeal.sig (Elt Ideal)}
  (hr : Pipeline.RDat.FramePost (Cert.KernelIdeal.cfgs 0) (Cert.KernelIdeal.Hand.rdat m) (Cert.KernelIdeal.Gen.V m) r)
include hr

/-- The output. -/
theorem eq8 : (r.2.mem ((c.tc : Thread Cert.KernelIdeal.nD Cert.KernelIdeal.τ).loc Cert.KernelIdeal.main_v2_0) : (⟨2, ![100, 5120]⟩ : Shape).Idx → EReal)
    = (Cert.ReferenceIdeal.Gen.dats m' 0 c).arrAt 8 Cert.ReferenceIdeal.cfg0.N := by
  obtain ⟨σ, hσ, e⟩ := KerSide.res5 hr c
  refine e.trans (Eq.trans ?_ (RefSide.arr8 m' c).symm)
  refine at2_ext fun i j hi hj => ?_
  refine ((KerSide.fin_at m c _ σ hσ).1 i j hi hj).trans (Eq.trans ?_ (RefSide.out8_at _ _ _ _ _ _ _ _ hi hj).symm)
  exact congrFun (congrFun (yS_congr (e0 h) (e1 h) (e2 h).symm (e3 h) (e4 h) (e5 h) (e6 h) (e7 h)) i) j |>.symm

/-- The codes of the normed input. -/
theorem eq9 : (r.2.mem ((c.tc : Thread Cert.KernelIdeal.nD Cert.KernelIdeal.τ).loc Cert.KernelIdeal.main_v2_1) : (⟨2, ![100, 5120]⟩ : Shape).Idx → EReal)
    = (Cert.ReferenceIdeal.Gen.dats m' 0 c).arrAt 9 Cert.ReferenceIdeal.cfg0.N := by
  obtain ⟨σ, hσ, e⟩ := KerSide.res6 hr c
  refine e.trans (Eq.trans ?_ (RefSide.arr9 m' c).symm)
  refine at2_ext fun i j hi hj => ?_
  refine ((KerSide.fin_at m c _ σ hσ).2.1 i j hi hj).trans (Eq.trans ?_ (RefSide.out9_at _ _ _ _ _ _ _ _ hi hj).symm)
  rw [hh_eq h, ww_eq h]

/-- The scales of the normed input. -/
theorem eq10 : (r.2.mem ((c.tc : Thread Cert.KernelIdeal.nD Cert.KernelIdeal.τ).loc Cert.KernelIdeal.main_v2_2) : (⟨2, ![40, 100]⟩ : Shape).Idx → EReal)
    = (Cert.ReferenceIdeal.Gen.dats m' 0 c).arrAt 10 Cert.ReferenceIdeal.cfg0.N := by
  obtain ⟨σ, hσ, e⟩ := KerSide.res7 hr c
  refine e.trans (Eq.trans ?_ (RefSide.arr10 m' c).symm)
  refine at2_ext fun i j hi hj => ?_
  refine ((KerSide.fin_at m c _ σ hσ).2.2.1 i j hi hj).trans (Eq.trans ?_ (RefSide.out10_at _ _ _ _ _ _ _ _ hj hi).symm)
  rw [hh_eq h, ww_eq h]

/-- The codes of the intermediate activations. -/
theorem eq11 : (r.2.mem ((c.tc : Thread Cert.KernelIdeal.nD Cert.KernelIdeal.τ).loc Cert.KernelIdeal.main_v2_3) : (⟨2, ![100, 17408]⟩ : Shape).Idx → EReal)
    = (Cert.ReferenceIdeal.Gen.dats m' 0 c).arrAt 11 Cert.ReferenceIdeal.cfg0.N := by
  obtain ⟨σ, hσ, e⟩ := KerSide.res8 hr c
  refine e.trans (Eq.trans ?_ (RefSide.arr11 m' c).symm)
  refine at2_ext fun i j hi hj => ?_
  refine ((KerSide.fin_at m c _ σ hσ).2.2.2.1 i j hi hj).trans (Eq.trans ?_ (RefSide.out11_at _ _ _ _ _ _ _ _ hi hj).symm)
  rw [mm_eq h]

/-- The scales of the intermediate activations. -/
theorem eq12 : (r.2.mem ((c.tc : Thread Cert.KernelIdeal.nD Cert.KernelIdeal.τ).loc Cert.KernelIdeal.main_v2_4) : (⟨2, ![136, 100]⟩ : Shape).Idx → EReal)
    = (Cert.ReferenceIdeal.Gen.dats m' 0 c).arrAt 12 Cert.ReferenceIdeal.cfg0.N := by
  obtain ⟨σ, hσ, e⟩ := KerSide.res9 hr c
  refine e.trans (Eq.trans ?_ (RefSide.arr12 m' c).symm)
  refine at2_ext fun i j hi hj => ?_
  refine ((KerSide.fin_at m c _ σ hσ).2.2.2.2 i j hi hj).trans (Eq.trans ?_ (RefSide.out12_at _ _ _ _ _ _ _ _ hj hi).symm)
  rw [mm_eq h]

end

/-- The kernel computes the reference: all five results are equal at the ideal values. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => (Cert.ReferenceIdeal.Gen.dats m' 0 c).arrAt 8 Cert.ReferenceIdeal.cfg0.N, fun c => (Cert.ReferenceIdeal.Gen.dats m' 0 c).arrAt 9 Cert.ReferenceIdeal.cfg0.N,
    fun c => (Cert.ReferenceIdeal.Gen.dats m' 0 c).arrAt 10 Cert.ReferenceIdeal.cfg0.N, fun c => (Cert.ReferenceIdeal.Gen.dats m' 0 c).arrAt 11 Cert.ReferenceIdeal.cfg0.N,
    fun c => (Cert.ReferenceIdeal.Gen.dats m' 0 c).arrAt 12 Cert.ReferenceIdeal.cfg0.N, ?_, Cert.ReferenceIdeal.Value.run_blocks m' g'⟩
  refine (θ_run _ _ _).mono (fun r hr c => ?_) (Cert.KernelIdeal.Hand.run_main m g)
  obtain ⟨b0, b1, b2, b3, b4, b5, b6, b7⟩ := hag c
  have h : Same m m' c := ⟨b0, b1, b2, b3, b4, b5, b6, b7⟩
  exact ⟨eq8 h hr.1, eq9 h hr.1, eq10 h hr.1, eq11 h hr.1, eq12 h hr.1, Cert.KernelIdeal.Hand.args_kept hr.1 c⟩

end Cert.Proof
end
-- ==== Proof.lean ====
/-
  The proof of the claims: the frames of the kernel as written and idealized, the reference's frame, the idealization, and the equality of results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Frame
public import proofs.«01_k».proof.Proof.KernelIdeal.Frame
public import proofs.«01_k».proof.Proof.Algebraic
public import Idealize.ShloMosaic.Adequacy
public import Idealize.ShloMosaic.Init

@[expose] public section

noncomputable section

namespace Cert.Proof

open Idealize.ShloMosaic Idealize.SL.Sem

theorem quiescent_kernel : Cert.quiescent_Kernel (hKernel := Cert.Kernel.Gen.facts) := fun m g _ =>
  (θ_run _ _ _).mono (fun _ h => ⟨fun c => Cert.Kernel.Hand.args_kept h.1 c, h.2⟩) (Cert.Kernel.Hand.run_main m g)

theorem quiescent_kernelIdeal : Cert.quiescent_KernelIdeal (hKernelIdeal := Cert.KernelIdeal.Gen.facts) := fun m g _ =>
  (θ_run _ _ _).mono (fun _ h => ⟨fun c => Cert.KernelIdeal.Hand.args_kept h.1 c, h.2⟩) (Cert.KernelIdeal.Hand.run_main m g)

theorem quiescent_referenceIdeal : Cert.quiescent_ReferenceIdeal (hReferenceIdeal := Cert.ReferenceIdeal.Gen.facts) := fun m g _ =>
  Cert.ReferenceIdeal.Gen.frame m g

theorem preserves : Cert.preserves_Kernel_KernelIdeal := IdealRules.named_const.statement _ _ _ _ _ rfl

theorem claim : Cert.Claim := ⟨Cert.Kernel.Gen.facts, Cert.KernelIdeal.Gen.facts, Cert.ReferenceIdeal.Gen.facts,
  quiescent_kernel, quiescent_kernelIdeal, quiescent_referenceIdeal, preserves, Cert.Proof.algebraic⟩

end Cert.Proof

end
